-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8)) (m ((c.tc : Thread Cert.DiffIdeal.nD Cert.DiffIdeal.τ).loc Cert.DiffIdeal.main_arg9))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_diff_finite [hPre_diff_finite : Cert.Pre_diff_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5)) (m ((c.tc : Thread Cert.DiffReferenceIdeal.nD Cert.DiffReferenceIdeal.τ).loc Cert.DiffReferenceIdeal.main_arg6)) (m ((c.tc : Thread Cert.DiffReferenceIdeal.nD Cert.DiffReferenceIdeal.τ).loc Cert.DiffReferenceIdeal.main_arg7)) (m ((c.tc : Thread Cert.DiffReferenceIdeal.nD Cert.DiffReferenceIdeal.τ).loc Cert.DiffReferenceIdeal.main_arg8)) (m ((c.tc : Thread Cert.DiffReferenceIdeal.nD Cert.DiffReferenceIdeal.τ).loc Cert.DiffReferenceIdeal.main_arg9))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7)
      ∧ r.2.mem ((c.tc : Thread Cert.Diff.nD Cert.Diff.τ).loc Cert.Diff.main_arg8) = m ((c.tc : Thread Cert.Diff.nD Cert.Diff.τ).loc Cert.Diff.main_arg8)
      ∧ r.2.mem ((c.tc : Thread Cert.Diff.nD Cert.Diff.τ).loc Cert.Diff.main_arg9) = m ((c.tc : Thread Cert.Diff.nD Cert.Diff.τ).loc Cert.Diff.main_arg9))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8)
      ∧ r.2.mem ((c.tc : Thread Cert.DiffIdeal.nD Cert.DiffIdeal.τ).loc Cert.DiffIdeal.main_arg9) = m ((c.tc : Thread Cert.DiffIdeal.nD Cert.DiffIdeal.τ).loc Cert.DiffIdeal.main_arg9))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8)
      ∧ r.2.mem ((c.tc : Thread Cert.DiffIdeal.nD Cert.DiffIdeal.τ).loc Cert.DiffIdeal.main_arg9) = m ((c.tc : Thread Cert.DiffIdeal.nD Cert.DiffIdeal.τ).loc Cert.DiffIdeal.main_arg9))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7)
      ∧ r.2.mem ((c.tc : Thread Cert.DiffReferenceIdeal.nD Cert.DiffReferenceIdeal.τ).loc Cert.DiffReferenceIdeal.main_arg8) = m ((c.tc : Thread Cert.DiffReferenceIdeal.nD Cert.DiffReferenceIdeal.τ).loc Cert.DiffReferenceIdeal.main_arg8)
      ∧ r.2.mem ((c.tc : Thread Cert.DiffReferenceIdeal.nD Cert.DiffReferenceIdeal.τ).loc Cert.DiffReferenceIdeal.main_arg9) = m ((c.tc : Thread Cert.DiffReferenceIdeal.nD Cert.DiffReferenceIdeal.τ).loc Cert.DiffReferenceIdeal.main_arg9))
      ∧ r.2.sem = fun _ => 0)

def quiescent_DiffReferenceIdeal_pre_diff_finite [hDiffReferenceIdeal : Cert.DiffReferenceIdeal.Facts] [hPre_diff_finite : Cert.Pre_diff_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_diff_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7)
      ∧ r.2.mem ((c.tc : Thread Cert.DiffReferenceIdeal.nD Cert.DiffReferenceIdeal.τ).loc Cert.DiffReferenceIdeal.main_arg8) = m ((c.tc : Thread Cert.DiffReferenceIdeal.nD Cert.DiffReferenceIdeal.τ).loc Cert.DiffReferenceIdeal.main_arg8)
      ∧ r.2.mem ((c.tc : Thread Cert.DiffReferenceIdeal.nD Cert.DiffReferenceIdeal.τ).loc Cert.DiffReferenceIdeal.main_arg9) = m ((c.tc : Thread Cert.DiffReferenceIdeal.nD Cert.DiffReferenceIdeal.τ).loc Cert.DiffReferenceIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Diff_DiffIdeal : Prop :=
  True

def algebraic_DiffIdeal_DiffReferenceIdeal_pre_diff_finite [hDiffIdeal : Cert.DiffIdeal.Facts] [hDiffReferenceIdeal : Cert.DiffReferenceIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_diff_finite m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)
      ∧ m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)
      ∧ m' ((c.tc : Thread Cert.DiffReferenceIdeal.nD Cert.DiffReferenceIdeal.τ).loc Cert.DiffReferenceIdeal.main_arg6) = m ((c.tc : Thread Cert.DiffIdeal.nD Cert.DiffIdeal.τ).loc Cert.DiffIdeal.main_arg6)
      ∧ m' ((c.tc : Thread Cert.DiffReferenceIdeal.nD Cert.DiffReferenceIdeal.τ).loc Cert.DiffReferenceIdeal.main_arg7) = m ((c.tc : Thread Cert.DiffIdeal.nD Cert.DiffIdeal.τ).loc Cert.DiffIdeal.main_arg7)
      ∧ m' ((c.tc : Thread Cert.DiffReferenceIdeal.nD Cert.DiffReferenceIdeal.τ).loc Cert.DiffReferenceIdeal.main_arg8) = m ((c.tc : Thread Cert.DiffIdeal.nD Cert.DiffIdeal.τ).loc Cert.DiffIdeal.main_arg8)
      ∧ m' ((c.tc : Thread Cert.DiffReferenceIdeal.nD Cert.DiffReferenceIdeal.τ).loc Cert.DiffReferenceIdeal.main_arg9) = m ((c.tc : Thread Cert.DiffIdeal.nD Cert.DiffIdeal.τ).loc Cert.DiffIdeal.main_arg9)) →
    ∃ (v0 : (c : Dev Cert.DiffIdeal.nD) → Buf (Elt Ideal) ((c.tc : Thread Cert.DiffIdeal.nD Cert.DiffIdeal.τ).loc Cert.DiffIdeal.main_v15)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v15) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
          ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8)
          ∧ r.2.mem ((c.tc : Thread Cert.DiffIdeal.nD Cert.DiffIdeal.τ).loc Cert.DiffIdeal.main_arg9) = m ((c.tc : Thread Cert.DiffIdeal.nD Cert.DiffIdeal.τ).loc Cert.DiffIdeal.main_arg9))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v93) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5)
          ∧ r.2.mem ((c.tc : Thread Cert.DiffReferenceIdeal.nD Cert.DiffReferenceIdeal.τ).loc Cert.DiffReferenceIdeal.main_arg6) = m' ((c.tc : Thread Cert.DiffReferenceIdeal.nD Cert.DiffReferenceIdeal.τ).loc Cert.DiffReferenceIdeal.main_arg6)
          ∧ r.2.mem ((c.tc : Thread Cert.DiffReferenceIdeal.nD Cert.DiffReferenceIdeal.τ).loc Cert.DiffReferenceIdeal.main_arg7) = m' ((c.tc : Thread Cert.DiffReferenceIdeal.nD Cert.DiffReferenceIdeal.τ).loc Cert.DiffReferenceIdeal.main_arg7)
          ∧ r.2.mem ((c.tc : Thread Cert.DiffReferenceIdeal.nD Cert.DiffReferenceIdeal.τ).loc Cert.DiffReferenceIdeal.main_arg8) = m' ((c.tc : Thread Cert.DiffReferenceIdeal.nD Cert.DiffReferenceIdeal.τ).loc Cert.DiffReferenceIdeal.main_arg8)
          ∧ r.2.mem ((c.tc : Thread Cert.DiffReferenceIdeal.nD Cert.DiffReferenceIdeal.τ).loc Cert.DiffReferenceIdeal.main_arg9) = m' ((c.tc : Thread Cert.DiffReferenceIdeal.nD Cert.DiffReferenceIdeal.τ).loc Cert.DiffReferenceIdeal.main_arg9))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v31) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v59_0)) (v1 : (c : Dev Cert.InProjIdeal.nD) → Buf (Elt Ideal) ((c.tc : Thread Cert.InProjIdeal.nD Cert.InProjIdeal.τ).loc Cert.InProjIdeal.main_v59_1)) (v2 : (c : Dev Cert.InProjIdeal.nD) → Buf (Elt Ideal) ((c.tc : Thread Cert.InProjIdeal.nD Cert.InProjIdeal.τ).loc Cert.InProjIdeal.main_v59_2)) (v3 : (c : Dev Cert.InProjIdeal.nD) → Buf (Elt Ideal) ((c.tc : Thread Cert.InProjIdeal.nD Cert.InProjIdeal.τ).loc Cert.InProjIdeal.main_v59_3)) (v4 : (c : Dev Cert.InProjIdeal.nD) → Buf (Elt Ideal) ((c.tc : Thread Cert.InProjIdeal.nD Cert.InProjIdeal.τ).loc Cert.InProjIdeal.main_v59_4)) (v5 : (c : Dev Cert.InProjIdeal.nD) → Buf (Elt Ideal) ((c.tc : Thread Cert.InProjIdeal.nD Cert.InProjIdeal.τ).loc Cert.InProjIdeal.main_v59_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v59_0) = v0 c
          ∧ r.2.mem ((c.tc : Thread Cert.InProjIdeal.nD Cert.InProjIdeal.τ).loc Cert.InProjIdeal.main_v59_1) = v1 c
          ∧ r.2.mem ((c.tc : Thread Cert.InProjIdeal.nD Cert.InProjIdeal.τ).loc Cert.InProjIdeal.main_v59_2) = v2 c
          ∧ r.2.mem ((c.tc : Thread Cert.InProjIdeal.nD Cert.InProjIdeal.τ).loc Cert.InProjIdeal.main_v59_3) = v3 c
          ∧ r.2.mem ((c.tc : Thread Cert.InProjIdeal.nD Cert.InProjIdeal.τ).loc Cert.InProjIdeal.main_v59_4) = v4 c
          ∧ r.2.mem ((c.tc : Thread Cert.InProjIdeal.nD Cert.InProjIdeal.τ).loc Cert.InProjIdeal.main_v59_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v82) = v0 c
          ∧ r.2.mem ((c.tc : Thread Cert.InProjReferenceIdeal.nD Cert.InProjReferenceIdeal.τ).loc Cert.InProjReferenceIdeal.main_v83) = v1 c
          ∧ r.2.mem ((c.tc : Thread Cert.InProjReferenceIdeal.nD Cert.InProjReferenceIdeal.τ).loc Cert.InProjReferenceIdeal.main_v85) = v2 c
          ∧ r.2.mem ((c.tc : Thread Cert.InProjReferenceIdeal.nD Cert.InProjReferenceIdeal.τ).loc Cert.InProjReferenceIdeal.main_v77) = v3 c
          ∧ r.2.mem ((c.tc : Thread Cert.InProjReferenceIdeal.nD Cert.InProjReferenceIdeal.τ).loc Cert.InProjReferenceIdeal.main_v81) = v4 c
          ∧ r.2.mem ((c.tc : Thread Cert.InProjReferenceIdeal.nD Cert.InProjReferenceIdeal.τ).loc Cert.InProjReferenceIdeal.main_v86) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hDiff : Cert.Diff.Facts) (hDiffIdeal : Cert.DiffIdeal.Facts) (hDiffReferenceIdeal : Cert.DiffReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hPre_scores_finite : Cert.Pre_scores_finite.Facts) (hPre_diff_finite : Cert.Pre_diff_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffReferenceIdeal (hDiffReferenceIdeal := hDiffReferenceIdeal)
    ∧ quiescent_DiffReferenceIdeal_pre_diff_finite (hDiffReferenceIdeal := hDiffReferenceIdeal) (hPre_diff_finite := hPre_diff_finite)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Ffn_FfnIdeal
    ∧ algebraic_FfnIdeal_FfnReferenceIdeal (hFfnIdeal := hFfnIdeal) (hFfnReferenceIdeal := hFfnReferenceIdeal)
    ∧ preserves_Diff_DiffIdeal
    ∧ algebraic_DiffIdeal_DiffReferenceIdeal_pre_diff_finite (hDiffIdeal := hDiffIdeal) (hDiffReferenceIdeal := hDiffReferenceIdeal) (hPre_diff_finite := hPre_diff_finite)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
-- ==== Pre_diff_finite.lean ====
abbrev S16384x512 : Shape := ⟨2, ![16384, 512]⟩
abbrev S512x16384 : Shape := ⟨2, ![512, 16384]⟩
abbrev S256x512 : Shape := ⟨2, ![256, 512]⟩
abbrev S512x256 : Shape := ⟨2, ![512, 256]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S512 : Shape := ⟨1, ![512]⟩
abbrev S1x512 : Shape := ⟨2, ![1, 512]⟩
abbrev S49664x512 : Shape := ⟨2, ![49664, 512]⟩
abbrev S49665x512 : Shape := ⟨2, ![49665, 512]⟩
abbrev S_ : Shape := ⟨0, ![]⟩

class Facts : Prop where
  slices_S2x64_S1x64_1_0 : S2x64.Slices ![1, 0] S1x64
  shapeCasts_S1x64_S64 : S1x64.ShapeCasts S64
  concatenates_S64_S64_S64_S64_S64_S64_S64_S64_S512_d0 : Shape.Concatenates [S64, S64, S64, S64, S64, S64, S64, S64] S512 0
  shapeCasts_S512_S1x512 : S512.ShapeCasts S1x512
  transposes_S512x16384_S16384x512_1_0 : S512x16384.Transposes [1, 0] S16384x512
  transposes_S512x256_S256x512_1_0 : S512x256.Transposes [1, 0] S256x512
  concatenates_S16384x512_S16384x512_S16384x512_S256x512_S256x512_S49664x512_d0 : Shape.Concatenates [S16384x512, S16384x512, S16384x512, S256x512, S256x512] S49664x512 0
  bitsLt_bf16_f32 : FTy.bits .bf16 < FTy.bits .f32
  concatenates_S49664x512_S1x512_S49665x512_d0 : Shape.Concatenates [S49664x512, S1x512] S49665x512 0
  bcast_S_S49665x512 : S_.BroadcastsInDim S49665x512 (![] : Fin 0 → Fin S49665x512.rank)

variable [Facts]

def fn {F : FTy → Type} [FloatOps F] (main_arg0 : FVec F S16384x512 .bf16) (main_arg1 : FVec F S16384x512 .bf16) (main_arg2 : FVec F S512x16384 .bf16) (main_arg3 : FVec F S256x512 .bf16) (main_arg4 : FVec F S512x256 .bf16) (main_arg5 : FVec F S2x64 .f32) (main_arg6 : FVec F S2x64 .f32) (main_arg7 : FVec F S2x64 .f32) (main_arg8 : FVec F S2x64 .f32) (main_arg9 : FVec F S2x128 .f32) : IVec S49665x512 1 :=
  let main_v0 : FVec F S1x64 .f32 := (extractStridedSlice S1x64 ![1, 0] · slices_S2x64_S1x64_1_0) main_arg5
  let main_v1 : FVec F S64 .f32 := shapeCast S64 main_v0 shapeCasts_S1x64_S64
  let main_v2 : FVec F S1x64 .f32 := (extractStridedSlice S1x64 ![1, 0] · slices_S2x64_S1x64_1_0) main_arg6
  let main_v3 : FVec F S64 .f32 := shapeCast S64 main_v2 shapeCasts_S1x64_S64
  let main_v4 : FVec F S1x64 .f32 := (extractStridedSlice S1x64 ![1, 0] · slices_S2x64_S1x64_1_0) main_arg7
  let main_v5 : FVec F S64 .f32 := shapeCast S64 main_v4 shapeCasts_S1x64_S64
  let main_v6 : FVec F S1x64 .f32 := (extractStridedSlice S1x64 ![1, 0] · slices_S2x64_S1x64_1_0) main_arg8
  let main_v7 : FVec F S64 .f32 := shapeCast S64 main_v6 shapeCasts_S1x64_S64
  let main_v8 : FVec F S512 .f32 := concatenate S512 0 [⟨S64, main_v1⟩, ⟨S64, main_v3⟩, ⟨S64, main_v5⟩, ⟨S64, main_v7⟩, ⟨S64, main_v1⟩, ⟨S64, main_v3⟩, ⟨S64, main_v5⟩, ⟨S64, main_v7⟩] concatenates_S64_S64_S64_S64_S64_S64_S64_S64_S512_d0
  let main_v9 : FVec F S1x512 .f32 := shapeCast S1x512 main_v8 shapeCasts_S512_S1x512
  let main_v10 : FVec F S16384x512 .bf16 := (transpose S16384x512 [1, 0] · transposes_S512x16384_S16384x512_1_0) main_arg2
  let main_v11 : FVec F S256x512 .bf16 := (transpose S256x512 [1, 0] · transposes_S512x256_S256x512_1_0) main_arg4
  let main_v12 : FVec F S49664x512 .bf16 := concatenate S49664x512 0 [⟨S16384x512, main_arg0⟩, ⟨S16384x512, main_arg1⟩, ⟨S16384x512, main_v10⟩, ⟨S256x512, main_arg3⟩, ⟨S256x512, main_v11⟩] concatenates_S16384x512_S16384x512_S16384x512_S256x512_S256x512_S49664x512_d0
  let main_v13 : FVec F S49664x512 .f32 := (extf .f32 · bitsLt_bf16_f32) main_v12
  let main_v14 : FVec F S49665x512 .f32 := (fun a b => concatenate S49665x512 0 [⟨S49664x512, a⟩, ⟨S1x512, b⟩] concatenates_S49664x512_S1x512_S49665x512_d0) main_v13 main_v9
  let main_v15 : FVec F S49665x512 .f32 := Host.absf main_v14
  let main_cst : FVec F S_ .f32 := constant S_ .f32 0x7F800000#32
  let main_v16 : FVec F S49665x512 .f32 := broadcastInDim S49665x512 ![] bcast_S_S49665x512 main_cst
  let main_v17 : IVec S49665x512 1 := cmpf .olt main_v15 main_v16
  main_v17
-- ==== Pre_scores_finite.lean ====
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S33024x1024 : Shape := ⟨2, ![33024, 1024]⟩
abbrev S_ : Shape := ⟨0, ![]⟩

class Facts : Prop where
  concatenates_S16384x1024_S16384x1024_S256x1024_S33024x1024_d0 : Shape.Concatenates [S16384x1024, S16384x1024, S256x1024] S33024x1024 0
  bitsLt_bf16_f32 : FTy.bits .bf16 < FTy.bits .f32
  bcast_S_S33024x1024 : S_.BroadcastsInDim S33024x1024 (![] : Fin 0 → Fin S33024x1024.rank)

variable [Facts]

def fn {F : FTy → Type} [FloatOps F] (main_arg0 : FVec F S16384x1024 .bf16) (main_arg1 : FVec F S16384x1024 .bf16) (main_arg2 : FVec F S512x16384 .bf16) (main_arg3 : FVec F S256x1024 .bf16) (main_arg4 : FVec F S512x256 .bf16) : IVec S33024x1024 1 :=
  let main_v0 : FVec F S33024x1024 .bf16 := concatenate S33024x1024 0 [⟨S16384x1024, main_arg0⟩, ⟨S16384x1024, main_arg1⟩, ⟨S256x1024, main_arg3⟩] concatenates_S16384x1024_S16384x1024_S256x1024_S33024x1024_d0
  let main_v1 : FVec F S33024x1024 .f32 := (extf .f32 · bitsLt_bf16_f32) main_v0
  let main_v2 : FVec F S33024x1024 .f32 := Host.absf main_v1
  let main_cst : FVec F S_ .f32 := constant S_ .f32 0x7F800000#32
  let main_v3 : FVec F S33024x1024 .f32 := broadcastInDim S33024x1024 ![] bcast_S_S33024x1024 main_cst
  let main_v4 : IVec S33024x1024 1 := cmpf .olt main_v2 main_v3
  main_v4
-- ==== Kernel.lean ====
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S16384x512 : Shape := ⟨2, ![16384, 512]⟩
abbrev S2048x256 : Shape := ⟨2, ![2048, 256]⟩
abbrev S256x256 : Shape := ⟨2, ![256, 256]⟩
abbrev S128x256 : Shape := ⟨2, ![128, 256]⟩
abbrev S8192x256 : Shape := ⟨2, ![8192, 256]⟩
abbrev S128x8192 : Shape := ⟨2, ![128, 8192]⟩
abbrev S2048x128 : Shape := ⟨2, ![2048, 128]⟩
abbrev S1x256x2048 : Shape := ⟨3, ![1, 256, 2048]⟩
abbrev S1x1x2048 : Shape := ⟨3, ![1, 1, 2048]⟩
abbrev S1x144x2048 : Shape := ⟨3, ![1, 144, 2048]⟩
abbrev S256x2048 : Shape := ⟨2, ![256, 2048]⟩
abbrev S1x2048 : Shape := ⟨2, ![1, 2048]⟩
abbrev S2048 : Shape := ⟨1, ![2048]⟩
abbrev S144x2048 : Shape := ⟨2, ![144, 2048]⟩
abbrev S16x256 : Shape := ⟨2, ![16, 256]⟩
abbrev S144x256 : Shape := ⟨2, ![144, 256]⟩
abbrev S512x2048 : Shape := ⟨2, ![512, 2048]⟩
abbrev S128x512 : Shape := ⟨2, ![128, 512]⟩
abbrev S16x512 : Shape := ⟨2, ![16, 512]⟩
abbrev S144x512 : Shape := ⟨2, ![144, 512]⟩
abbrev S1 : Shape := ⟨1, ![1]⟩
abbrev S1x1x1 : Shape := ⟨3, ![1, 1, 1]⟩
abbrev S1x128x2048 : Shape := ⟨3, ![1, 128, 2048]⟩
abbrev S128x2048 : Shape := ⟨2, ![128, 2048]⟩

abbrev nBuf : Space → Nat
  | .hbm => 6
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512x16384, .bf16⟩
  | .hbm, ⟨3, _⟩ => ⟨S256x1024, .bf16⟩
  | .hbm, ⟨4, _⟩ => ⟨S512x256, .bf16⟩
  | .hbm, ⟨5, _⟩ => ⟨S16384x512, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S8192x256, .bf16⟩
  | .local _ .vmem, ⟨7, _⟩ => ⟨S8192x256, .bf16⟩
  | .local _ .vmem, ⟨8, _⟩ => ⟨S128x8192, .bf16⟩
  | .local _ .vmem, ⟨9, _⟩ => ⟨S128x8192, .bf16⟩
  | .local _ .vmem, ⟨10, _⟩ => ⟨S2048x128, .bf16⟩
  | .local _ .vmem, ⟨11, _⟩ => ⟨S2048x128, .bf16⟩
  | .local _ .vmem, ⟨12, _⟩ => ⟨S1x256x2048, .bf16⟩
  | .local _ .vmem, ⟨13, _⟩ => ⟨S1x1x2048, .f32⟩
  | .local _ .vmem, ⟨14, _⟩ => ⟨S1x144x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 2], ![false, false, false]⟩

@[reducible] def k0_t1_loop : Scf.Loop 32 :=
  let c0_i32_168 : BitVec 32 := 0#32
  let c16_i32 : BitVec 32 := 16#32
  let v273 : BitVec 32 := Scalar.addi c0_i32_168 c16_i32
  let c1_i32_169 : BitVec 32 := 1#32
  ⟨c0_i32_168, v273, c1_i32_169⟩
def k0_mult1 (k0_t1 : Fin k0_t1_loop.trips) : BitVec 32 :=
  let c0_i32_168 : BitVec 32 := 0#32
  let c1_i32_169 : BitVec 32 := 1#32
  let arg12 : BitVec 32 := Scf.iv c0_i32_168 c1_i32_169 k0_t1
  let c512_i32 : BitVec 32 := 512#32
  let v274 : BitVec 32 := Scalar.muli arg12 c512_i32
  v274
def k0_off1 (k0_t1 : Fin k0_t1_loop.trips) : Fin 2 → Nat :=
  let c0_i32_168 : BitVec 32 := 0#32
  let c1_i32_169 : BitVec 32 := 1#32
  let arg12 : BitVec 32 := Scf.iv c0_i32_168 c1_i32_169 k0_t1
  let c512_i32 : BitVec 32 := 512#32
  let v274 : BitVec 32 := Scalar.muli arg12 c512_i32
  let v275 : BitVec 32 := v274
  let v278 : Index := Scalar.indexCast v275
  let c0_174 : Index := 0#32
  ![v278.toNat, 0]
def k0_off2 (k0_t1 : Fin k0_t1_loop.trips) : Fin 2 → Nat :=
  let c0_176 : Index := 0#32
  let c0_i32_168 : BitVec 32 := 0#32
  let c1_i32_169 : BitVec 32 := 1#32
  let arg12 : BitVec 32 := Scf.iv c0_i32_168 c1_i32_169 k0_t1
  let c512_i32 : BitVec 32 := 512#32
  let v274 : BitVec 32 := Scalar.muli arg12 c512_i32
  let v275 : BitVec 32 := v274
  let v281 : Index := Scalar.indexCast v275
  ![0, v281.toNat]
def k0_cond4 (i : grid0.Coords) : BitVec 1 :=
  let arg2 : BitVec 32 := BitVec.ofNat 32 (i 2).val
  let c1_i32 : BitVec 32 := 1#32
  let v270 : BitVec 1 := Scalar.cmpi .eq arg2 c1_i32
  let v271 : BitVec 32 := Scalar.extui v270
  let c0_i32_167 : BitVec 32 := 0#32
  let v272 : BitVec 1 := Scalar.cmpi .ne v271 c0_i32_167
  v272

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S16384x1024 : Shape := ⟨2, ![16384, 1024]⟩
abbrev S512x16384 : Shape := ⟨2, ![512, 16384]⟩
abbrev S256x1024 : Shape := ⟨2, ![256, 1024]⟩
abbrev S512x256 : Shape := ⟨2, ![512, 256]⟩
abbrev S256x4x256 : Shape := ⟨3, ![256, 4, 256]⟩
abbrev S16384x4x256 : Shape := ⟨3, ![16384, 4, 256]⟩
abbrev S16640x4x256 : Shape := ⟨3, ![16640, 4, 256]⟩
abbrev S256x512 : Shape := ⟨2, ![256, 512]⟩
abbrev S256x4x128 : Shape := ⟨3, ![256, 4, 128]⟩
abbrev S16384x512 : Shape := ⟨2, ![16384, 512]⟩
abbrev S16384x4x128 : Shape := ⟨3, ![16384, 4, 128]⟩
abbrev S16640x4x128 : Shape := ⟨3, ![16640, 4, 128]⟩
abbrev S4x16384x16640 : Shape := ⟨3, ![4, 16384, 16640]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512x16384, .bf16⟩
  | .hbm, ⟨3, _⟩ => ⟨S256x1024, .bf16⟩
  | .hbm, ⟨4, _⟩ => ⟨S512x256, .bf16⟩
  | .hbm, ⟨5, _⟩ => ⟨S256x1024, .f32⟩
  | .hbm, ⟨6, _⟩ => ⟨S256x4x256, .f32⟩
  | .hbm, ⟨7, _⟩ => ⟨S16384x1024, .f32⟩
  | .hbm, ⟨8, _⟩ => ⟨S16384x4x256, .f32⟩
  | .hbm, ⟨9, _⟩ => ⟨S16640x4x256, .f32⟩
  | .hbm, ⟨10, _⟩ => ⟨S256x512, .bf16⟩
  | .hbm, ⟨11, _⟩ => ⟨S256x512, .f32⟩
  | .hbm, ⟨12, _⟩ => ⟨S256x4x128, .f32⟩
  | .hbm, ⟨13, _⟩ => ⟨S16384x512, .bf16⟩
  | .hbm, ⟨14, _⟩ => ⟨S16384x512, .f32⟩
  | .hbm, ⟨15, _⟩ => ⟨S16384x4x128, .f32⟩
  | .hbm, ⟨16, _⟩ => ⟨S16640x4x128, .f32⟩
  | .hbm, ⟨17, _⟩ => ⟨S16384x1024, .f32⟩
  | .hbm, ⟨18, _⟩ => ⟨S16384x4x256, .f32⟩
  | .hbm, ⟨19, _⟩ => ⟨S4x16384x16640, .f32⟩
  | .hbm, ⟨20, _⟩ => ⟨S_, .f32⟩
  | .hbm, ⟨21, _⟩ => ⟨S_, .f32⟩
  | .hbm, ⟨22, _⟩ => ⟨S4x16384x16640, .f32⟩
  | .hbm, ⟨23, _⟩ => ⟨S4x16384x16640, .f32⟩
  | .hbm, ⟨24, _⟩ => ⟨S_, .f32⟩
  | .hbm, ⟨25, _⟩ => ⟨S4x16384, .f32⟩
  | .hbm, ⟨26, _⟩ => ⟨S_, .f32⟩
  | .hbm, ⟨27, _⟩ => ⟨S4x16384, .f32⟩
  | .hbm, ⟨28, _⟩ => ⟨S4x16384, .f32⟩
  | .hbm, ⟨29, _⟩ => ⟨S4x16384x1, .f32⟩
  | .hbm, ⟨30, _⟩ => ⟨S4x16384x16640, .f32⟩
  | .hbm, ⟨31, _⟩ => ⟨S4x16384x16640, .f32⟩
  | .hbm, ⟨32, _⟩ => ⟨S4x16384x16640, .f32⟩
  | .hbm, ⟨33, _⟩ => ⟨S_, .f32⟩
  | .hbm, ⟨34, _⟩ => ⟨S4x16384, .f32⟩
  | .hbm, ⟨35, _⟩ => ⟨S4x16384x1, .f32⟩
  | .hbm, ⟨36, _⟩ => ⟨S4x16384x16640, .f32⟩
  | .hbm, ⟨37, _⟩ => ⟨S4x16384x16640, .f32⟩
  | .hbm, ⟨38, _⟩ => ⟨S4x128x16384, .f32⟩
  | .hbm, ⟨39, _⟩ => ⟨S16384x4x128, .f32⟩
  | .hbm, ⟨40, _⟩ => ⟨S16384x512, .f32⟩
  | .hbm, ⟨41, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S1x2048x256 : Shape := ⟨3, ![1, 2048, 256]⟩
abbrev S2048x256 : Shape := ⟨2, ![2048, 256]⟩
abbrev S512x256 : Shape := ⟨2, ![512, 256]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S1x2048, .f32⟩
  | .hbm, ⟨8, _⟩ => ⟨S1x2048, .f32⟩
  | .hbm, ⟨9, _⟩ => ⟨S2x2048x5632, .bf16⟩
  | .hbm, ⟨10, _⟩ => ⟨S2x2048x5632, .bf16⟩
  | .hbm, ⟨11, _⟩ => ⟨S2x5632x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v36 : BitVec 1 := Scalar.cmpi .eq arg1 c10_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S1x2048x5632 : Shape := ⟨3, ![1, 2048, 5632]⟩
abbrev S2048x5632 : Shape := ⟨2, ![2048, 5632]⟩
abbrev S16384x5632 : Shape := ⟨2, ![16384, 5632]⟩
abbrev S1x5632x2048 : Shape := ⟨3, ![1, 5632, 2048]⟩
abbrev S5632x2048 : Shape := ⟨2, ![5632, 2048]⟩
abbrev S16384 : Shape := ⟨1, ![16384]⟩
abbrev S16384x1 : Shape := ⟨2, ![16384, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S1x2048x5632, .f32⟩
  | .hbm, ⟨17, _⟩ => ⟨S2048x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S_, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S1x2048x5632, .f32⟩
  | .hbm, ⟨29, _⟩ => ⟨S2048x5632, .f32⟩
  | .hbm, ⟨30, _⟩ => ⟨S16384x5632, .f32⟩
  | .hbm, ⟨31, _⟩ => ⟨S16384x5632, .f32⟩
  | .hbm, ⟨32, _⟩ => ⟨S1x5632x2048, .f32⟩
  | .hbm, ⟨33, _⟩ => ⟨S5632x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Diff.lean ====
abbrev S16384x512 : Shape := ⟨2, ![16384, 512]⟩
abbrev S512x16384 : Shape := ⟨2, ![512, 16384]⟩
abbrev S256x512 : Shape := ⟨2, ![256, 512]⟩
abbrev S512x256 : Shape := ⟨2, ![512, 256]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S1x128 : Shape := ⟨2, ![1, 128]⟩
abbrev S128 : Shape := ⟨1, ![128]⟩
abbrev S1024x128 : Shape := ⟨2, ![1024, 128]⟩
abbrev S256x128 : Shape := ⟨2, ![256, 128]⟩
abbrev S128x256 : Shape := ⟨2, ![128, 256]⟩
abbrev S8192x128 : Shape := ⟨2, ![8192, 128]⟩
abbrev S128x8192 : Shape := ⟨2, ![128, 8192]⟩
abbrev S2x128x1024 : Shape := ⟨3, ![2, 128, 1024]⟩
abbrev S2x1x1024 : Shape := ⟨3, ![2, 1, 1024]⟩
abbrev S2x144x1024 : Shape := ⟨3, ![2, 144, 1024]⟩
abbrev S128x1024 : Shape := ⟨2, ![128, 1024]⟩
abbrev S1x128x1024 : Shape := ⟨3, ![1, 128, 1024]⟩
abbrev S256x1024 : Shape := ⟨2, ![256, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S16x256 : Shape := ⟨2, ![16, 256]⟩
abbrev S144x256 : Shape := ⟨2, ![144, 256]⟩
abbrev S512x128 : Shape := ⟨2, ![512, 128]⟩
abbrev S512x1024 : Shape := ⟨2, ![512, 1024]⟩
abbrev S128x512 : Shape := ⟨2, ![128, 512]⟩
abbrev S16x512 : Shape := ⟨2, ![16, 512]⟩
abbrev S144x512 : Shape := ⟨2, ![144, 512]⟩
abbrev S1 : Shape := ⟨1, ![1]⟩
abbrev S1x1x1 : Shape := ⟨3, ![1, 1, 1]⟩
abbrev S1x1x64 : Shape := ⟨3, ![1, 1, 64]⟩
abbrev S1x1 : Shape := ⟨2, ![1, 1]⟩
abbrev S1024x1 : Shape := ⟨2, ![1024, 1]⟩

abbrev nBuf : Space → Nat
  | .hbm => 26
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x16384, .bf16⟩
  | .hbm, ⟨3, _⟩ => ⟨S256x512, .bf16⟩
  | .hbm, ⟨4, _⟩ => ⟨S512x256, .bf16⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S8192x128, .bf16⟩
  | .local _ .vmem, ⟨7, _⟩ => ⟨S8192x128, .bf16⟩
  | .local _ .vmem, ⟨8, _⟩ => ⟨S128x8192, .bf16⟩
  | .local _ .vmem, ⟨9, _⟩ => ⟨S128x8192, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1024x128, .bf16⟩
  | .local _ .vmem, ⟨16, _⟩ => ⟨S1024x128, .bf16⟩
  | .local _ .vmem, ⟨17, _⟩ => ⟨S2x128x1024, .bf16⟩
  | .local _ .vmem, ⟨18, _⟩ => ⟨S2x1x1024, .f32⟩
  | .local _ .vmem, ⟨19, _⟩ => ⟨S2x144x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![4, 16, 2], ![false, false, false]⟩

@[reducible] def k0_t1_loop : Scf.Loop 32 :=
  let c0_i32_347 : BitVec 32 := 0#32
  let c16_i32 : BitVec 32 := 16#32
  let v535 : BitVec 32 := Scalar.addi c0_i32_347 c16_i32
  let c1_i32_348 : BitVec 32 := 1#32
  ⟨c0_i32_347, v535, c1_i32_348⟩
def k0_mult1 (k0_t1 : Fin k0_t1_loop.trips) : BitVec 32 :=
  let c0_i32_347 : BitVec 32 := 0#32
  let c1_i32_348 : BitVec 32 := 1#32
  let arg17 : BitVec 32 := Scf.iv c0_i32_347 c1_i32_348 k0_t1
  let c512_i32 : BitVec 32 := 512#32
  let v536 : BitVec 32 := Scalar.muli arg17 c512_i32
  v536
def k0_off1 (k0_t1 : Fin k0_t1_loop.trips) : Fin 2 → Nat :=
  let c0_i32_347 : BitVec 32 := 0#32
  let c1_i32_348 : BitVec 32 := 1#32
  let arg17 : BitVec 32 := Scf.iv c0_i32_347 c1_i32_348 k0_t1
  let c512_i32 : BitVec 32 := 512#32
  let v536 : BitVec 32 := Scalar.muli arg17 c512_i32
  let v537 : BitVec 32 := v536
  let v540 : Index := Scalar.indexCast v537
  let c0_353 : Index := 0#32
  ![v540.toNat, 0]
def k0_off2 (k0_t1 : Fin k0_t1_loop.trips) : Fin 2 → Nat :=
  let c0_355 : Index := 0#32
  let c0_i32_347 : BitVec 32 := 0#32
  let c1_i32_348 : BitVec 32 := 1#32
  let arg17 : BitVec 32 := Scf.iv c0_i32_347 c1_i32_348 k0_t1
  let c512_i32 : BitVec 32 := 512#32
  let v536 : BitVec 32 := Scalar.muli arg17 c512_i32
  let v537 : BitVec 32 := v536
  let v543 : Index := Scalar.indexCast v537
  ![0, v543.toNat]
def k0_cond4 (i : grid0.Coords) : BitVec 1 :=
  let arg2 : BitVec 32 := BitVec.ofNat 32 (i 2).val
  let c1_i32 : BitVec 32 := 1#32
  let v532 : BitVec 1 := Scalar.cmpi .eq arg2 c1_i32
  let v533 : BitVec 32 := Scalar.extui v532
  let c0_i32_346 : BitVec 32 := 0#32
  let v534 : BitVec 1 := Scalar.cmpi .ne v533 c0_i32_346
  v534

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== DiffReferenceIdeal.lean ====
abbrev S16384x512 : Shape := ⟨2, ![16384, 512]⟩
abbrev S512x16384 : Shape := ⟨2, ![512, 16384]⟩
abbrev S256x512 : Shape := ⟨2, ![256, 512]⟩
abbrev S512x256 : Shape := ⟨2, ![512, 256]⟩
abbrev S2x64 : Shape := ⟨2, ![2, 64]⟩
abbrev S2x128 : Shape := ⟨2, ![2, 128]⟩
abbrev S256x4x2x64 : Shape := ⟨4, ![256, 4, 2, 64]⟩
abbrev S16384x4x2x64 : Shape := ⟨4, ![16384, 4, 2, 64]⟩
abbrev S16640x4x2x64 : Shape := ⟨4, ![16640, 4, 2, 64]⟩
abbrev S256x4x128 : Shape := ⟨3, ![256, 4, 128]⟩
abbrev S16384x4x128 : Shape := ⟨3, ![16384, 4, 128]⟩
abbrev S16640x4x128 : Shape := ⟨3, ![16640, 4, 128]⟩
abbrev S1x64 : Shape := ⟨2, ![1, 64]⟩
abbrev S64 : Shape := ⟨1, ![64]⟩
abbrev S_ : Shape := ⟨0, ![]⟩
abbrev S16384x4x1x64 : Shape := ⟨4, ![16384, 4, 1, 64]⟩
abbrev S16384x4x64 : Shape := ⟨3, ![16384, 4, 64]⟩
abbrev S16640x4x1x64 : Shape := ⟨4, ![16640, 4, 1, 64]⟩
abbrev S16640x4x64 : Shape := ⟨3, ![16640, 4, 64]⟩
abbrev S4x16384x16640 : Shape := ⟨3, ![4, 16384, 16640]⟩
abbrev S4x16384 : Shape := ⟨2, ![4, 16384]⟩
abbrev S4x16384x1 : Shape := ⟨3, ![4, 16384, 1]⟩
abbrev S4x128x16384 : Shape := ⟨3, ![4, 128, 16384]⟩
abbrev S16384x4 : Shape := ⟨2, ![16384, 4]⟩
abbrev S16384x4x1 : Shape := ⟨3, ![16384, 4, 1]⟩
abbrev S1x128 : Shape := ⟨2, ![1, 128]⟩
abbrev S128 : Shape := ⟨1, ![128]⟩
abbrev S1x1x128 : Shape := ⟨3, ![1, 1, 128]⟩

abbrev nBuf : Space → Nat
  | .hbm => 119
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x16384, .bf16⟩
  | .hbm, ⟨3, _⟩ => ⟨S256x512, .bf16⟩
  | .hbm, ⟨4, _⟩ => ⟨S512x256, .bf16⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x128, .f32⟩
  | .hbm, ⟨10, _⟩ => ⟨S256x512, .f32⟩
  | .hbm, ⟨11, _⟩ => ⟨S256x4x2x64, .f32⟩
  | .hbm, ⟨12, _⟩ => ⟨S16384x512, .f32⟩
  | .hbm, ⟨13, _⟩ => ⟨S16384x4x2x64, .f32⟩
  | .hbm, ⟨14, _⟩ => ⟨S16640x4x2x64, .f32⟩
  | .hbm, ⟨15, _⟩ => ⟨S512x256, .f32⟩
  | .hbm, ⟨16, _⟩ => ⟨S256x512, .f32⟩
  | .hbm, ⟨17, _⟩ => ⟨S256x4x128, .f32⟩
  | .hbm, ⟨18, _⟩ => ⟨S512x16384, .f32⟩
  | .hbm, ⟨19, _⟩ => ⟨S16384x512, .f32⟩
  | .hbm, ⟨20, _⟩ => ⟨S16384x4x128, .f32⟩
  | .hbm, ⟨21, _⟩ => ⟨S16640x4x128, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384x512, .f32⟩
  | .hbm, ⟨42, _⟩ => ⟨S16384x4x2x64, .f32⟩
  | .hbm, ⟨43, _⟩ => ⟨S16384x4x1x64, .f32⟩
  | .hbm, ⟨44, _⟩ => ⟨S16384x4x64, .f32⟩
  | .hbm, ⟨45, _⟩ => ⟨S16640x4x1x64, .f32⟩
  | .hbm, ⟨46, _⟩ => ⟨S16640x4x64, .f32⟩
  | .hbm, ⟨47, _⟩ => ⟨S4x16384x16640, .f32⟩
  | .hbm, ⟨48, _⟩ => ⟨S_, .f32⟩
  | .hbm, ⟨49, _⟩ => ⟨S_, .f32⟩
  | .hbm, ⟨50, _⟩ => ⟨S4x16384x16640, .f32⟩
  | .hbm, ⟨51, _⟩ => ⟨S4x16384x16640, .f32⟩
  | .hbm, ⟨52, _⟩ => ⟨S_, .f32⟩
  | .hbm, ⟨53, _⟩ => ⟨S4x16384, .f32⟩
  | .hbm, ⟨54, _⟩ => ⟨S_, .f32⟩
  | .hbm, ⟨55, _⟩ => ⟨S4x16384, .f32⟩
  | .hbm, ⟨56, _⟩ => ⟨S4x16384, .f32⟩
  | .hbm, ⟨57, _⟩ => ⟨S4x16384x1, .f32⟩
  | .hbm, ⟨58, _⟩ => ⟨S4x16384x16640, .f32⟩
  | .hbm, ⟨59, _⟩ => ⟨S4x16384x16640, .f32⟩
  | .hbm, ⟨60, _⟩ => ⟨S4x16384x16640, .f32⟩
  | .hbm, ⟨61, _⟩ => ⟨S_, .f32⟩
  | .hbm, ⟨62, _⟩ => ⟨S4x16384, .f32⟩
  | .hbm, ⟨63, _⟩ => ⟨S4x16384x1, .f32⟩
  | .hbm, ⟨64, _⟩ => ⟨S4x16384x16640, .f32⟩
  | .hbm, ⟨65, _⟩ => ⟨S4x16384x16640, .f32⟩
  | .hbm, ⟨66, _⟩ => ⟨S16384x512, .f32⟩
  | .hbm, ⟨67, _⟩ => ⟨S16384x4x2x64, .f32⟩
  | .hbm, ⟨68, _⟩ => ⟨S16384x4x1x64, .f32⟩
  | .hbm, ⟨69, _⟩ => ⟨S16384x4x64, .f32⟩
  | .hbm, ⟨70, _⟩ => ⟨S16640x4x1x64, .f32⟩
  | .hbm, ⟨71, _⟩ => ⟨S16640x4x64, .f32⟩
  | .hbm, ⟨72, _⟩ => ⟨S4x16384x16640, .f32⟩
  | .hbm, ⟨73, _⟩ => ⟨S_, .f32⟩
  | .hbm, ⟨74, _⟩ => ⟨S_, .f32⟩
  | .hbm, ⟨75, _⟩ => ⟨S4x16384x16640, .f32⟩
  | .hbm, ⟨76, _⟩ => ⟨S4x16384x16640, .f32⟩
  | .hbm, ⟨77, _⟩ => ⟨S_, .f32⟩
  | .hbm, ⟨78, _⟩ => ⟨S4x16384, .f32⟩
  | .hbm, ⟨79, _⟩ => ⟨S_, .f32⟩
  | .hbm, ⟨80, _⟩ => ⟨S4x16384, .f32⟩
  | .hbm, ⟨81, _⟩ => ⟨S4x16384, .f32⟩
  | .hbm, ⟨82, _⟩ => ⟨S4x16384x1, .f32⟩
  | .hbm, ⟨83, _⟩ => ⟨S4x16384x16640, .f32⟩
  | .hbm, ⟨84, _⟩ => ⟨S4x16384x16640, .f32⟩
  | .hbm, ⟨85, _⟩ => ⟨S4x16384x16640, .f32⟩
  | .hbm, ⟨86, _⟩ => ⟨S_, .f32⟩
  | .hbm, ⟨87, _⟩ => ⟨S4x16384, .f32⟩
  | .hbm, ⟨88, _⟩ => ⟨S4x16384x1, .f32⟩
  | .hbm, ⟨89, _⟩ => ⟨S4x16384x16640, .f32⟩
  | .hbm, ⟨90, _⟩ => ⟨S4x16384x16640, .f32⟩
  | .hbm, ⟨91, _⟩ => ⟨S4x16384x16640, .f32⟩
  | .hbm, ⟨92, _⟩ => ⟨S4x16384x16640, .f32⟩
  | .hbm, ⟨93, _⟩ => ⟨S4x16384x16640, .f32⟩
  | .hbm, ⟨94, _⟩ => ⟨S4x128x16384, .f32⟩
  | .hbm, ⟨95, _⟩ => ⟨S16384x4x128, .f32⟩
  | .hbm, ⟨96, _⟩ => ⟨S16384x4x128, .f32⟩
  | .hbm, ⟨97, _⟩ => ⟨S_, .f32⟩
  | .hbm, ⟨98, _⟩ => ⟨S16384x4, .f32⟩
  | .hbm, ⟨99, _⟩ => ⟨S16384x4x1, .f32⟩
  | .hbm, ⟨100, _⟩ => ⟨S_, .f32⟩
  | .hbm, ⟨101, _⟩ => ⟨S16384x4x1, .f32⟩
  | .hbm, ⟨102, _⟩ => ⟨S16384x4x1, .f32⟩
  | .hbm, ⟨103, _⟩ => ⟨S_, .f32⟩
  | .hbm, ⟨104, _⟩ => ⟨S16384x4x1, .f32⟩
  | .hbm, ⟨105, _⟩ => ⟨S16384x4x1, .f32⟩
  | .hbm, ⟨106, _⟩ => ⟨S16384x4x1, .f32⟩
  | .hbm, ⟨107, _⟩ => ⟨S16384x4x128, .f32⟩
  | .hbm, ⟨108, _⟩ => ⟨S16384x4x128, .f32⟩
  | .hbm, ⟨109, _⟩ => ⟨S1x128, .f32⟩
  | .hbm, ⟨110, _⟩ => ⟨S128, .f32⟩
  | .hbm, ⟨111, _⟩ => ⟨S1x1x128, .f32⟩
  | .hbm, ⟨112, _⟩ => ⟨S16384x4x128, .f32⟩
  | .hbm, ⟨113, _⟩ => ⟨S16384x4x128, .f32⟩
  | .hbm, ⟨114, _⟩ => ⟨S_, .f32⟩
  | .hbm, ⟨115, _⟩ => ⟨S16384x4x128, .f32⟩
  | .hbm, ⟨116, _⟩ => ⟨S16384x4x128, .f32⟩
  | .hbm, ⟨117, _⟩ => ⟨S16384x512, .f32⟩
  | .hbm, ⟨118, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_13 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== OutProj.lean ====
abbrev S16384x512 : Shape := ⟨2, ![16384, 512]⟩
abbrev S16384x2048 : Shape := ⟨2, ![16384, 2048]⟩
abbrev S1x2048 : Shape := ⟨2, ![1, 2048]⟩
abbrev S2x2048x2048 : Shape := ⟨3, ![2, 2048, 2048]⟩
abbrev S512x512 : Shape := ⟨2, ![512, 512]⟩
abbrev S512x2048 : Shape := ⟨2, ![512, 2048]⟩
abbrev S1x2048x2048 : Shape := ⟨3, ![1, 2048, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x2048, .f32⟩
  | .hbm, ⟨5, _⟩ => ⟨S1x2048, .f32⟩
  | .hbm, ⟨6, _⟩ => ⟨S2x2048x2048, .f32⟩
  | .hbm, ⟨7, _⟩ => ⟨S1x2048, .f32⟩
  | .hbm, ⟨8, _⟩ => ⟨S1x2048, .f32⟩
  | .hbm, ⟨9, _⟩ => ⟨S2x2048x2048, .bf16⟩
  | .hbm, ⟨10, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjReferenceIdeal.lean ====
abbrev S16384x512 : Shape := ⟨2, ![16384, 512]⟩
abbrev S16384x2048 : Shape := ⟨2, ![16384, 2048]⟩
abbrev S1x2048 : Shape := ⟨2, ![1, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x2048, .f32⟩
  | .hbm, ⟨5, _⟩ => ⟨S1x2048, .f32⟩
  | .hbm, ⟨6, _⟩ => ⟨S2x2048x2048, .f32⟩
  | .hbm, ⟨7, _⟩ => ⟨S1x2048, .f32⟩
  | .hbm, ⟨8, _⟩ => ⟨S1x2048, .f32⟩
  | .hbm, ⟨9, _⟩ => ⟨S16384x2048, .bf16⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S1x2048x2048, .f32⟩
  | .hbm, ⟨15, _⟩ => ⟨S2048x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S2x2048x3776 : Shape := ⟨3, ![2, 2048, 3776]⟩
abbrev S16 : Shape := ⟨1, ![16]⟩
abbrev S_ : Shape := ⟨0, ![]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S64 : Shape := ⟨1, ![64]⟩
abbrev S64x1 : Shape := ⟨2, ![64, 1]⟩
abbrev S64x16 : Shape := ⟨2, ![64, 16]⟩
abbrev S256x128 : Shape := ⟨2, ![256, 128]⟩
abbrev S64x128 : Shape := ⟨2, ![64, 128]⟩
abbrev S256x1x128 : Shape := ⟨3, ![256, 1, 128]⟩
abbrev S1x64x128 : Shape := ⟨3, ![1, 64, 128]⟩
abbrev S256x64x128 : Shape := ⟨3, ![256, 64, 128]⟩
abbrev S16384x128 : Shape := ⟨2, ![16384, 128]⟩
abbrev S2x2048x3264 : Shape := ⟨3, ![2, 2048, 3264]⟩
abbrev S2x2048x3328 : Shape := ⟨3, ![2, 2048, 3328]⟩
abbrev S2x2048x512 : Shape := ⟨3, ![2, 2048, 512]⟩
abbrev S16384x512 : Shape := ⟨2, ![16384, 512]⟩
abbrev S512x16384 : Shape := ⟨2, ![512, 16384]⟩
abbrev S16384x1024 : Shape := ⟨2, ![16384, 1024]⟩
abbrev S16384x768 : Shape := ⟨2, ![16384, 768]⟩
abbrev S512x2048 : Shape := ⟨2, ![512, 2048]⟩
abbrev S512x128 : Shape := ⟨2, ![512, 128]⟩
abbrev S1x2048x3328 : Shape := ⟨3, ![1, 2048, 3328]⟩
abbrev S1x2048x512 : Shape := ⟨3, ![1, 2048, 512]⟩
abbrev S512x512 : Shape := ⟨2, ![512, 512]⟩
abbrev S512x1024 : Shape := ⟨2, ![512, 1024]⟩
abbrev S512x768 : Shape := ⟨2, ![512, 768]⟩
abbrev S2048x512 : Shape := ⟨2, ![2048, 512]⟩
abbrev S1x2048x1024 : Shape := ⟨3, ![1, 2048, 1024]⟩
abbrev S2048x1024 : Shape := ⟨2, ![2048, 1024]⟩
abbrev S1x2048x768 : Shape := ⟨3, ![1, 2048, 768]⟩
abbrev S2048x768 : Shape := ⟨2, ![2048, 768]⟩

abbrev nBuf : Space → Nat
  | .hbm => 83
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2x2048x3776, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S256, .f32⟩
  | .hbm, ⟨19, _⟩ => ⟨S256x1, .f32⟩
  | .hbm, ⟨20, _⟩ => ⟨S1x16, .f32⟩
  | .hbm, ⟨21, _⟩ => ⟨S256x16, .f32⟩
  | .hbm, ⟨22, _⟩ => ⟨S256x16, .f32⟩
  | .hbm, ⟨23, _⟩ => ⟨S256x16, .f32⟩
  | .hbm, ⟨24, _⟩ => ⟨S64, .f32⟩
  | .hbm, ⟨25, _⟩ => ⟨S64x1, .f32⟩
  | .hbm, ⟨26, _⟩ => ⟨S1x16, .f32⟩
  | .hbm, ⟨27, _⟩ => ⟨S64x16, .f32⟩
  | .hbm, ⟨28, _⟩ => ⟨S64x16, .f32⟩
  | .hbm, ⟨29, _⟩ => ⟨S64x16, .f32⟩
  | .hbm, ⟨30, _⟩ => ⟨S256x16, .f32⟩
  | .hbm, ⟨31, _⟩ => ⟨S64x16, .f32⟩
  | .hbm, ⟨32, _⟩ => ⟨S_, .f32⟩
  | .hbm, ⟨33, _⟩ => ⟨S256x16, .f32⟩
  | .hbm, ⟨34, _⟩ => ⟨S_, .f32⟩
  | .hbm, ⟨35, _⟩ => ⟨S64x16, .f32⟩
  | .hbm, ⟨36, _⟩ => ⟨S_, .f32⟩
  | .hbm, ⟨37, _⟩ => ⟨S256x16, .f32⟩
  | .hbm, ⟨38, _⟩ => ⟨S256x16, .f32⟩
  | .hbm, ⟨39, _⟩ => ⟨S256x128, .f32⟩
  | .hbm, ⟨40, _⟩ => ⟨S_, .f32⟩
  | .hbm, ⟨41, _⟩ => ⟨S64x16, .f32⟩
  | .hbm, ⟨42, _⟩ => ⟨S64x16, .f32⟩
  | .hbm, ⟨43, _⟩ => ⟨S64x128, .f32⟩
  | .hbm, ⟨44, _⟩ => ⟨S256x1x128, .f32⟩
  | .hbm, ⟨45, _⟩ => ⟨S1x64x128, .f32⟩
  | .hbm, ⟨46, _⟩ => ⟨S256x64x128, .f32⟩
  | .hbm, ⟨47, _⟩ => ⟨S256x64x128, .f32⟩
  | .hbm, ⟨48, _⟩ => ⟨S256x64x128, .f32⟩
  | .hbm, ⟨49, _⟩ => ⟨S16384x128, .f32⟩
  | .hbm, ⟨50, _⟩ => ⟨S256x16, .f32⟩
  | .hbm, ⟨51, _⟩ => ⟨S64x16, .f32⟩
  | .hbm, ⟨52, _⟩ => ⟨S_, .f32⟩
  | .hbm, ⟨53, _⟩ => ⟨S256x16, .f32⟩
  | .hbm, ⟨54, _⟩ => ⟨S_, .f32⟩
  | .hbm, ⟨55, _⟩ => ⟨S64x16, .f32⟩
  | .hbm, ⟨56, _⟩ => ⟨S_, .f32⟩
  | .hbm, ⟨57, _⟩ => ⟨S256x16, .f32⟩
  | .hbm, ⟨58, _⟩ => ⟨S256x16, .f32⟩
  | .hbm, ⟨59, _⟩ => ⟨S256x128, .f32⟩
  | .hbm, ⟨60, _⟩ => ⟨S_, .f32⟩
  | .hbm, ⟨61, _⟩ => ⟨S64x16, .f32⟩
  | .hbm, ⟨62, _⟩ => ⟨S64x16, .f32⟩
  | .hbm, ⟨63, _⟩ => ⟨S64x128, .f32⟩
  | .hbm, ⟨64, _⟩ => ⟨S256x1x128, .f32⟩
  | .hbm, ⟨65, _⟩ => ⟨S1x64x128, .f32⟩
  | .hbm, ⟨66, _⟩ => ⟨S256x64x128, .f32⟩
  | .hbm, ⟨67, _⟩ => ⟨S256x64x128, .f32⟩
  | .hbm, ⟨68, _⟩ => ⟨S256x64x128, .f32⟩
  | .hbm, ⟨69, _⟩ => ⟨S16384x128, .f32⟩
  | .hbm, ⟨70, _⟩ => ⟨S2x2048x3264, .f32⟩
  | .hbm, ⟨71, _⟩ => ⟨S2x2048x3264, .bf16⟩
  | .hbm, ⟨72, _⟩ => ⟨S_, .i32⟩
  | .hbm, ⟨73, _⟩ => ⟨S_, .bf16⟩
  | .hbm, ⟨74, _⟩ => ⟨S2x2048x3328, .bf16⟩
  | .hbm, ⟨75, _⟩ => ⟨S2x2048x512, .f32⟩
  | .hbm, ⟨76, _⟩ => ⟨S2x2048x512, .bf16⟩
  | .hbm, ⟨77, _⟩ => ⟨S16384x512, .bf16⟩
  | .hbm, ⟨78, _⟩ => ⟨S16384x512, .bf16⟩
  | .hbm, ⟨79, _⟩ => ⟨S512x16384, .bf16⟩
  | .hbm, ⟨80, _⟩ => ⟨S16384x1024, .f32⟩
  | .hbm, ⟨81, _⟩ => ⟨S16384x768, .f32⟩
  | .hbm, ⟨82, _⟩ => ⟨S16384x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2048x3328, .bf16⟩
  | .local _ .vmem, ⟨9, _⟩ => ⟨S1x2048x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S512x768, .f32⟩
  | .local _ .vmem, ⟨19, _⟩ => ⟨S512x768, .f32⟩
  | .local _ .vmem, ⟨20, _⟩ => ⟨S512x512, .bf16⟩
  | .local _ .vmem, ⟨21, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.hbm, 72, rfl⟩
abbrev main_call0_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev main_v59_4 : Ref sig .tc := ⟨.hbm, 81, rfl⟩
abbrev main_v59_5 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjReferenceIdeal.lean ====
abbrev S16384x2048 : Shape := ⟨2, ![16384, 2048]⟩
abbrev S1x2048 : Shape := ⟨2, ![1, 2048]⟩
abbrev S2x2048x3776 : Shape := ⟨3, ![2, 2048, 3776]⟩
abbrev S_ : Shape := ⟨0, ![]⟩
abbrev S1x2048x3776 : Shape := ⟨3, ![1, 2048, 3776]⟩
abbrev S2048x3776 : Shape := ⟨2, ![2048, 3776]⟩
abbrev S16384x3776 : Shape := ⟨2, ![16384, 3776]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x1x1x32 : Shape := ⟨4, ![16384, 1, 1, 32]⟩
abbrev S16384x512 : Shape := ⟨2, ![16384, 512]⟩
abbrev S16384x4x2x64 : Shape := ⟨4, ![16384, 4, 2, 64]⟩
abbrev S16384x4x2x32 : Shape := ⟨4, ![16384, 4, 2, 32]⟩
abbrev S16384x1024 : Shape := ⟨2, ![16384, 1024]⟩
abbrev S16384x704 : Shape := ⟨2, ![16384, 704]⟩
abbrev S16384x64 : Shape := ⟨2, ![16384, 64]⟩
abbrev S16384x768 : Shape := ⟨2, ![16384, 768]⟩
abbrev S512x16384 : Shape := ⟨2, ![512, 16384]⟩

abbrev nBuf : Space → Nat
  | .hbm => 98
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2x2048x3776, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S1x2048x3776, .f32⟩
  | .hbm, ⟨12, _⟩ => ⟨S2048x3776, .f32⟩
  | .hbm, ⟨13, _⟩ => ⟨S16384x3776, .f32⟩
  | .hbm, ⟨14, _⟩ => ⟨S256, .f32⟩
  | .hbm, ⟨15, _⟩ => ⟨S256x1, .f32⟩
  | .hbm, ⟨16, _⟩ => ⟨S256x64, .f32⟩
  | .hbm, ⟨17, _⟩ => ⟨S16384, .f32⟩
  | .hbm, ⟨18, _⟩ => ⟨S64, .f32⟩
  | .hbm, ⟨19, _⟩ => ⟨S1x64, .f32⟩
  | .hbm, ⟨20, _⟩ => ⟨S256x64, .f32⟩
  | .hbm, ⟨21, _⟩ => ⟨S16384, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16384x1, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x1, .f32⟩
  | .hbm, ⟨42, _⟩ => ⟨S1x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S16384x32, .f32⟩
  | .hbm, ⟨47, _⟩ => ⟨S16384x32, .f32⟩
  | .hbm, ⟨48, _⟩ => ⟨S16384x1x1x32, .f32⟩
  | .hbm, ⟨49, _⟩ => ⟨S16384x32, .f32⟩
  | .hbm, ⟨50, _⟩ => ⟨S16384x1x1x32, .f32⟩
  | .hbm, ⟨51, _⟩ => ⟨S16384x512, .f32⟩
  | .hbm, ⟨52, _⟩ => ⟨S16384x4x2x64, .f32⟩
  | .hbm, ⟨53, _⟩ => ⟨S16384x4x2x32, .f32⟩
  | .hbm, ⟨54, _⟩ => ⟨S16384x4x2x32, .f32⟩
  | .hbm, ⟨55, _⟩ => ⟨S16384x4x2x32, .f32⟩
  | .hbm, ⟨56, _⟩ => ⟨S16384x4x2x32, .f32⟩
  | .hbm, ⟨57, _⟩ => ⟨S16384x4x2x32, .f32⟩
  | .hbm, ⟨58, _⟩ => ⟨S16384x4x2x32, .f32⟩
  | .hbm, ⟨59, _⟩ => ⟨S16384x4x2x32, .f32⟩
  | .hbm, ⟨60, _⟩ => ⟨S16384x4x2x32, .f32⟩
  | .hbm, ⟨61, _⟩ => ⟨S16384x4x2x32, .f32⟩
  | .hbm, ⟨62, _⟩ => ⟨S16384x4x2x32, .f32⟩
  | .hbm, ⟨63, _⟩ => ⟨S16384x4x2x32, .f32⟩
  | .hbm, ⟨64, _⟩ => ⟨S16384x4x2x32, .f32⟩
  | .hbm, ⟨65, _⟩ => ⟨S16384x4x2x64, .f32⟩
  | .hbm, ⟨66, _⟩ => ⟨S16384x512, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x4x2x64, .f32⟩
  | .hbm, ⟨72, _⟩ => ⟨S16384x4x2x32, .f32⟩
  | .hbm, ⟨73, _⟩ => ⟨S16384x4x2x32, .f32⟩
  | .hbm, ⟨74, _⟩ => ⟨S16384x4x2x32, .f32⟩
  | .hbm, ⟨75, _⟩ => ⟨S16384x4x2x32, .f32⟩
  | .hbm, ⟨76, _⟩ => ⟨S16384x4x2x32, .f32⟩
  | .hbm, ⟨77, _⟩ => ⟨S16384x4x2x32, .f32⟩
  | .hbm, ⟨78, _⟩ => ⟨S16384x4x2x32, .f32⟩
  | .hbm, ⟨79, _⟩ => ⟨S16384x4x2x32, .f32⟩
  | .hbm, ⟨80, _⟩ => ⟨S16384x4x2x32, .f32⟩
  | .hbm, ⟨81, _⟩ => ⟨S16384x4x2x32, .f32⟩
  | .hbm, ⟨82, _⟩ => ⟨S16384x4x2x32, .f32⟩
  | .hbm, ⟨83, _⟩ => ⟨S16384x4x2x32, .f32⟩
  | .hbm, ⟨84, _⟩ => ⟨S16384x4x2x64, .f32⟩
  | .hbm, ⟨85, _⟩ => ⟨S16384x512, .f32⟩
  | .hbm, ⟨86, _⟩ => ⟨S16384x512, .f32⟩
  | .hbm, ⟨87, _⟩ => ⟨S16384x1024, .f32⟩
  | .hbm, ⟨88, _⟩ => ⟨S16384x704, .f32⟩
  | .hbm, ⟨89, _⟩ => ⟨S16384x512, .f32⟩
  | .hbm, ⟨90, _⟩ => ⟨S_, .f32⟩
  | .hbm, ⟨91, _⟩ => ⟨S16384x64, .f32⟩
  | .hbm, ⟨92, _⟩ => ⟨S16384x768, .f32⟩
  | .hbm, ⟨93, _⟩ => ⟨S16384x512, .bf16⟩
  | .hbm, ⟨94, _⟩ => ⟨S16384x512, .bf16⟩
  | .hbm, ⟨95, _⟩ => ⟨S512x16384, .f32⟩
  | .hbm, ⟨96, _⟩ => ⟨S512x16384, .bf16⟩
  | .hbm, ⟨97, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_5 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Proof.FfnMath.lean ====
module

public import proofs.«01_k».proof.Proof.Gen.FfnIdeal
public import proofs.«01_k».proof.Proof.Gen.FfnIdeal.Skeleton
public import Idealize.ShloMosaic.Lib.Pointwise

/-! The feed-forward's formula, entry by entry, and the kernel body's operations at an entry. -/

@[expose] public section

set_option maxRecDepth 16384

noncomputable section

namespace Cert.FfnIdeal.Mlp

open Idealize.ShloMosaic Idealize.ShloMosaic.Tactic
open Cert.FfnIdeal Cert.FfnIdeal.Gen

/-- One hidden unit of a row `h`: the gate's SiLU times the up product. -/
def unit {n : ℕ} (h g u : Fin n → EReal) : EReal :=
  (∑ d, h d * g d) * Ideal.logistic (∑ d, h d * g d) * ∑ d, h d * u d

/-- The layer norm of a row. -/
def norm (z g b : Fin 2048 → EReal) (o : Fin 2048) : EReal :=
  (z o - Ideal.div (∑ e, z e) (Ideal.ofBits .f32 0x45000000#32)) *
    Ideal.rsqrt (Ideal.div (∑ e, (z e - Ideal.div (∑ e, z e) (Ideal.ofBits .f32 0x45000000#32)) * (z e - Ideal.div (∑ e, z e) (Ideal.ofBits .f32 0x45000000#32)))
      (Ideal.ofBits .f32 0x45000000#32) + Ideal.ofBits .f32 0x3727C5AC#32) * g o + b o

theorem pay3_at (x : FVec Ideal S512x2048 .f32) (sc sh : FVec Ideal S1x2048 .f32) (r : Fin 512) (d : Fin 2048) :
    k0_pay3 (F := Ideal) x sc sh (ix2 r d) = x (ix2 r d) * (1 + sc (ix2 0 d)) + sh (ix2 0 d) := by
  pointwise! [k0_pay3]

theorem pay4_at (r : Fin 512) (d : Fin 2048) : k0_pay4 (F := Ideal) (ix2 r d) = 0 := by
  pointwise! [k0_pay4]

theorem pay6_at (h : FVec Ideal S512x2048 .bf16) (g u : FVec Ideal S1x2048x256 .bf16) (r : Fin 512) (k : Fin 256) :
    k0_pay6 (F := Ideal) h g u (ix2 r k) = unit (fun d => h (ix2 r d)) (fun d => g (ix3 0 d k)) (fun d => u (ix3 0 d k)) := by
  unfold unit
  pointwise! [k0_pay6]

theorem pay5_at (h : FVec Ideal S512x2048 .bf16) (g u : FVec Ideal S1x2048x256 .bf16) (w : FVec Ideal S1x256x2048 .bf16) (r : Fin 512) (o : Fin 2048) :
    k0_pay5 (F := Ideal) h g u w (ix2 r o) = ∑ k : Fin 256, unit (fun d => h (ix2 r d)) (fun d => g (ix3 0 d k)) (fun d => u (ix3 0 d k)) * w (ix3 0 k o) := by
  unfold unit
  pointwise! [k0_pay5]

theorem pay1_at (p : FVec Ideal S512x2048 .f32) (a : FVec Ideal S512x256 .bf16) (w : FVec Ideal S1x256x2048 .bf16) (acc : FVec Ideal S512x2048 .f32) (r : Fin 512) (o : Fin 2048) :
    k0_pay1 (F := Ideal) p a (k0_pay7 w) (constant S512x2048 FTy.f32 0#32) acc (ix2 r o)
      = acc (ix2 r o) + (p (ix2 r o) + ∑ k : Fin 256, a (ix2 r k) * w (ix3 0 k o)) := by
  pointwise! [k0_pay1, k0_pay7]

theorem pay2_at (x : FVec Ideal S512x2048 .f32) (gate : FVec Ideal S1x2048 .f32) (acc : FVec Ideal S512x2048 .f32) (g b : FVec Ideal S1x2048 .f32) (r : Fin 512) (o : Fin 2048) :
    k0_pay2 (F := Ideal) x gate acc g b (ix2 r o)
      = norm (fun e => Ideal.ofBits .f32 0x3FB504F3#32 * x (ix2 r e) + gate (ix2 0 e) * acc (ix2 r e)) (fun e => g (ix2 0 e)) (fun e => b (ix2 0 e)) o := by
  unfold norm
  pointwise! [k0_pay2]

/-- A modulated row. -/
def hid (x : FVec Ideal S16384x2048 .f32) (sh sc : FVec Ideal S1x2048 .f32) (i : Fin 16384) (d : Fin 2048) : EReal :=
  x (ix2 i d) * (1 + sc (ix2 0 d)) + sh (ix2 0 d)

/-- What hidden unit `j` of row `i` adds to output `o`. -/
def term (x : FVec Ideal S16384x2048 .f32) (sh sc : FVec Ideal S1x2048 .f32) (wg wu : FVec Ideal S2x2048x5632 .f32) (wd : FVec Ideal S2x5632x2048 .f32)
    (i : Fin 16384) (o : Fin 2048) (j : ℕ) : EReal :=
  if h : j < 5632 then unit (hid x sh sc i) (fun d => wg (ix3 1 d ⟨j, h⟩)) (fun d => wu (ix3 1 d ⟨j, h⟩)) * wd (ix3 1 ⟨j, h⟩ o) else 0

/-- The feed-forward of the second layer with its residual and layer norm. -/
def ffn (x : FVec Ideal S16384x2048 .f32) (sh sc ga : FVec Ideal S1x2048 .f32) (wg wu : FVec Ideal S2x2048x5632 .f32) (wd : FVec Ideal S2x5632x2048 .f32)
    (g b : FVec Ideal S1x2048 .f32) (i : Fin 16384) (o : Fin 2048) : EReal :=
  norm (fun e => Ideal.ofBits .f32 0x3FB504F3#32 * x (ix2 i e) + ga (ix2 0 e) * ∑ j ∈ Finset.range 5632, term x sh sc wg wu wd i e j)
    (fun e => g (ix2 0 e)) (fun e => b (ix2 0 e)) o

end Cert.FfnIdeal.Mlp
-- ==== Proof.OutProjValue.lean ====
module

public import proofs.«01_k».proof.Proof.Gen.OutProjIdeal.Value
public import proofs.«01_k».proof.Proof.FfnMath
public import Idealize.ShloMosaic.Lib.Pipeline.ValueKit
public import Idealize.ShloMosaic.Lib.Claim

/-! The output projection: its formula, the kernel body at an entry, and the array the kernel leaves. -/

@[expose] public section

set_option maxRecDepth 16384

noncomputable section

namespace Cert.OutProjIdeal.Mix

open Idealize.ShloMosaic Idealize.ShloMosaic.TcCoe Idealize.SL.Sem Idealize.ShloMosaic.Tactic
open Idealize.ShloMosaic.Pipeline (Dat)
open Cert.OutProjIdeal Cert.OutProjIdeal.Gen

/-- The weight's row that meets column `k` of mixer `n`. -/
def wrow (n : Fin 4) (k : Fin 512) : Fin 2048 := ⟨512 * n.val + k.val, by omega⟩

/-- The four mixers' outputs times the second layer's weight. -/
def mix (p : Fin 4 → FVec Ideal S16384x512 .bf16) (w : FVec Ideal S2x2048x2048 .f32) (i : Fin 16384) (o : Fin 2048) : EReal :=
  ∑ n : Fin 4, ∑ k : Fin 512, p n (ix2 i k) * w (ix3 1 (wrow n k) o)

/-- The output projection with its residual and layer norm. -/
def outp (p : Fin 4 → FVec Ideal S16384x512 .bf16) (x : FVec Ideal S16384x2048 .f32) (ga : FVec Ideal S1x2048 .f32) (w : FVec Ideal S2x2048x2048 .f32)
    (g b : FVec Ideal S1x2048 .f32) (i : Fin 16384) (o : Fin 2048) : EReal :=
  Cert.FfnIdeal.Mlp.norm (fun e => Ideal.ofBits .f32 0x3FB504F3#32 * x (ix2 i e) + ga (ix2 0 e) * mix p w i e) (fun e => g (ix2 0 e)) (fun e => b (ix2 0 e)) o

theorem pay1_at (z : FVec Ideal S512x2048 .f32) (g b : FVec Ideal S1x2048 .f32) (r : Fin 512) (o : Fin 2048) :
    k0_pay1 (F := Ideal) z g b (ix2 r o) = Cert.FfnIdeal.Mlp.norm (fun e => z (ix2 r e)) (fun e => g (ix2 0 e)) (fun e => b (ix2 0 e)) o := by
  unfold Cert.FfnIdeal.Mlp.norm
  pointwise! [k0_pay1]

/-- One mixer's share of the product. -/
def dot (a : FVec Ideal S512x512 .bf16) (w : FVec Ideal S1x512x2048 .bf16) (r : Fin 512) (e : Fin 2048) : EReal :=
  ∑ k : Fin 512, a (ix2 r k) * w (ix3 0 k e)

theorem pay2_at (a0 : FVec Ideal S512x512 .bf16) (w0 : FVec Ideal S1x512x2048 .bf16) (a1 : FVec Ideal S512x512 .bf16) (w1 : FVec Ideal S1x512x2048 .bf16)
    (a2 : FVec Ideal S512x512 .bf16) (w2 : FVec Ideal S1x512x2048 .bf16) (a3 : FVec Ideal S512x512 .bf16) (w3 : FVec Ideal S1x512x2048 .bf16)
    (x : FVec Ideal S512x2048 .f32) (ga : FVec Ideal S1x2048 .f32) (r : Fin 512) (e : Fin 2048) :
    k0_pay2 (F := Ideal) a0 w0 a1 w1 a2 w2 a3 w3 x ga (ix2 r e)
      = Ideal.ofBits .f32 0x3FB504F3#32 * x (ix2 r e) + ga (ix2 0 e) * (dot a0 w0 r e + dot a1 w1 r e + dot a2 w2 r e + dot a3 w3 r e) := by
  unfold dot
  pointwise! [k0_pay2]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![1, 0, 0]
    ∧ win0_7.index t = ![0, 0] ∧ win0_8.index t = ![0, 0] ∧ win0_9.index t = ![t.val, 0] ∧ t.val < 32 :=
  (by decide +kernel : ∀ t : Fin grid0.N, _)

variable (m : (ℓ : Loc nD τ sig) → Buf (Elt Ideal) ℓ)

/-- The arguments, as arrays. -/
abbrev ap (c : Dev nD) : Fin 4 → FVec Ideal S16384x512 .bf16 :=
  ![m ((c : Thread nD τ).loc main_arg0), m ((c : Thread nD τ).loc main_arg1), m ((c : Thread nD τ).loc main_arg2), m ((c : Thread nD τ).loc main_arg3)]
abbrev ax (c : Dev nD) : FVec Ideal S16384x2048 .f32 := m ((c : Thread nD τ).loc main_arg4)
abbrev aga (c : Dev nD) : FVec Ideal S1x2048 .f32 := m ((c : Thread nD τ).loc main_arg5)
abbrev aw (c : Dev nD) : FVec Ideal S2x2048x2048 .f32 := m ((c : Thread nD τ).loc main_arg6)
abbrev ag (c : Dev nD) : FVec Ideal S1x2048 .f32 := m ((c : Thread nD τ).loc main_arg7)
abbrev ab (c : Dev nD) : FVec Ideal S1x2048 .f32 := m ((c : Thread nD τ).loc main_arg8)

/-- The row in place `r` of a point's row block. -/
def row (t : Fin cfg0.N) (r : Fin 512) : Fin 16384 := ⟨512 * t.val + r.val, by have := (idx t).2.2.2.2.2.2.2.2.2.2; omega⟩

theorem b0 (c : Dev nD) (t : Fin cfg0.N) (r k : Fin 512) :
    (show FVec Ideal S512x512 .bf16 from iblk m c 0 t) (ix2 r k) = ap m c 0 (ix2 (row t r) k) := by
  show _ = (m ((c : Thread nD τ).loc main_arg0) : FVec Ideal S16384x512 .bf16) _
  unfold row
  blk_ext [iblk, V, idx t]
theorem b1 (c : Dev nD) (t : Fin cfg0.N) (r k : Fin 512) :
    (show FVec Ideal S512x512 .bf16 from iblk m c 1 t) (ix2 r k) = ap m c 1 (ix2 (row t r) k) := by
  show _ = (m ((c : Thread nD τ).loc main_arg1) : FVec Ideal S16384x512 .bf16) _
  unfold row
  blk_ext [iblk, V, idx t]
theorem b2 (c : Dev nD) (t : Fin cfg0.N) (r k : Fin 512) :
    (show FVec Ideal S512x512 .bf16 from iblk m c 2 t) (ix2 r k) = ap m c 2 (ix2 (row t r) k) := by
  show _ = (m ((c : Thread nD τ).loc main_arg2) : FVec Ideal S16384x512 .bf16) _
  unfold row
  blk_ext [iblk, V, idx t]
theorem b3 (c : Dev nD) (t : Fin cfg0.N) (r k : Fin 512) :
    (show FVec Ideal S512x512 .bf16 from iblk m c 3 t) (ix2 r k) = ap m c 3 (ix2 (row t r) k) := by
  show _ = (m ((c : Thread nD τ).loc main_arg3) : FVec Ideal S16384x512 .bf16) _
  unfold row
  blk_ext [iblk, V, idx t]
theorem b4 (c : Dev nD) (t : Fin cfg0.N) (r : Fin 512) (d : Fin 2048) :
    (show FVec Ideal S512x2048 .f32 from iblk m c 4 t) (ix2 r d) = ax m c (ix2 (row t r) d) := by
  unfold row ax
  blk_ext [iblk, V, idx t]
theorem b5 (c : Dev nD) (t : Fin cfg0.N) (d : Fin 2048) :
    (show FVec Ideal S1x2048 .f32 from iblk m c 5 t) (ix2 0 d) = aga m c (ix2 0 d) := by
  unfold aga
  blk_ext [iblk, V, idx t]
theorem b7 (c : Dev nD) (t : Fin cfg0.N) (d : Fin 2048) :
    (show FVec Ideal S1x2048 .f32 from iblk m c 7 t) (ix2 0 d) = ag m c (ix2 0 d) := by
  unfold ag
  blk_ext [iblk, V, idx t]
theorem b8 (c : Dev nD) (t : Fin cfg0.N) (d : Fin 2048) :
    (show FVec Ideal S1x2048 .f32 from iblk m c 8 t) (ix2 0 d) = ab m c (ix2 0 d) := by
  unfold ab
  blk_ext [iblk, V, idx t]

theorem v0 (c : Dev nD) : (show FVec Ideal S2x2048x2048 .bf16 from V m c main_v0) = fun i => aw m c i := by
  entry_read
  rfl

theorem b6 (c : Dev nD) (t : Fin cfg0.N) (k o : Fin 2048) :
    (show FVec Ideal S1x2048x2048 .bf16 from iblk m c 6 t) (ix3 0 k o) = aw m c (ix3 1 k o) := by
  refine Eq.trans ?_ (congrFun (v0 m c) _)
  blk_ext [iblk, idx t]

theorem inb_rows : ∀ (n : Fin 4) (a : Fin 3), (![0, 512 * n.val, 0] : Fin 3 → ℕ) a + S1x512x2048.size a ≤ S1x2048x2048.size a := by decide

/-- The weight's 512 rows of mixer `n`. -/
def wcut (W : FVec Ideal S1x2048x2048 .bf16) (n : Fin 4) : FVec Ideal S1x512x2048 .bf16 :=
  View.ld (Val := Elt Ideal) (e' := .bf16) W (Rect.unit ![0, 512 * n.val, 0] ![1, 512, 2048] (inb_rows n))

theorem wcut_at (W : FVec Ideal S1x2048x2048 .bf16) (n : Fin 4) (k : Fin 512) (e : Fin 2048) :
    wcut W n (ix3 0 k e) = W (ix3 0 (wrow n k) e) :=
  View.ld_unit_apply_of (Val := Elt Ideal) (e := .bf16) _ _ _ _ _ (ix3 0 (wrow n k) e) fun a => by
    fin_cases a
    · rfl
    · rfl
    · exact (Nat.zero_add _).symm

/-- What a point leaves in the output block. -/
theorem out_eq (c : Dev nD) (t : Fin cfg0.N) :
    out0_9 (F := Ideal) (iblk m c 0 t) (iblk m c 1 t) (iblk m c 2 t) (iblk m c 3 t) (iblk m c 4 t) (iblk m c 5 t) (iblk m c 6 t) (iblk m c 7 t) (iblk m c 8 t)
      = k0_pay1 (k0_pay2 (iblk m c 0 t) (wcut (iblk m c 6 t) 0) (iblk m c 1 t) (wcut (iblk m c 6 t) 1)
          (iblk m c 2 t) (wcut (iblk m c 6 t) 2) (iblk m c 3 t) (wcut (iblk m c 6 t) 3)
          (iblk m c 4 t) (iblk m c 5 t)) (iblk m c 7 t) (iblk m c 8 t) := by
  frame_out
  rfl

theorem dot_at (c : Dev nD) (t : Fin cfg0.N) (n : Fin 4) (a : FVec Ideal S512x512 .bf16) (r : Fin 512) (e : Fin 2048)
    (ha : ∀ k, a (ix2 r k) = ap m c n (ix2 (row t r) k)) :
    dot a (wcut (iblk m c 6 t) n) r e = ∑ k : Fin 512, ap m c n (ix2 (row t r) k) * aw m c (ix3 1 (wrow n k) e) :=
  Finset.sum_congr rfl fun k _ => congrArg₂ (· * ·) (ha k) ((wcut_at _ n k e).trans (b6 m c t _ e))

/-- The result array after the run. -/
theorem final (c : Dev nD) : (dats m 0 c).arrAt 9 (cfgs 0).N
    = fun Y : S16384x2048.Idx => outp (ap m c) (ax m c) (aga m c) (aw m c) (ag m c) (ab m c) (Y 0) (Y 1) := by
  refine (dats m 0 c).arrAt_eq_of_covers 9 _ (by decide +kernel) fun t hfl y => ?_
  blk_simp
  rw [after0_9, out_eq]
  obtain ⟨r, o, rfl⟩ : ∃ (r : Fin 512) (o : Fin 2048), y = ix2 r o := ⟨y 0, y 1, eq_ix2 y⟩
  refine (pay1_at _ _ _ r o).trans ?_
  have e3 : ∀ (a : Fin 16384) (e : Fin 2048), a.val = 512 * t.val + r.val → e.val = o.val →
      outp (ap m c) (ax m c) (aga m c) (aw m c) (ag m c) (ab m c) a e = outp (ap m c) (ax m c) (aga m c) (aw m c) (ag m c) (ab m c) (row t r) o := by
    intro a e ha he
    rw [show a = row t r from Fin.ext ha, show e = o from Fin.ext he]
  refine Eq.trans ?_ (e3 _ _ ?_ ?_).symm
  · unfold outp
    rw [funext fun e => b7 m c t e, funext fun e => b8 m c t e]
    refine congrArg (fun z => Cert.FfnIdeal.Mlp.norm z _ _ o) (funext fun e => ?_)
    refine (pay2_at _ _ _ _ _ _ _ _ _ _ r e).trans ?_
    unfold mix
    rw [Fin.sum_univ_four]
    exact congrArg₂ (· + ·) (congrArg _ (b4 m c t r e)) (congrArg₂ (· * ·) (b5 m c t e)
      (congrArg₂ (· + ·) (congrArg₂ (· + ·) (congrArg₂ (· + ·) (dot_at m c t 0 _ r e (b0 m c t r)) (dot_at m c t 1 _ r e (b1 m c t r)))
        (dot_at m c t 2 _ r e (b2 m c t r))) (dot_at m c t 3 _ r e (b3 m c t r))))
  · blk_simp [idx t] <;> (try simp) <;> try omega
  · blk_simp [idx t] <;> (try simp) <;> try omega

end Cert.OutProjIdeal.Mix
-- ==== Proof.OutProjRef.lean ====
module

public import proofs.«01_k».proof.Proof.OutProjValue
public import proofs.«01_k».proof.Proof.Gen.OutProjReferenceIdeal.Run
public import Idealize.ShloMosaic.Lib.Pointwise

/-! The output projection's reference at an index. -/

@[expose] public section

set_option maxRecDepth 16384

noncomputable section

namespace Cert.OutProjReferenceIdeal.Mix

open Idealize.ShloMosaic Idealize.ShloMosaic.Tactic
open Cert.OutProjReferenceIdeal Cert.OutProjReferenceIdeal.Gen
open Cert.OutProjIdeal.Mix (wrow mix outp)

/-- The mixers' outputs side by side. -/
abbrev parts (a b c d : FVec Ideal S16384x512 .bf16) : FVec Ideal S16384x2048 .f32 :=
  extf .f32 (concatenate S16384x2048 1 [⟨S16384x512, a⟩, ⟨S16384x512, b⟩, ⟨S16384x512, c⟩, ⟨S16384x512, d⟩] concatenates_S16384x512_S16384x512_S16384x512_S16384x512_S16384x2048_d1) bitsLt_bf16_f32
abbrev proj (h : FVec Ideal S16384x2048 .f32) (w : FVec Ideal S2x2048x2048 .f32) : FVec Ideal S16384x2048 .f32 :=
  Host.dotGeneral dot_S16384x2048_S2048x2048_S16384x2048_1_0_0_1_n_n none h (shapeCast _ (extractStridedSlice S1x2048x2048 ![1, 0, 0] w slices_S2x2048x2048_S1x2048x2048_1_0_0) shapeCasts_S1x2048x2048_S2048x2048)
/-- The residual with the gated projection. -/
abbrev resid (x : FVec Ideal S16384x2048 .f32) (ga : FVec Ideal S1x2048 .f32) (y : FVec Ideal S16384x2048 .f32) : FVec Ideal S16384x2048 .f32 :=
  addf (mulf (broadcastInDim S16384x2048 ![] bcast_S_S16384x2048 (constant S_ .f32 0x3FB504F3#32)) x) (mulf (broadcastInDim S16384x2048 ![0, 1] bcast_S1x2048_S16384x2048_0_1 ga) y)
/-- The mean of each row. -/
abbrev mean (z : FVec Ideal S16384x2048 .f32) : FVec Ideal S16384x1 .f32 :=
  Host.divf (broadcastInDim S16384x1 ![0] bcast_S16384_S16384x1_0 (Host.reduceAdd z (constant S_ .f32 0x00000000#32) reducesTo_S16384x2048_S16384_d1 h_S_)) (broadcastInDim S16384x1 ![] bcast_S_S16384x1 (constant S_ .f32 0x45000000#32))
abbrev cent (z : FVec Ideal S16384x2048 .f32) : FVec Ideal S16384x2048 .f32 :=
  subf z (broadcastInDim S16384x2048 ![0, 1] bcast_S16384x1_S16384x2048_0_1 (mean z))
/-- The layer norm from the centred rows. -/
abbrev scaled (k : FVec Ideal S16384x2048 .f32) (g b : FVec Ideal S1x2048 .f32) : FVec Ideal S16384x2048 .f32 :=
  addf (mulf (mulf k (broadcastInDim S16384x2048 ![0, 1] bcast_S16384x1_S16384x2048_0_1 (Host.rsqrt (addf (mean (mulf k k)) (broadcastInDim S16384x1 ![] bcast_S_S16384x1 (constant S_ .f32 0x3727C5AC#32))))))
    (broadcastInDim S16384x2048 ![0, 1] bcast_S1x2048_S16384x2048_0_1 g)) (broadcastInDim S16384x2048 ![0, 1] bcast_S1x2048_S16384x2048_0_1 b)

/-- The reference's result by its steps. -/
theorem res_eq (m : (ℓ : Loc nD τ sig) → Buf (Elt Ideal) ℓ) (c : Dev nD) : Cert.OutProjReferenceIdeal.Value.res_out0 m c
    = scaled (cent (resid (m ((c.tc : Thread nD τ).loc main_arg4)) (m ((c.tc : Thread nD τ).loc main_arg5))
        (proj (parts (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg6)))))
        (m ((c.tc : Thread nD τ).loc main_arg7)) (m ((c.tc : Thread nD τ).loc main_arg8)) := rfl

theorem proj_at (h : FVec Ideal S16384x2048 .f32) (w : FVec Ideal S2x2048x2048 .f32) (i : Fin 16384) (o : Fin 2048) :
    proj h w (ix2 i o) = ∑ d : Fin 2048, h (ix2 i d) * w (ix3 1 d o) := by
  unfold proj
  pointwise!

/-- Column `512 n + k` of the joined outputs is column `k` of mixer `n`. -/
theorem parts_at (a b c d : FVec Ideal S16384x512 .bf16) (i : Fin 16384) (n : Fin 4) (k : Fin 512) :
    parts a b c d (ix2 i (wrow n k)) = (![a, b, c, d] : Fin 4 → FVec Ideal S16384x512 .bf16) n (ix2 i k) := by
  fin_cases n <;> unfold parts wrow <;> pointwise!
  rw [dif_neg (show ¬ 1024 + k.val < 512 by omega), dif_neg (show ¬ 1024 + k.val - 512 < 512 by omega), dif_pos (show 1024 + k.val - 512 - 512 < 512 by omega)]
  exact congrArg (fun j => c (ix2 i j)) (Fin.ext (by show 1024 + k.val - 512 - 512 = k.val; omega))

/-- A sum over the weight's rows, mixer by mixer. -/
theorem sum_rows (f : Fin 2048 → EReal) : ∑ d, f d = ∑ n : Fin 4, ∑ k : Fin 512, f (wrow n k) := by
  rw [← Fintype.sum_prod_type']
  refine (Fintype.sum_equiv (finProdFinEquiv (m := 4) (n := 512)) _ _ fun x => congrArg f (Fin.ext ?_)).symm
  show 512 * x.1.val + x.2.val = x.2.val + 512 * x.1.val
  omega

theorem resid_at (x : FVec Ideal S16384x2048 .f32) (ga : FVec Ideal S1x2048 .f32) (y : FVec Ideal S16384x2048 .f32) (i : Fin 16384) (o : Fin 2048) :
    resid x ga y (ix2 i o) = Ideal.ofBits .f32 0x3FB504F3#32 * x (ix2 i o) + ga (ix2 0 o) * y (ix2 i o) := by
  unfold resid
  pointwise!

theorem norm_at (z : FVec Ideal S16384x2048 .f32) (g b : FVec Ideal S1x2048 .f32) (i : Fin 16384) (o : Fin 2048) :
    scaled (cent z) g b (ix2 i o) = Cert.FfnIdeal.Mlp.norm (fun e => z (ix2 i e)) (fun e => g (ix2 0 e)) (fun e => b (ix2 0 e)) o := by
  unfold scaled cent Cert.FfnIdeal.Mlp.norm mean
  pointwise!

theorem ref_at (p0 p1 p2 p3 : FVec Ideal S16384x512 .bf16) (x : FVec Ideal S16384x2048 .f32) (ga : FVec Ideal S1x2048 .f32) (w : FVec Ideal S2x2048x2048 .f32)
    (g b : FVec Ideal S1x2048 .f32) (i : Fin 16384) (o : Fin 2048) :
    scaled (cent (resid x ga (proj (parts p0 p1 p2 p3) w))) g b (ix2 i o) = outp ![p0, p1, p2, p3] x ga w g b i o := by
  rw [norm_at]
  unfold outp
  refine congrArg (fun z => Cert.FfnIdeal.Mlp.norm z _ _ o) (funext fun e => ?_)
  rw [resid_at, proj_at, sum_rows]
  unfold mix
  simp only [parts_at]

/-- The reference's result from any memory whose arguments are these. -/
theorem res (m : (ℓ : Loc nD τ sig) → Buf (Elt Ideal) ℓ) (c : Dev nD)
    (p0 p1 p2 p3 : FVec Ideal S16384x512 .bf16) (x : FVec Ideal S16384x2048 .f32) (ga : FVec Ideal S1x2048 .f32) (w : FVec Ideal S2x2048x2048 .f32)
    (g b : FVec Ideal S1x2048 .f32)
    (h0 : m ((c.tc : Thread nD τ).loc main_arg0) = p0) (h1 : m ((c.tc : Thread nD τ).loc main_arg1) = p1) (h2 : m ((c.tc : Thread nD τ).loc main_arg2) = p2)
    (h3 : m ((c.tc : Thread nD τ).loc main_arg3) = p3) (h4 : m ((c.tc : Thread nD τ).loc main_arg4) = x) (h5 : m ((c.tc : Thread nD τ).loc main_arg5) = ga)
    (h6 : m ((c.tc : Thread nD τ).loc main_arg6) = w) (h7 : m ((c.tc : Thread nD τ).loc main_arg7) = g) (h8 : m ((c.tc : Thread nD τ).loc main_arg8) = b) :
    Cert.OutProjReferenceIdeal.Value.res_main_v31 m c = fun Y : S16384x2048.Idx => outp ![p0, p1, p2, p3] x ga w g b (Y 0) (Y 1) := by
  subst h0 h1 h2 h3 h4 h5 h6 h7 h8
  refine (res_eq m c).trans (funext fun Y => ?_)
  obtain ⟨i, o, rfl⟩ : ∃ (i : Fin 16384) (o : Fin 2048), Y = ix2 i o := ⟨Y 0, Y 1, eq_ix2 Y⟩
  exact ref_at _ _ _ _ _ _ _ _ _ i o

end Cert.OutProjReferenceIdeal.Mix
-- ==== Proof.InProjMath.lean ====
module

public import proofs.«01_k».proof.Proof.Gen.InProjIdeal.Skeleton
public import proofs.«01_k».proof.Proof.FfnMath
public import Idealize.ShloMosaic.Lib.Pointwise
public import Idealize.ShloMosaic.Lib.Pipeline.Value

/-! The input projection's formula, entry by entry, and the kernel body's operations at an entry. -/

@[expose] public section

set_option maxRecDepth 16384

noncomputable section

namespace Cert.InProjIdeal.Proj

open Idealize.ShloMosaic Idealize.ShloMosaic.Tactic
open Cert.InProjIdeal Cert.InProjIdeal.Gen

/-- A whole number as a real. -/
def num (n : ℕ) : EReal := FloatOps.sitofp (F := Ideal) FTy.f32 (BitVec.ofNat 32 n)

/-- The `k`-th rotary frequency. -/
def freq (k : Fin 16) : EReal :=
  Ideal.pow (Ideal.ofBits .f32 0x461C4000#32) (Ideal.div (-(Ideal.ofBits .f32 0x40000000#32 * num k)) (Ideal.ofBits .f32 0x42000000#32))

/-- The angle of token `i` in lane `j`: the first 16 lanes turn by the image row, the others by the column. -/
def ang (i : Fin 16384) (j : Fin 32) : EReal :=
  num (if j.val < 16 then i.val / 64 else i.val % 64) * freq ⟨j.val % 16, by omega⟩

/-- The lane of a column within its half of 32. -/
def lane (l : ℕ) : Fin 32 := ⟨l % 32, by omega⟩

/-- The rotary embedding of a row of 512 columns, halves of 32 paired within each 64. -/
def rope (f : Fin 512 → EReal) (i : Fin 16384) (o : Fin 512) : EReal :=
  if h : o.val % 64 < 32 then f o * Ideal.cos (ang i (lane o.val)) - f ⟨o.val + 32, by omega⟩ * Ideal.sin (ang i (lane o.val))
  else f ⟨o.val - 32, by omega⟩ * Ideal.sin (ang i (lane o.val)) + f o * Ideal.cos (ang i (lane o.val))

/-- Column `j` of the projected rows. -/
def col (x : FVec Ideal S16384x2048 .f32) (sh sc : FVec Ideal S1x2048 .f32) (w : FVec Ideal S2x2048x3776 .f32) (i : Fin 16384) (j : Fin 3776) : EReal :=
  ∑ d : Fin 2048, Cert.FfnIdeal.Mlp.hid x sh sc i d * w (ix3 1 d j)

/-- The rotary slab: lanes times cosines plus the other half's lanes times sines. -/
def rot (a C S : FVec Ideal S512x128 .f32) : FVec Ideal S512x128 .f32 :=
  addf (mulf a C) (mulf (select (cmpi .eq (andi (iota .tc S512x128 32 [1] iota_S512x128_d1_w32) (broadcast S512x128 32#32)) (broadcast S512x128 0#32))
    (dynamicRotate 1 96#32 none a rotates_S512x128_d1) (dynamicRotate 1 32#32 none a rotates_S512x128_d1)) S)

theorem half : ∀ l : Fin 128, IntOp.cmpi .eq (IntOp.andi (BitVec.ofNat 32 l.val) 32#32) 0#32 = if l.val % 64 < 32 then 1#1 else 0#1 := by decide

theorem rot_at (a C S : FVec Ideal S512x128 .f32) (r : Fin 512) (i : Fin 16384) (f : Fin 512 → EReal) (n : Fin 4)
    (ha : ∀ l : Fin 128, a (ix2 r l) = f ⟨128 * n.val + l.val, by omega⟩)
    (hC : ∀ l : Fin 128, C (ix2 r l) = Ideal.cos (ang i (lane l.val)))
    (hS : ∀ l : Fin 128, S (ix2 r l) = if l.val % 64 < 32 then -Ideal.sin (ang i (lane l.val)) else Ideal.sin (ang i (lane l.val)))
    (l : Fin 128) : rot a C S (ix2 r l) = rope f i ⟨128 * n.val + l.val, by omega⟩ := by
  have e : rot a C S (ix2 r l) = a (ix2 r l) * C (ix2 r l) + Scalar.select (IntOp.cmpi .eq (IntOp.andi (BitVec.ofNat 32 l.val) 32#32) 0#32)
      (a (ix2 r ⟨(l.val + 128 - 96) % 128, by omega⟩)) (a (ix2 r ⟨(l.val + 128 - 32) % 128, by omega⟩)) * S (ix2 r l) := by
    unfold rot
    pointwise!
  have hl : lane (128 * n.val + l.val) = lane l.val := Fin.ext (by show (128 * n.val + l.val) % 32 = l.val % 32; omega)
  rw [e, half, hC, hS]
  unfold rope
  by_cases h : l.val % 64 < 32
  · rw [if_pos h, if_pos h, dif_pos (show (128 * n.val + l.val) % 64 < 32 by omega)]
    simp only [Scalar.select, ha, hl]
    rw [sub_eq_add_neg, ← mul_neg]
    refine congrArg (fun z => _ + f z * _) (Fin.ext ?_)
    show 128 * n.val + (l.val + 128 - 96) % 128 = 128 * n.val + l.val + 32
    omega
  · rw [if_neg h, if_neg h, dif_neg (show ¬ (128 * n.val + l.val) % 64 < 32 by omega), add_comm]
    simp only [Scalar.select, ha, hl]
    refine congrArg (fun z => f z * _ + _) (Fin.ext ?_)
    show 128 * n.val + (l.val + 128 - 32) % 128 = 128 * n.val + l.val - 32
    omega

/-- Eight arrays of 16 columns side by side, at an entry. -/
theorem cat8 {R : ℕ} (u : Fin 8 → FVec Ideal ⟨2, ![R, 16]⟩ .f32) (h) (i : Fin R) (l : Fin 128) :
    concatenate ⟨2, ![R, 128]⟩ 1 [⟨⟨2, ![R, 16]⟩, u 0⟩, ⟨⟨2, ![R, 16]⟩, u 1⟩, ⟨⟨2, ![R, 16]⟩, u 2⟩, ⟨⟨2, ![R, 16]⟩, u 3⟩,
      ⟨⟨2, ![R, 16]⟩, u 4⟩, ⟨⟨2, ![R, 16]⟩, u 5⟩, ⟨⟨2, ![R, 16]⟩, u 6⟩, ⟨⟨2, ![R, 16]⟩, u 7⟩] h (ix2 i l)
      = u ⟨l.val / 16, by omega⟩ (ix2 i ⟨l.val % 16, by omega⟩) :=
  concatenate_ofFn_apply (t := ⟨2, ![R, 128]⟩) (s₁ := ⟨2, ![R, 16]⟩) 1 u h rfl 16 rfl (ix2 i l) ⟨l.val / 16, by omega⟩ rfl
    (ix2 i ⟨l.val % 16, by omega⟩) rfl fun b hb => by
      fin_cases b
      · rfl
      · exact absurd rfl hb

/-- A row's quantity laid out over the lanes: `f` with sign `e` in the slots of the first half, `f` in those of the second. -/
abbrev slots {R : ℕ} (n z f : FVec Ideal ⟨2, ![R, 16]⟩ .f32) : Fin 8 → FVec Ideal ⟨2, ![R, 16]⟩ .f32 := ![n, z, f, z, n, z, f, z]
abbrev slots' {R : ℕ} (n z f : FVec Ideal ⟨2, ![R, 16]⟩ .f32) : Fin 8 → FVec Ideal ⟨2, ![R, 16]⟩ .f32 := ![z, n, z, f, z, n, z, f]

/-- The angles of the image rows, and of the columns. -/
abbrev hfreq : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))
abbrev hrow : FVec Ideal S256x16 .f32 :=
  mulf (broadcastInDim S256x16 ![0, 1] bcast_S256x1_S256x16_0_1 (broadcastInDim S256x1 ![0] bcast_S256_S256x1_0 (sitofp .f32 (iotaInDim S256 32 0))))
    (broadcastInDim S256x16 ![0, 1] bcast_S1x16_S256x16_0_1 (broadcastInDim S1x16 ![1] bcast_S16_S1x16_1 hfreq))
abbrev hcol : FVec Ideal S64x16 .f32 :=
  mulf (broadcastInDim S64x16 ![0, 1] bcast_S64x1_S64x16_0_1 (broadcastInDim S64x1 ![0] bcast_S64_S64x1_0 (sitofp .f32 (iotaInDim S64 32 0))))
    (broadcastInDim S64x16 ![0, 1] bcast_S1x16_S64x16_0_1 (broadcastInDim S1x16 ![1] bcast_S16_S1x16_1 hfreq))

theorem hrow_at (i : Fin 256) (k : Fin 16) : hrow (ix2 i k) = num i.val * freq k := by
  unfold hrow hfreq num freq
  pointwise!
theorem hcol_at (i : Fin 64) (k : Fin 16) : hcol (ix2 i k) = num i.val * freq k := by
  unfold hcol hfreq num freq
  pointwise!

/-- A table over the tokens from its image rows' part and its columns' part. -/
abbrev table (a : FVec Ideal S256x128 .f32) (b : FVec Ideal S64x128 .f32) : FVec Ideal S16384x128 .f32 :=
  shapeCast S16384x128 (addf (broadcastInDim S256x64x128 ![0, 1, 2] bcast_S256x1x128_S256x64x128_0_1_2 (broadcastInDim S256x1x128 ![0, 2] bcast_S256x128_S256x1x128_0_2 a))
    (broadcastInDim S256x64x128 ![0, 1, 2] bcast_S1x64x128_S256x64x128_0_1_2 (broadcastInDim S1x64x128 ![1, 2] bcast_S64x128_S1x64x128_1_2 b))) shapeCasts_S256x64x128_S16384x128

theorem table_at (a : FVec Ideal S256x128 .f32) (b : FVec Ideal S64x128 .f32) (i : Fin 16384) (l : Fin 128) :
    table a b (ix2 i l) = a (ix2 ⟨i.val / 64, by omega⟩ l) + b (ix2 ⟨i.val % 64, by omega⟩ l) := by
  unfold table
  pointwise!

/-- A table from the first half's, zero and second half's quantities, over the image rows and over the columns. -/
abbrev lay (n z f : FVec Ideal S256x16 .f32) (n' z' g : FVec Ideal S64x16 .f32) : FVec Ideal S16384x128 .f32 :=
  table (concatenate S256x128 1 [⟨S256x16, n⟩, ⟨S256x16, z⟩, ⟨S256x16, f⟩, ⟨S256x16, z⟩, ⟨S256x16, n⟩, ⟨S256x16, z⟩, ⟨S256x16, f⟩, ⟨S256x16, z⟩]
      concatenates_S256x16_S256x16_S256x16_S256x16_S256x16_S256x16_S256x16_S256x16_S256x128_d1)
    (concatenate S64x128 1 [⟨S64x16, z'⟩, ⟨S64x16, n'⟩, ⟨S64x16, z'⟩, ⟨S64x16, g⟩, ⟨S64x16, z'⟩, ⟨S64x16, n'⟩, ⟨S64x16, z'⟩, ⟨S64x16, g⟩]
      concatenates_S64x16_S64x16_S64x16_S64x16_S64x16_S64x16_S64x16_S64x16_S64x128_d1)

/-- The slots over the lanes, read: zero in one half of each 32 lanes, else the quantity with the factor of the first 32 of each 64. -/
theorem slots_at {R : ℕ} (n z f : FVec Ideal ⟨2, ![R, 16]⟩ .f32) (y : (⟨2, ![R, 16]⟩ : Shape).Idx) (q : Fin 8) :
    (![n, z, f, z, n, z, f, z] : Fin 8 → FVec Ideal ⟨2, ![R, 16]⟩ .f32) q y = if q.val % 2 = 0 then (if q.val % 4 < 2 then n y else f y) else z y := by
  fin_cases q <;> rfl
theorem slots_at' {R : ℕ} (n z f : FVec Ideal ⟨2, ![R, 16]⟩ .f32) (y : (⟨2, ![R, 16]⟩ : Shape).Idx) (q : Fin 8) :
    (![z, n, z, f, z, n, z, f] : Fin 8 → FVec Ideal ⟨2, ![R, 16]⟩ .f32) q y = if q.val % 2 = 0 then z y else (if q.val % 4 < 2 then n y else f y) := by
  fin_cases q <;> rfl

theorem lay_at (n z f : FVec Ideal S256x16 .f32) (n' z' g : FVec Ideal S64x16 .f32) (s : EReal) (w : EReal → EReal)
    (hn : ∀ i k, n (ix2 i k) = s * w (num i.val * freq k)) (hz : ∀ i k, z (ix2 i k) = 0) (hf : ∀ i k, f (ix2 i k) = w (num i.val * freq k))
    (hn' : ∀ i k, n' (ix2 i k) = s * w (num i.val * freq k)) (hz' : ∀ i k, z' (ix2 i k) = 0) (hg : ∀ i k, g (ix2 i k) = w (num i.val * freq k))
    (i : Fin 16384) (l : Fin 128) :
    lay n z f n' z' g (ix2 i l) = if l.val % 64 < 32 then s * w (ang i (lane l.val)) else w (ang i (lane l.val)) := by
  have e : l.val % 32 % 16 = l.val % 16 := by omega
  refine (table_at _ _ i l).trans ((congrArg₂ (· + ·) ((cat8 (slots n z f) _ _ l).trans (slots_at n z f _ _)) ((cat8 (slots' n' z' g) _ _ l).trans (slots_at' n' z' g _ _))).trans ?_)
  simp only [hn, hz, hf, hn', hz', hg]
  unfold ang lane
  by_cases h1 : l.val / 16 % 2 = 0 <;> by_cases h2 : l.val / 16 % 4 < 2
  · rw [if_pos h1, if_pos h1, if_pos h2, if_pos (show l.val % 64 < 32 by omega), if_pos (show l.val % 32 < 16 by omega), add_zero]
    simp only [e]
  · rw [if_pos h1, if_pos h1, if_neg h2, if_neg (show ¬ l.val % 64 < 32 by omega), if_pos (show l.val % 32 < 16 by omega), add_zero]
    simp only [e]
  · rw [if_neg h1, if_neg h1, if_pos h2, if_pos (show l.val % 64 < 32 by omega), if_neg (show ¬ l.val % 32 < 16 by omega), zero_add]
    simp only [e]
  · rw [if_neg h1, if_neg h1, if_neg h2, if_neg (show ¬ l.val % 64 < 32 by omega), if_neg (show ¬ l.val % 32 < 16 by omega), zero_add]
    simp only [e]

/-- The table of a function of the angles, with the factor `s` in the first half of each 64 lanes. -/
abbrev wave (s : BitVec 32) (f : FVec Ideal S256x16 .f32) (g : FVec Ideal S64x16 .f32) : FVec Ideal S16384x128 .f32 :=
  lay (mulf (broadcastInDim S256x16 ![] bcast_S_S256x16 (constant S_ .f32 s)) f) (broadcastInDim S256x16 ![] bcast_S_S256x16 (constant S_ .f32 0x00000000#32)) f
    (mulf (broadcastInDim S64x16 ![] bcast_S_S64x16 (constant S_ .f32 s)) g) (broadcastInDim S64x16 ![] bcast_S_S64x16 (constant S_ .f32 0x00000000#32)) g

theorem wave_at (s : BitVec 32) (f : FVec Ideal S256x16 .f32) (g : FVec Ideal S64x16 .f32) (w : EReal → EReal)
    (hf : ∀ i k, f (ix2 i k) = w (num i.val * freq k)) (hg : ∀ i k, g (ix2 i k) = w (num i.val * freq k)) (i : Fin 16384) (l : Fin 128) :
    wave s f g (ix2 i l) = if l.val % 64 < 32 then Ideal.ofBits .f32 s * w (ang i (lane l.val)) else w (ang i (lane l.val)) :=
  lay_at _ _ f _ _ g _ w (fun i k => by rw [← hf]; pointwise!) (fun i k => by pointwise!) hf (fun i k => by rw [← hg]; pointwise!) (fun i k => by pointwise!) hg i l

theorem neg_bits : Ideal.ofBits .f32 0xBF800000#32 = -1 := by
  rw [show (-1 : EReal) = ((-(1 : ℝ) : ℝ) : EReal) from by rw [EReal.coe_neg, EReal.coe_one]]
  simp [Ideal.ofBits, Ideal.ieee, -EReal.coe_mul, -EReal.coe_neg]; norm_num

/-- The cosine table and the sine table. -/
abbrev cosT : FVec Ideal S16384x128 .f32 := wave 0x3F800000#32 (Host.cos hrow) (Host.cos hcol)
abbrev sinT : FVec Ideal S16384x128 .f32 := wave 0xBF800000#32 (Host.sin hrow) (Host.sin hcol)

theorem cosT_at (i : Fin 16384) (l : Fin 128) : cosT (ix2 i l) = Ideal.cos (ang i (lane l.val)) := by
  refine (wave_at _ _ _ Ideal.cos (fun i k => congrArg Ideal.cos (hrow_at i k)) (fun i k => congrArg Ideal.cos (hcol_at i k)) i l).trans ?_
  rw [show Ideal.ofBits .f32 0x3F800000#32 = 1 from Ideal.ofBits_one_f32, one_mul, ite_self]

theorem sinT_at (i : Fin 16384) (l : Fin 128) :
    sinT (ix2 i l) = if l.val % 64 < 32 then -Ideal.sin (ang i (lane l.val)) else Ideal.sin (ang i (lane l.val)) := by
  refine (wave_at _ _ _ Ideal.sin (fun i k => congrArg Ideal.sin (hrow_at i k)) (fun i k => congrArg Ideal.sin (hcol_at i k)) i l).trans ?_
  rw [show Ideal.ofBits .f32 0xBF800000#32 = -1 from neg_bits, neg_one_mul]

theorem pay22_at (a : FVec Ideal S512x2048 .bf16) (w : FVec Ideal S1x2048x1024 .bf16) (r : Fin 512) (o : Fin 1024) :
    k0_pay22 (F := Ideal) a w (ix2 r o) = ∑ d : Fin 2048, a (ix2 r d) * w (ix3 0 d o) := by
  pointwise! [k0_pay22]
theorem pay1_at (a : FVec Ideal S512x2048 .bf16) (w : FVec Ideal S1x2048x768 .bf16) (r : Fin 512) (o : Fin 768) :
    k0_pay1 (F := Ideal) a w (ix2 r o) = ∑ d : Fin 2048, a (ix2 r d) * w (ix3 0 d o) := by
  pointwise! [k0_pay1]
theorem pay21_at (a : FVec Ideal S512x2048 .bf16) (w : FVec Ideal S1x2048x512 .bf16) (r o : Fin 512) :
    k0_pay21 (F := Ideal) a w (ix2 o r) = ∑ d : Fin 2048, a (ix2 r d) * w (ix3 0 d o) := by
  pointwise! [k0_pay21]
theorem pay2_at (a : FVec Ideal S512x2048 .bf16) (w : FVec Ideal S1x2048x512 .bf16) (r o : Fin 512) :
    k0_pay2 (F := Ideal) a w (ix2 r o) = ∑ d : Fin 2048, a (ix2 r d) * w (ix3 0 d o) := by
  pointwise! [k0_pay2]
theorem pay3_at (x : FVec Ideal S512x2048 .f32) (sc sh : FVec Ideal S1x2048 .f32) (r : Fin 512) (d : Fin 2048) :
    k0_pay3 (F := Ideal) x sc sh (ix2 r d) = x (ix2 r d) * (1 + sc (ix2 0 d)) + sh (ix2 0 d) := by
  pointwise! [k0_pay3]

theorem pay6_at (x : FVec Ideal S512x2048 .f32) (sc sh : FVec Ideal S1x2048 .f32) (w : FVec Ideal S1x2048x512 .bf16) (r o : Fin 512) :
    k0_pay6 (F := Ideal) x sc sh w (ix2 r o) = ∑ d : Fin 2048, k0_pay3 (F := Ideal) x sc sh (ix2 r d) * w (ix3 0 d o) := by
  pointwise! [k0_pay6]
theorem pay7_at (x : FVec Ideal S512x2048 .f32) (sc sh : FVec Ideal S1x2048 .f32) (w : FVec Ideal S1x2048x512 .bf16) (r o : Fin 512) :
    k0_pay7 (F := Ideal) x sc sh w (ix2 r o) = ∑ d : Fin 2048, k0_pay3 (F := Ideal) x sc sh (ix2 r d) * w (ix3 0 d o) := by
  pointwise! [k0_pay7]
theorem pay4_at (x : FVec Ideal S512x128 .f32) (y : S512x128.Idx) : k0_pay4 (F := Ideal) x y = x y := by
  obtain ⟨r, l, rfl⟩ : ∃ (r : Fin 512) (l : Fin 128), y = ix2 r l := ⟨y 0, y 1, eq_ix2 y⟩
  pointwise! [k0_pay4]
theorem pay5_at (x : FVec Ideal S512x128 .f32) (y : S512x128.Idx) : k0_pay5 (F := Ideal) x y = x y := by
  obtain ⟨r, l, rfl⟩ : ∃ (r : Fin 512) (l : Fin 128), y = ix2 r l := ⟨y 0, y 1, eq_ix2 y⟩
  pointwise! [k0_pay5]

/-- A head's 128 columns of a product, turned. -/
abbrev head (k : FVec Ideal S512x512 .f32) (C S : FVec Ideal S512x128 .f32) (n : Fin 4) (h : S512x512.Slices ![0, 128 * n.val] S512x128) : FVec Ideal S512x128 .f32 :=
  rot (extractStridedSlice S512x128 ![0, 128 * n.val] k h) C S

theorem head_at (k : FVec Ideal S512x512 .f32) (C S : FVec Ideal S512x128 .f32) (n : Fin 4) (h : S512x512.Slices ![0, 128 * n.val] S512x128)
    (r : Fin 512) (i : Fin 16384) (f : Fin 512 → EReal) (hk : ∀ o, k (ix2 r o) = f o)
    (hC : ∀ l : Fin 128, C (ix2 r l) = Ideal.cos (ang i (lane l.val)))
    (hS : ∀ l : Fin 128, S (ix2 r l) = if l.val % 64 < 32 then -Ideal.sin (ang i (lane l.val)) else Ideal.sin (ang i (lane l.val)))
    (l : Fin 128) : head k C S n h (ix2 r l) = rope f i ⟨128 * n.val + l.val, by omega⟩ := by
  refine rot_at _ C S r i f n (fun l => Eq.trans ?_ (hk _)) hC hS l
  pointwise!

end Cert.InProjIdeal.Proj
-- ==== Proof.InProjValue.lean ====
module

public import proofs.«01_k».proof.Proof.Gen.InProjIdeal.Value
public import proofs.«01_k».proof.Proof.InProjMath
public import Idealize.ShloMosaic.Lib.Pipeline.ValueKit
public import Idealize.ShloMosaic.Lib.Claim

/-! The input projection: the windows' blocks, and the arrays the kernel leaves. -/

@[expose] public section

set_option maxRecDepth 16384

noncomputable section

namespace Cert.InProjIdeal.Proj

open Idealize.ShloMosaic Idealize.ShloMosaic.TcCoe Idealize.SL.Sem Idealize.ShloMosaic.Tactic
open Idealize.ShloMosaic.Pipeline (Dat)
open Cert.InProjIdeal Cert.InProjIdeal.Gen

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![1, 0, 0] ∧ win0_6.index t = ![1, 0, 0]
    ∧ win0_7.index t = ![t.val, 0] ∧ win0_8.index t = ![t.val, 0] ∧ win0_9.index t = ![0, t.val] ∧ win0_10.index t = ![t.val, 0]
    ∧ win0_11.index t = ![t.val, 0] ∧ win0_12.index t = ![t.val, 0] ∧ t.val < 32 :=
  (by decide +kernel : ∀ t : Fin grid0.N, _)

variable (m : (ℓ : Loc nD τ sig) → Buf (Elt Ideal) ℓ)

/-- The arguments, as arrays. -/
abbrev ax (c : Dev nD) : FVec Ideal S16384x2048 .f32 := m ((c : Thread nD τ).loc main_arg0)
abbrev ash (c : Dev nD) : FVec Ideal S1x2048 .f32 := m ((c : Thread nD τ).loc main_arg1)
abbrev asc (c : Dev nD) : FVec Ideal S1x2048 .f32 := m ((c : Thread nD τ).loc main_arg2)
abbrev aw (c : Dev nD) : FVec Ideal S2x2048x3776 .f32 := m ((c : Thread nD τ).loc main_arg3)

/-- The row in place `r` of a point's row block. -/
def row (t : Fin cfg0.N) (r : Fin 512) : Fin 16384 := ⟨512 * t.val + r.val, by have := (idx t).2.2.2.2.2.2.2.2.2.2.2.2.2; omega⟩

theorem b0 (c : Dev nD) (t : Fin cfg0.N) (r : Fin 512) (d : Fin 2048) :
    (show FVec Ideal S512x2048 .f32 from iblk m c 0 t) (ix2 r d) = ax m c (ix2 (row t r) d) := by
  unfold row ax
  blk_ext [iblk, V, idx t]
theorem b1 (c : Dev nD) (t : Fin cfg0.N) (d : Fin 2048) :
    (show FVec Ideal S1x2048 .f32 from iblk m c 1 t) (ix2 0 d) = ash m c (ix2 0 d) := by
  unfold ash
  blk_ext [iblk, V, idx t]
theorem b2 (c : Dev nD) (t : Fin cfg0.N) (d : Fin 2048) :
    (show FVec Ideal S1x2048 .f32 from iblk m c 2 t) (ix2 0 d) = asc m c (ix2 0 d) := by
  unfold asc
  blk_ext [iblk, V, idx t]

theorem v37 (c : Dev nD) : (show FVec Ideal S16384x128 .f32 from V m c main_v37) = cosT := by
  entry_read
  rfl
theorem v53 (c : Dev nD) : (show FVec Ideal S16384x128 .f32 from V m c main_v53) = sinT := by
  entry_read
  rfl

/-- The weight's columns before the Fourier mixer's, padded with zero columns. -/
abbrev padded (w : FVec Ideal S2x2048x3776 .f32) : FVec Ideal S2x2048x3328 .bf16 :=
  pad S2x2048x3328 ![0, 0, 0] ![0, 0, 64] ![0, 0, 0] (truncf .bf16 (extractStridedSlice S2x2048x3264 ![0, 0, 0] w slices_S2x2048x3776_S2x2048x3264_0_0_0) bitsLt_bf16_f32)
    (sitofp .bf16 (constantI S_ 32 0#32)) pads_S2x2048x3264_S2x2048x3328_000_000_0640 h_S_

theorem v56 (c : Dev nD) : (show FVec Ideal S2x2048x3328 .bf16 from V m c main_v56) = padded (aw m c) := by
  entry_read
  rfl
theorem v58 (c : Dev nD) : (show FVec Ideal S2x2048x512 .bf16 from V m c main_v58)
    = truncf .bf16 (extractStridedSlice S2x2048x512 ![0, 0, 3264] (aw m c) slices_S2x2048x3776_S2x2048x512_0_0_3264) bitsLt_bf16_f32 := by
  entry_read
  rfl

theorem padded_at (w : FVec Ideal S2x2048x3776 .f32) (d : Fin 2048) (j : Fin 3328) :
    padded w (ix3 1 d j) = if h : j.val < 3264 then w (ix3 1 d ⟨j.val, by omega⟩) else 0 := by
  have z : FloatOps.sitofp (F := Ideal) FTy.bf16 0#32 = (0 : EReal) := by
    show (((0#32 : BitVec 32).toInt : ℝ) : EReal) = 0
    simp
  unfold padded
  pointwise!
  rw [z]

theorem b3 (c : Dev nD) (t : Fin cfg0.N) (r : Fin 512) (l : Fin 128) :
    (show FVec Ideal S512x128 .f32 from iblk m c 3 t) (ix2 r l) = cosT (ix2 (row t r) l) := by
  refine Eq.trans ?_ (congrFun (v37 m c) _)
  unfold row
  blk_ext [iblk, idx t]
theorem b4 (c : Dev nD) (t : Fin cfg0.N) (r : Fin 512) (l : Fin 128) :
    (show FVec Ideal S512x128 .f32 from iblk m c 4 t) (ix2 r l) = sinT (ix2 (row t r) l) := by
  refine Eq.trans ?_ (congrFun (v53 m c) _)
  unfold row
  blk_ext [iblk, idx t]
theorem b5 (c : Dev nD) (t : Fin cfg0.N) (d : Fin 2048) (j : Fin 3328) :
    (show FVec Ideal S1x2048x3328 .bf16 from iblk m c 5 t) (ix3 0 d j) = padded (aw m c) (ix3 1 d j) := by
  refine Eq.trans ?_ (congrFun (v56 m c) _)
  blk_ext [iblk, idx t]
theorem b6 (c : Dev nD) (t : Fin cfg0.N) (d : Fin 2048) (j : Fin 512) :
    (show FVec Ideal S1x2048x512 .bf16 from iblk m c 6 t) (ix3 0 d j) = aw m c (ix3 1 d ⟨3264 + j.val, by omega⟩) := by
  refine Eq.trans (b := truncf .bf16 (extractStridedSlice S2x2048x512 ![0, 0, 3264] (aw m c) slices_S2x2048x3776_S2x2048x512_0_0_3264) bitsLt_bf16_f32 (ix3 1 d j))
    (Eq.trans ?_ (congrFun (v58 m c) _)) ?_
  · blk_ext [iblk, idx t]
  · pointwise!

theorem hid_at (c : Dev nD) (t : Fin cfg0.N) (r : Fin 512) (d : Fin 2048) :
    k0_pay3 (F := Ideal) (iblk m c 0 t) (iblk m c 2 t) (iblk m c 1 t) (ix2 r d) = Cert.FfnIdeal.Mlp.hid (ax m c) (ash m c) (asc m c) (row t r) d :=
  (pay3_at _ _ _ r d).trans (congrArg₂ (· + ·) (congrArg₂ (· * ·) (b0 m c t r d) (congrArg (1 + ·) (b2 m c t d))) (b1 m c t d))

/-- Columns `off …` of the padded weight's block. -/
abbrev wcut (W : FVec Ideal S1x2048x3328 .bf16) (off n : ℕ) (inb : ∀ a, (![0, 0, off] : Fin 3 → ℕ) a + (![1, 2048, n] : Fin 3 → ℕ) a ≤ S1x2048x3328.size a) :
    FVec Ideal ⟨3, ![1, 2048, n]⟩ .bf16 :=
  View.ld (Val := Elt Ideal) (e' := .bf16) W (Rect.unit ![0, 0, off] ![1, 2048, n] inb)

theorem wcut_at (W : FVec Ideal S1x2048x3328 .bf16) (off n : ℕ) (inb) (d : Fin 2048) (o : Fin n) (h : off + o.val < 3328) :
    wcut W off n inb (ix3 0 d o) = W (ix3 0 d ⟨off + o.val, h⟩) :=
  View.ld_unit_apply_of (Val := Elt Ideal) (e := .bf16) _ _ _ _ _ (ix3 0 d ⟨off + o.val, h⟩) fun a => by
    fin_cases a
    · rfl
    · exact (Nat.zero_add _).symm
    · rfl

/-- A modulated row times a column of the padded weight. -/
theorem dot_at (c : Dev nD) (t : Fin cfg0.N) (r : Fin 512) (off n : ℕ) (inb) (o : Fin n) (h : off + o.val < 3328) :
    (∑ d : Fin 2048, k0_pay3 (F := Ideal) (iblk m c 0 t) (iblk m c 2 t) (iblk m c 1 t) (ix2 r d) * wcut (iblk m c 5 t) off n inb (ix3 0 d o))
      = if h' : off + o.val < 3264 then col (ax m c) (ash m c) (asc m c) (aw m c) (row t r) ⟨off + o.val, by omega⟩ else 0 := by
  have e : ∀ d : Fin 2048, k0_pay3 (F := Ideal) (iblk m c 0 t) (iblk m c 2 t) (iblk m c 1 t) (ix2 r d) * wcut (iblk m c 5 t) off n inb (ix3 0 d o)
      = Cert.FfnIdeal.Mlp.hid (ax m c) (ash m c) (asc m c) (row t r) d * if h' : off + o.val < 3264 then aw m c (ix3 1 d ⟨off + o.val, by omega⟩) else 0 :=
    fun d => congrArg₂ (· * ·) (hid_at m c t r d) ((wcut_at _ off n inb d o h).trans ((b5 m c t d _).trans (padded_at _ d _)))
  refine (Finset.sum_congr rfl fun d _ => e d).trans ?_
  by_cases h' : off + o.val < 3264
  · simp only [dif_pos h']
    rfl
  · simp only [dif_neg h', mul_zero, Finset.sum_const_zero]

/-- What a point leaves in the output blocks written by one store. -/
theorem out9_eq (c : Dev nD) (t : Fin cfg0.N) :
    out0_9 (F := Ideal) (iblk m c 0 t) (iblk m c 1 t) (iblk m c 2 t) (iblk m c 3 t) (iblk m c 4 t) (iblk m c 5 t) (iblk m c 6 t)
      = k0_pay21 (k0_pay3 (iblk m c 0 t) (iblk m c 2 t) (iblk m c 1 t)) (wcut (iblk m c 5 t) 1024 512 inb_S1x2048x3328_S1x2048x512_0_0_1024) := by
  unfold_out out0_9
  frame_out
theorem out10_eq (c : Dev nD) (t : Fin cfg0.N) :
    out0_10 (F := Ideal) (iblk m c 0 t) (iblk m c 1 t) (iblk m c 2 t) (iblk m c 3 t) (iblk m c 4 t) (iblk m c 5 t) (iblk m c 6 t)
      = k0_pay22 (k0_pay3 (iblk m c 0 t) (iblk m c 2 t) (iblk m c 1 t)) (wcut (iblk m c 5 t) 1536 1024 inb_S1x2048x3328_S1x2048x1024_0_0_1536) := by
  unfold_out out0_10
  frame_out
theorem out11_eq (c : Dev nD) (t : Fin cfg0.N) :
    out0_11 (F := Ideal) (iblk m c 0 t) (iblk m c 1 t) (iblk m c 2 t) (iblk m c 3 t) (iblk m c 4 t) (iblk m c 5 t) (iblk m c 6 t)
      = k0_pay1 (k0_pay3 (iblk m c 0 t) (iblk m c 2 t) (iblk m c 1 t)) (wcut (iblk m c 5 t) 2560 768 inb_S1x2048x3328_S1x2048x768_0_0_2560) := by
  unfold_out out0_11
  frame_out
theorem out12_eq (c : Dev nD) (t : Fin cfg0.N) :
    out0_12 (F := Ideal) (iblk m c 0 t) (iblk m c 1 t) (iblk m c 2 t) (iblk m c 3 t) (iblk m c 4 t) (iblk m c 5 t) (iblk m c 6 t)
      = k0_pay2 (k0_pay3 (iblk m c 0 t) (iblk m c 2 t) (iblk m c 1 t)) (iblk m c 6 t) := by
  unfold_out out0_12
  frame_out

/-- The results, entry by entry. -/
def qOut (x : FVec Ideal S16384x2048 .f32) (sh sc : FVec Ideal S1x2048 .f32) (w : FVec Ideal S2x2048x3776 .f32) : FVec Ideal S16384x512 .bf16 :=
  fun Y => rope (fun o => col x sh sc w (Y 0) ⟨0 + o.val, by omega⟩) (Y 0) (Y 1) * Ideal.ofBits .f32 0x3E38AA3B#32
def kOut (x : FVec Ideal S16384x2048 .f32) (sh sc : FVec Ideal S1x2048 .f32) (w : FVec Ideal S2x2048x3776 .f32) : FVec Ideal S16384x512 .bf16 :=
  fun Y => rope (fun o => col x sh sc w (Y 0) ⟨512 + o.val, by omega⟩) (Y 0) (Y 1)
def vOut (x : FVec Ideal S16384x2048 .f32) (sh sc : FVec Ideal S1x2048 .f32) (w : FVec Ideal S2x2048x3776 .f32) : FVec Ideal S512x16384 .bf16 :=
  fun Y => col x sh sc w (Y 1) ⟨1024 + (show Fin 512 from Y 0).val, by omega⟩
def lruOut (x : FVec Ideal S16384x2048 .f32) (sh sc : FVec Ideal S1x2048 .f32) (w : FVec Ideal S2x2048x3776 .f32) : FVec Ideal S16384x1024 .f32 :=
  fun Y => col x sh sc w (Y 0) ⟨1536 + (show Fin 1024 from Y 1).val, by omega⟩
def mlaOut (x : FVec Ideal S16384x2048 .f32) (sh sc : FVec Ideal S1x2048 .f32) (w : FVec Ideal S2x2048x3776 .f32) : FVec Ideal S16384x768 .f32 :=
  fun Y => if h : 2560 + (show Fin 768 from Y 1).val < 3264 then col x sh sc w (Y 0) ⟨2560 + (show Fin 768 from Y 1).val, by omega⟩ else 0
def fftOut (x : FVec Ideal S16384x2048 .f32) (sh sc : FVec Ideal S1x2048 .f32) (w : FVec Ideal S2x2048x3776 .f32) : FVec Ideal S16384x512 .bf16 :=
  fun Y => col x sh sc w (Y 0) ⟨3264 + (show Fin 512 from Y 1).val, by omega⟩

theorem final9 (c : Dev nD) : (dats m 0 c).arrAt 9 (cfgs 0).N = vOut (ax m c) (ash m c) (asc m c) (aw m c) := by
  refine (dats m 0 c).arrAt_eq_of_covers 9 _ (by decide +kernel) fun t hfl y => ?_
  blk_simp
  rw [after0_9, out9_eq]
  obtain ⟨o, r, rfl⟩ : ∃ o r : Fin 512, y = ix2 o r := ⟨y 0, y 1, eq_ix2 y⟩
  refine (pay21_at _ _ r o).trans ((dot_at m c t r 1024 512 _ o (by omega)).trans ((dif_pos (by omega)).trans ?_))
  unfold vOut
  refine congrArg₂ (col _ _ _ _) (Fin.ext ?_) (Fin.ext ?_)
  · blk_simp [idx t, row] <;> (try simp) <;> try omega
  · blk_simp [idx t, row] <;> (try simp) <;> try omega
theorem final10 (c : Dev nD) : (dats m 0 c).arrAt 10 (cfgs 0).N = lruOut (ax m c) (ash m c) (asc m c) (aw m c) := by
  refine (dats m 0 c).arrAt_eq_of_covers 10 _ (by decide +kernel) fun t hfl y => ?_
  blk_simp
  rw [after0_10, out10_eq]
  obtain ⟨r, o, rfl⟩ : ∃ (r : Fin 512) (o : Fin 1024), y = ix2 r o := ⟨y 0, y 1, eq_ix2 y⟩
  refine (pay22_at _ _ r o).trans ((dot_at m c t r 1536 1024 _ o (by omega)).trans ((dif_pos (by omega)).trans ?_))
  unfold lruOut
  refine congrArg₂ (col _ _ _ _) (Fin.ext ?_) (Fin.ext ?_)
  · blk_simp [idx t, row] <;> (try simp) <;> try omega
  · blk_simp [idx t, row] <;> (try simp) <;> try omega
theorem final12 (c : Dev nD) : (dats m 0 c).arrAt 12 (cfgs 0).N = fftOut (ax m c) (ash m c) (asc m c) (aw m c) := by
  refine (dats m 0 c).arrAt_eq_of_covers 12 _ (by decide +kernel) fun t hfl y => ?_
  blk_simp
  rw [after0_12, out12_eq]
  obtain ⟨r, o, rfl⟩ : ∃ r o : Fin 512, y = ix2 r o := ⟨y 0, y 1, eq_ix2 y⟩
  refine (pay2_at _ _ r o).trans ((Finset.sum_congr rfl fun d _ => congrArg₂ (· * ·) (hid_at m c t r d) (b6 m c t d o)).trans ?_)
  unfold fftOut
  show col _ _ _ _ _ _ = _
  refine congrArg₂ (col _ _ _ _) (Fin.ext ?_) (Fin.ext ?_)
  · blk_simp [idx t, row] <;> (try simp) <;> try omega
  · blk_simp [idx t, row] <;> (try simp) <;> try omega

theorem final11 (c : Dev nD) : (dats m 0 c).arrAt 11 (cfgs 0).N = mlaOut (ax m c) (ash m c) (asc m c) (aw m c) := by
  refine (dats m 0 c).arrAt_eq_of_covers 11 _ (by decide +kernel) fun t hfl y => ?_
  blk_simp
  rw [after0_11, out11_eq]
  obtain ⟨r, o, rfl⟩ : ∃ (r : Fin 512) (o : Fin 768), y = ix2 r o := ⟨y 0, y 1, eq_ix2 y⟩
  refine (pay1_at _ _ r o).trans ((dot_at m c t r 2560 768 _ o (by omega)).trans ?_)
  refine Eq.trans (b := mlaOut (ax m c) (ash m c) (asc m c) (aw m c) (ix2 (row t r) o)) rfl (congrArg (mlaOut _ _ _ _) (funext fun a => Fin.ext ?_))
  fin_cases a
  · blk_simp [idx t, row] <;> (try simp) <;> try omega
  · blk_simp [idx t, row] <;> (try simp) <;> try omega

/-- A head's columns of a product of the block, turned by the block's rows of the tables. -/
theorem turn_at (c : Dev nD) (t : Fin cfg0.N) (k : FVec Ideal S512x512 .f32) (f : Fin 512 → EReal) (r : Fin 512) (hk : ∀ o, k (ix2 r o) = f o)
    (n : Fin 4) (h : S512x512.Slices ![0, 128 * n.val] S512x128) (l : Fin 128) :
    head k (k0_pay4 (iblk m c 3 t)) (k0_pay5 (iblk m c 4 t)) n h (ix2 r l) = rope f (row t r) ⟨128 * n.val + l.val, by omega⟩ :=
  head_at k _ _ n h r (row t r) f hk (fun l => (pay4_at _ _).trans ((b3 m c t r l).trans (cosT_at _ l)))
    (fun l => (pay5_at _ _).trans ((b4 m c t r l).trans (sinT_at _ l))) l

theorem qdot (c : Dev nD) (t : Fin cfg0.N) (r o : Fin 512) :
    k0_pay6 (F := Ideal) (iblk m c 0 t) (iblk m c 2 t) (iblk m c 1 t) (wcut (iblk m c 5 t) 0 512 inb_S1x2048x3328_S1x2048x512_0_0_0) (ix2 r o)
      = col (ax m c) (ash m c) (asc m c) (aw m c) (row t r) ⟨0 + o.val, by omega⟩ :=
  (pay6_at _ _ _ _ r o).trans ((dot_at m c t r 0 512 _ o (by omega)).trans (dif_pos (by omega)))
theorem kdot (c : Dev nD) (t : Fin cfg0.N) (r o : Fin 512) :
    k0_pay7 (F := Ideal) (iblk m c 0 t) (iblk m c 2 t) (iblk m c 1 t) (wcut (iblk m c 5 t) 512 512 inb_S1x2048x3328_S1x2048x512_0_0_512) (ix2 r o)
      = col (ax m c) (ash m c) (asc m c) (aw m c) (row t r) ⟨512 + o.val, by omega⟩ :=
  (pay7_at _ _ _ _ r o).trans ((dot_at m c t r 512 512 _ o (by omega)).trans (dif_pos (by omega)))

theorem slices : ∀ n : Fin 4, S512x512.Slices ![0, 128 * n.val] S512x128 := by decide

/-- A head's piece at the place of an output entry. -/
theorem piece_at (c : Dev nD) (t : Fin cfg0.N) (k : FVec Ideal S512x512 .f32) (f : Fin 512 → EReal) (r o : Fin 512) (hk : ∀ o, k (ix2 r o) = f o)
    (n : Fin 4) (x : S512x128.Idx) (h0 : r.val = (x 0).val) (h1 : o.val = 128 * n.val + (x 1).val) :
    head k (k0_pay4 (iblk m c 3 t)) (k0_pay5 (iblk m c 4 t)) n (slices n) x = rope f (row t r) o := by
  obtain ⟨r', l, rfl⟩ : ∃ (r' : Fin 512) (l : Fin 128), x = ix2 r' l := ⟨x 0, x 1, eq_ix2 x⟩
  obtain rfl : r = r' := Fin.ext h0
  exact (turn_at m c t k f r hk n (slices n) l).trans (congrArg (rope f (row t r)) (Fin.ext h1.symm))

theorem k_at (c : Dev nD) (t : Fin cfg0.N) (r o : Fin 512) :
    out0_8 (F := Ideal) (iblk m c 0 t) (iblk m c 1 t) (iblk m c 2 t) (iblk m c 3 t) (iblk m c 4 t) (iblk m c 5 t) (iblk m c 6 t) (ix2 r o)
      = rope (fun o => col (ax m c) (ash m c) (asc m c) (aw m c) (row t r) ⟨512 + o.val, by omega⟩) (row t r) o := by
  have g := piece_at m c t _ _ r o (kdot m c t r)
  unfold_out out0_8
  frame_out
  canon_tiles x h
  · exact g 3 x h0 h1
  · exact g 2 x h0 h1
  · exact g 1 x h0 h1
  · exact g 0 x h0 (h1.trans (Nat.zero_add _).symm)

theorem q_at (c : Dev nD) (t : Fin cfg0.N) (r o : Fin 512) :
    out0_7 (F := Ideal) (iblk m c 0 t) (iblk m c 1 t) (iblk m c 2 t) (iblk m c 3 t) (iblk m c 4 t) (iblk m c 5 t) (iblk m c 6 t) (ix2 r o)
      = rope (fun o => col (ax m c) (ash m c) (asc m c) (aw m c) (row t r) ⟨0 + o.val, by omega⟩) (row t r) o * Ideal.ofBits .f32 0x3E38AA3B#32 := by
  have g := fun n x h0 h1 => congrArg (· * Ideal.ofBits .f32 0x3E38AA3B#32) (piece_at m c t _ _ r o (qdot m c t r) n x h0 h1)
  unfold_out out0_7
  frame_out
  canon_tiles x h
  · exact g 3 x h0 h1
  · exact g 2 x h0 h1
  · exact g 1 x h0 h1
  · exact g 0 x h0 (h1.trans (Nat.zero_add _).symm)

theorem final7 (c : Dev nD) : (dats m 0 c).arrAt 7 (cfgs 0).N = qOut (ax m c) (ash m c) (asc m c) (aw m c) := by
  refine (dats m 0 c).arrAt_eq_of_covers 7 _ (by decide +kernel) fun t hfl y => ?_
  blk_simp
  rw [after0_7]
  obtain ⟨r, o, rfl⟩ : ∃ r o : Fin 512, y = ix2 r o := ⟨y 0, y 1, eq_ix2 y⟩
  refine (q_at m c t r o).trans ?_
  refine Eq.trans (b := qOut (ax m c) (ash m c) (asc m c) (aw m c) (ix2 (row t r) o)) rfl (congrArg (qOut _ _ _ _) (funext fun a => Fin.ext ?_))
  fin_cases a
  · blk_simp [idx t, row] <;> (try simp) <;> try omega
  · blk_simp [idx t, row] <;> (try simp) <;> try omega
theorem final8 (c : Dev nD) : (dats m 0 c).arrAt 8 (cfgs 0).N = kOut (ax m c) (ash m c) (asc m c) (aw m c) := by
  refine (dats m 0 c).arrAt_eq_of_covers 8 _ (by decide +kernel) fun t hfl y => ?_
  blk_simp
  rw [after0_8]
  obtain ⟨r, o, rfl⟩ : ∃ r o : Fin 512, y = ix2 r o := ⟨y 0, y 1, eq_ix2 y⟩
  refine (k_at m c t r o).trans ?_
  refine Eq.trans (b := kOut (ax m c) (ash m c) (asc m c) (aw m c) (ix2 (row t r) o)) rfl (congrArg (kOut _ _ _ _) (funext fun a => Fin.ext ?_))
  fin_cases a
  · blk_simp [idx t, row] <;> (try simp) <;> try omega
  · blk_simp [idx t, row] <;> (try simp) <;> try omega

/-- The call's run, with the six arrays that it writes. -/
theorem run (g : Dev nD → PrngReg) : θ_run defs (onTc (τ := τ) (main (F := Ideal))) ⟨m, fun _ => 0, g⟩ fun r => ∀ c : Dev nD,
      r.2.mem ((c.tc : Thread nD τ).loc main_v59_0) = qOut (ax m c) (ash m c) (asc m c) (aw m c)
      ∧ r.2.mem ((c.tc : Thread nD τ).loc main_v59_1) = kOut (ax m c) (ash m c) (asc m c) (aw m c)
      ∧ r.2.mem ((c.tc : Thread nD τ).loc main_v59_2) = vOut (ax m c) (ash m c) (asc m c) (aw m c)
      ∧ r.2.mem ((c.tc : Thread nD τ).loc main_v59_3) = lruOut (ax m c) (ash m c) (asc m c) (aw m c)
      ∧ r.2.mem ((c.tc : Thread nD τ).loc main_v59_4) = mlaOut (ax m c) (ash m c) (asc m c) (aw m c)
      ∧ r.2.mem ((c.tc : Thread nD τ).loc main_v59_5) = fftOut (ax m c) (ash m c) (asc m c) (aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, ha⟩ := h c
    exact ⟨h0.trans (final7 m c), h1.trans (final8 m c), h2.trans (final9 m c), h3.trans (final10 m c), h4.trans (final11 m c), h5.trans (final12 m c), ha⟩)
    (Cert.InProjIdeal.Value.run_blocks (F := Ideal) m g)

end Cert.InProjIdeal.Proj
-- ==== Proof.InProjRef.lean ====
module

public import proofs.«01_k».proof.Proof.Gen.InProjReferenceIdeal.Run
public import proofs.«01_k».proof.Proof.InProjValue

/-! The input projection's reference at an entry, and its results. -/

@[expose] public section

set_option maxRecDepth 16384

noncomputable section

namespace Cert.InProjReferenceIdeal.Proj

open Idealize.ShloMosaic Idealize.ShloMosaic.TcCoe Idealize.SL.Sem Idealize.ShloMosaic.Tactic
open Cert.InProjReferenceIdeal Cert.InProjReferenceIdeal.Gen
open Cert.InProjIdeal.Proj (num freq ang lane rope col hfreq qOut kOut vOut lruOut mlaOut fftOut)

/-- The projected rows. -/
abbrev prod (x : FVec Ideal S16384x2048 .f32) (sh sc : FVec Ideal S1x2048 .f32) (w : FVec Ideal S2x2048x3776 .f32) : FVec Ideal S16384x3776 .f32 :=
  Host.dotGeneral dot_S16384x2048_S2048x3776_S16384x3776_1_0_0_1_n_n none
    (addf (mulf x (broadcastInDim S16384x2048 ![0, 1] bcast_S1x2048_S16384x2048_0_1 (addf (broadcastInDim S1x2048 ![] bcast_S_S1x2048 (constant S_ .f32 0x3F800000#32)) sc)))
      (broadcastInDim S16384x2048 ![0, 1] bcast_S1x2048_S16384x2048_0_1 sh))
    (shapeCast _ (extractStridedSlice S1x2048x3776 ![1, 0, 0] w slices_S2x2048x3776_S1x2048x3776_1_0_0) shapeCasts_S1x2048x3776_S2048x3776)

theorem prod_at (x : FVec Ideal S16384x2048 .f32) (sh sc : FVec Ideal S1x2048 .f32) (w : FVec Ideal S2x2048x3776 .f32) (i : Fin 16384) (j : Fin 3776) :
    prod x sh sc w (ix2 i j) = col x sh sc w i j := by
  unfold prod col Cert.FfnIdeal.Mlp.hid
  pointwise!

/-- A token's quantity times the frequencies. -/
abbrev turns (p : FVec Ideal S16384 .f32) : FVec Ideal S16384x16 .f32 :=
  mulf (broadcastInDim S16384x16 ![0, 1] bcast_S16384x1_S16384x16_0_1 (broadcastInDim S16384x1 ![0] bcast_S16384_S16384x1_0 p))
    (broadcastInDim S16384x16 ![0, 1] bcast_S1x16_S16384x16_0_1 (broadcastInDim S1x16 ![1] bcast_S16_S1x16_1 hfreq))
/-- The tokens' angles: by image row, then by column. -/
abbrev angles : FVec Ideal S16384x32 .f32 :=
  concatenate S16384x32 1 [⟨S16384x16, turns (shapeCast _ (broadcastInDim S256x64 ![0, 1] bcast_S256x1_S256x64_0_1 (broadcastInDim S256x1 ![0] bcast_S256_S256x1_0 (sitofp .f32 (iotaInDim S256 32 0)))) shapeCasts_S256x64_S16384)⟩,
    ⟨S16384x16, turns (shapeCast _ (broadcastInDim S256x64 ![0, 1] bcast_S1x64_S256x64_0_1 (broadcastInDim S1x64 ![1] bcast_S64_S1x64_1 (sitofp .f32 (iotaInDim S64 32 0)))) shapeCasts_S256x64_S16384)⟩]
    concatenates_S16384x16_S16384x16_S16384x32_d1
/-- The first and second half of each 64 columns. -/
abbrev lo (y : FVec Ideal S16384x4x2x64 .f32) : FVec Ideal S16384x4x2x32 .f32 := extractStridedSlice S16384x4x2x32 ![0, 0, 0, 0] y slices_S16384x4x2x64_S16384x4x2x32_0_0_0_0
abbrev hi (y : FVec Ideal S16384x4x2x64 .f32) : FVec Ideal S16384x4x2x32 .f32 := extractStridedSlice S16384x4x2x32 ![0, 0, 0, 32] y slices_S16384x4x2x64_S16384x4x2x32_0_0_0_32
/-- A table over tokens and lanes, for every head. -/
abbrev wide (a : FVec Ideal S16384x32 .f32) : FVec Ideal S16384x4x2x32 .f32 :=
  broadcastInDim S16384x4x2x32 ![0, 1, 2, 3] bcast_S16384x1x1x32_S16384x4x2x32_0_1_2_3 (shapeCast _ a shapeCasts_S16384x32_S16384x1x1x32)
abbrev turned (y : FVec Ideal S16384x4x2x64 .f32) (C S : FVec Ideal S16384x32 .f32) : FVec Ideal S16384x512 .f32 :=
  shapeCast _ (concatenate S16384x4x2x64 3 [⟨S16384x4x2x32, subf (mulf (lo y) (wide C)) (mulf (hi y) (wide S))⟩, ⟨S16384x4x2x32, addf (mulf (lo y) (wide S)) (mulf (hi y) (wide C))⟩]
    concatenates_S16384x4x2x32_S16384x4x2x32_S16384x4x2x64_d3) shapeCasts_S16384x4x2x64_S16384x512

abbrev split (y : FVec Ideal S16384x512 .f32) : FVec Ideal S16384x4x2x64 .f32 := shapeCast _ y shapeCasts_S16384x512_S16384x4x2x64

theorem q_eq (m : (ℓ : Loc nD τ sig) → Buf (Elt Ideal) ℓ) (c : Dev nD) : Cert.InProjReferenceIdeal.Value.res_out0 m c
    = truncf .bf16 (mulf (turned (split (extractStridedSlice S16384x512 ![0, 0] (prod (m ((c.tc : Thread nD τ).loc main_arg0)) (m ((c.tc : Thread nD τ).loc main_arg1)) (m ((c.tc : Thread nD τ).loc main_arg2)) (m ((c.tc : Thread nD τ).loc main_arg3)))
        slices_S16384x3776_S16384x512_0_0)) (Host.cos angles) (Host.sin angles)) (broadcastInDim S16384x512 ![] bcast_S_S16384x512 (constant S_ .f32 0x3E38AA3B#32))) bitsLt_bf16_f32 := rfl
theorem k_eq (m : (ℓ : Loc nD τ sig) → Buf (Elt Ideal) ℓ) (c : Dev nD) : Cert.InProjReferenceIdeal.Value.res_out1 m c
    = truncf .bf16 (turned (split (extractStridedSlice S16384x512 ![0, 512] (prod (m ((c.tc : Thread nD τ).loc main_arg0)) (m ((c.tc : Thread nD τ).loc main_arg1)) (m ((c.tc : Thread nD τ).loc main_arg2)) (m ((c.tc : Thread nD τ).loc main_arg3)))
        slices_S16384x3776_S16384x512_0_512)) (Host.cos angles) (Host.sin angles)) bitsLt_bf16_f32 := rfl

theorem angles_at (i : Fin 16384) (j : Fin 32) : angles (ix2 i j) = ang i j := by
  unfold angles turns hfreq ang freq num
  pointwise!
  by_cases h : j.val < 16
  · rw [dif_pos h, if_pos h]
    rw [show j.val % 16 = j.val by omega]
  · rw [dif_neg h, if_neg h]
    rw [show j.val % 16 = j.val - 16 by omega]

theorem turned_at (y : FVec Ideal S16384x512 .f32) (f : Fin 512 → EReal) (i : Fin 16384) (hy : ∀ o, y (ix2 i o) = f o) (o : Fin 512) :
    turned (split y) (Host.cos angles) (Host.sin angles) (ix2 i o) = rope f i o := by
  have hc : ∀ j, Host.cos angles (ix2 i j) = Ideal.cos (ang i j) := fun j => congrArg Ideal.cos (angles_at i j)
  have hs : ∀ j, Host.sin angles (ix2 i j) = Ideal.sin (ang i j) := fun j => congrArg Ideal.sin (angles_at i j)
  generalize Host.cos angles = C at hc ⊢
  generalize Host.sin angles = S at hs ⊢
  unfold turned wide lo hi split rope lane
  pointwise!
  simp only [hy, hc, hs]
  by_cases h : o.val % 64 < 32
  · rw [dif_pos h, dif_pos h]
    simp only [show o.val % 64 = o.val % 32 by omega, show o.val / 128 * 128 + o.val / 64 % 2 * 64 + (32 + o.val % 32) = o.val + 32 by omega]
  · rw [dif_neg h, dif_neg h]
    simp only [show o.val % 64 - 32 = o.val % 32 by omega, show o.val / 128 * 128 + o.val / 64 % 2 * 64 + o.val % 32 = o.val - 32 by omega,
      show o.val / 128 * 128 + o.val / 64 % 2 * 64 + (32 + o.val % 32) = o.val by omega]

/-- A cut of the projected rows, by its first column. -/
theorem cut_at (x : FVec Ideal S16384x2048 .f32) (sh sc : FVec Ideal S1x2048 .f32) (w : FVec Ideal S2x2048x3776 .f32) (off n : ℕ) (h : S16384x3776.Slices ![0, off] ⟨2, ![16384, n]⟩) (i : Fin 16384) (o : Fin n) (ho : off + o.val < 3776) :
    extractStridedSlice ⟨2, ![16384, n]⟩ ![0, off] (prod x sh sc w) h (ix2 i o) = col x sh sc w i ⟨off + o.val, ho⟩ := by
  refine Eq.trans ?_ (prod_at x sh sc w i ⟨off + o.val, ho⟩)
  generalize prod x sh sc w = P
  refine congrArg P (funext fun a => Fin.ext ?_)
  fin_cases a
  · exact Nat.zero_add _
  · rfl

/-- A rotated cut. -/
theorem turn_at (x : FVec Ideal S16384x2048 .f32) (sh sc : FVec Ideal S1x2048 .f32) (w : FVec Ideal S2x2048x3776 .f32) (off : ℕ) (h : S16384x3776.Slices ![0, off] S16384x512) (ho : off + 512 ≤ 3776) (i : Fin 16384) (o : Fin 512) :
    turned (split (extractStridedSlice S16384x512 ![0, off] (prod x sh sc w) h)) (Host.cos angles) (Host.sin angles) (ix2 i o)
      = rope (fun o => col x sh sc w i ⟨off + o.val, by omega⟩) i o :=
  turned_at _ _ i (fun o => cut_at x sh sc w off 512 h i o (by omega)) o

theorem v_res (x : FVec Ideal S16384x2048 .f32) (sh sc : FVec Ideal S1x2048 .f32) (w : FVec Ideal S2x2048x3776 .f32) :
    truncf (F := Ideal) .bf16 (transpose S512x16384 [1, 0] (extractStridedSlice S16384x512 ![0, 1024] (prod x sh sc w) slices_S16384x3776_S16384x512_0_1024) transposes_S16384x512_S512x16384_1_0)
      bitsLt_bf16_f32 = vOut x sh sc w := by
  funext Y
  obtain ⟨o, i, rfl⟩ : ∃ (o : Fin 512) (i : Fin 16384), Y = ix2 o i := ⟨Y 0, Y 1, eq_ix2 Y⟩
  refine Eq.trans ?_ (cut_at x sh sc w 1024 512 slices_S16384x3776_S16384x512_0_1024 i o (by omega))
  generalize extractStridedSlice S16384x512 ![0, 1024] (prod x sh sc w) slices_S16384x3776_S16384x512_0_1024 = P
  pointwise!
theorem lru_res (x : FVec Ideal S16384x2048 .f32) (sh sc : FVec Ideal S1x2048 .f32) (w : FVec Ideal S2x2048x3776 .f32) :
    extractStridedSlice S16384x1024 ![0, 1536] (prod x sh sc w) slices_S16384x3776_S16384x1024_0_1536 = lruOut x sh sc w :=
  funext fun Y => (congrArg _ (eq_ix2 Y)).trans (cut_at x sh sc w 1536 1024 slices_S16384x3776_S16384x1024_0_1536 (Y 0) (Y 1) (by have := (show Fin 1024 from Y 1).isLt; exact Nat.lt_of_lt_of_le (Nat.add_lt_add_left this _) (by decide)))
theorem fft_res (x : FVec Ideal S16384x2048 .f32) (sh sc : FVec Ideal S1x2048 .f32) (w : FVec Ideal S2x2048x3776 .f32) :
    truncf (F := Ideal) .bf16 (extractStridedSlice S16384x512 ![0, 3264] (prod x sh sc w) slices_S16384x3776_S16384x512_0_3264) bitsLt_bf16_f32 = fftOut x sh sc w :=
  funext fun Y => (congrArg _ (eq_ix2 Y)).trans (cut_at x sh sc w 3264 512 slices_S16384x3776_S16384x512_0_3264 (Y 0) (Y 1) (by have := (show Fin 512 from Y 1).isLt; exact Nat.lt_of_lt_of_le (Nat.add_lt_add_left this _) (by decide)))
theorem mla_res (x : FVec Ideal S16384x2048 .f32) (sh sc : FVec Ideal S1x2048 .f32) (w : FVec Ideal S2x2048x3776 .f32) :
    concatenate S16384x768 1 [⟨S16384x704, extractStridedSlice S16384x704 ![0, 2560] (prod x sh sc w) slices_S16384x3776_S16384x704_0_2560⟩,
      ⟨S16384x64, broadcastInDim S16384x64 ![] bcast_S_S16384x64 (constant (F := Ideal) S_ .f32 0x00000000#32)⟩] concatenates_S16384x704_S16384x64_S16384x768_d1 = mlaOut x sh sc w := by
  funext Y
  obtain ⟨i, o, rfl⟩ : ∃ (i : Fin 16384) (o : Fin 768), Y = ix2 i o := ⟨Y 0, Y 1, eq_ix2 Y⟩
  have hp := fun o : Fin 704 => cut_at x sh sc w 2560 704 slices_S16384x3776_S16384x704_0_2560 i o (by omega)
  generalize extractStridedSlice ⟨2, ![16384, 704]⟩ ![0, 2560] (prod x sh sc w) slices_S16384x3776_S16384x704_0_2560 = P at hp ⊢
  have e : mlaOut x sh sc w (ix2 i o) = if h : o.val < 704 then P (ix2 i ⟨o.val, h⟩) else 0 := by
    show (if h : 2560 + o.val < 3264 then col x sh sc w i ⟨2560 + o.val, by omega⟩ else 0) = _
    by_cases h : o.val < 704
    · rw [dif_pos h, dif_pos (by omega), hp]
    · rw [dif_neg h, dif_neg (by omega)]
  rw [e]
  pointwise!

/-- The query and key results from any memory. -/
theorem q_res (m : (ℓ : Loc nD τ sig) → Buf (Elt Ideal) ℓ) (c : Dev nD) : Cert.InProjReferenceIdeal.Value.res_main_v82 m c = qOut (m ((c.tc : Thread nD τ).loc main_arg0)) (m ((c.tc : Thread nD τ).loc main_arg1)) (m ((c.tc : Thread nD τ).loc main_arg2)) (m ((c.tc : Thread nD τ).loc main_arg3)) := by
  refine (q_eq m c).trans (funext fun Y => ?_)
  obtain ⟨i, o, rfl⟩ : ∃ (i : Fin 16384) (o : Fin 512), Y = ix2 i o := ⟨Y 0, Y 1, eq_ix2 Y⟩
  exact congrArg (· * Ideal.ofBits .f32 0x3E38AA3B#32) (turn_at _ _ _ _ 0 slices_S16384x3776_S16384x512_0_0 (by decide) i o)
theorem k_res (m : (ℓ : Loc nD τ sig) → Buf (Elt Ideal) ℓ) (c : Dev nD) : Cert.InProjReferenceIdeal.Value.res_main_v83 m c = kOut (m ((c.tc : Thread nD τ).loc main_arg0)) (m ((c.tc : Thread nD τ).loc main_arg1)) (m ((c.tc : Thread nD τ).loc main_arg2)) (m ((c.tc : Thread nD τ).loc main_arg3)) := by
  refine (k_eq m c).trans (funext fun Y => ?_)
  obtain ⟨i, o, rfl⟩ : ∃ (i : Fin 16384) (o : Fin 512), Y = ix2 i o := ⟨Y 0, Y 1, eq_ix2 Y⟩
  exact turn_at _ _ _ _ 512 slices_S16384x3776_S16384x512_0_512 (by decide) i o

/-- The reference's run, from a memory that holds the given arrays. -/
theorem run (m : (ℓ : Loc nD τ sig) → Buf (Elt Ideal) ℓ) (g : Dev nD → PrngReg)
    (X : Dev nD → FVec Ideal S16384x2048 .f32) (H K : Dev nD → FVec Ideal S1x2048 .f32) (W : Dev nD → FVec Ideal S2x2048x3776 .f32)
    (e : ∀ c : Dev nD, m ((c.tc : Thread nD τ).loc main_arg0) = X c ∧ m ((c.tc : Thread nD τ).loc main_arg1) = H c ∧ m ((c.tc : Thread nD τ).loc main_arg2) = K c
      ∧ m ((c.tc : Thread nD τ).loc main_arg3) = W c) :
    θ_run defs (onTc (τ := τ) (main (F := Ideal))) ⟨m, fun _ => 0, g⟩ fun r => ∀ c : Dev nD,
      r.2.mem ((c.tc : Thread nD τ).loc main_v82) = qOut (X c) (H c) (K c) (W c)
      ∧ r.2.mem ((c.tc : Thread nD τ).loc main_v83) = kOut (X c) (H c) (K c) (W c)
      ∧ r.2.mem ((c.tc : Thread nD τ).loc main_v85) = vOut (X c) (H c) (K c) (W c)
      ∧ r.2.mem ((c.tc : Thread nD τ).loc main_v77) = lruOut (X c) (H c) (K c) (W c)
      ∧ r.2.mem ((c.tc : Thread nD τ).loc main_v81) = mlaOut (X c) (H c) (K c) (W c)
      ∧ r.2.mem ((c.tc : Thread nD τ).loc main_v86) = fftOut (X c) (H c) (K c) (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, ha⟩ := h c
    obtain ⟨e0, e1, e2, e3⟩ := e c
    rw [← e0, ← e1, ← e2, ← e3]
    exact ⟨h0.trans (q_res m c), h1.trans (k_res m c), h2.trans (v_res _ _ _ _), h3.trans (lru_res _ _ _ _), h4.trans (mla_res _ _ _ _), h5.trans (fft_res _ _ _ _), ha⟩)
    (Cert.InProjReferenceIdeal.Value.run (F := Ideal) m g)

end Cert.InProjReferenceIdeal.Proj
-- ==== Proof.Math.lean ====
module
public import Idealize.ShloMosaic.Lib.Pointwise

/-! The arithmetic of a running softmax over the extended reals: the weighted sum of the first keys
of a stream, what changing its pivot does, and the quotient that no pivot changes. -/

@[expose] public section
set_option maxRecDepth 16384

namespace Mla.Math
open Idealize Idealize.ShloMosaic

/-- The weight of a score `s` at pivot `a`. -/
noncomputable def wt (s a : ℝ) : EReal := (((2 : ℝ) ^ (s - a) : ℝ) : EReal)

theorem exp2_sub (s a : ℝ) : Ideal.exp2 ((s : EReal) - (a : EReal)) = wt s a := by
  rw [← EReal.coe_sub, Ideal.exp2_coe]; rfl

theorem wt_nonneg (s a : ℝ) : 0 ≤ wt s a := by
  unfold wt; exact_mod_cast (Real.rpow_pos_of_pos two_pos _).le

theorem wt_ne_top (s a : ℝ) : wt s a ≠ ⊤ := EReal.coe_ne_top _

theorem wt_chain (s a b : ℝ) : wt a b * wt s a = wt s b := by
  unfold wt
  rw [← EReal.coe_mul, ← Real.rpow_add two_pos]
  congr 2; ring

/-- A factor that is neither negative nor `⊤` goes through a finite sum. -/
theorem mul_sum {ι : Type*} (s : Finset ι) (f : ι → EReal) {c : EReal} (h0 : 0 ≤ c) (ht : c ≠ ⊤) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- The values `v` of the first `n` keys weighted by their scores `s` at pivot `a`. -/
noncomputable def W (s : ℕ → ℝ) (v : ℕ → EReal) (n : ℕ) (a : ℝ) : EReal :=
  ∑ k ∈ Finset.range n, v k * wt (s k) a

theorem W_zero (s v a) : W s v 0 a = 0 := rfl

theorem W_shift (s v n a b) : wt a b * W s v n a = W s v n b := by
  unfold W
  rw [mul_sum _ _ (wt_nonneg a b) (wt_ne_top a b)]
  refine Finset.sum_congr rfl fun k _ => ?_
  rw [mul_left_comm, wt_chain]

theorem W_add (s v n d a) :
    W s v (n + d) a = W s v n a + ∑ i : Fin d, v (n + i) * wt (s (n + i)) a := by
  unfold W
  rw [Finset.sum_range_add, Finset.sum_range fun i => v (n + i) * wt (s (n + i)) a]

/-- A total of weights is a positive real once there is a key. -/
theorem W_one (s : ℕ → ℝ) (n : ℕ) (hn : 0 < n) (a : ℝ) :
    ∃ L : ℝ, 0 < L ∧ W s (fun _ => 1) n a = (L : EReal) := by
  refine ⟨∑ k ∈ Finset.range n, (2 : ℝ) ^ (s k - a), ?_, ?_⟩
  · exact Finset.sum_pos (fun k _ => Real.rpow_pos_of_pos two_pos _) ⟨0, by simpa using hn⟩
  · unfold W wt
    clear hn
    induction n with
    | zero => simp
    | succ n ih => rw [Finset.sum_range_succ, Finset.sum_range_succ, ih, one_mul, EReal.coe_add]

/-- The quotient of two weighted sums does not depend on the pivot. -/
theorem W_div (s v n) (hn : 0 < n) (a b : ℝ) :
    Ideal.div (W s v n a) (W s (fun _ => 1) n a) = Ideal.div (W s v n b) (W s (fun _ => 1) n b) := by
  obtain ⟨L, hL, e⟩ := W_one s n hn a
  have hc : (0 : ℝ) < (2 : ℝ) ^ (a - b) := Real.rpow_pos_of_pos two_pos _
  rw [← W_shift s v n a b, ← W_shift s (fun _ => 1) n a b, e]
  unfold wt
  rw [← EReal.coe_mul, Ideal.div_coe hL.ne', Ideal.div_coe (mul_pos hc hL).ne', mul_comm (_ : EReal) (W s v n a),
    mul_assoc, ← EReal.coe_mul]
  congr 2
  field_simp

/-- Normalising each weight before the product, as a softmax does, gives that quotient. -/
theorem W_softmax (s v n) (hn : 0 < n) (a : ℝ) :
    ∑ k ∈ Finset.range n, v k * Ideal.div (wt (s k) a) (W s (fun _ => 1) n a)
      = Ideal.div (W s v n a) (W s (fun _ => 1) n a) := by
  obtain ⟨L, hL, e⟩ := W_one s n hn a
  rw [e, Ideal.div_coe hL.ne']
  have h0 : (0 : EReal) ≤ ((1 / L : ℝ) : EReal) := by exact_mod_cast (one_div_pos.2 hL).le
  rw [mul_comm (W s v n a), W, mul_sum _ _ h0 (EReal.coe_ne_top _)]
  refine Finset.sum_congr rfl fun k _ => ?_
  rw [Ideal.div_coe hL.ne', mul_left_comm, mul_comm (_ : EReal) (v k * wt (s k) a), mul_assoc]
  ac_rfl

/-- The largest of finitely many numbers below `⊤` is below `⊤`. -/
theorem fold_max_lt {n : ℕ} (f : Fin n → EReal) (h : ∀ k, f k < ⊤) :
    (Finset.univ : Finset (Fin n)).fold max ⊥ f < ⊤ :=
  (Finset.fold_max_lt _).2 ⟨bot_lt_top, fun k _ => h k⟩

theorem bot_lt_fold_max {n : ℕ} (f : Fin n → EReal) (k : Fin n) (h : ⊥ < f k) :
    ⊥ < (Finset.univ : Finset (Fin n)).fold max ⊥ f :=
  (Finset.lt_fold_max _).2 (Or.inr ⟨k, Finset.mem_univ _, h⟩)

theorem real_of {x : EReal} (h : ⊥ < x) (h' : x < ⊤) : ∃ r : ℝ, x = (r : EReal) :=
  ⟨x.toReal, (EReal.coe_toReal h'.ne h.ne').symm⟩

/-- A finite sum of products of reals is real. -/
theorem sum_real {ι : Type*} (s : Finset ι) (f g : ι → EReal)
    (hf : ∀ i, f i ≠ ⊤ ∧ f i ≠ ⊥) (hg : ∀ i, g i ≠ ⊤ ∧ g i ≠ ⊥) :
    ∃ r : ℝ, ∑ i ∈ s, f i * g i = (r : EReal) := by
  classical
  induction s using Finset.induction_on with
  | empty => exact ⟨0, by simp⟩
  | insert a s ha ih =>
    obtain ⟨r, hr⟩ := ih
    refine ⟨(f a).toReal * (g a).toReal + r, ?_⟩
    rw [Finset.sum_insert ha, hr, EReal.coe_add, EReal.coe_mul, EReal.coe_toReal (hf a).1 (hf a).2,
      EReal.coe_toReal (hg a).1 (hg a).2]

/-- The pattern of minus infinity. -/
theorem bits_ninf : Ideal.ofBits .f32 0xFF800000#32 = ⊥ := by
  unfold Ideal.ofBits Ideal.ieee; simp; try decide

/-- The pattern of two. -/
theorem bits_two : Ideal.ofBits .f32 0x40000000#32 = ((2 : ℝ) : EReal) := by
  unfold Ideal.ofBits Ideal.ieee; simp
  rw [← EReal.coe_mul]; norm_num

end Mla.Math
-- ==== Proof.Attn.lean ====
module

public import proofs.«01_k».proof.Proof.Math
public import proofs.«01_k».proof.Proof.Gen.KernelIdeal

/-! The attention's result as a function of its argument arrays, over the reals: for each query and
head, the quotient of two sums over the context's keys and then the samples' own. -/

@[expose] public section

set_option maxRecDepth 16384

noncomputable section

namespace Cert.KernelIdeal.Mla

open Idealize.ShloMosaic
open _root_.Mla.Math

/-- Column `d` of head `h` among the queries' and keys' 1024. -/
def qcol (h : Fin 4) (d : Fin 256) : Fin 1024 := ⟨256 * h.val + d.val, by omega⟩
/-- Row `d` of head `h` among the values' 512. -/
def vrow (h : Fin 4) (d : Fin 128) : Fin 512 := ⟨128 * h.val + d.val, by omega⟩

variable (q : FVec Ideal S16384x1024 .bf16) (k : FVec Ideal S16384x1024 .bf16) (vt : FVec Ideal S512x16384 .bf16)
  (kc : FVec Ideal S256x1024 .bf16) (vct : FVec Ideal S512x256 .bf16)

/-- The score of query `i` and key `n` of the stream (the context's 256 keys first) in head `h`. -/
def score (h : Fin 4) (i : Fin 16384) (n : ℕ) : EReal :=
  if hn : n < 256 then ∑ d : Fin 256, kc (ix2 ⟨n, hn⟩ (qcol h d)) * q (ix2 i (qcol h d))
  else if hm : n - 256 < 16384 then ∑ d : Fin 256, k (ix2 ⟨n - 256, hm⟩ (qcol h d)) * q (ix2 i (qcol h d))
  else 0

/-- The same as a real. -/
def sreal (h : Fin 4) (i : Fin 16384) (n : ℕ) : ℝ := (score q k kc h i n).toReal

/-- Component `d` of the value of key `n` of the stream in head `h`. -/
def vcomp (h : Fin 4) (d : Fin 128) (n : ℕ) : EReal :=
  if hn : n < 256 then vct (ix2 (vrow h d) ⟨n, hn⟩)
  else if hm : n - 256 < 16384 then vt (ix2 (vrow h d) ⟨n - 256, hm⟩)
  else 0

/-- The rows a product sums: a head's value components, then rows of ones. -/
def vrows (h : Fin 4) (r : Fin 144) (n : ℕ) : EReal :=
  if hr : r.val < 128 then vcomp vt vct h ⟨r.val, hr⟩ n else 1

/-- The attention's result at query `i`, head `h`, component `d`. -/
def attn (i : Fin 16384) (h : Fin 4) (d : Fin 128) : EReal :=
  Ideal.div (W (sreal q k kc h i) (vcomp vt vct h d) 16640 0) (W (sreal q k kc h i) (fun _ => 1) 16640 0)

/-- The whole result. -/
def attnOut : FVec Ideal S16384x512 .bf16 := fun y =>
  attn q k vt kc vct ⟨(y 0).val, (y 0).isLt⟩ ⟨(y 1).val / 128, by have : (y 1).val < 512 := (y 1).isLt; omega⟩ ⟨(y 1).val % 128, by omega⟩

/-- Every query and key is a real number. -/
structure Fin5 : Prop where
  q : ∀ i, q i ≠ ⊤ ∧ q i ≠ ⊥
  k : ∀ i, k i ≠ ⊤ ∧ k i ≠ ⊥
  kc : ∀ i, kc i ≠ ⊤ ∧ kc i ≠ ⊥

variable {q k kc}

theorem score_real (hf : Fin5 q k kc) (h : Fin 4) (i : Fin 16384) (n : ℕ) : score q k kc h i n = (sreal q k kc h i n : EReal) := by
  have : ∃ r : ℝ, score q k kc h i n = (r : EReal) := by
    unfold score
    split
    · exact sum_real _ _ _ (fun _ => hf.kc _) fun _ => hf.q _
    · split
      · exact sum_real _ _ _ (fun _ => hf.k _) fun _ => hf.q _
      · exact ⟨0, rfl⟩
  obtain ⟨r, hr⟩ := this
  unfold sreal; rw [hr, EReal.toReal_coe]

end Cert.KernelIdeal.Mla
-- ==== Proof.Loop.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.View (ld)

variable {F : FTy → Type} [FloatOps F]

local notation "𝕄" => MT nD τ sig Unit (Elt F) ℕ (UR sig nD τ) ℕ

/-- Chunk `k` of the resident keys, as the loop's trip loads it. -/
abbrev kSlice (kx : Vec F S8192x256 .bf16) (k : Fin k0_t1_loop.trips) : Vec F S512x256 .bf16 :=
  ld kx (Rect.unit (s := S8192x256) (k0_off1 k) S512x256.size (k0_off1_inb k))
/-- Chunk `k` of the resident values. -/
abbrev vSlice (vx : Vec F S128x8192 .bf16) (k : Fin k0_t1_loop.trips) : Vec F S128x512 .bf16 :=
  ld vx (Rect.unit (s := S128x8192) (k0_off2 k) S128x512.size (k0_off2_inb k))

/-- One chunk of the running softmax: the running maximum and the running sums after it. -/
def slowStep (qt : Vec F S1x256x2048 .bf16) (K : Vec F S512x256 .bf16) (V : Vec F S128x512 .bf16)
    (s : Vec F S1x1x2048 .f32 × Vec F S1x144x2048 .f32) : Vec F S1x1x2048 .f32 × Vec F S1x144x2048 .f32 :=
  (k0_pay11 qt K s.1, k0_pay10 qt K V s.1 s.2)

/-- The running softmax over the first `k` chunks. -/
def slow (qt : Vec F S1x256x2048 .bf16) (kx : Vec F S8192x256 .bf16) (vx : Vec F S128x8192 .bf16)
    (s : Vec F S1x1x2048 .f32 × Vec F S1x144x2048 .f32) : ℕ → Vec F S1x1x2048 .f32 × Vec F S1x144x2048 .f32
  | 0 => s
  | k + 1 => if h : k < k0_t1_loop.trips then slowStep qt (kSlice kx ⟨k, h⟩) (vSlice vx ⟨k, h⟩) (slow qt kx vx s k) else slow qt kx vx s k

theorem slow_succ (qt : Vec F S1x256x2048 .bf16) (kx : Vec F S8192x256 .bf16) (vx : Vec F S128x8192 .bf16)
    (s : Vec F S1x1x2048 .f32 × Vec F S1x144x2048 .f32) (k : Fin k0_t1_loop.trips) :
    slow qt kx vx s (k.val + 1) = slowStep qt (kSlice kx k) (vSlice vx k) (slow qt kx vx s k.val) := by
  rw [slow]; exact dif_pos k.isLt

section
variable {sg : RefSig} {κ : Kind} {sp : Space} {s : Shape} {e : EltTy} {Val : EltTy → Type} {M : Memref sg κ sp s e}

/-- A store over a whole buffer leaves exactly what was stored. -/
theorem writes_full (h : M.IsWhole) (f : M.view.ty.Contents Val) {off : Fin s.rank → ℕ} (inb : ∀ a, off a + s.size a ≤ s.size a) (w : s.Idx → Val e) (L : List (View.Piece Val s e)) :
    M.view.writes Val f ((⟨Rect.unit off s.size inb, w⟩ : View.Piece Val s e) :: L) = h.unread w := by
  apply h.eq_unread

  exact M.view.read_writes_full f inb w L

/-- A load over a whole buffer reads all of it. -/
theorem readAt_full (h : M.IsWhole) {off : Fin s.rank → ℕ} (inb : ∀ a, off a + s.size a ≤ s.size a) (x : s.Idx → Val e) :
    M.view.readAt Val (Rect.unit off s.size inb).toLoadRect (h.unread x) = x := by
  rw [View.readAt_full]; exact h.read_unread x

/-- A load of a part of a buffer reads that part of its contents. -/
theorem readAt_part (h : M.IsWhole) (r : Rect s) (x : s.Idx → Val e) :
    M.view.readAt Val r.toLoadRect (h.unread x) = ld x r := by
  have := View.readAt_eq_ld M.view (h.unread x) r
  rw [h.read_unread] at this; exact this

/-- A load of a part of a buffer just stored whole reads that part of what was stored. -/
theorem readCov_part [∀ e, Nonempty (Val e)] (v : View sg κ sp s e) {off : Fin s.rank → ℕ} (inb : ∀ a, off a + s.size a ≤ s.size a) (w : s.Idx → Val e) (L : List (View.Piece Val s e)) (r : Rect s) :
    v.readCov ((⟨Rect.unit off s.size inb, w⟩ : View.Piece Val s e) :: L) r.toLoadRect = ld w r := by
  show v.readAt Val r.toLoadRect (v.writes Val v.junk _) = _
  rw [View.readAt_eq_ld, v.read_writes_full v.junk inb w L]
end

/-- One trip of the chunk loop: the two scratch buffers go from one state of the running softmax to the next. -/
theorem trip_run (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (qt : Vec F S1x256x2048 .bf16) (kx : Vec F S8192x256 .bf16) (vx : Vec F S128x8192 .bf16)
    (s : Vec F S1x1x2048 .f32 × Vec F S1x144x2048 .f32) (k : Fin k0_t1_loop.trips) :
    (iprop((arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt) ∗ (arg10.view.loc (c : Thread nD τ) ↦[arg10.view.set]{fullShare} harg10.unread s.1) ∗ (arg11.view.loc (c : Thread nD τ) ↦[arg11.view.set]{fullShare} harg11.unread s.2)) : sProp 𝕄)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 k PUnit.unit)
        (fun _ => iprop((arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt) ∗ (arg10.view.loc (c : Thread nD τ) ↦[arg10.view.set]{fullShare} harg10.unread (slowStep qt (kSlice kx k) (vSlice vx k) s).1) ∗ (arg11.view.loc (c : Thread nD τ) ↦[arg11.view.set]{fullShare} harg11.unread (slowStep qt (kSlice kx k) (vSlice vx k) s).2))) := by
  have hk : k.val < 16 := Nat.lt_of_lt_of_le k.isLt k0_t1_abs.2.1
  unfold k0_t1_body
  iintro ⟨H6, H7, H9, H10, H11⟩
  sl_exec
  sl_step
  isplitl [H6]; · iexact H6
  isplitl [H7]; · iexact H7
  isplitl [H9]; · iexact H9
  isplitl [H10]
  · rw [writes_full harg10, readAt_full, readAt_full, readAt_part]; iexact H10
  · rw [writes_full harg11, readAt_full, readAt_full, readAt_full, readAt_part, readAt_part]; iexact H11

set_option warn.classDefReducibility false in
/-- The chunk loop by its invariant: before trip `k` the scratch buffers hold the running softmax over the first `k` chunks. -/
@[sl_loop] def slowInv (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (qt : Vec F S1x256x2048 .bf16) (kx : Vec F S8192x256 .bf16) (vx : Vec F S128x8192 .bf16)
    (m : Vec F S1x1x2048 .f32) (a : Vec F S1x144x2048 .f32) :
    Idealize.ShloMosaic.LoopInv (M := 𝕄) Idealize.ShloMosaic.frame (wpE (defs₀ (F := F)) Variants.none (c : Thread nD τ) none) E
      k0_t1_loop.lb k0_t1_loop.ub k0_t1_loop.st k0_t1_ok () (k0_t1_body (F := F) i arg3 harg3 arg4 harg4 arg5 harg5 arg6 harg6 arg7 harg7 arg8 harg8 arg9 harg9 arg10 harg10 arg11 harg11) where
  inv k _ := iprop((arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt) ∗ (arg10.view.loc (c : Thread nD τ) ↦[arg10.view.set]{fullShare} harg10.unread (slow qt kx vx (m, a) k).1) ∗ (arg11.view.loc (c : Thread nD τ) ↦[arg11.view.set]{fullShare} harg11.unread (slow qt kx vx (m, a) k).2))
  step k acc := by
    rw [slow_succ qt kx vx (m, a) k]
    exact trip_run c E i arg3 harg3 arg4 harg4 arg5 harg5 arg6 harg6 arg7 harg7 arg8 harg8 arg9 harg9 arg10 harg10 arg11 harg11 qt kx vx (slow qt kx vx (m, a) k.val) k

end Cert.KernelIdeal.Mla
end
end
-- ==== Proof.Body.lean ====
module

public import proofs.«01_k».proof.Proof.Gen.KernelIdeal.Frame
public import proofs.«01_k».proof.Proof.Gen.KernelIdeal.Skeleton
public import Idealize.ShloMosaic.Lib.VecWindow
public import proofs.«01_k».proof.Proof.Loop

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.View (ld)

variable {F : FTy → Type} [FloatOps F]

local notation "𝕄" => MT nD τ sig Unit (Elt F) ℕ (UR sig nD τ) ℕ

theorem keys_inb (n : ℕ) : ∀ a, (![512 * (n % 16), 0] : Fin 2 → ℕ) a + S512x256.size a ≤ S8192x256.size a := by
  have := Nat.mod_lt n (show 0 < 16 by decide)
  intro a; fin_cases a
  · show 512 * (n % 16) + 512 ≤ 8192; omega
  · exact le_rfl
theorem vals_inb (n : ℕ) : ∀ a, (![0, 512 * (n % 16)] : Fin 2 → ℕ) a + S128x512.size a ≤ S128x8192.size a := by
  have := Nat.mod_lt n (show 0 < 16 by decide)
  intro a; fin_cases a
  · exact le_rfl
  · show 512 * (n % 16) + 512 ≤ 8192; omega

/-- Chunk `n` of the resident tile's sixteen: 512 keys. -/
abbrev keys (n : ℕ) (kx : Vec F S8192x256 .bf16) : Vec F S512x256 .bf16 := ld kx (Rect.unit (s := S8192x256) ![512 * (n % 16), 0] S512x256.size (keys_inb n))
/-- Their values. -/
abbrev vals (n : ℕ) (vx : Vec F S128x8192 .bf16) : Vec F S128x512 .bf16 := ld vx (Rect.unit (s := S128x8192) ![0, 512 * (n % 16)] S128x512.size (vals_inb n))

/-! ### The chunks of the fast branch, two at a time -/

/-- Value `%4` of the fast branch, in terms of the queries, keys, values and running maximum. -/
def z4 (qt : Vec F S1x256x2048 .bf16) (kx : Vec F S8192x256 .bf16) (vx : Vec F S128x8192 .bf16) (m : Vec F S1x1x2048 .f32) : FVec F S1x2048 .f32 := k0_pay23 m

/-- Value `%10` of the fast branch, in terms of the queries, keys, values and running maximum. -/
def z10 (qt : Vec F S1x256x2048 .bf16) (kx : Vec F S8192x256 .bf16) (vx : Vec F S128x8192 .bf16) (m : Vec F S1x1x2048 .f32) : FVec F S1x2048 .f32 := k0_pay25 qt (keys 0 kx)

/-- Value `%18` of the fast branch, in terms of the queries, keys, values and running maximum. -/
def z18 (qt : Vec F S1x256x2048 .bf16) (kx : Vec F S8192x256 .bf16) (vx : Vec F S128x8192 .bf16) (m : Vec F S1x1x2048 .f32) : FVec F S144x2048 .f32 := k0_pay26 m qt (keys 0 kx) (vals 0 vx)

/-- Value `%24` of the fast branch, in terms of the queries, keys, values and running maximum. -/
def z24 (qt : Vec F S1x256x2048 .bf16) (kx : Vec F S8192x256 .bf16) (vx : Vec F S128x8192 .bf16) (m : Vec F S1x1x2048 .f32) : FVec F S1x2048 .f32 := k0_pay28 qt (keys 1 kx)

/-- Value `%29` of the fast branch, in terms of the queries, keys, values and running maximum. -/
def z29 (qt : Vec F S1x256x2048 .bf16) (kx : Vec F S8192x256 .bf16) (vx : Vec F S128x8192 .bf16) (m : Vec F S1x1x2048 .f32) : FVec F S512x2048 .bf16 := k0_pay29 m qt (keys 1 kx)

/-- Value `%65` of the fast branch, in terms of the queries, keys, values and running maximum. -/
def z65 (qt : Vec F S1x256x2048 .bf16) (kx : Vec F S8192x256 .bf16) (vx : Vec F S128x8192 .bf16) (m : Vec F S1x1x2048 .f32) : FVec F S144x2048 .f32 := k0_pay32 (z4 qt kx vx m) (z18 qt kx vx m) (vals 1 vx) (z29 qt kx vx m) (Scalar.ofBits .bf16 0x3F80#16) qt (keys 2 kx) (vals 2 vx) qt (keys 3 kx) (vals 3 vx)

/-- Value `%66` of the fast branch, in terms of the queries, keys, values and running maximum. -/
def z66 (qt : Vec F S1x256x2048 .bf16) (kx : Vec F S8192x256 .bf16) (vx : Vec F S128x8192 .bf16) (m : Vec F S1x1x2048 .f32) : FVec F S1x2048 .f32 := k0_pay33 (z10 qt kx vx m) (z24 qt kx vx m) qt (keys 2 kx) qt (keys 3 kx)

/-- Value `%97` of the fast branch, in terms of the queries, keys, values and running maximum. -/
def z97 (qt : Vec F S1x256x2048 .bf16) (kx : Vec F S8192x256 .bf16) (vx : Vec F S128x8192 .bf16) (m : Vec F S1x1x2048 .f32) : FVec F S144x2048 .f32 := k0_pay36 (z4 qt kx vx m) (z65 qt kx vx m) qt (keys 4 kx) (vals 4 vx) qt (keys 5 kx) (vals 5 vx)

/-- Value `%98` of the fast branch, in terms of the queries, keys, values and running maximum. -/
def z98 (qt : Vec F S1x256x2048 .bf16) (kx : Vec F S8192x256 .bf16) (vx : Vec F S128x8192 .bf16) (m : Vec F S1x1x2048 .f32) : FVec F S1x2048 .f32 := k0_pay37 (z66 qt kx vx m) qt (keys 4 kx) qt (keys 5 kx)

/-- Value `%100` of the fast branch, in terms of the queries, keys, values and running maximum. -/
def z100 (qt : Vec F S1x256x2048 .bf16) (kx : Vec F S8192x256 .bf16) (vx : Vec F S128x8192 .bf16) (m : Vec F S1x1x2048 .f32) : FVec F S256x2048 .bf16 := k0_pay38 qt

/-- Value `%129` of the fast branch, in terms of the queries, keys, values and running maximum. -/
def z129 (qt : Vec F S1x256x2048 .bf16) (kx : Vec F S8192x256 .bf16) (vx : Vec F S128x8192 .bf16) (m : Vec F S1x1x2048 .f32) : FVec F S144x2048 .f32 := k0_pay41 (z4 qt kx vx m) (z97 qt kx vx m) (z100 qt kx vx m) (keys 6 kx) (vals 6 vx) qt (keys 7 kx) (vals 7 vx)

/-- Value `%130` of the fast branch, in terms of the queries, keys, values and running maximum. -/
def z130 (qt : Vec F S1x256x2048 .bf16) (kx : Vec F S8192x256 .bf16) (vx : Vec F S128x8192 .bf16) (m : Vec F S1x1x2048 .f32) : FVec F S1x2048 .f32 := k0_pay42 (z98 qt kx vx m) (z100 qt kx vx m) (keys 6 kx) qt (keys 7 kx)

/-- Value `%134` of the fast branch, in terms of the queries, keys, values and running maximum. -/
def z134 (qt : Vec F S1x256x2048 .bf16) (kx : Vec F S8192x256 .bf16) (vx : Vec F S128x8192 .bf16) (m : Vec F S1x1x2048 .f32) : FVec F S512x2048 .f32 := k0_pay43 qt (keys 8 kx)

/-- Value `%135` of the fast branch, in terms of the queries, keys, values and running maximum. -/
def z135 (qt : Vec F S1x256x2048 .bf16) (kx : Vec F S8192x256 .bf16) (vx : Vec F S128x8192 .bf16) (m : Vec F S1x1x2048 .f32) : FVec F S2048 .f32 := k0_pay44 qt (keys 8 kx)

/-- Value `%161` of the fast branch, in terms of the queries, keys, values and running maximum. -/
def z161 (qt : Vec F S1x256x2048 .bf16) (kx : Vec F S8192x256 .bf16) (vx : Vec F S128x8192 .bf16) (m : Vec F S1x1x2048 .f32) : FVec F S144x2048 .f32 := k0_pay46 (z4 qt kx vx m) (z129 qt kx vx m) (z134 qt kx vx m) (vals 8 vx) qt (keys 9 kx) (vals 9 vx)

/-- Value `%162` of the fast branch, in terms of the queries, keys, values and running maximum. -/
def z162 (qt : Vec F S1x256x2048 .bf16) (kx : Vec F S8192x256 .bf16) (vx : Vec F S128x8192 .bf16) (m : Vec F S1x1x2048 .f32) : FVec F S1x2048 .f32 := k0_pay47 (z130 qt kx vx m) (z135 qt kx vx m) qt (keys 9 kx)

/-- Value `%168` of the fast branch, in terms of the queries, keys, values and running maximum. -/
def z168 (qt : Vec F S1x256x2048 .bf16) (kx : Vec F S8192x256 .bf16) (vx : Vec F S128x8192 .bf16) (m : Vec F S1x1x2048 .f32) : FVec F S1x2048 .f32 := k0_pay49 qt (keys 10 kx)

/-- Value `%171` of the fast branch, in terms of the queries, keys, values and running maximum. -/
def z171 (qt : Vec F S1x256x2048 .bf16) (kx : Vec F S8192x256 .bf16) (vx : Vec F S128x8192 .bf16) (m : Vec F S1x1x2048 .f32) : FVec F S512x2048 .f32 := k0_pay50 (z4 qt kx vx m) qt (keys 10 kx)

/-- Value `%193` of the fast branch, in terms of the queries, keys, values and running maximum. -/
def z193 (qt : Vec F S1x256x2048 .bf16) (kx : Vec F S8192x256 .bf16) (vx : Vec F S128x8192 .bf16) (m : Vec F S1x1x2048 .f32) : FVec F S144x2048 .f32 := k0_pay52 (z4 qt kx vx m) (z161 qt kx vx m) (vals 10 vx) (z171 qt kx vx m) qt (keys 11 kx) (vals 11 vx)

/-- Value `%194` of the fast branch, in terms of the queries, keys, values and running maximum. -/
def z194 (qt : Vec F S1x256x2048 .bf16) (kx : Vec F S8192x256 .bf16) (vx : Vec F S128x8192 .bf16) (m : Vec F S1x1x2048 .f32) : FVec F S1x2048 .f32 := k0_pay53 (z162 qt kx vx m) (z168 qt kx vx m) qt (keys 11 kx)

/-- Value `%200` of the fast branch, in terms of the queries, keys, values and running maximum. -/
def z200 (qt : Vec F S1x256x2048 .bf16) (kx : Vec F S8192x256 .bf16) (vx : Vec F S128x8192 .bf16) (m : Vec F S1x1x2048 .f32) : FVec F S1x2048 .f32 := k0_pay55 qt (keys 12 kx)

/-- Value `%205` of the fast branch, in terms of the queries, keys, values and running maximum. -/
def z205 (qt : Vec F S1x256x2048 .bf16) (kx : Vec F S8192x256 .bf16) (vx : Vec F S128x8192 .bf16) (m : Vec F S1x1x2048 .f32) : FVec F S512x2048 .bf16 := k0_pay56 (z4 qt kx vx m) qt (keys 12 kx)

/-- Value `%207` of the fast branch, in terms of the queries, keys, values and running maximum. -/
def z207 (qt : Vec F S1x256x2048 .bf16) (kx : Vec F S8192x256 .bf16) (vx : Vec F S128x8192 .bf16) (m : Vec F S1x1x2048 .f32) : FVec F S144x512 .bf16 := k0_pay57 (vals 12 vx)

/-- Value `%132` of the fast branch, in terms of the queries, keys, values and running maximum. -/
def z132 (qt : Vec F S1x256x2048 .bf16) (kx : Vec F S8192x256 .bf16) (vx : Vec F S128x8192 .bf16) (m : Vec F S1x1x2048 .f32) : FVec F S144x2048 .f32 := constant S144x2048 .f32 0x00000000#32

/-- Value `%241` of the fast branch, in terms of the queries, keys, values and running maximum. -/
def z241 (qt : Vec F S1x256x2048 .bf16) (kx : Vec F S8192x256 .bf16) (vx : Vec F S128x8192 .bf16) (m : Vec F S1x1x2048 .f32) : FVec F S144x2048 .f32 := k0_pay60 (z4 qt kx vx m) (z193 qt kx vx m) (z205 qt kx vx m) (z207 qt kx vx m) (z132 qt kx vx m) qt (keys 13 kx) (vals 13 vx) qt (keys 14 kx) (vals 14 vx)

/-- Value `%242` of the fast branch, in terms of the queries, keys, values and running maximum. -/
def z242 (qt : Vec F S1x256x2048 .bf16) (kx : Vec F S8192x256 .bf16) (vx : Vec F S128x8192 .bf16) (m : Vec F S1x1x2048 .f32) : FVec F S1x2048 .f32 := k0_pay61 (z194 qt kx vx m) (z200 qt kx vx m) qt (keys 13 kx) qt (keys 14 kx)

/-- From `A` the stretch `p` of the body returns `r` and leaves `B`. -/
abbrev Runs (c : Dev nD) (E : Set ℕ) {R : Type _} (A B : sProp 𝕄) (p : Prog (TpuEff nD τ sig (Elt F) Λ₀ .tc) R) (r : R) : Prop :=
  A ⊢ wp frame (wpE (defs₀ (F := F)) Variants.none (c : Thread nD τ) none) E p (fun x => iprop(⌜x = r⌝ ∗ B))

/-- After such a stretch the rest of the body goes on from what it returns. -/
theorem Runs.seq {c : Dev nD} {E : Set ℕ} {R S : Type} {A B X : sProp 𝕄} {p : Prog (TpuEff nD τ sig (Elt F) Λ₀ .tc) R} {r : R}
    {k : R → Prog (TpuEff nD τ sig (Elt F) Λ₀ .tc) S} {Q : S → sProp 𝕄} (h : Runs c E A B p r)
    (hk : iprop(B ∗ X) ⊢ wp frame (wpE (defs₀ (F := F)) Variants.none (c : Thread nD τ) none) E (k r) Q) :
    iprop(A ∗ X) ⊢ wp frame (wpE (defs₀ (F := F)) Variants.none (c : Thread nD τ) none) E (p >>= k) Q := by
  iintro ⟨HA, HX⟩
  irw [wp_bind]
  iapply (wp_wand_r Idealize.ShloMosaic.frame (wpE (defs₀ (F := F)) Variants.none (c : Thread nD τ) none) E)
  isplitl [HA]
  · iapply h; iexact HA
  iintro %x ⟨%e, HB⟩
  subst e
  iapply hk
  isplitl [HB]; · iexact HB
  iexact HX

/-- The resident keys, values and transposed queries, held at `kx`, `vx` and `qt`. -/
abbrev Held (c : Dev nD) {arg6 : Memref sig .tc .vmem S8192x256 .bf16} (harg6 : arg6.IsWhole) {arg7 : Memref sig .tc .vmem S128x8192 .bf16} (harg7 : arg7.IsWhole)
    {arg9 : Memref sig .tc .vmem S1x256x2048 .bf16} (harg9 : arg9.IsWhole) (kx : Vec F S8192x256 .bf16) (vx : Vec F S128x8192 .bf16) (qt : Vec F S1x256x2048 .bf16) : sProp 𝕄 :=
  iprop((arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt))

/-- The six stretches after the first only read the keys, values and queries, and return the values that they print. -/
theorem parts_run (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (qt : Vec F S1x256x2048 .bf16) (kx : Vec F S8192x256 .bf16) (vx : Vec F S128x8192 .bf16) (m : Vec F S1x1x2048 .f32) :
    Runs c E (Held c harg6 harg7 harg9 kx vx qt) (Held c harg6 harg7 harg9 kx vx qt) (k0_part3 (F := F) i arg3 harg3 arg4 harg4 arg5 harg5 arg6 harg6 arg7 harg7 arg8 harg8 arg9 harg9 arg10 harg10 arg11 harg11 (z4 qt kx vx m) (z10 qt kx vx m) (z18 qt kx vx m) (z24 qt kx vx m) (vals 1 vx) (z29 qt kx vx m) (Scalar.ofBits .bf16 0x3F80#16)) ⟨(z65 qt kx vx m), (z66 qt kx vx m)⟩ ∧
    Runs c E (Held c harg6 harg7 harg9 kx vx qt) (Held c harg6 harg7 harg9 kx vx qt) (k0_part4 (F := F) i arg3 harg3 arg4 harg4 arg5 harg5 arg6 harg6 arg7 harg7 arg8 harg8 arg9 harg9 arg10 harg10 arg11 harg11 (z4 qt kx vx m) (z65 qt kx vx m) (z66 qt kx vx m)) ⟨(z97 qt kx vx m), (z98 qt kx vx m), (z100 qt kx vx m)⟩ ∧
    Runs c E (Held c harg6 harg7 harg9 kx vx qt) (Held c harg6 harg7 harg9 kx vx qt) (k0_part5 (F := F) i arg3 harg3 arg4 harg4 arg5 harg5 arg6 harg6 arg7 harg7 arg8 harg8 arg9 harg9 arg10 harg10 arg11 harg11 (z4 qt kx vx m) (z97 qt kx vx m) (z98 qt kx vx m) (z100 qt kx vx m)) ⟨(z129 qt kx vx m), (z130 qt kx vx m), (z134 qt kx vx m), (z135 qt kx vx m)⟩ ∧
    Runs c E (Held c harg6 harg7 harg9 kx vx qt) (Held c harg6 harg7 harg9 kx vx qt) (k0_part6 (F := F) i arg3 harg3 arg4 harg4 arg5 harg5 arg6 harg6 arg7 harg7 arg8 harg8 arg9 harg9 arg10 harg10 arg11 harg11 (z4 qt kx vx m) (z129 qt kx vx m) (z130 qt kx vx m) (z134 qt kx vx m) (z135 qt kx vx m)) ⟨(z161 qt kx vx m), (z162 qt kx vx m), (z168 qt kx vx m), (vals 10 vx), (z171 qt kx vx m)⟩ ∧
    Runs c E (Held c harg6 harg7 harg9 kx vx qt) (Held c harg6 harg7 harg9 kx vx qt) (k0_part7 (F := F) i arg3 harg3 arg4 harg4 arg5 harg5 arg6 harg6 arg7 harg7 arg8 harg8 arg9 harg9 arg10 harg10 arg11 harg11 (z4 qt kx vx m) (z161 qt kx vx m) (z162 qt kx vx m) (z168 qt kx vx m) (vals 10 vx) (z171 qt kx vx m)) ⟨(z193 qt kx vx m), (z194 qt kx vx m), (z200 qt kx vx m), (z205 qt kx vx m), (z207 qt kx vx m), (z132 qt kx vx m)⟩ ∧
    Runs c E (Held c harg6 harg7 harg9 kx vx qt) (Held c harg6 harg7 harg9 kx vx qt) (k0_part8 (F := F) i arg3 harg3 arg4 harg4 arg5 harg5 arg6 harg6 arg7 harg7 arg8 harg8 arg9 harg9 arg10 harg10 arg11 harg11 (z4 qt kx vx m) (z193 qt kx vx m) (z194 qt kx vx m) (z200 qt kx vx m) (z205 qt kx vx m) (z207 qt kx vx m) (z132 qt kx vx m)) ⟨(z241 qt kx vx m), (z242 qt kx vx m)⟩ := by
  refine ⟨?_, ?_, ?_, ?_, ?_, ?_⟩ <;>
  · simp only [k0_part3_eq_skeleton, k0_part4_eq_skeleton, k0_part5_eq_skeleton, k0_part6_eq_skeleton, k0_part7_eq_skeleton, k0_part8_eq_skeleton]
    first | unfold k0_part3_skel | unfold k0_part4_skel | unfold k0_part5_skel | unfold k0_part6_skel | unfold k0_part7_skel | unfold k0_part8_skel
    iintro ⟨H6, H7, H9⟩
    sl_exec
    sl_step
    isplitr
    · ipureintro; simp only [z65, z66, z97, z98, z100, z129, z130, z134, z135, z161, z162, z168, z171, z193, z194, z200, z205, z207, z132, z241, z242, readAt_full harg9, readAt_part harg6, readAt_part harg7]; try rfl
    isplitl [H6]; · iexact H6
    isplitl [H7]; · iexact H7
    iexact H9

/-- The branch condition of the first part: the point is the first of its row of points. -/
abbrev first (i : grid0.Coords) : Prop := (Scalar.cmpi .ne (Scalar.extui (Scalar.cmpi .eq (BitVec.ofNat 32 (i 2).val) 0#32)) 0#32 = 1#1)

/-- Part 2 at a later point of a row: it only reads. -/
theorem part2_odd (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (hc0 : ¬ first i) (qt : Vec F S1x256x2048 .bf16) (kx : Vec F S8192x256 .bf16) (vx : Vec F S128x8192 .bf16) (m : Vec F S1x1x2048 .f32) :
    (iprop((arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt) ∗ (arg10.view.loc (c : Thread nD τ) ↦[arg10.view.set]{fullShare} harg10.unread m)) : sProp 𝕄)
      ⊢ wp frame (wpE (defs₀ (F := F)) Variants.none (c : Thread nD τ) none) E (k0_part2 (F := F) i arg3 harg3 arg4 harg4 arg5 harg5 arg6 harg6 arg7 harg7 arg8 harg8 arg9 harg9 arg10 harg10 arg11 harg11)
        (fun r => iprop(⌜r = ⟨(BitVec.ofNat 32 (i 2).val), (z4 qt kx vx m), (z10 qt kx vx m), (z18 qt kx vx m), (z24 qt kx vx m), (vals 1 vx), (z29 qt kx vx m), (Scalar.ofBits .bf16 0x3F80#16)⟩⌝ ∗ (arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread qt) ∗ (arg10.view.loc (c : Thread nD τ) ↦[arg10.view.set]{fullShare} harg10.unread m))) := by
  simp only [k0_part2_eq_skeleton]; unfold k0_part2_skel
  unfold first at hc0
  iintro ⟨H6, H7, H9, H10⟩
  sl_exec (disch := sl_exact hc0)
  sl_step
  isplitr
  · ipureintro; simp only [z4, z10, z18, z24, z29, readAt_full harg9, readAt_full harg10, readAt_part harg6, readAt_part harg7]; try rfl
  isplitl [H6]; · iexact H6
  isplitl [H7]; · iexact H7
  isplitl [H9]; · iexact H9
  iexact H10

/-- The running maximum and sums after the context keys, from nothing. -/
def pre (q : Vec F S2048x256 .bf16) (kc : Vec F S256x256 .bf16) (vc : Vec F S128x256 .bf16) : Vec F S1x1x2048 .f32 × Vec F S1x144x2048 .f32 :=
  (k0_pay22 (k0_pay18 (k0_pay15 q) kc (k0_pay13 (F := F))),
   k0_pay21 (k0_pay16 (k0_pay15 q) kc) vc (k0_pay18 (k0_pay15 q) kc (k0_pay13 (F := F))) (k0_pay19 (k0_pay15 q) kc (k0_pay13 (F := F))) (k0_pay20 (k0_pay14 (F := F))))

/-- Part 2 at the first point of a row: the queries are transposed into scratch and the context keys start the running sums. -/
theorem part2_even (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (hc0 : first i) (q : Vec F S2048x256 .bf16) (kc : Vec F S256x256 .bf16) (vc : Vec F S128x256 .bf16)
    (kx : Vec F S8192x256 .bf16) (vx : Vec F S128x8192 .bf16) (f9 : BufTy.Contents (Elt F) arg9.view.ty) (f10 : BufTy.Contents (Elt F) arg10.view.ty) (f11 : BufTy.Contents (Elt F) arg11.view.ty) :
    (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) E (k0_part2 (F := F) i arg3 harg3 arg4 harg4 arg5 harg5 arg6 harg6 arg7 harg7 arg8 harg8 arg9 harg9 arg10 harg10 arg11 harg11)
        (fun r => iprop(⌜r = ⟨(BitVec.ofNat 32 (i 2).val), (z4 (k0_pay15 q) kx vx (pre q kc vc).1), (z10 (k0_pay15 q) kx vx (pre q kc vc).1), (z18 (k0_pay15 q) kx vx (pre q kc vc).1), (z24 (k0_pay15 q) kx vx (pre q kc vc).1), (vals 1 vx), (z29 (k0_pay15 q) kx vx (pre q kc vc).1), (Scalar.ofBits .bf16 0x3F80#16)⟩⌝ ∗ (arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} harg9.unread (k0_pay15 q)) ∗ (arg10.view.loc (c : Thread nD τ) ↦[arg10.view.set]{fullShare} harg10.unread (pre q kc vc).1) ∗ (arg11.view.loc (c : Thread nD τ) ↦[arg11.view.set]{fullShare} harg11.unread (pre q kc vc).2))) := by
  simp only [k0_part2_eq_skeleton]; unfold k0_part2_skel
  simp only [k0_part1_eq_skeleton]
  unfold first at hc0
  iintro ⟨H3, H4, H5, H6, H7, H9, H10, H11⟩
  sl_exec (disch := sl_exact hc0)
  sl_step
  have e9 : ∀ w L, arg9.view.readCov (Val := Elt F) (⟨Rect.unit ![0, 0, 0] ![1, 256, 2048] inb_S1x256x2048_S1x256x2048_0_0_0, w⟩ :: L) (Rect.unit ![0, 0, 0] ![1, 256, 2048] inb_S1x256x2048_S1x256x2048_0_0_0).toLoadRect = w := fun w L => View.readCov_full arg9.view _ _ w L
  have e10 : ∀ w L, arg10.view.readCov (Val := Elt F) (⟨Rect.unit ![0, 0, 0] ![1, 1, 2048] inb_S1x1x2048_S1x1x2048_0_0_0, w⟩ :: L) (Rect.unit ![0, 0, 0] ![1, 1, 2048] inb_S1x1x2048_S1x1x2048_0_0_0).toLoadRect = w := fun w L => View.readCov_full arg10.view _ _ w L
  have e11 : ∀ w L, arg11.view.readCov (Val := Elt F) (⟨Rect.unit ![0, 0, 0] ![1, 144, 2048] inb_S1x144x2048_S1x144x2048_0_0_0, w⟩ :: L) (Rect.unit ![0, 0, 0] ![1, 144, 2048] inb_S1x144x2048_S1x144x2048_0_0_0).toLoadRect = w := fun w L => View.readCov_full arg11.view _ _ w L
  delta part2_even.sl.v3 part2_even.sl.v5 part2_even.sl.H9_1 part2_even.sl.H10_2 part2_even.sl.r part2_even.sl.r_1 part2_even.sl.r_2 part2_even.sl.r_3 part2_even.sl.r_4
  delta part2_even.sl.v288 part2_even.sl.v293 part2_even.sl.v300
  delta part2_even.sl.H9_1 part2_even.sl.H10_1 part2_even.sl.H11_1
  simp only [e9, e10, e11, readAt_full harg3, readAt_full harg4, readAt_full harg5, readAt_part harg6, readAt_part harg7]
  isplitr
  · ipureintro; simp only [z4, z10, z18, z24, z29, pre]; try rfl
  isplitl [H3]; · iexact H3
  isplitl [H4]; · iexact H4
  isplitl [H5]; · iexact H5
  isplitl [H6]; · iexact H6
  isplitl [H7]; · iexact H7
  isplitl [H9]; · rw [← writes_full harg9 f9 inb_S1x256x2048_S1x256x2048_0_0_0 (k0_pay15 q) []]; iexact H9
  isplitl [H10]
  · simp only [pre]; rw [← writes_full harg10 f10 inb_S1x1x2048_S1x1x2048_0_0_0]; iexact H10
  · simp only [pre]; rw [← writes_full harg11 f11 inb_S1x144x2048_S1x144x2048_0_0_0]; iexact H11

end Cert.KernelIdeal.Mla
end
end
-- ==== Proof.Body2.lean ====
module

public import proofs.«01_k».proof.Proof.Gen.KernelIdeal.Frame
public import proofs.«01_k».proof.Proof.Gen.KernelIdeal.Skeleton
public import Idealize.ShloMosaic.Lib.VecWindow
public import proofs.«01_k».proof.Proof.Body

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.View (ld)

variable {F : FTy → Type} [FloatOps F]

local notation "𝕄" => MT nD τ sig Unit (Elt F) ℕ (UR sig nD τ) ℕ

/-- The fast branch is taken: no score of the tile exceeds the running maximum by more than 32. -/
def fastC (qt : Vec F S1x256x2048 .bf16) (kx : Vec F S8192x256 .bf16) (vx : Vec F S128x8192 .bf16) (m : Vec F S1x1x2048 .f32) : Prop :=
  Scalar.cmpi .ne (Scalar.extui (Scalar.cmpf .ole (k0_pay3 (z4 qt kx vx m) (z242 qt kx vx m) qt (keys 15 kx)) (Scalar.ofBits .f32 0x42000000#32))) 0#32 = 1#1

/-- The fast branch: one rescaling for the whole tile. -/
def fast (qt : Vec F S1x256x2048 .bf16) (kx : Vec F S8192x256 .bf16) (vx : Vec F S128x8192 .bf16) (m : Vec F S1x1x2048 .f32) (a : Vec F S1x144x2048 .f32) : Vec F S1x1x2048 .f32 × Vec F S1x144x2048 .f32 :=
  (k0_pay6 (z4 qt kx vx m) (z242 qt kx vx m) qt (keys 15 kx), k0_pay5 (z4 qt kx vx m) (z241 qt kx vx m) (z242 qt kx vx m) qt (keys 15 kx) (vals 15 vx) a)

open Classical in
/-- One tile of keys: the running maximum and sums after it. -/
def tile (qt : Vec F S1x256x2048 .bf16) (kx : Vec F S8192x256 .bf16) (vx : Vec F S128x8192 .bf16) (m : Vec F S1x1x2048 .f32) (a : Vec F S1x144x2048 .f32) : Vec F S1x1x2048 .f32 × Vec F S1x144x2048 .f32 :=
  if fastC qt kx vx m then fast qt kx vx m a else slow qt kx vx (m, a) k0_t1_loop.trips

theorem not_of_xor : ∀ v : BitVec 1, (Scalar.cmpi .ne (Scalar.extui v) 0#32 = 1#1 → ¬ Scalar.cmpi .ne (Scalar.extui (Scalar.xori v 1#1)) 0#32 = 1#1)
    ∧ (¬ Scalar.cmpi .ne (Scalar.extui v) 0#32 = 1#1 → Scalar.cmpi .ne (Scalar.extui (Scalar.xori v 1#1)) 0#32 = 1#1) := by decide

/-- The rows of sums an output block is made of. -/
abbrev sums (a : Vec F S1x144x2048 .f32) : Vec F S1x128x2048 .f32 := ld a (Rect.unit (s := S1x144x2048) ![0, 0, 0] S1x128x2048.size inb_S1x144x2048_S1x128x2048_0_0_0)
/-- The row of weights an output block is divided by. -/
abbrev weights (a : Vec F S1x144x2048 .f32) : Vec F S1x1x2048 .f32 := ld a (Rect.unit (s := S1x144x2048) ![0, 128, 0] S1x1x2048.size inb_S1x144x2048_S1x1x2048_0_128_0)
/-- The output block of a state. -/
def outB (a : Vec F S1x144x2048 .f32) : FVec F S2048x128 .bf16 := k0_pay12 (sums a) (weights a)

set_option maxHeartbeats 1000000 in
/-- The body at the last point of a row: the tile is folded in and the output block stored. -/
theorem body_odd (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (hc0 : ¬ first i) (hc4 : k0_cond4 i = 1#1)
    (q : Vec F S2048x256 .bf16) (kc : Vec F S256x256 .bf16) (vc : Vec F S128x256 .bf16) (kx : Vec F S8192x256 .bf16) (vx : Vec F S128x8192 .bf16)
    (qt : Vec F S1x256x2048 .bf16) (m : Vec F S1x1x2048 .f32) (a : Vec F S1x144x2048 .f32) (K : PUnit → sProp 𝕄) :
    (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (∃ f, arg8.view.loc (c : Thread nD τ) ↦[arg8.view.set]{fullShare} f) ∗ (arg9.view.loc (c : Thread nD τ) ↦[arg9.view.set]{fullShare} harg9.unread qt) ∗ (arg10.view.loc (c : Thread nD τ) ↦[arg10.view.set]{fullShare} harg10.unread m) ∗ (arg11.view.loc (c : Thread nD τ) ↦[arg11.view.set]{fullShare} harg11.unread a) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread (outB (tile qt kx vx m a).2)) ∗ (arg9.view.loc (c : Thread nD τ) ↦[arg9.view.set]{fullShare} harg9.unread qt) ∗ (arg10.view.loc (c : Thread nD τ) ↦[arg10.view.set]{fullShare} harg10.unread (tile qt kx vx m a).1) ∗ (arg11.view.loc (c : Thread nD τ) ↦[arg11.view.set]{fullShare} harg11.unread (tile qt kx vx m a).2)) -∗ K ⟨⟩)) : sProp 𝕄)
      ⊢ wp frame (wpE (defs₀ (F := F)) Variants.none (c : Thread nD τ) none) E (cc0_mla_attention (F := F) i arg3 harg3 arg4 harg4 arg5 harg5 arg6 harg6 arg7 harg7 arg8 harg8 arg9 harg9 arg10 harg10 arg11 harg11) K := by
  simp only [cc0_mla_attention_eq_skeleton]; unfold cc0_mla_attention_skel
  have R := parts_run c E i arg3 harg3 arg4 harg4 arg5 harg5 arg6 harg6 arg7 harg7 arg8 harg8 arg9 harg9 arg10 harg10 arg11 harg11 qt kx vx m
  refine (?_ : _ ⊢ _).trans (Runs.seq (part2_odd c E i arg3 harg3 arg4 harg4 arg5 harg5 arg6 harg6 arg7 harg7 arg8 harg8 arg9 harg9 arg10 harg10 arg11 harg11 hc0 qt kx vx m)
    (X := iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (∃ f, arg8.view.loc (c : Thread nD τ) ↦[arg8.view.set]{fullShare} f) ∗ (arg11.view.loc (c : Thread nD τ) ↦[arg11.view.set]{fullShare} harg11.unread a) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread (outB (tile qt kx vx m a).2)) ∗ (arg9.view.loc (c : Thread nD τ) ↦[arg9.view.set]{fullShare} harg9.unread qt) ∗ (arg10.view.loc (c : Thread nD τ) ↦[arg10.view.set]{fullShare} harg10.unread (tile qt kx vx m a).1) ∗ (arg11.view.loc (c : Thread nD τ) ↦[arg11.view.set]{fullShare} harg11.unread (tile qt kx vx m a).2)) -∗ K ⟨⟩))) ?_)
  · iintro ⟨H3, H4, H5, H6, H7, H8, H9, H10, H11, Hk⟩
    isplitl [H6 H7 H9 H10]
    · isplitl [H6]; · iexact H6
      isplitl [H7]; · iexact H7
      isplitl [H9]; · iexact H9
      iexact H10
    isplitl [H3]; · iexact H3
    isplitl [H4]; · iexact H4
    isplitl [H5]; · iexact H5
    isplitl [H8]; · iexact H8
    isplitl [H11]; · iexact H11
    iexact Hk
  refine (?_ : _ ⊢ _).trans (Runs.seq R.1 (Runs.seq R.2.1 (Runs.seq R.2.2.1 (Runs.seq R.2.2.2.1 (Runs.seq R.2.2.2.2.1 (Runs.seq R.2.2.2.2.2
    (X := iprop((arg10.view.loc (c : Thread nD τ) ↦[arg10.view.set]{fullShare} harg10.unread m) ∗ (arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (∃ f, arg8.view.loc (c : Thread nD τ) ↦[arg8.view.set]{fullShare} f) ∗ (arg11.view.loc (c : Thread nD τ) ↦[arg11.view.set]{fullShare} harg11.unread a) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread (outB (tile qt kx vx m a).2)) ∗ (arg9.view.loc (c : Thread nD τ) ↦[arg9.view.set]{fullShare} harg9.unread qt) ∗ (arg10.view.loc (c : Thread nD τ) ↦[arg10.view.set]{fullShare} harg10.unread (tile qt kx vx m a).1) ∗ (arg11.view.loc (c : Thread nD τ) ↦[arg11.view.set]{fullShare} harg11.unread (tile qt kx vx m a).2)) -∗ K ⟨⟩))) ?_))))))
  · iintro ⟨⟨H6, H7, H9, H10⟩, HX⟩
    isplitl [H6 H7 H9]
    · isplitl [H6]; · iexact H6
      isplitl [H7]; · iexact H7
      iexact H9
    isplitl [H10]; · iexact H10
    iexact HX
  iintro ⟨⟨H6, H7, H9⟩, H10, H3, H4, H5, ⟨%f8, H8⟩, H11, Hk⟩
  have hraw : ∀ hh, (Scalar.cmpi .ne (Scalar.extui (Scalar.cmpf .ole (k0_pay3 (z4 qt kx vx m) (z242 qt kx vx m)
        (arg9.view.readAt (Elt F) (Rect.unit (s := S1x256x2048) ![0, 0, 0] S1x256x2048.size inb_S1x256x2048_S1x256x2048_0_0_0).toLoadRect (harg9.unread qt))
        (arg6.view.readAt (Elt F) (Rect.unit (s := S8192x256) ![7680, 0] S512x256.size hh).toLoadRect (harg6.unread kx))) (Scalar.ofBits .f32 0x42000000#32))) 0#32 = 1#1) = fastC qt kx vx m := by
    intro hh; rw [readAt_full harg9, readAt_part harg6]; rfl
  by_cases hf : fastC qt kx vx m
  · have ht : tile qt kx vx m a = fast qt kx vx m a := if_pos hf
    have hf1 := hf
    rw [← hraw inb_S8192x256_S512x256_7680_0] at hf1
    have hf2 := (not_of_xor _).1 hf1
    sl_exec (disch := first | sl_exact hf1 | sl_exact hf2 | sl_exact hc4)
    sl_step
    rw [ht]
    iapply Hk
    isplitl [H3]; · iexact H3
    isplitl [H4]; · iexact H4
    isplitl [H5]; · iexact H5
    isplitl [H6]; · iexact H6
    isplitl [H7]; · iexact H7
    isplitl [H8]
    · delta body_odd.sl.v273 body_odd.sl.v275
      delta body_odd.sl.H11_1
      rw [writes_full harg8]
      have e1 : ∀ w L, arg11.view.readCov (Val := Elt F) (⟨Rect.unit ![0, 0, 0] ![1, 144, 2048] inb_S1x144x2048_S1x144x2048_0_0_0, w⟩ :: L) (Rect.unit (s := S1x144x2048) ![0, 0, 0] ![1, 128, 2048] inb_S1x144x2048_S1x128x2048_0_0_0).toLoadRect = sums w := fun w L => readCov_part arg11.view _ w L _
      have e2 : ∀ w L, arg11.view.readCov (Val := Elt F) (⟨Rect.unit ![0, 0, 0] ![1, 144, 2048] inb_S1x144x2048_S1x144x2048_0_0_0, w⟩ :: L) (Rect.unit (s := S1x144x2048) ![0, 128, 0] ![1, 1, 2048] inb_S1x144x2048_S1x1x2048_0_128_0).toLoadRect = weights w := fun w L => readCov_part arg11.view _ w L _
      simp only [e1, e2, readAt_full harg9, readAt_full harg11, readAt_part harg6, readAt_part harg7]; iexact H8
    isplitl [H9]; · iexact H9
    isplitl [H10]
    · rw [writes_full harg10, readAt_full harg9, readAt_part harg6]; iexact H10
    delta body_odd.sl.H11_1; rw [writes_full harg11]; simp only [readAt_full harg9, readAt_full harg11, readAt_part harg6, readAt_part harg7]; iexact H11
  · have ht : tile qt kx vx m a = slow qt kx vx (m, a) k0_t1_loop.trips := if_neg hf
    have hf1 := hf
    rw [← hraw inb_S8192x256_S512x256_7680_0] at hf1
    have hf2 := (not_of_xor _).2 hf1
    sl_exec (disch := first | sl_exact hf1 | sl_exact hf2 | sl_exact hc4)
    sl_step
    rw [ht]
    iapply Hk
    isplitl [H3]; · iexact H3
    isplitl [H4]; · iexact H4
    isplitl [H5]; · iexact H5
    isplitl [H6]; · iexact H6
    isplitl [H7]; · iexact H7
    isplitl [H8]
    · rw [writes_full harg8, readAt_part harg11, readAt_part harg11]; iexact H8
    isplitl [H9]; · iexact H9
    isplitl [H10]; · iexact H10
    iexact H11

set_option maxHeartbeats 1000000 in
/-- The body at the first point of a row: the running state starts from the context keys and takes in the tile. -/
theorem body_even (c : Dev nD) (E : Set ℕ) (i : grid0.Coords) (arg3 : Memref sig .tc .vmem S2048x256 .bf16) (harg3 : arg3.IsWhole) (arg4 : Memref sig .tc .vmem S256x256 .bf16) (harg4 : arg4.IsWhole) (arg5 : Memref sig .tc .vmem S128x256 .bf16) (harg5 : arg5.IsWhole) (arg6 : Memref sig .tc .vmem S8192x256 .bf16) (harg6 : arg6.IsWhole) (arg7 : Memref sig .tc .vmem S128x8192 .bf16) (harg7 : arg7.IsWhole) (arg8 : Memref sig .tc .vmem S2048x128 .bf16) (harg8 : arg8.IsWhole) (arg9 : Memref sig .tc .vmem S1x256x2048 .bf16) (harg9 : arg9.IsWhole) (arg10 : Memref sig .tc .vmem S1x1x2048 .f32) (harg10 : arg10.IsWhole) (arg11 : Memref sig .tc .vmem S1x144x2048 .f32) (harg11 : arg11.IsWhole) (hc0 : first i) (hc4 : ¬ k0_cond4 i = 1#1)
    (q : Vec F S2048x256 .bf16) (kc : Vec F S256x256 .bf16) (vc : Vec F S128x256 .bf16) (kx : Vec F S8192x256 .bf16) (vx : Vec F S128x8192 .bf16)
    (o : Vec F S2048x128 .bf16) (K : PUnit → sProp 𝕄) :
    (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread o) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread o) ∗ (arg9.view.loc (c : Thread nD τ) ↦[arg9.view.set]{fullShare} harg9.unread (k0_pay15 q)) ∗ (arg10.view.loc (c : Thread nD τ) ↦[arg10.view.set]{fullShare} harg10.unread (tile (k0_pay15 q) kx vx (pre q kc vc).1 (pre q kc vc).2).1) ∗ (arg11.view.loc (c : Thread nD τ) ↦[arg11.view.set]{fullShare} harg11.unread (tile (k0_pay15 q) kx vx (pre q kc vc).1 (pre q kc vc).2).2)) -∗ K ⟨⟩)) : sProp 𝕄)
      ⊢ wp frame (wpE (defs₀ (F := F)) Variants.none (c : Thread nD τ) none) E (cc0_mla_attention (F := F) i arg3 harg3 arg4 harg4 arg5 harg5 arg6 harg6 arg7 harg7 arg8 harg8 arg9 harg9 arg10 harg10 arg11 harg11) K := by
  simp only [cc0_mla_attention_eq_skeleton]
  have R := parts_run c E i arg3 harg3 arg4 harg4 arg5 harg5 arg6 harg6 arg7 harg7 arg8 harg8 arg9 harg9 arg10 harg10 arg11 harg11 (k0_pay15 q) kx vx (pre q kc vc).1
  suffices H : ∀ f9 f10 f11, iprop(((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) ∗ (arg8.view.loc (c : Thread nD τ) ↦[arg8.view.set]{fullShare} harg8.unread o) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread o) ∗ (arg9.view.loc (c : Thread nD τ) ↦[arg9.view.set]{fullShare} harg9.unread (k0_pay15 q)) ∗ (arg10.view.loc (c : Thread nD τ) ↦[arg10.view.set]{fullShare} harg10.unread (tile (k0_pay15 q) kx vx (pre q kc vc).1 (pre q kc vc).2).1) ∗ (arg11.view.loc (c : Thread nD τ) ↦[arg11.view.set]{fullShare} harg11.unread (tile (k0_pay15 q) kx vx (pre q kc vc).1 (pre q kc vc).2).2)) -∗ K ⟨⟩)) ⊢ wp frame (wpE (defs₀ (F := F)) Variants.none (c : Thread nD τ) none) E (cc0_mla_attention_skel (F := F) i arg3 harg3 arg4 harg4 arg5 harg5 arg6 harg6 arg7 harg7 arg8 harg8 arg9 harg9 arg10 harg10 arg11 harg11) K by
    iintro ⟨H3, H4, H5, H6, H7, H8, ⟨%f9, H9⟩, ⟨%f10, H10⟩, ⟨%f11, H11⟩, Hk⟩
    iapply (H f9 f10 f11)
    isplitl [H3 H4 H5 H6 H7 H9 H10 H11]
    · isplitl [H3]; · iexact H3
      isplitl [H4]; · iexact H4
      isplitl [H5]; · iexact H5
      isplitl [H6]; · iexact H6
      isplitl [H7]; · iexact H7
      isplitl [H9]; · iexact H9
      isplitl [H10]; · iexact H10
      iexact H11
    isplitl [H8]; · iexact H8
    iexact Hk
  intro f9 f10 f11
  unfold cc0_mla_attention_skel
  refine Runs.seq (part2_even c E i arg3 harg3 arg4 harg4 arg5 harg5 arg6 harg6 arg7 harg7 arg8 harg8 arg9 harg9 arg10 harg10 arg11 harg11 hc0 q kc vc kx vx f9 f10 f11) ?_
  refine (?_ : _ ⊢ _).trans (Runs.seq R.1 (Runs.seq R.2.1 (Runs.seq R.2.2.1 (Runs.seq R.2.2.2.1 (Runs.seq R.2.2.2.2.1 (Runs.seq R.2.2.2.2.2
    (X := iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg10.view.loc (c : Thread nD τ) ↦[arg10.view.set]{fullShare} harg10.unread (pre q kc vc).1) ∗ (arg11.view.loc (c : Thread nD τ) ↦[arg11.view.set]{fullShare} harg11.unread (pre q kc vc).2) ∗ (arg8.view.loc (c : Thread nD τ) ↦[arg8.view.set]{fullShare} harg8.unread o) ∗ (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread o) ∗ (arg9.view.loc (c : Thread nD τ) ↦[arg9.view.set]{fullShare} harg9.unread (k0_pay15 q)) ∗ (arg10.view.loc (c : Thread nD τ) ↦[arg10.view.set]{fullShare} harg10.unread (tile (k0_pay15 q) kx vx (pre q kc vc).1 (pre q kc vc).2).1) ∗ (arg11.view.loc (c : Thread nD τ) ↦[arg11.view.set]{fullShare} harg11.unread (tile (k0_pay15 q) kx vx (pre q kc vc).1 (pre q kc vc).2).2)) -∗ K ⟨⟩))) ?_))))))
  · iintro ⟨⟨H3, H4, H5, H6, H7, H9, H10, H11⟩, HX⟩
    isplitl [H6 H7 H9]
    · isplitl [H6]; · iexact H6
      isplitl [H7]; · iexact H7
      iexact H9
    isplitl [H3]; · iexact H3
    isplitl [H4]; · iexact H4
    isplitl [H5]; · iexact H5
    isplitl [H10]; · iexact H10
    isplitl [H11]; · iexact H11
    iexact HX
  iintro ⟨⟨H6, H7, H9⟩, H3, H4, H5, H10, H11, H8, Hk⟩
  have hraw : ∀ hh, (Scalar.cmpi .ne (Scalar.extui (Scalar.cmpf .ole (k0_pay3 (z4 (k0_pay15 q) kx vx (pre q kc vc).1) (z242 (k0_pay15 q) kx vx (pre q kc vc).1)
        (arg9.view.readAt (Elt F) (Rect.unit (s := S1x256x2048) ![0, 0, 0] S1x256x2048.size inb_S1x256x2048_S1x256x2048_0_0_0).toLoadRect (harg9.unread (k0_pay15 q)))
        (arg6.view.readAt (Elt F) (Rect.unit (s := S8192x256) ![7680, 0] S512x256.size hh).toLoadRect (harg6.unread kx))) (Scalar.ofBits .f32 0x42000000#32))) 0#32 = 1#1) = fastC (k0_pay15 q) kx vx (pre q kc vc).1 := by
    intro hh; rw [readAt_full harg9, readAt_part harg6]; rfl
  by_cases hf : fastC (k0_pay15 q) kx vx (pre q kc vc).1
  · have ht : tile (k0_pay15 q) kx vx (pre q kc vc).1 (pre q kc vc).2 = fast (k0_pay15 q) kx vx (pre q kc vc).1 (pre q kc vc).2 := if_pos hf
    have hf1 := hf
    rw [← hraw inb_S8192x256_S512x256_7680_0] at hf1
    have hf2 := (not_of_xor _).1 hf1
    sl_exec (disch := first | sl_exact hf1 | sl_exact hf2 | sl_exact hc4)
    sl_step
    rw [ht]
    iapply Hk
    isplitl [H3]; · iexact H3
    isplitl [H4]; · iexact H4
    isplitl [H5]; · iexact H5
    isplitl [H6]; · iexact H6
    isplitl [H7]; · iexact H7
    isplitl [H8]
    · iexact H8
    isplitl [H9]; · iexact H9
    isplitl [H10]
    · rw [writes_full harg10, readAt_full harg9, readAt_part harg6]; iexact H10
    rw [writes_full harg11]; simp only [readAt_full harg9, readAt_full harg11, readAt_part harg6, readAt_part harg7]; iexact H11
  · have ht : tile (k0_pay15 q) kx vx (pre q kc vc).1 (pre q kc vc).2 = slow (k0_pay15 q) kx vx ((pre q kc vc).1, (pre q kc vc).2) k0_t1_loop.trips := if_neg hf
    have hf1 := hf
    rw [← hraw inb_S8192x256_S512x256_7680_0] at hf1
    have hf2 := (not_of_xor _).2 hf1
    sl_exec (disch := first | sl_exact hf1 | sl_exact hf2 | sl_exact hc4)
    sl_step
    rw [ht]
    iapply Hk
    isplitl [H3]; · iexact H3
    isplitl [H4]; · iexact H4
    isplitl [H5]; · iexact H5
    isplitl [H6]; · iexact H6
    isplitl [H7]; · iexact H7
    isplitl [H8]
    · iexact H8
    isplitl [H9]; · iexact H9
    isplitl [H10]; · iexact H10
    iexact H11

end Cert.KernelIdeal.Mla
end
end
-- ==== Proof.Chunk.lean ====
module

public import proofs.«01_k».proof.Proof.Math
public import proofs.«01_k».proof.Proof.Body2
public import Idealize.ShloMosaic.Lib.Pointwise

/-! What the attention kernel's vector expressions are at an index, over the reals: the scores of a
chunk of keys, their maximum, and their weighted sum of values. -/

@[expose] public section

set_option maxRecDepth 16384

noncomputable section

namespace Cert.KernelIdeal.Mla

open Idealize.ShloMosaic Idealize.ShloMosaic.Tactic
open Cert.KernelIdeal.Gen
open Idealize.ShloMosaic.View (ld)

/-- The scores of a chunk of keys. -/
abbrev sc (qt : Vec Ideal S1x256x2048 .bf16) (K : Vec Ideal S512x256 .bf16) : FVec Ideal S512x2048 .f32 := k0_pay7 qt K
/-- The largest score of a chunk. -/
abbrev mx (qt : Vec Ideal S1x256x2048 .bf16) (K : Vec Ideal S512x256 .bf16) : FVec Ideal S1x2048 .f32 := k0_pay25 qt K
/-- A chunk's weighted values at the pivots `M`, with its weights in the rows from 128 on. -/
def pv (M : FVec Ideal S1x2048 .f32) (X : FVec Ideal S512x2048 .f32) (V : Vec Ideal S128x512 .bf16) : FVec Ideal S144x2048 .f32 :=
  matmul dot_S144x512_S512x2048_S144x2048_1_0_0_1_n_n none
    (concatenate S144x512 0 [⟨S128x512, V⟩, ⟨S16x512, broadcast S16x512 (Scalar.ofBits .bf16 0x3F80#16 : Ideal .bf16)⟩] concatenates_S128x512_S16x512_S144x512_d0)
    (truncf .bf16 (exp2 (subf X (broadcastTo S512x2048 M broadcasts_S1x2048_S512x2048))) bitsLt_bf16_f32)
    (constant S144x2048 .f32 0x00000000#32)

theorem sc_at (qt : Vec Ideal S1x256x2048 .bf16) (K : Vec Ideal S512x256 .bf16) (i : Fin 512) (j : Fin 2048) :
    sc qt K (ix2 i j) = ∑ d : Fin 256, K (ix2 i d) * qt (ix3 0 d j) := by
  pointwise! [k0_pay7]

theorem mx_at (qt : Vec Ideal S1x256x2048 .bf16) (K : Vec Ideal S512x256 .bf16) (j : Fin 2048) :
    mx qt K (ix2 0 j) = (Finset.univ : Finset (Fin 512)).fold max ⊥ (fun i => sc qt K (ix2 i j)) := by
  pointwise! [k0_pay25, k0_pay24, k0_pay7]

theorem pv_at (M : FVec Ideal S1x2048 .f32) (X : FVec Ideal S512x2048 .f32) (V : Vec Ideal S128x512 .bf16) (r : Fin 144) (j : Fin 2048) :
    pv M X V (ix2 r j) = ∑ i : Fin 512, (if h : r.val < 128 then V (ix2 ⟨r.val, h⟩ i) else 1) * Ideal.exp2 (X (ix2 i j) - M (ix2 0 j)) := by
  pointwise! [pv]

end Cert.KernelIdeal.Mla
-- ==== Proof.Expr.lean ====
module

public import proofs.«01_k».proof.Proof.Chunk
public import Idealize.ShloMosaic.Lib.Pipeline.ValueKit

/-! One tile of keys folded into the running sums, in either branch: the pivots stay real and the sums
become those over the keys before the tile and in it. -/

@[expose] public section

set_option maxRecDepth 16384

noncomputable section

namespace Cert.KernelIdeal.Mla

open Idealize.ShloMosaic Idealize.ShloMosaic.Tactic
open Cert.KernelIdeal.Gen
open Idealize.ShloMosaic.View (ld)
open _root_.Mla.Math

/-- The chunk of 512 keys `K` with values `V` is the stream's keys from `n` on, seen by query column `j`. -/
structure Ch (qt : Vec Ideal S1x256x2048 .bf16) (j : Fin 2048) (s : ℕ → ℝ) (v : Fin 144 → ℕ → EReal)
    (n : ℕ) (K : Vec Ideal S512x256 .bf16) (V : Vec Ideal S128x512 .bf16) : Prop where
  score : ∀ i : Fin 512, sc qt K (ix2 i j) = (s (n + i) : EReal)
  val : ∀ (r : Fin 144) (i : Fin 512), (if h : r.val < 128 then V (ix2 ⟨r.val, h⟩ i) else 1) = v r (n + i)

/-- The resident tile of 8192 keys is the stream's keys from `n` on, seen by query column `j`. -/
structure Tl (qt : Vec Ideal S1x256x2048 .bf16) (j : Fin 2048) (s : ℕ → ℝ) (v : Fin 144 → ℕ → EReal)
    (n : ℕ) (kx : Vec Ideal S8192x256 .bf16) (vx : Vec Ideal S128x8192 .bf16) : Prop where
  score : ∀ i : Fin 8192, ∑ d : Fin 256, kx (ix2 i d) * qt (ix3 0 d j) = (s (n + i) : EReal)
  val : ∀ (r : Fin 144) (i : Fin 8192), (if h : r.val < 128 then vx (ix2 ⟨r.val, h⟩ i) else 1) = v r (n + i)

section
variable {qt : Vec Ideal S1x256x2048 .bf16} {j : Fin 2048} {s : ℕ → ℝ} {v : Fin 144 → ℕ → EReal} {n : ℕ}

theorem Ch.max_lt {K V} (h : Ch qt j s v n K V) : mx qt K (ix2 0 j) < ⊤ := by
  rw [mx_at]
  refine fold_max_lt _ fun k => ?_
  rw [h.score]; exact EReal.coe_lt_top _

theorem Ch.sum {K V} (h : Ch qt j s v n K V) (M : FVec Ideal S1x2048 .f32) (a : ℝ) (hM : M (ix2 0 j) = (a : EReal)) (r : Fin 144) :
    pv M (sc qt K) V (ix2 r j) = ∑ i : Fin 512, v r (n + i) * wt (s (n + i)) a := by
  rw [pv_at]
  refine Finset.sum_congr rfl fun i _ => ?_
  rw [h.val, h.score, hM, exp2_sub]

/-- A chunk of the tile, loaded from `o` keys on. -/
theorem Tl.chunk {kx vx} (h : Tl qt j s v n kx vx) (o n' : ℕ) (ho : o + 512 ≤ 8192) (hn : n' = n + o)
    (f : Fin 2 → ℕ) (hf : f = ![o, 0]) (inb) (g : Fin 2 → ℕ) (hg : g = ![0, o]) (inb') :
    Ch qt j s v n' (ld kx (Rect.unit (s := S8192x256) f S512x256.size inb)) (ld vx (Rect.unit (s := S128x8192) g S128x512.size inb')) := by
  subst hf hg hn
  constructor
  · intro i
    rw [sc_at]
    have := h.score ⟨o + i, by omega⟩
    rw [Nat.add_assoc]
    rw [← this]
    refine Finset.sum_congr rfl fun d _ => congrArg (· * _) (View.ld_unit_apply_of _ _ _ _ _ (ix2 ⟨o + i, by omega⟩ d) fun a => ?_)
    fin_cases a
    · rfl
    · exact (Nat.zero_add _).symm
  · intro r i
    have := h.val r ⟨o + i, by omega⟩
    rw [Nat.add_assoc]
    rw [← this]
    split
    · rename_i hr
      refine View.ld_unit_apply_of _ _ _ _ _ (ix2 ⟨r.val, hr⟩ ⟨o + i, by omega⟩) fun a => ?_
      fin_cases a
      · exact (Nat.zero_add _).symm
      · rfl
    · rfl
end

/-! ### The vector expressions of a tile -/

theorem z4_at (qt kx vx) (m : Vec Ideal S1x1x2048 .f32) (j : Fin 2048) : z4 qt kx vx m (ix2 0 j) = m (ix3 0 0 j) := by
  pointwise! [z4, k0_pay23]

/-- `f 0`, then `f 1` to `f n`, joined from the left. -/
def chain {α : Type} (op : α → α → α) (f : ℕ → α) : ℕ → α
  | 0 => f 0
  | n + 1 => op (chain op f n) (f (n + 1))

/-- The first fifteen chunks' weighted values are added up from the left. -/
theorem z241_eq (qt : Vec Ideal S1x256x2048 .bf16) (kx : Vec Ideal S8192x256 .bf16) (vx : Vec Ideal S128x8192 .bf16) (m : Vec Ideal S1x1x2048 .f32) :
    z241 qt kx vx m = chain addf (fun c => pv (z4 qt kx vx m) (sc qt (keys c kx)) (vals c vx)) 14 := rfl

/-- The first fifteen chunks' maxima are joined from the left. -/
theorem z242_eq (qt : Vec Ideal S1x256x2048 .bf16) (kx : Vec Ideal S8192x256 .bf16) (vx : Vec Ideal S128x8192 .bf16) (m : Vec Ideal S1x1x2048 .f32) :
    z242 qt kx vx m = chain maximumf (fun c => mx qt (keys c kx)) 14 := rfl

theorem chain_addf_at {S : Shape} (f : ℕ → FVec Ideal S .f32) (n : ℕ) (i : S.Idx) : chain addf f n i = ∑ c ∈ Finset.range (n + 1), f c i := by
  induction n with
  | zero => rw [Finset.sum_range_one]; rfl
  | succ n ih => rw [Finset.sum_range_succ, ← ih]; rfl

theorem chain_maximumf_lt {S : Shape} (f : ℕ → FVec Ideal S .f32) (n : ℕ) (i : S.Idx) (h : ∀ c ≤ n, f c i < ⊤) : chain maximumf f n i < ⊤ := by
  induction n with
  | zero => exact h 0 le_rfl
  | succ n ih => exact max_lt (ih fun c hc => h c (by omega)) (h _ le_rfl)

theorem pay6_at (v4 v242 : FVec Ideal S1x2048 .f32) (qt : Vec Ideal S1x256x2048 .bf16) (K : Vec Ideal S512x256 .bf16) (j : Fin 2048) :
    k0_pay6 v4 v242 qt K (ix3 0 0 j) = max (v4 (ix2 0 j)) (max (v242 (ix2 0 j)) (mx qt K (ix2 0 j))) := by
  have e : k0_pay6 v4 v242 qt K = shapeCast S1x1x2048 (maximumf v4 (maximumf v242 (mx qt K))) shapeCasts_S1x2048_S1x1x2048 := rfl
  rw [e]; generalize mx qt K = X
  pointwise!

theorem pay5_at (v4 v242 : FVec Ideal S1x2048 .f32) (v241 : FVec Ideal S144x2048 .f32) (qt : Vec Ideal S1x256x2048 .bf16) (K : Vec Ideal S512x256 .bf16)
    (V : Vec Ideal S128x512 .bf16) (a : Vec Ideal S1x144x2048 .f32) (r : Fin 144) (j : Fin 2048) :
    k0_pay5 v4 v241 v242 qt K V a (ix3 0 r j)
      = (a (ix3 0 r j) + (v241 (ix2 r j) + pv v4 (sc qt K) V (ix2 r j))) * Ideal.exp2 (v4 (ix2 0 j) - max (v4 (ix2 0 j)) (max (v242 (ix2 0 j)) (mx qt K (ix2 0 j)))) := by
  have e : k0_pay5 v4 v241 v242 qt K V a = shapeCast S1x144x2048 (mulf (addf (shapeCast S144x2048 a shapeCasts_S1x144x2048_S144x2048) (addf v241 (pv v4 (sc qt K) V)))
    (broadcastTo S144x2048 (exp2 (subf v4 (maximumf v4 (maximumf v242 (mx qt K))))) broadcasts_S1x2048_S144x2048)) shapeCasts_S144x2048_S1x144x2048 := rfl
  rw [e]; generalize mx qt K = X; generalize pv v4 (sc qt K) V = Y
  pointwise!

theorem pay11_at (qt : Vec Ideal S1x256x2048 .bf16) (K : Vec Ideal S512x256 .bf16) (m : Vec Ideal S1x1x2048 .f32) (j : Fin 2048) :
    k0_pay11 qt K m (ix3 0 0 j) = max (m (ix3 0 0 j)) (mx qt K (ix2 0 j)) := by
  have e : k0_pay11 qt K m = shapeCast S1x1x2048 (maximumf (k0_pay8 m) (mx qt K)) shapeCasts_S1x2048_S1x1x2048 := rfl
  rw [e]; generalize mx qt K = X
  pointwise! [k0_pay8]

theorem pay9_at (qt : Vec Ideal S1x256x2048 .bf16) (K : Vec Ideal S512x256 .bf16) (m : Vec Ideal S1x1x2048 .f32) (j : Fin 2048) :
    k0_pay9 qt K m (ix2 0 j) = max (m (ix3 0 0 j)) (mx qt K (ix2 0 j)) := by
  have e : k0_pay9 qt K m = maximumf (k0_pay8 m) (mx qt K) := rfl
  rw [e]; generalize mx qt K = X
  pointwise! [k0_pay8]

theorem pay10_at (qt : Vec Ideal S1x256x2048 .bf16) (K : Vec Ideal S512x256 .bf16)
    (V : Vec Ideal S128x512 .bf16) (m : Vec Ideal S1x1x2048 .f32) (a : Vec Ideal S1x144x2048 .f32) (r : Fin 144) (j : Fin 2048) :
    k0_pay10 qt K V m a (ix3 0 r j)
      = Ideal.exp2 (m (ix3 0 0 j) - k0_pay9 qt K m (ix2 0 j)) * a (ix3 0 r j) + pv (k0_pay9 qt K m) (sc qt K) V (ix2 r j) := by
  have e : k0_pay10 qt K V m a = shapeCast S1x144x2048 (addf (mulf (broadcastTo S144x2048 (exp2 (subf (k0_pay8 m) (k0_pay9 qt K m))) broadcasts_S1x2048_S144x2048)
    (shapeCast S144x2048 a shapeCasts_S1x144x2048_S144x2048)) (pv (k0_pay9 qt K m) (sc qt K) V)) shapeCasts_S144x2048_S1x144x2048 := rfl
  rw [e]; generalize pv (k0_pay9 qt K m) (sc qt K) V = Y; generalize k0_pay9 qt K m = X
  pointwise! [k0_pay8]

end Cert.KernelIdeal.Mla
-- ==== Proof.Tile.lean ====
module

public import proofs.«01_k».proof.Proof.Expr
public import Idealize.ShloMosaic.Lib.Pipeline.ValueKit

/-! One tile of keys folded into the running sums, in either branch: the pivots stay real and the sums
become those over the keys before the tile and in it. -/

@[expose] public section

set_option maxRecDepth 16384

noncomputable section

namespace Cert.KernelIdeal.Mla

open Idealize.ShloMosaic Idealize.ShloMosaic.Tactic
open Cert.KernelIdeal.Gen
open Idealize.ShloMosaic.View (ld)
open _root_.Mla.Math

/-! ### The state after a set of keys -/

/-- The state `(m, a)` at query column `j` after the stream's first `n` keys: a real pivot and the sums at it. -/
def Inv (j : Fin 2048) (s : ℕ → ℝ) (v : Fin 144 → ℕ → EReal) (n : ℕ) (st : Vec Ideal S1x1x2048 .f32 × Vec Ideal S1x144x2048 .f32) : Prop :=
  ∃ a : ℝ, st.1 (ix3 0 0 j) = (a : EReal) ∧ ∀ r : Fin 144, st.2 (ix3 0 r j) = W s (v r) n a

theorem max_real {x : EReal} (a : ℝ) (h : x < ⊤) : ∃ b : ℝ, max (a : EReal) x = (b : EReal) :=
  real_of (lt_max_of_lt_left (EReal.bot_lt_coe a)) (max_lt (EReal.coe_lt_top a) h)

section
variable {qt : Vec Ideal S1x256x2048 .bf16} {j : Fin 2048} {s : ℕ → ℝ} {v : Fin 144 → ℕ → EReal} {n : ℕ}

theorem slowStep_inv {K V st} (h : Ch qt j s v n K V) (hi : Inv j s v n st) : Inv j s v (n + 512) (slowStep qt K V st) := by
  obtain ⟨a, hm, hs⟩ := hi
  obtain ⟨b, hb⟩ := max_real a h.max_lt
  refine ⟨b, (pay11_at _ _ _ _).trans (by rw [hm, hb]), fun r => (pay10_at _ _ _ _ _ _ _).trans ?_⟩
  have h9 : k0_pay9 qt K st.1 (ix2 0 j) = (b : EReal) := by rw [pay9_at, hm, hb]
  rw [h.sum _ b h9, h9, hm, exp2_sub, hs, W_shift, W_add]

theorem trips_eq : k0_t1_loop.trips = 16 := by decide +kernel

theorem slow_inv {kx vx st} (h : Tl qt j s v n kx vx) (hi : Inv j s v n st) :
    ∀ k, k ≤ 16 → Inv j s v (n + 512 * k) (slow qt kx vx st k) := by
  intro k
  induction k with
  | zero => exact fun _ => hi
  | succ k ih =>
    intro hk
    have hlt : k < k0_t1_loop.trips := by rw [trips_eq]; omega
    rw [slow_succ qt kx vx st ⟨k, hlt⟩, show n + 512 * (k + 1) = n + 512 * k + 512 by ring]
    exact slowStep_inv (h.chunk (512 * k) _ (by omega) rfl _ (k0_off1_eq ⟨k, hlt⟩) _ _ (k0_off2_eq ⟨k, hlt⟩) _) (ih (by omega))

theorem Ch.step {K V} (h : Ch qt j s v n K V) (M : FVec Ideal S1x2048 .f32) (a : ℝ) (hM : M (ix2 0 j) = (a : EReal)) (r : Fin 144) (n' : ℕ) (hn : n' = n + 512) :
    W s (v r) n a + pv M (sc qt K) V (ix2 r j) = W s (v r) n' a := by
  subst hn; rw [h.sum M a hM, W_add]

/-- Chunk `c` of the tile's sixteen. -/
theorem Tl.part {kx vx} (h : Tl qt j s v n kx vx) (c : ℕ) (hc : c < 16) : Ch qt j s v (n + 512 * c) (keys c kx) (vals c vx) :=
  h.chunk (512 * c) _ (by omega) rfl _ (by rw [Nat.mod_eq_of_lt hc]) _ _ (by rw [Nat.mod_eq_of_lt hc]) _

theorem z242_lt {kx vx m} (h : Tl qt j s v n kx vx) : z242 qt kx vx m (ix2 0 j) < ⊤ := by
  rw [z242_eq]
  exact chain_maximumf_lt _ _ _ fun c hc => (h.part c (by omega)).max_lt

/-- The first `N` chunks' weighted values complete the running sum by their keys. -/
theorem sum_parts {kx vx} (h : Tl qt j s v n kx vx) (M : FVec Ideal S1x2048 .f32) (a : ℝ) (hM : M (ix2 0 j) = (a : EReal)) (r : Fin 144) :
    ∀ N ≤ 16, W s (v r) n a + ∑ c ∈ Finset.range N, pv M (sc qt (keys c kx)) (vals c vx) (ix2 r j) = W s (v r) (n + 512 * N) a := by
  intro N
  induction N with
  | zero => intro _; rw [Finset.sum_range_zero, add_zero]; rfl
  | succ N ih =>
    intro hN
    rw [Finset.sum_range_succ, ← add_assoc, ih (by omega)]
    exact (h.part N (by omega)).step M a hM r _ (by omega)

theorem z241_sum {kx vx m} (h : Tl qt j s v n kx vx) (a : ℝ) (hM : z4 qt kx vx m (ix2 0 j) = (a : EReal)) (r : Fin 144) :
    W s (v r) n a + (z241 qt kx vx m (ix2 r j) + pv (z4 qt kx vx m) (sc qt (keys 15 kx)) (vals 15 vx) (ix2 r j)) = W s (v r) (n + 8192) a := by
  rw [z241_eq, chain_addf_at, ← Finset.sum_range_succ (fun c => pv (z4 qt kx vx m) (sc qt (keys c kx)) (vals c vx) (ix2 r j))]
  exact sum_parts h _ a hM r 16 le_rfl

theorem fast_inv {kx vx st} (h : Tl qt j s v n kx vx) (hi : Inv j s v n st) : Inv j s v (n + 8192) (fast qt kx vx st.1 st.2) := by
  obtain ⟨a, hm, hs⟩ := hi
  have h4 : z4 qt kx vx st.1 (ix2 0 j) = (a : EReal) := (z4_at _ _ _ _ _).trans hm
  have c15 := h.part 15 (by decide)
  obtain ⟨b, hb⟩ := max_real a (max_lt (z242_lt (m := st.1) h) c15.max_lt)
  refine ⟨b, (pay6_at _ _ _ _ _).trans (by rw [h4, hb]), fun r => (pay5_at _ _ _ _ _ _ _ _ _).trans ?_⟩
  rw [h4, hb, exp2_sub, hs, z241_sum h a h4, mul_comm, W_shift]

theorem tile_inv {kx vx st} (h : Tl qt j s v n kx vx) (hi : Inv j s v n st) : Inv j s v (n + 8192) (tile qt kx vx st.1 st.2) := by
  unfold tile
  split
  · exact fast_inv h hi
  · have := slow_inv h hi 16 le_rfl
    rw [trips_eq]; exact this
end

/-! ### The context keys and the output block -/

theorem pay15_at (q : Vec Ideal S2048x256 .bf16) (d : Fin 256) (j : Fin 2048) : k0_pay15 q (ix3 0 d j) = q (ix2 j d) := by
  pointwise! [k0_pay15]

theorem pay16_at (qt : Vec Ideal S1x256x2048 .bf16) (K : Vec Ideal S256x256 .bf16) (i : Fin 256) (j : Fin 2048) :
    k0_pay16 qt K (ix2 i j) = ∑ d : Fin 256, K (ix2 i d) * qt (ix3 0 d j) := by
  pointwise! [k0_pay16]

theorem pay18_at (qt : Vec Ideal S1x256x2048 .bf16) (K : Vec Ideal S256x256 .bf16) (j : Fin 2048) :
    k0_pay18 qt K (k0_pay13 (F := Ideal)) (ix2 0 j) = (Finset.univ : Finset (Fin 256)).fold max ⊥ (fun i => k0_pay16 qt K (ix2 i j)) := by
  pointwise! [k0_pay18, k0_pay17, k0_pay13]
  have e : Ideal.ofBits .f32 0xFF800000#32 = ⊥ := by first | exact Ideal.ofBits_f32_negInf | (unfold Ideal.ofBits Ideal.ieee; simp; try decide)
  rw [e]; exact max_eq_right bot_le

theorem pay22_at (M : FVec Ideal S1x2048 .f32) (j : Fin 2048) : k0_pay22 M (ix3 0 0 j) = M (ix2 0 j) := by
  pointwise! [k0_pay22]

theorem pay21_at (X : FVec Ideal S256x2048 .f32) (V : Vec Ideal S128x256 .bf16) (M N : FVec Ideal S1x2048 .f32) (r : Fin 144) (j : Fin 2048) :
    k0_pay21 X V M N (k0_pay20 (k0_pay14 (F := Ideal))) (ix3 0 r j)
      = ∑ i : Fin 256, (if h : r.val < 128 then V (ix2 ⟨r.val, h⟩ i) else 1) * Ideal.exp2 (X (ix2 i j) - M (ix2 0 j)) := by
  pointwise! [k0_pay21, k0_pay20, k0_pay14]
  rw [mul_zero, zero_add]; rfl

/-- The context's 256 keys are the stream's first, seen by query column `j`. -/
structure Cx (q : Vec Ideal S2048x256 .bf16) (j : Fin 2048) (s : ℕ → ℝ) (v : Fin 144 → ℕ → EReal)
    (kc : Vec Ideal S256x256 .bf16) (vc : Vec Ideal S128x256 .bf16) : Prop where
  score : ∀ i : Fin 256, ∑ d : Fin 256, kc (ix2 i d) * q (ix2 j d) = (s i : EReal)
  val : ∀ (r : Fin 144) (i : Fin 256), (if h : r.val < 128 then vc (ix2 ⟨r.val, h⟩ i) else 1) = v r i

theorem pre_inv {q : Vec Ideal S2048x256 .bf16} {j : Fin 2048} {s : ℕ → ℝ} {v : Fin 144 → ℕ → EReal} {kc vc}
    (h : Cx q j s v kc vc) : Inv j s v 256 (pre q kc vc) := by
  have hx : ∀ i : Fin 256, k0_pay16 (k0_pay15 q) kc (ix2 i j) = (s i : EReal) := fun i => by
    rw [pay16_at, ← h.score]
    exact Finset.sum_congr rfl fun d _ => by rw [pay15_at]
  obtain ⟨a, ha⟩ : ∃ a : ℝ, k0_pay18 (k0_pay15 q) kc (k0_pay13 (F := Ideal)) (ix2 0 j) = (a : EReal) := by
    rw [pay18_at]
    refine real_of (bot_lt_fold_max _ 0 ?_) (fold_max_lt _ fun i => ?_)
    · rw [hx]; exact EReal.bot_lt_coe _
    · rw [hx]; exact EReal.coe_lt_top _
  have e1 : (pre q kc vc).1 = k0_pay22 (k0_pay18 (k0_pay15 q) kc (k0_pay13 (F := Ideal))) := rfl
  have e2 : (pre q kc vc).2 = k0_pay21 (k0_pay16 (k0_pay15 q) kc) vc (k0_pay18 (k0_pay15 q) kc (k0_pay13 (F := Ideal))) (k0_pay19 (k0_pay15 q) kc (k0_pay13 (F := Ideal))) (k0_pay20 (k0_pay14 (F := Ideal))) := rfl
  unfold Inv
  rw [e1, e2]
  generalize k0_pay19 (k0_pay15 q) kc (k0_pay13 (F := Ideal)) = N
  generalize k0_pay18 (k0_pay15 q) kc (k0_pay13 (F := Ideal)) = M at ha ⊢
  generalize k0_pay16 (k0_pay15 q) kc = X at hx ⊢
  refine ⟨a, by rw [pay22_at]; exact ha, fun r => ?_⟩
  rw [pay21_at]
  have := W_add s (v r) 0 256 a
  simp only [Nat.zero_add, W_zero, zero_add] at this
  rw [this]
  refine Finset.sum_congr rfl fun i _ => ?_
  rw [h.val, hx, ha, exp2_sub]

theorem pay12_at (x : Vec Ideal S1x128x2048 .f32) (w : Vec Ideal S1x1x2048 .f32) (i : Fin 2048) (d : Fin 128) :
    k0_pay12 x w (ix2 i d) = Ideal.div (x (ix3 0 d i)) (w (ix3 0 0 i)) := by
  pointwise! [k0_pay12]

/-- The row that holds the totals of the weights. -/
def rowW : Fin 144 := ⟨128, by omega⟩

theorem outB_at (a : Vec Ideal S1x144x2048 .f32) (i : Fin 2048) (d : Fin 128) :
    outB a (ix2 i d) = Ideal.div (a (ix3 0 ⟨d.val, by omega⟩ i)) (a (ix3 0 rowW i)) := by
  refine (pay12_at _ _ i d).trans (congrArg₂ Ideal.div ?_ ?_)
  · exact View.ld_unit_apply_of _ _ _ _ _ (ix3 0 ⟨d.val, by omega⟩ i) fun b => by fin_cases b <;> exact (Nat.zero_add _).symm
  · refine View.ld_unit_apply_of _ _ _ _ _ (ix3 0 rowW i) fun b => ?_
    fin_cases b
    · rfl
    · rfl
    · exact (Nat.zero_add _).symm

end Cert.KernelIdeal.Mla
-- ==== Proof.Launch.lean ====
module

public import proofs.«01_k».proof.Proof.Gen.KernelIdeal.Frame
public import proofs.«01_k».proof.Proof.Gen.KernelIdeal.Skeleton
public import Idealize.ShloMosaic.Lib.VecWindow
public import proofs.«01_k».proof.Proof.Body2
public import Idealize.ShloMosaic.Lib.Claim

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.View (ld)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole staging buffer held at `x` is its points-to at `x` written out. -/
theorem owns_whole_iff {S : Shape} {e : EltTy} {M : Memref sig .tc .vmem S e} (h : M.IsWhole) (c : Dev nD) (x : Vec F S e) :
    (owns (c : Thread nD τ) M fullShare x : sProp 𝕄) ⊢ (M.view.loc (c : Thread nD τ) ↦[M.view.set]{fullShare} h.unread x) := by
  unfold owns
  iintro ⟨%f, %hf, H⟩
  obtain rfl := h.eq_unread hf
  iexact H

theorem owns_of_unread {S : Shape} {e : EltTy} {M : Memref sig .tc .vmem S e} (h : M.IsWhole) (c : Dev nD) (x : Vec F S e) :
    ((M.view.loc (c : Thread nD τ) ↦[M.view.set]{fullShare} h.unread x) : sProp 𝕄) ⊢ owns (c : Thread nD τ) M fullShare x := by
  unfold owns
  iintro H
  iexists _
  isplitr
  · ipureintro; exact h.read_unread _
  iexact H

theorem owns_any {S : Shape} {e : EltTy} {M : Memref sig .tc .vmem S e} (h : M.IsWhole) (c : Dev nD) (x : Vec F S e) :
    (owns (c : Thread nD τ) M fullShare x : sProp 𝕄) ⊢ iprop(∃ f, M.view.loc (c : Thread nD τ) ↦[M.view.set]{fullShare} f) := by
  unfold owns
  iintro ⟨%f, %hf, H⟩
  iexists _
  iexact H

abbrev sc0 : Memref sig .tc .vmem S1x256x2048 .bf16 := Memref.whole cc0_scratch0
abbrev sc1 : Memref sig .tc .vmem S1x1x2048 .f32 := Memref.whole cc0_scratch1
abbrev sc2 : Memref sig .tc .vmem S1x144x2048 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The first key tile of a row sits at the even points. -/
theorem first_iff : ∀ t : Fin cfg0.N, first (grid0.coords t) ↔ t.val % 2 = 0 :=
  (fun t => by
    have ht : t.val < 64 := Nat.lt_of_lt_of_eq t.isLt N_0
    have e2 : (grid0.coords t 2).val = t.val / 1 % 2 := Pipeline.Grid.coords_val t 2 (by decide) rfl
    simp only [first, e2]
    word_cmp
   : ∀ t : Fin grid0.N, first (grid0.coords t) ↔ t.val % 2 = 0)

/-- The result block is stored at the odd points. -/
theorem last_iff : ∀ t : Fin cfg0.N, k0_cond4 (grid0.coords t) = 1#1 ↔ t.val % 2 = 1 :=
  (fun t => by
    have ht : t.val < 64 := Nat.lt_of_lt_of_eq t.isLt N_0
    have e2 : (grid0.coords t 2).val = t.val / 1 % 2 := Pipeline.Grid.coords_val t 2 (by decide) rfl
    simp only [k0_cond4, e2]
    word_cmp
   : ∀ t : Fin grid0.N, k0_cond4 (grid0.coords t) = 1#1 ↔ t.val % 2 = 1)

/-- The five argument windows are in use at every point. -/
theorem live : ∀ (w : Fin cfg0.W) (t : Fin cfg0.N), w.val < 5 → cfg0.idle w (grid0.coords t) = false :=
  (by decide +kernel : ∀ (w : Fin cfg0.W) (t : Fin grid0.N), w.val < 5 → cfg0.idle w (grid0.coords t) = false)
theorem live_5 : ∀ t : Fin cfg0.N, t.val % 2 = 1 → cfg0.idle 5 (grid0.coords t) = false :=
  (by decide +kernel : ∀ t : Fin grid0.N, t.val % 2 = 1 → cfg0.idle 5 (grid0.coords t) = false)
theorem idle_5 : ∀ t : Fin cfg0.N, t.val % 2 = 0 → cfg0.idle 5 (grid0.coords t) = true :=
  (by decide +kernel : ∀ t : Fin grid0.N, t.val % 2 = 0 → cfg0.idle 5 (grid0.coords t) = true)
theorem noFlush_5 (t : Fin cfg0.N) (h : t.val % 2 = 0) : (cfg0.win 5).flush t = false := by
  have := flush0_5 t
  cases hf : (cfg0.win 5).flush t
  · rfl
  · rw [hf] at this; have := this.1 rfl; omega

/-- What the scratch buffers hold after a first point of a row, and after a later one. -/
def evenSt (c : Dev nD) (t : Fin cfg0.N) : Vec F S1x256x2048 .bf16 × (Vec F S1x1x2048 .f32 × Vec F S1x144x2048 .f32) :=
  (k0_pay15 (iblk m c 0 t),
    tile (k0_pay15 (iblk m c 0 t)) (iblk m c 3 t) (iblk m c 4 t)
      (pre (iblk m c 0 t) (iblk m c 1 t) (iblk m c 2 t)).1 (pre (iblk m c 0 t) (iblk m c 1 t) (iblk m c 2 t)).2)

def oddSt (c : Dev nD) (t : Fin cfg0.N) (s : Vec F S1x256x2048 .bf16 × (Vec F S1x1x2048 .f32 × Vec F S1x144x2048 .f32)) :
    Vec F S1x256x2048 .bf16 × (Vec F S1x1x2048 .f32 × Vec F S1x144x2048 .f32) :=
  (s.1, tile s.1 (iblk m c 3 t) (iblk m c 4 t) s.2.1 s.2.2)

/-- The scratch buffers after each point. -/
def stAt (c : Dev nD) : (n : ℕ) → n < cfg0.N → Vec F S1x256x2048 .bf16 × (Vec F S1x1x2048 .f32 × Vec F S1x144x2048 .f32)
  | 0, hn => evenSt m c ⟨0, hn⟩
  | n + 1, hn => if (n + 1) % 2 = 0 then evenSt m c ⟨n + 1, hn⟩ else oddSt m c ⟨n + 1, hn⟩ (stAt c n (Nat.lt_of_succ_lt hn))

theorem stAt_even (c : Dev nD) (t : Fin cfg0.N) (h : t.val % 2 = 0) : stAt m c t.val t.isLt = evenSt m c t := by
  obtain ⟨n, hn⟩ := t
  cases n with
  | zero => rfl
  | succ n => exact if_pos h

theorem stAt_odd (c : Dev nD) (n : ℕ) (hn : n + 1 < cfg0.N) (h : (n + 1) % 2 = 1) :
    stAt m c (n + 1) hn = oddSt m c ⟨n + 1, hn⟩ (stAt m c n (Nat.lt_of_succ_lt hn)) := if_neg (by omega)

def heldAt (c : Dev nD) (s : Vec F S1x256x2048 .bf16 × (Vec F S1x1x2048 .f32 × Vec F S1x144x2048 .f32)) : sProp 𝕄 :=
  iprop(iprop(owns (c : Thread nD τ) sc0 fullShare s.1 ∗ owns (c : Thread nD τ) sc1 fullShare s.2.1 ∗ owns (c : Thread nD τ) sc2 fullShare s.2.2) ∗ (∃ r, prngReg c r))

theorem heldAt_any (c : Dev nD) (s : Vec F S1x256x2048 .bf16 × (Vec F S1x1x2048 .f32 × Vec F S1x144x2048 .f32)) :
    heldAt c s ⊢ (Pipeline.ΦA spec0 c : sProp 𝕄) := by
  rw [PhiA_eq]; unfold heldAt
  iintro ⟨⟨H0, H1, H2⟩, Hg⟩
  isplitl [H0 H1 H2]
  · isplitl [H0]
    · iexists _; iexact H0
    isplitl [H1]
    · iexists _; iexact H1
    iexists _; iexact H2
  iexact Hg

/-- The invariant between points. -/
def PhiS (c : Dev nD) : (n : ℕ) → n ≤ cfg0.N → sProp 𝕄
  | 0, _ => Pipeline.ΦA spec0 c
  | n + 1, hn => heldAt c (stAt m c n hn)

theorem PhiS_any (c : Dev nD) (n : ℕ) (h : n ≤ cfg0.N) : PhiS m c n h ⊢ (Pipeline.ΦA spec0 c : sProp 𝕄) := by
  cases n with
  | zero => exact Idealize.SL.BI.Entails.refl _
  | succ n => exact heldAt_any c _

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (stAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt_succ t.castSucc.isLt) := by
  rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outB (stAt m c t.val t.isLt).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- A window in use is left with what the body leaves in it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = heldAt c (stAt m c t.val t.isLt) from rfl]
  have hN : t.val < 64 := lt_of_lt_of_eq t.isLt (show cfg0.N = 64 from N_0)
  rw [leaves_live m c 0 t (live 0 t (by decide)), after_0, leaves_live m c 1 t (live 1 t (by decide)), after_1, leaves_live m c 2 t (live 2 t (by decide)), after_2, leaves_live m c 3 t (live 3 t (by decide)), after_3, leaves_live m c 4 t (live 4 t (by decide)), after_4]
  by_cases h0 : t.val % 2 = 0
  · have hc0 : first (grid0.coords t) := (first_iff t).2 h0
    have hc4 : ¬ k0_cond4 (grid0.coords t) = 1#1 := fun h => by have := (last_iff t).1 h; omega
    rw [Dat.leavesExact_idle (dats m 0 c) 5 t (idle_5 t h0) (noFlush_5 t h0)]
    rw [stAt_even m c t h0, PhiS_castSucc]
    have hP := PhiS_any m c t.val (Nat.le_of_lt_succ t.castSucc.isLt)
    rw [PhiA_eq] at hP
    unfold heldAt
    iintro ⟨HP, Ho, ⟨%d0, H0⟩, ⟨%d1, H1⟩, ⟨%d2, H2⟩, ⟨%d3, H3⟩, ⟨%d4, H4⟩, ⟨%d5, H5⟩⟩
    ihave HQ := hP $$ HP
    icases HQ with ⟨⟨⟨%e0, S0⟩, ⟨%e1, S1⟩, ⟨%e2, S2⟩⟩, Hg⟩
    iapply (body_even c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) hc0 hc4 (iblk m c 0 t) (iblk m c 1 t) (iblk m c 2 t) (iblk m c 3 t) (iblk m c 4 t) ((dats m 0 c).before 5 t d5))
    isplitl [H0]; · iapply (owns_whole_iff (hstage0_0 ((cfg0.slots t 0).cast nbuf0_0)) c (iblk m c 0 t)); iexact H0
    isplitl [H1]; · iapply (owns_whole_iff (hstage0_1 ((cfg0.slots t 1).cast nbuf0_1)) c (iblk m c 1 t)); iexact H1
    isplitl [H2]; · iapply (owns_whole_iff (hstage0_2 ((cfg0.slots t 2).cast nbuf0_2)) c (iblk m c 2 t)); iexact H2
    isplitl [H3]; · iapply (owns_whole_iff (hstage0_3 ((cfg0.slots t 3).cast nbuf0_3)) c (iblk m c 3 t)); iexact H3
    isplitl [H4]; · iapply (owns_whole_iff (hstage0_4 ((cfg0.slots t 4).cast nbuf0_4)) c (iblk m c 4 t)); iexact H4
    isplitl [H5]; · iapply (owns_whole_iff (hstage0_5 ((cfg0.slots t 5).cast nbuf0_5)) c ((dats m 0 c).before 5 t d5)); iexact H5
    isplitl [S0]; · iapply (owns_any (M := sc0) (Memref.isWhole_whole _) c e0); iexact S0
    isplitl [S1]; · iapply (owns_any (M := sc1) (Memref.isWhole_whole _) c e1); iexact S1
    isplitl [S2]; · iapply (owns_any (M := sc2) (Memref.isWhole_whole _) c e2); iexact S2
    iintro ⟨H0, H1, H2, H3, H4, H5, S0, S1, S2⟩
    isplitl [S0 S1 S2 Hg]
    · isplitl [S0 S1 S2]
      · isplitl [S0]; · iapply (owns_of_unread (M := sc0) (Memref.isWhole_whole _) c); iexact S0
        isplitl [S1]; · iapply (owns_of_unread (M := sc1) (Memref.isWhole_whole _) c); iexact S1
        iapply (owns_of_unread (M := sc2) (Memref.isWhole_whole _) c); iexact S2
      iexact Hg
    isplitl [Ho]; · iexact Ho
    isplitl [H0]; · iapply (owns_of_unread (hstage0_0 ((cfg0.slots t 0).cast nbuf0_0)) c (iblk m c 0 t)); iexact H0
    isplitl [H1]; · iapply (owns_of_unread (hstage0_1 ((cfg0.slots t 1).cast nbuf0_1)) c (iblk m c 1 t)); iexact H1
    isplitl [H2]; · iapply (owns_of_unread (hstage0_2 ((cfg0.slots t 2).cast nbuf0_2)) c (iblk m c 2 t)); iexact H2
    isplitl [H3]; · iapply (owns_of_unread (hstage0_3 ((cfg0.slots t 3).cast nbuf0_3)) c (iblk m c 3 t)); iexact H3
    isplitl [H4]; · iapply (owns_of_unread (hstage0_4 ((cfg0.slots t 4).cast nbuf0_4)) c (iblk m c 4 t)); iexact H4
    iexists d5; iapply (owns_of_unread (hstage0_5 ((cfg0.slots t 5).cast nbuf0_5)) c ((dats m 0 c).before 5 t d5)); iexact H5
  · have h1 : t.val % 2 = 1 := by omega
    have hc0 : ¬ first (grid0.coords t) := fun h => h0 ((first_iff t).1 h)
    have hc4 : k0_cond4 (grid0.coords t) = 1#1 := (last_iff t).2 h1
    rw [leaves_live m c 5 t (live_5 t h1), after_5]
    rw [PhiS_castSucc]
    obtain ⟨n, hn⟩ : ∃ n, t.val = n + 1 := ⟨t.val - 1, by omega⟩
    have hlt : n + 1 < cfg0.N := hn ▸ t.isLt
    have et : t = ⟨n + 1, hlt⟩ := Fin.ext hn
    have eS : stAt m c t.val t.isLt = oddSt m c t (stAt m c n (Nat.lt_of_succ_lt hlt)) := by
      subst et; exact stAt_odd m c n hlt h1
    have eP : PhiS m c t.val (Nat.le_of_lt_succ t.castSucc.isLt) = heldAt c (stAt m c n (Nat.lt_of_succ_lt hlt)) := by
      subst et; rfl
    rw [eS, eP]
    generalize stAt m c n (Nat.lt_of_succ_lt hlt) = s
    unfold heldAt oddSt
    iintro ⟨⟨⟨S0, S1, S2⟩, Hg⟩, Ho, ⟨%d0, H0⟩, ⟨%d1, H1⟩, ⟨%d2, H2⟩, ⟨%d3, H3⟩, ⟨%d4, H4⟩, ⟨%d5, H5⟩⟩
    iapply (body_odd c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) hc0 hc4 (iblk m c 0 t) (iblk m c 1 t) (iblk m c 2 t) (iblk m c 3 t) (iblk m c 4 t) s.1 s.2.1 s.2.2)
    isplitl [H0]; · iapply (owns_whole_iff (hstage0_0 ((cfg0.slots t 0).cast nbuf0_0)) c (iblk m c 0 t)); iexact H0
    isplitl [H1]; · iapply (owns_whole_iff (hstage0_1 ((cfg0.slots t 1).cast nbuf0_1)) c (iblk m c 1 t)); iexact H1
    isplitl [H2]; · iapply (owns_whole_iff (hstage0_2 ((cfg0.slots t 2).cast nbuf0_2)) c (iblk m c 2 t)); iexact H2
    isplitl [H3]; · iapply (owns_whole_iff (hstage0_3 ((cfg0.slots t 3).cast nbuf0_3)) c (iblk m c 3 t)); iexact H3
    isplitl [H4]; · iapply (owns_whole_iff (hstage0_4 ((cfg0.slots t 4).cast nbuf0_4)) c (iblk m c 4 t)); iexact H4
    isplitl [H5]; · iapply (owns_any (hstage0_5 ((cfg0.slots t 5).cast nbuf0_5)) c ((dats m 0 c).before 5 t d5)); iexact H5
    isplitl [S0]; · iapply (owns_whole_iff (M := sc0) (Memref.isWhole_whole _) c s.1); iexact S0
    isplitl [S1]; · iapply (owns_whole_iff (M := sc1) (Memref.isWhole_whole _) c s.2.1); iexact S1
    isplitl [S2]; · iapply (owns_whole_iff (M := sc2) (Memref.isWhole_whole _) c s.2.2); iexact S2
    iintro ⟨H0, H1, H2, H3, H4, H5, S0, S1, S2⟩
    isplitl [S0 S1 S2 Hg]
    · isplitl [S0 S1 S2]
      · isplitl [S0]; · iapply (owns_of_unread (M := sc0) (Memref.isWhole_whole _) c); iexact S0
        isplitl [S1]; · iapply (owns_of_unread (M := sc1) (Memref.isWhole_whole _) c); iexact S1
        iapply (owns_of_unread (M := sc2) (Memref.isWhole_whole _) c); iexact S2
      iexact Hg
    isplitl [Ho]; · iexact Ho
    isplitl [H0]; · iapply (owns_of_unread (hstage0_0 ((cfg0.slots t 0).cast nbuf0_0)) c (iblk m c 0 t)); iexact H0
    isplitl [H1]; · iapply (owns_of_unread (hstage0_1 ((cfg0.slots t 1).cast nbuf0_1)) c (iblk m c 1 t)); iexact H1
    isplitl [H2]; · iapply (owns_of_unread (hstage0_2 ((cfg0.slots t 2).cast nbuf0_2)) c (iblk m c 2 t)); iexact H2
    isplitl [H3]; · iapply (owns_of_unread (hstage0_3 ((cfg0.slots t 3).cast nbuf0_3)) c (iblk m c 3 t)); iexact H3
    isplitl [H4]; · iapply (owns_of_unread (hstage0_4 ((cfg0.slots t 4).cast nbuf0_4)) c (iblk m c 4 t)); iexact H4
    iapply (owns_of_unread (hstage0_5 ((cfg0.slots t 5).cast nbuf0_5)) c _); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The run: every execution ends with the arrays at what the data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.KernelIdeal.Mla
end
end
-- ==== Proof.Value.lean ====
module

public import proofs.«01_k».proof.Proof.Attn
public import proofs.«01_k».proof.Proof.Tile
public import proofs.«01_k».proof.Proof.Launch
public import Idealize.ShloMosaic.Lib.Pipeline.ValueKit

/-! The array the attention kernel leaves: each of its blocks is written at a query tile's last point,
when the running sums are those over all the keys. -/

@[expose] public section

set_option maxRecDepth 16384

noncomputable section

namespace Cert.KernelIdeal.Mla

open Idealize.ShloMosaic Idealize.ShloMosaic.TcCoe Idealize.SL.Sem
open Idealize.ShloMosaic.Pipeline (Dat)
open Cert.KernelIdeal.Gen
open _root_.Mla.Math

theorem idx : ∀ t : Fin cfg0.N, win0_0.index t = ![t.val / 2 % 8, t.val / 16] ∧ win0_1.index t = ![0, t.val / 16]
    ∧ win0_2.index t = ![t.val / 16, 0] ∧ win0_3.index t = ![t.val % 2, t.val / 16]
    ∧ win0_4.index t = ![t.val / 16, t.val % 2] ∧ win0_5.index t = ![t.val / 2 % 8, t.val / 16] ∧ t.val / 16 < 4 :=
  (by decide +kernel : ∀ t : Fin grid0.N, _)

variable (m : (ℓ : Loc nD τ sig) → Buf (Elt Ideal) ℓ)

/-- The arguments, as arrays. -/
abbrev aq (c : Dev nD) : FVec Ideal S16384x1024 .bf16 := m ((c : Thread nD τ).loc main_arg0)
abbrev ak (c : Dev nD) : FVec Ideal S16384x1024 .bf16 := m ((c : Thread nD τ).loc main_arg1)
abbrev av (c : Dev nD) : FVec Ideal S512x16384 .bf16 := m ((c : Thread nD τ).loc main_arg2)
abbrev akc (c : Dev nD) : FVec Ideal S256x1024 .bf16 := m ((c : Thread nD τ).loc main_arg3)
abbrev avc (c : Dev nD) : FVec Ideal S512x256 .bf16 := m ((c : Thread nD τ).loc main_arg4)

/-- The head of a point. -/
def hd (t : Fin cfg0.N) : Fin 4 := ⟨t.val / 16, (idx t).2.2.2.2.2.2⟩
/-- The query in column `j` of a point's query tile. -/
def qrow (t : Fin cfg0.N) (j : Fin 2048) : Fin 16384 := ⟨2048 * (t.val / 2 % 8) + j.val, by omega⟩

theorem b0 (c : Dev nD) (t : Fin cfg0.N) (j : Fin 2048) (d : Fin 256) :
    (show FVec Ideal S2048x256 .bf16 from iblk m c 0 t) (ix2 j d) = aq m c (ix2 (qrow t j) (qcol (hd t) d)) := by
  unfold qrow qcol hd aq
  blk_ext [iblk, V, idx t]
theorem b1 (c : Dev nD) (t : Fin cfg0.N) (i : Fin 256) (d : Fin 256) :
    (show FVec Ideal S256x256 .bf16 from iblk m c 1 t) (ix2 i d) = akc m c (ix2 i (qcol (hd t) d)) := by
  unfold qcol hd akc
  blk_ext [iblk, V, idx t]
theorem b2 (c : Dev nD) (t : Fin cfg0.N) (d : Fin 128) (i : Fin 256) :
    (show FVec Ideal S128x256 .bf16 from iblk m c 2 t) (ix2 d i) = avc m c (ix2 (vrow (hd t) d) i) := by
  unfold vrow hd avc
  blk_ext [iblk, V, idx t]
theorem b3 (c : Dev nD) (t : Fin cfg0.N) (i : Fin 8192) (d : Fin 256) :
    (show FVec Ideal S8192x256 .bf16 from iblk m c 3 t) (ix2 i d) = ak m c (ix2 ⟨8192 * (t.val % 2) + i.val, by omega⟩ (qcol (hd t) d)) := by
  unfold qcol hd ak
  blk_ext [iblk, V, idx t]
theorem b4 (c : Dev nD) (t : Fin cfg0.N) (d : Fin 128) (i : Fin 8192) :
    (show FVec Ideal S128x8192 .bf16 from iblk m c 4 t) (ix2 d i) = av m c (ix2 (vrow (hd t) d) ⟨8192 * (t.val % 2) + i.val, by omega⟩) := by
  unfold vrow hd av
  blk_ext [iblk, V, idx t]

/-- What query column `j` of point `t` sees. -/
abbrev ss (c : Dev nD) (t : Fin cfg0.N) (j : Fin 2048) : ℕ → ℝ := sreal (aq m c) (ak m c) (akc m c) (hd t) (qrow t j)
abbrev vv (c : Dev nD) (t : Fin cfg0.N) : Fin 144 → ℕ → EReal := vrows (av m c) (avc m c) (hd t)

variable {m}

theorem cx (c : Dev nD) (hf : Fin5 (aq m c) (ak m c) (akc m c)) (t : Fin cfg0.N) (j : Fin 2048) :
    Cx (iblk m c 0 t) j (ss m c t j) (vv m c t) (iblk m c 1 t) (iblk m c 2 t) := by
  constructor
  · intro i
    have hi : i.val < 256 := i.isLt
    rw [← score_real hf]
    unfold score
    rw [dif_pos hi]
    exact Finset.sum_congr rfl fun d _ => congrArg₂ (· * ·) (b1 m c t i d) (b0 m c t j d)
  · intro r i
    have hi : i.val < 256 := i.isLt
    unfold vv vrows
    split
    · rename_i hr
      unfold vcomp
      rw [dif_pos hi]
      exact b2 m c t ⟨r.val, hr⟩ i
    · rfl

theorem tl (c : Dev nD) (hf : Fin5 (aq m c) (ak m c) (akc m c)) (u t : Fin cfg0.N) (hu : u.val / 2 = t.val / 2) (j : Fin 2048) :
    Tl (k0_pay15 (iblk m c 0 u)) j (ss m c u j) (vv m c u) (256 + 8192 * (t.val % 2)) (iblk m c 3 t) (iblk m c 4 t) := by
  have eh : hd u = hd t := Fin.ext (show u.val / 16 = t.val / 16 by omega)
  constructor
  · intro i
    have hi : i.val < 8192 := i.isLt
    rw [← score_real hf]
    unfold score
    rw [dif_neg (by omega), dif_pos (by omega)]
    refine Finset.sum_congr rfl fun d _ => congrArg₂ (· * ·) ?_ ((pay15_at _ d j).trans (b0 m c u j d))
    refine (b3 m c t i d).trans ?_
    rw [eh]
    congr 2
    exact Fin.ext (by show 8192 * (t.val % 2) + i.val = 256 + 8192 * (t.val % 2) + i.val - 256; omega)
  · intro r i
    have hi : i.val < 8192 := i.isLt
    unfold vv vrows
    split
    · rename_i hr
      unfold vcomp
      rw [dif_neg (by omega), dif_pos (by omega)]
      refine (b4 m c t ⟨r.val, hr⟩ i).trans ?_
      rw [eh]
      congr 2
      exact Fin.ext (by show 8192 * (t.val % 2) + i.val = 256 + 8192 * (t.val % 2) + i.val - 256; omega)
    · rfl

theorem even_inv (c : Dev nD) (hf : Fin5 (aq m c) (ak m c) (akc m c)) (t : Fin cfg0.N) (h : t.val % 2 = 0) (j : Fin 2048) :
    (stAt m c t.val t.isLt).1 = k0_pay15 (iblk m c 0 t) ∧ Inv j (ss m c t j) (vv m c t) 8448 (stAt m c t.val t.isLt).2 := by
  rw [stAt_even m c t h]
  refine ⟨rfl, ?_⟩
  have := tl c hf t t rfl j
  rw [h] at this
  exact tile_inv this (pre_inv (cx c hf t j))

theorem odd_inv (c : Dev nD) (hf : Fin5 (aq m c) (ak m c) (akc m c)) (t : Fin cfg0.N) (h : t.val % 2 = 1) (j : Fin 2048) :
    Inv j (ss m c t j) (vv m c t) 16640 (stAt m c t.val t.isLt).2 := by
  obtain ⟨n, hn⟩ : ∃ n, t.val = n + 1 := ⟨t.val - 1, by omega⟩
  have hlt : n + 1 < cfg0.N := hn ▸ t.isLt
  have et : t = ⟨n + 1, hlt⟩ := Fin.ext hn
  subst et
  have hu : n / 2 = (n + 1) / 2 := by have : (n + 1) % 2 = 1 := h; omega
  obtain ⟨e1, hi⟩ := even_inv c hf ⟨n, Nat.lt_of_succ_lt hlt⟩ (by show n % 2 = 0; have : (n + 1) % 2 = 1 := h; omega) j
  have ht := tl c hf ⟨n, Nat.lt_of_succ_lt hlt⟩ ⟨n + 1, hlt⟩ hu j
  have eh : hd ⟨n, Nat.lt_of_succ_lt hlt⟩ = hd ⟨n + 1, hlt⟩ := Fin.ext (show n / 16 = (n + 1) / 16 by omega)
  have eq : qrow ⟨n, Nat.lt_of_succ_lt hlt⟩ j = qrow ⟨n + 1, hlt⟩ j := Fin.ext (show 2048 * (n / 2 % 8) + j.val = 2048 * ((n + 1) / 2 % 8) + j.val by rw [hu])
  unfold ss vv at hi ht ⊢
  rw [eh, eq] at hi ht
  rw [show ((⟨n + 1, hlt⟩ : Fin cfg0.N).val % 2) = 1 from h] at ht
  show Inv j _ _ 16640 (stAt m c (n + 1) hlt).2
  rw [stAt_odd m c n hlt h]
  unfold oddSt
  dsimp only at e1 hi ⊢
  rw [e1]
  exact tile_inv ht hi

/-- The result array after the run. -/
theorem final (c : Dev nD) (hf : Fin5 (aq m c) (ak m c) (akc m c)) :
    (dats m 0 c).arrAt 5 (cfgs 0).N = attnOut (aq m c) (ak m c) (av m c) (akc m c) (avc m c) := by
  refine (dats m 0 c).arrAt_eq_of_covers 5 _ (by decide +kernel) fun t hfl y => ?_
  have h1 : t.val % 2 = 1 := (flush0_5 t).1 hfl
  blk_simp
  rw [after_5]
  obtain ⟨i, d, rfl⟩ : ∃ (i : Fin 2048) (d : Fin 128), y = ix2 i d := ⟨y 0, y 1, eq_ix2 y⟩
  obtain ⟨a, hm, hs⟩ := odd_inv c hf t h1 i
  refine (outB_at _ i d).trans ?_
  rw [hs, hs]
  have e1 : vv m c t ⟨d.val, by omega⟩ = vcomp (av m c) (avc m c) (hd t) d := funext fun n => dif_pos d.isLt
  have e2 : vv m c t rowW = fun _ => 1 := funext fun n => dif_neg (Nat.lt_irrefl 128)
  have e3 : ∀ Y : S16384x512.Idx, (Y 0).val = 2048 * (t.val / 2 % 8) + i.val → (Y 1).val = 128 * (t.val / 16) + d.val →
      attnOut (aq m c) (ak m c) (av m c) (akc m c) (avc m c) Y = attn (aq m c) (ak m c) (av m c) (akc m c) (avc m c) (qrow t i) (hd t) d := by
    intro Y h0 h1
    unfold attnOut
    congr 1
    · exact Fin.ext h0
    · exact Fin.ext (by show (Y 1).val / 128 = t.val / 16; omega)
    · exact Fin.ext (by show (Y 1).val % 128 = d.val; omega)
  rw [e1, e2]
  refine (W_div _ _ _ (by omega) a 0).trans (e3 _ ?_ ?_).symm
  · blk_simp [idx t]; simp; try omega
  · blk_simp [idx t]; simp; try omega

end Cert.KernelIdeal.Mla
-- ==== Proof.RefDefs.lean ====
module

public import proofs.«01_k».proof.Proof.Attn
public import proofs.«01_k».proof.Proof.Gen.ReferenceIdeal.Run
public import Idealize.ShloMosaic.Lib.Pointwise

/-! The attention's reference at an index, over the reals. -/

@[expose] public section

set_option maxRecDepth 16384

noncomputable section

namespace Cert.ReferenceIdeal.Mla

open Idealize.ShloMosaic Idealize.ShloMosaic.Tactic
open Cert.ReferenceIdeal Cert.ReferenceIdeal.Gen

/-- The keys (or queries) by heads. -/
abbrev keys (k : FVec Ideal S16384x1024 .bf16) (kc : FVec Ideal S256x1024 .bf16) : FVec Ideal S16640x4x256 .f32 :=
  concatenate S16640x4x256 0 [⟨S256x4x256, (shapeCast _ (extf .f32 kc bitsLt_bf16_f32) shapeCasts_S256x1024_S256x4x256)⟩, ⟨S16384x4x256, (shapeCast _ (extf .f32 k bitsLt_bf16_f32) shapeCasts_S16384x1024_S16384x4x256)⟩] concatenates_S256x4x256_S16384x4x256_S16640x4x256_d0
abbrev vals (vt : FVec Ideal S512x16384 .bf16) (vct : FVec Ideal S512x256 .bf16) : FVec Ideal S16640x4x128 .f32 :=
  concatenate S16640x4x128 0 [⟨S256x4x128, (shapeCast _ (extf .f32 (transpose S256x512 [1, 0] vct transposes_S512x256_S256x512_1_0) bitsLt_bf16_f32) shapeCasts_S256x512_S256x4x128)⟩, ⟨S16384x4x128, (shapeCast _ (extf .f32 (transpose S16384x512 [1, 0] vt transposes_S512x16384_S16384x512_1_0) bitsLt_bf16_f32) shapeCasts_S16384x512_S16384x4x128)⟩] concatenates_S256x4x128_S16384x4x128_S16640x4x128_d0
/-- The scaled scores. -/
abbrev scores (q : FVec Ideal S16384x1024 .bf16) (K : FVec Ideal S16640x4x256 .f32) : FVec Ideal S4x16384x16640 .f32 :=
  mulf (Host.dotGeneral dot_S16384x4x256_S16640x4x256_S4x16384x16640_2_2_0_0_1_1 none (shapeCast _ (extf .f32 q bitsLt_bf16_f32) shapeCasts_S16384x1024_S16384x4x256) K) (broadcastInDim S4x16384x16640 ![] bcast_S_S4x16384x16640 (Host.log (constant S_ .f32 0x40000000#32)))
/-- The largest score of each query and head. -/
abbrev tops (s : FVec Ideal S4x16384x16640 .f32) : FVec Ideal S4x16384 .f32 :=
  maximumf (broadcastInDim S4x16384 ![] bcast_S_S4x16384 (constant S_ .f32 0xFF800000#32)) (Host.reduce FloatOps.maximumf s (constant S_ .f32 0xFF800000#32) reducesTo_S4x16384x16640_S4x16384_d2 h_S_)
/-- The exponentials of the scores less their largest. -/
abbrev exps (s : FVec Ideal S4x16384x16640 .f32) (M : FVec Ideal S4x16384 .f32) : FVec Ideal S4x16384x16640 .f32 :=
  Host.exp (subf s (broadcastInDim S4x16384x16640 ![0, 1, 2] bcast_S4x16384x1_S4x16384x16640_0_1_2 (broadcastInDim S4x16384x1 ![0, 1] bcast_S4x16384_S4x16384x1_0_1 M)))
abbrev norm (e : FVec Ideal S4x16384x16640 .f32) : FVec Ideal S4x16384x16640 .f32 :=
  Host.divf e (broadcastInDim S4x16384x16640 ![0, 1, 2] bcast_S4x16384x1_S4x16384x16640_0_1_2 (broadcastInDim S4x16384x1 ![0, 1] bcast_S4x16384_S4x16384x1_0_1 (Host.reduceAdd e (constant S_ .f32 0x00000000#32) reducesTo_S4x16384x16640_S4x16384_d2 h_S_)))
abbrev mix (v : FVec Ideal S16640x4x128 .f32) (p : FVec Ideal S4x16384x16640 .f32) : FVec Ideal S16384x512 .bf16 :=
  truncf .bf16 (shapeCast _ (transpose S16384x4x128 [2, 0, 1] (Host.dotGeneral dot_S16640x4x128_S4x16384x16640_S4x128x16384_0_2_2_1_1_0 none v p) transposes_S4x128x16384_S16384x4x128_2_0_1) shapeCasts_S16384x4x128_S16384x512) bitsLt_bf16_f32

/-- The reference's result by its steps. -/
theorem res_eq (m : (ℓ : Loc nD τ sig) → Buf (Elt Ideal) ℓ) (c : Dev nD) : Cert.ReferenceIdeal.Value.res_out0 m c
    = mix (vals (m ((c.tc : Thread nD τ).loc main_arg2)) (m ((c.tc : Thread nD τ).loc main_arg4)))
        (norm (exps (scores (m ((c.tc : Thread nD τ).loc main_arg0)) (keys (m ((c.tc : Thread nD τ).loc main_arg1)) (m ((c.tc : Thread nD τ).loc main_arg3))))
          (tops (scores (m ((c.tc : Thread nD τ).loc main_arg0)) (keys (m ((c.tc : Thread nD τ).loc main_arg1)) (m ((c.tc : Thread nD τ).loc main_arg3))))))) := rfl

end Cert.ReferenceIdeal.Mla
-- ==== Proof.RefAt.lean ====
module

public import proofs.«01_k».proof.Proof.Attn
public import proofs.«01_k».proof.Proof.Gen.ReferenceIdeal.Run
public import proofs.«01_k».proof.Proof.RefDefs
public import Idealize.ShloMosaic.Lib.Pointwise

/-! The attention's reference at an index, over the reals. -/

@[expose] public section

set_option maxRecDepth 16384

noncomputable section

namespace Cert.ReferenceIdeal.Mla

open Idealize.ShloMosaic Idealize.ShloMosaic.Tactic
open Cert.ReferenceIdeal Cert.ReferenceIdeal.Gen

theorem keys_at (k : FVec Ideal S16384x1024 .bf16) (kc : FVec Ideal S256x1024 .bf16) (n : Fin 16640) (h : Fin 4) (d : Fin 256) :
    keys k kc (ix3 n h d) = if hn : n.val < 256 then kc (ix2 ⟨n.val, hn⟩ ⟨256 * h.val + d.val, by omega⟩) else k (ix2 ⟨n.val - 256, by omega⟩ ⟨256 * h.val + d.val, by omega⟩) := by
  pointwise!

theorem vals_at (vt : FVec Ideal S512x16384 .bf16) (vct : FVec Ideal S512x256 .bf16) (n : Fin 16640) (h : Fin 4) (d : Fin 128) :
    vals vt vct (ix3 n h d) = if hn : n.val < 256 then vct (ix2 ⟨128 * h.val + d.val, by omega⟩ ⟨n.val, hn⟩) else vt (ix2 ⟨128 * h.val + d.val, by omega⟩ ⟨n.val - 256, by omega⟩) := by
  pointwise!

theorem scores_at (q : FVec Ideal S16384x1024 .bf16) (K : FVec Ideal S16640x4x256 .f32) (h : Fin 4) (i : Fin 16384) (n : Fin 16640) :
    scores q K (ix3 h i n) = (∑ d : Fin 256, K (ix3 n h d) * q (ix2 i ⟨256 * h.val + d.val, by omega⟩)) * ((Real.log 2 : ℝ) : EReal) := by
  pointwise
  have e : Ideal.log (Ideal.ofBits .f32 0x40000000#32) = ((Real.log 2 : ℝ) : EReal) := by
    rw [_root_.Mla.Math.bits_two, Ideal.log_coe, if_neg (by norm_num)]
  rw [e]
  refine congrArg (· * _) (Finset.sum_congr rfl fun d _ => ?_)
  rw [mul_comm]
  congr 3
  exact Fin.ext (by show h.val * 256 + d.val = 256 * h.val + d.val; omega)

theorem exps_at (s : FVec Ideal S4x16384x16640 .f32) (M : FVec Ideal S4x16384 .f32) (h : Fin 4) (i : Fin 16384) (n : Fin 16640) :
    exps s M (ix3 h i n) = Ideal.exp (s (ix3 h i n) - M (ix2 h i)) := by
  pointwise!

theorem norm_at (e : FVec Ideal S4x16384x16640 .f32) (h : Fin 4) (i : Fin 16384) (n : Fin 16640) :
    norm e (ix3 h i n) = Ideal.div (e (ix3 h i n)) (∑ k : Fin 16640, e (ix3 h i k)) := by
  pointwise!

theorem mix_at (v : FVec Ideal S16640x4x128 .f32) (p : FVec Ideal S4x16384x16640 .f32) (i : Fin 16384) (h : Fin 4) (d : Fin 128) :
    mix v p (ix2 i ⟨128 * h.val + d.val, by omega⟩) = ∑ n : Fin 16640, v (ix3 n h d) * p (ix3 h i n) := by
  pointwise!

end Cert.ReferenceIdeal.Mla
-- ==== Proof.RefTop.lean ====
module

public import proofs.«01_k».proof.Proof.Attn
public import proofs.«01_k».proof.Proof.Gen.ReferenceIdeal.Run
public import proofs.«01_k».proof.Proof.RefDefs
public import Idealize.ShloMosaic.Lib.Pointwise

/-! The attention's reference at an index, over the reals. -/

@[expose] public section

set_option maxRecDepth 16384

noncomputable section

namespace Cert.ReferenceIdeal.Mla

open Idealize.ShloMosaic Idealize.ShloMosaic.Tactic
open Cert.ReferenceIdeal Cert.ReferenceIdeal.Gen

/-- The largest of real numbers along an axis that is not empty is real. -/
theorem reduce_real {s t u : Shape} {a : Fin s.rank} (x : FVec Ideal s .f32) (init : FVec Ideal u .f32) (h' : s.ReducesTo [a] t) (h : s.Reduces [a] t)
    (hu : 0 < u.numel) (j : t.Idx) (hi : init (Shape.Idx.first hu) = (⊥ : EReal)) (hx : ∀ i, ∃ r : ℝ, x i = (r : EReal)) (ha : 0 < s.size a) :
    ∃ r : ℝ, Host.reduce (FloatOps.maximumf (F := Ideal) (φ := .f32)) x init h' hu j = (r : EReal) := by
  rw [Host.reduce_eq_fold_single _ x init h' h hu j, hi]
  refine _root_.Mla.Math.real_of (_root_.Mla.Math.bot_lt_fold_max _ ⟨0, ha⟩ ?_) (_root_.Mla.Math.fold_max_lt _ fun k => ?_)
  · obtain ⟨r, hr⟩ := hx (h.lift j ⟨0, ha⟩)
    exact lt_of_lt_of_eq (EReal.bot_lt_coe r) hr.symm
  · obtain ⟨r, hr⟩ := hx (h.lift j k)
    exact lt_of_eq_of_lt hr (EReal.coe_lt_top r)

theorem maximumf_at {S : Shape} (a b : FVec Ideal S .f32) (i : S.Idx) : maximumf a b i = max (a i) (b i) := rfl

theorem init_bot : (constant S_ .f32 0xFF800000#32 : FVec Ideal S_ .f32) (Shape.Idx.first h_S_) = (⊥ : EReal) := _root_.Mla.Math.bits_ninf

theorem floor_bot (j : S4x16384.Idx) : (broadcastInDim S4x16384 ![] bcast_S_S4x16384 (constant S_ .f32 0xFF800000#32 : FVec Ideal S_ .f32)) j = (⊥ : EReal) := _root_.Mla.Math.bits_ninf

theorem reduces_keys : S4x16384x16640.Reduces [2] S4x16384 := by decide

theorem top_real (s : FVec Ideal S4x16384x16640 .f32) (j : S4x16384.Idx) (hx : ∀ i, ∃ r : ℝ, s i = (r : EReal)) :
    ∃ r : ℝ, Host.reduce (FloatOps.maximumf (F := Ideal) (φ := .f32)) s (constant S_ .f32 0xFF800000#32) reducesTo_S4x16384x16640_S4x16384_d2 h_S_ j = (r : EReal) :=
  reduce_real s (constant S_ .f32 0xFF800000#32) reducesTo_S4x16384x16640_S4x16384_d2 reduces_keys h_S_ j init_bot hx (by decide)

theorem tops_real (s : FVec Ideal S4x16384x16640 .f32) (j : S4x16384.Idx) (hx : ∀ i, ∃ r : ℝ, s i = (r : EReal)) :
    ∃ r : ℝ, tops s j = (r : EReal) := by
  obtain ⟨r, hr⟩ := top_real s j hx
  refine ⟨r, ?_⟩
  unfold tops
  rw [maximumf_at, floor_bot, hr]
  exact max_eq_right bot_le

end Cert.ReferenceIdeal.Mla
-- ==== Proof.RefValue.lean ====
module

public import proofs.«01_k».proof.Proof.Attn
public import proofs.«01_k».proof.Proof.Gen.ReferenceIdeal.Run
public import proofs.«01_k».proof.Proof.RefAt
public import proofs.«01_k».proof.Proof.RefTop
public import Idealize.ShloMosaic.Lib.Pointwise

/-! The attention's reference at an index, over the reals. -/

@[expose] public section

set_option maxRecDepth 16384

noncomputable section

namespace Cert.ReferenceIdeal.Mla

open Idealize.ShloMosaic Idealize.ShloMosaic.Tactic
open Cert.ReferenceIdeal Cert.ReferenceIdeal.Gen

/-- What the reference's array holds. -/
theorem ref_at (q k : FVec Ideal S16384x1024 .bf16) (vt : FVec Ideal S512x16384 .bf16) (kc : FVec Ideal S256x1024 .bf16) (vct : FVec Ideal S512x256 .bf16)
    (hf : Cert.KernelIdeal.Mla.Fin5 q k kc) (i : Fin 16384) (h : Fin 4) (d : Fin 128) :
    mix (vals vt vct) (norm (exps (scores q (keys k kc)) (tops (scores q (keys k kc))))) (ix2 i ⟨128 * h.val + d.val, by omega⟩)
      = Cert.KernelIdeal.Mla.attn q k vt kc vct i h d := by
  have hv : ∀ n : Fin 16640, vals vt vct (ix3 n h d) = Cert.KernelIdeal.Mla.vcomp vt vct h d n.val := fun n => by
    rw [vals_at]; unfold Cert.KernelIdeal.Mla.vcomp
    split
    · rfl
    · rw [dif_pos (by omega)]; rfl
  have hs : ∀ (h : Fin 4) (i : Fin 16384) (n : Fin 16640), scores q (keys k kc) (ix3 h i n) = ((Cert.KernelIdeal.Mla.sreal q k kc h i n.val * Real.log 2 : ℝ) : EReal) := fun h i n => by
    rw [scores_at, EReal.coe_mul, ← Cert.KernelIdeal.Mla.score_real hf]
    refine congrArg (· * _) ?_
    unfold Cert.KernelIdeal.Mla.score
    split
    · rename_i hn
      refine Finset.sum_congr rfl fun e _ => ?_
      rw [keys_at, dif_pos hn]; rfl
    · rename_i hn
      rw [dif_pos (by omega)]
      refine Finset.sum_congr rfl fun e _ => ?_
      rw [keys_at, dif_neg hn]; rfl
  obtain ⟨M, hM⟩ := tops_real (scores q (keys k kc)) (ix2 h i) fun y => by
    rw [eq_ix3 y]; exact ⟨_, hs _ _ _⟩
  generalize tops (scores q (keys k kc)) = T at hM ⊢
  have hl : (0 : ℝ) < Real.log 2 := Real.log_pos one_lt_two
  have he : ∀ n : Fin 16640, exps (scores q (keys k kc)) T (ix3 h i n) = _root_.Mla.Math.wt (Cert.KernelIdeal.Mla.sreal q k kc h i n.val) (M / Real.log 2) := fun n => by
    rw [exps_at, hs, hM, ← EReal.coe_sub, Ideal.exp_coe]
    unfold _root_.Mla.Math.wt
    rw [Real.rpow_def_of_pos two_pos]
    congr 2
    field_simp
  generalize exps (scores q (keys k kc)) T = e at he ⊢
  rw [mix_at]
  have hsum : ∑ n : Fin 16640, e (ix3 h i n) = _root_.Mla.Math.W (Cert.KernelIdeal.Mla.sreal q k kc h i) (fun _ => 1) 16640 (M / Real.log 2) := by
    unfold _root_.Mla.Math.W
    rw [Finset.sum_range]
    exact Finset.sum_congr rfl fun n _ => by rw [he, one_mul]
  unfold Cert.KernelIdeal.Mla.attn
  rw [← _root_.Mla.Math.W_div _ _ _ (by omega) (M / Real.log 2) 0, ← _root_.Mla.Math.W_softmax _ _ _ (by omega), Finset.sum_range]
  refine Finset.sum_congr rfl fun n _ => ?_
  rw [hv, norm_at, he, hsum]

/-- The reference's result. -/
theorem res (m : (ℓ : Loc nD τ sig) → Buf (Elt Ideal) ℓ) (c : Dev nD)
    (q k : FVec Ideal S16384x1024 .bf16) (vt : FVec Ideal S512x16384 .bf16) (kc : FVec Ideal S256x1024 .bf16) (vct : FVec Ideal S512x256 .bf16)
    (h0 : m ((c.tc : Thread nD τ).loc main_arg0) = q) (h1 : m ((c.tc : Thread nD τ).loc main_arg1) = k) (h2 : m ((c.tc : Thread nD τ).loc main_arg2) = vt)
    (h3 : m ((c.tc : Thread nD τ).loc main_arg3) = kc) (h4 : m ((c.tc : Thread nD τ).loc main_arg4) = vct) (hf : Cert.KernelIdeal.Mla.Fin5 q k kc) :
    Cert.ReferenceIdeal.Value.res_out0 m c = Cert.KernelIdeal.Mla.attnOut q k vt kc vct := by
  rw [res_eq, h0, h1, h2, h3, h4]
  funext y
  obtain ⟨i, d, rfl⟩ : ∃ (i : Fin 16384) (d : Fin 512), y = ix2 i d := ⟨y 0, y 1, eq_ix2 y⟩
  have := ref_at q k vt kc vct hf i ⟨d.val / 128, by omega⟩ ⟨d.val % 128, by omega⟩
  rw [show (⟨128 * (d.val / 128) + d.val % 128, by omega⟩ : Fin 512) = d from Fin.ext (by show 128 * (d.val / 128) + d.val % 128 = d.val; omega)] at this
  exact this

end Cert.ReferenceIdeal.Mla
-- ==== Proof.Pre.lean ====
module

public import proofs.«01_k».proof.Proof.Attn
public import proofs.«01_k».proof.Pre_scores_finite
public import proofs.«01_k».proof.Proof.Gen.Pre_scores_finite
public import Idealize.ShloMosaic.Lib.Pointwise

/-! The precondition: every query and key is a real number. -/

@[expose] public section

set_option maxRecDepth 16384

noncomputable section

namespace Cert.KernelIdeal.Mla

open Idealize.ShloMosaic Idealize.ShloMosaic.Tactic
open Cert.Pre_scores_finite.Gen

/-- An absolute value below +∞ is a real number's. -/
theorem real_of_abs {x : EReal} (h : BitVec.ofBool (decide (FloatOps.absf (F := Ideal) (φ := .f32) x < Ideal.ofBits .f32 0x7F800000#32)) = 1#1) :
    x ≠ ⊤ ∧ x ≠ ⊥ := by
  have ht : Ideal.ofBits .f32 0x7F800000#32 = (⊤ : EReal) := by simp [Ideal.ofBits, Ideal.ieee]
  rw [ht] at h
  have h' : max x (-x) < ⊤ := by
    by_contra hn
    have : decide (FloatOps.absf (F := Ideal) (φ := .f32) x < (⊤ : EReal)) = false := decide_eq_false hn
    rw [this] at h
    exact absurd h (by decide)
  constructor
  · rintro rfl
    simp at h'
  · rintro rfl
    simp at h'

theorem pre_at (q k : FVec Ideal S16384x1024 .bf16) (vt : FVec Ideal S512x16384 .bf16) (kc : FVec Ideal S256x1024 .bf16) (vct : FVec Ideal S512x256 .bf16)
    (hp : Cert.Pre_scores_finite.fn (F := Ideal) q k vt kc vct = fun _ => 1#1) (r : Fin 33024) (d : Fin 1024) :
    (if h : r.val < 16384 then q (ix2 ⟨r.val, h⟩ d) else if h : r.val - 16384 < 16384 then k (ix2 ⟨r.val - 16384, h⟩ d)
      else kc (ix2 ⟨r.val - 16384 - 16384, by omega⟩ d)) ≠ (⊤ : EReal) ∧
    (if h : r.val < 16384 then q (ix2 ⟨r.val, h⟩ d) else if h : r.val - 16384 < 16384 then k (ix2 ⟨r.val - 16384, h⟩ d)
      else kc (ix2 ⟨r.val - 16384 - 16384, by omega⟩ d)) ≠ (⊥ : EReal) := by
  refine real_of_abs ?_
  have h := congrFun hp (ix2 r d)
  pointwise [Cert.Pre_scores_finite.fn] at h
  exact h

/-- What the precondition says. -/
theorem fin5 (q k : FVec Ideal S16384x1024 .bf16) (vt : FVec Ideal S512x16384 .bf16) (kc : FVec Ideal S256x1024 .bf16) (vct : FVec Ideal S512x256 .bf16)
    (hp : Cert.Pre_scores_finite.fn (F := Ideal) q k vt kc vct = fun _ => 1#1) : Fin5 q k kc where
  q y := by
    obtain ⟨i, d, rfl⟩ : ∃ (i : Fin 16384) (d : Fin 1024), y = ix2 i d := ⟨y 0, y 1, eq_ix2 y⟩
    have h := pre_at q k vt kc vct hp ⟨i.val, by omega⟩ d
    simp only [dif_pos i.isLt] at h
    exact h
  k y := by
    obtain ⟨i, d, rfl⟩ : ∃ (i : Fin 16384) (d : Fin 1024), y = ix2 i d := ⟨y 0, y 1, eq_ix2 y⟩
    have h := pre_at q k vt kc vct hp ⟨16384 + i.val, by omega⟩ d
    have e : (⟨16384 + i.val - 16384, by omega⟩ : Fin 16384) = i := Fin.ext (Nat.add_sub_cancel_left 16384 i.val)
    rw [dif_neg (by simp), dif_pos (by show 16384 + i.val - 16384 < 16384; omega)] at h
    simp only [e] at h
    exact h
  kc y := by
    obtain ⟨i, d, rfl⟩ : ∃ (i : Fin 256) (d : Fin 1024), y = ix2 i d := ⟨y 0, y 1, eq_ix2 y⟩
    have h := pre_at q k vt kc vct hp ⟨32768 + i.val, by omega⟩ d
    have e : (⟨32768 + i.val - 16384 - 16384, by omega⟩ : Fin 256) = i := Fin.ext (by show 32768 + i.val - 16384 - 16384 = i.val; omega)
    rw [dif_neg (by show ¬ 32768 + i.val < 16384; omega), dif_neg (by show ¬ 32768 + i.val - 16384 < 16384; omega)] at h
    simp only [e] at h
    exact h

end Cert.KernelIdeal.Mla
-- ==== Proof.FfnStep.lean ====
module

public import proofs.«01_k».proof.Proof.Gen.FfnIdeal.Value
public import proofs.«01_k».proof.Proof.FfnMath
public import Idealize.ShloMosaic.Lib.Pipeline.ValueKit
public import Idealize.ShloMosaic.Lib.Pipeline.ReadBack

/-! One grid point of the feed-forward: what it adds to the running sum. -/

@[expose] public section

set_option maxRecDepth 16384

noncomputable section

namespace Cert.FfnIdeal.Mlp

open Idealize.ShloMosaic Idealize.ShloMosaic.TcCoe Idealize.SL.Sem Idealize.ShloMosaic.Tactic
open Cert.FfnIdeal Cert.FfnIdeal.Gen

/-- The running sum after a point, from the hidden rows, the sum before and the point's weight blocks. -/
def stepV (H : FVec Ideal S512x2048 .bf16) (acc : FVec Ideal S512x2048 .f32) (G U : FVec Ideal S1x2048x512 .bf16) (D : FVec Ideal S1x512x2048 .bf16) :
    FVec Ideal S512x2048 .f32 :=
  k0_pay1 (F := Ideal)
    (k0_pay5 H (View.ld (Val := Elt Ideal) (e' := .bf16) G (Rect.unit ![0, 0, 0] ![1, 2048, 256] inb_S1x2048x512_S1x2048x256_0_0_0))
      (View.ld (Val := Elt Ideal) (e' := .bf16) U (Rect.unit ![0, 0, 0] ![1, 2048, 256] inb_S1x2048x512_S1x2048x256_0_0_0))
      (View.ld (Val := Elt Ideal) (e' := .bf16) D (Rect.unit ![0, 0, 0] ![1, 256, 2048] inb_S1x512x2048_S1x256x2048_0_0_0)))
    (k0_pay6 H (View.ld (Val := Elt Ideal) (e' := .bf16) G (Rect.unit ![0, 0, 256] ![1, 2048, 256] inb_S1x2048x512_S1x2048x256_0_0_256))
      (View.ld (Val := Elt Ideal) (e' := .bf16) U (Rect.unit ![0, 0, 256] ![1, 2048, 256] inb_S1x2048x512_S1x2048x256_0_0_256)))
    (k0_pay7 (View.ld (Val := Elt Ideal) (e' := .bf16) D (Rect.unit ![0, 256, 0] ![1, 256, 2048] inb_S1x512x2048_S1x256x2048_0_256_0)))
    (constant S512x2048 FTy.f32 0#32) acc

theorem ldcol (G : FVec Ideal S1x2048x512 .bf16) (o : ℕ) (h : o + 256 ≤ 512) (inb) (d : Fin 2048) (k : Fin 256) :
    View.ld (Val := Elt Ideal) (e' := .bf16) G (Rect.unit ![0, 0, o] ![1, 2048, 256] inb) (ix3 0 d k) = G (ix3 0 d ⟨o + k.val, by omega⟩) :=
  View.ld_unit_apply_of (Val := Elt Ideal) (e := .bf16) _ _ _ _ _ (ix3 0 d ⟨o + k.val, by omega⟩) fun a => by
    fin_cases a
    · rfl
    · exact (Nat.zero_add _).symm
    · rfl

theorem ldrow (D : FVec Ideal S1x512x2048 .bf16) (o : ℕ) (h : o + 256 ≤ 512) (inb) (k : Fin 256) (e : Fin 2048) :
    View.ld (Val := Elt Ideal) (e' := .bf16) D (Rect.unit ![0, o, 0] ![1, 256, 2048] inb) (ix3 0 k e) = D (ix3 0 ⟨o + k.val, by omega⟩ e) :=
  View.ld_unit_apply_of (Val := Elt Ideal) (e := .bf16) _ _ _ _ _ (ix3 0 ⟨o + k.val, by omega⟩ e) fun a => by
    fin_cases a
    · rfl
    · rfl
    · exact (Nat.zero_add _).symm

/-- A point adds its 512 hidden units' terms. -/
theorem stepV_at (H : FVec Ideal S512x2048 .bf16) (acc : FVec Ideal S512x2048 .f32) (G U : FVec Ideal S1x2048x512 .bf16) (D : FVec Ideal S1x512x2048 .bf16)
    (r : Fin 512) (o : Fin 2048) : stepV H acc G U D (ix2 r o)
      = acc (ix2 r o) + ∑ k : Fin 512, unit (fun d => H (ix2 r d)) (fun d => G (ix3 0 d k)) (fun d => U (ix3 0 d k)) * D (ix3 0 k o) := by
  refine (pay1_at _ _ _ _ r o).trans (congrArg _ ?_)
  rw [pay5_at]
  refine Eq.trans ?_ (Fin.sum_univ_add (a := 256) (b := 256) (fun k : Fin 512 => unit (fun d => H (ix2 r d)) (fun d => G (ix3 0 d k)) (fun d => U (ix3 0 d k)) * D (ix3 0 k o))).symm
  congr 1
  · refine Finset.sum_congr rfl fun k _ => ?_
    have e : (⟨0 + k.val, by omega⟩ : Fin 512) = Fin.castAdd 256 k := Fin.ext (Nat.zero_add _)
    refine congrArg₂ (· * ·) (congrArg₂ (unit fun d => H (ix2 r d)) (funext fun d => ?_) (funext fun d => ?_)) ?_
    · exact (ldcol G 0 (by omega) _ d k).trans (by rw [e])
    · exact (ldcol U 0 (by omega) _ d k).trans (by rw [e])
    · exact (ldrow D 0 (by omega) _ k o).trans (by rw [e])
  · refine Finset.sum_congr rfl fun k _ => ?_
    rw [pay6_at]
    refine congrArg₂ (· * ·) (congrArg₂ (unit fun d => H (ix2 r d)) (funext fun d => ?_) (funext fun d => ?_)) ?_
    · exact ldcol G 256 (by omega) _ d k
    · exact ldcol U 256 (by omega) _ d k
    · exact ldrow D 256 (by omega) _ k o

variable (m : (ℓ : Loc nD τ sig) → Buf (Elt Ideal) ℓ)

theorem first (c : Dev nD) (t : Fin cfg0.N) (h0 : t.val % 11 = 0) : (outsAt0 m c t.val t.isLt).2.1 = k0_pay3 (iblk m c 0 t) (iblk m c 2 t) (iblk m c 1 t)
    ∧ (outsAt0 m c t.val t.isLt).2.2 = stepV (k0_pay3 (iblk m c 0 t) (iblk m c 2 t) (iblk m c 1 t)) k0_pay4 (iblk m c 4 t) (iblk m c 5 t) (iblk m c 6 t) := by
  rw [outsAt0_A m c t h0 (by omega)]
  unfold stepV
  constructor <;> frame_out

theorem next (c : Dev nD) (t : Fin cfg0.N) (h0 : ¬ t.val % 11 = 0) (hp : t.val - 1 < cfg0.N) :
    (outsAt0 m c t.val t.isLt).2.1 = (outsAt0 m c (t.val - 1) hp).2.1
    ∧ (outsAt0 m c t.val t.isLt).2.2 = stepV (outsAt0 m c (t.val - 1) hp).2.1 (outsAt0 m c (t.val - 1) hp).2.2 (iblk m c 4 t) (iblk m c 5 t) (iblk m c 6 t) := by
  unfold stepV
  by_cases h1 : t.val % 11 = 10
  · rw [outsAt0_C m c t h0 h1]
    constructor
    · rfl
    · frame_out
      rw [read_unread_whole, read_unread_whole]
  · rw [outsAt0_B m c t h0 h1]
    constructor
    · rfl
    · frame_out
      rw [read_unread_whole, read_unread_whole]

theorem last (c : Dev nD) (t : Fin cfg0.N) (h1 : t.val % 11 = 10) :
    (outsAt0 m c t.val t.isLt).1 = k0_pay2 (iblk m c 0 t) (iblk m c 3 t) (outsAt0 m c t.val t.isLt).2.2 (iblk m c 7 t) (iblk m c 8 t) := by
  rw [outsAt0_C m c t (by omega) h1]
  frame_out

end Cert.FfnIdeal.Mlp
-- ==== Proof.FfnValue.lean ====
module

public import proofs.«01_k».proof.Proof.FfnStep
public import Idealize.ShloMosaic.Lib.Claim

/-! The array the feed-forward kernel leaves: a row block is written at its eleventh point, when the running sum
is that over all the hidden units. -/

@[expose] public section

set_option maxRecDepth 16384

noncomputable section

namespace Cert.FfnIdeal.Mlp

open Idealize.ShloMosaic Idealize.ShloMosaic.TcCoe Idealize.SL.Sem Idealize.ShloMosaic.Tactic
open Idealize.ShloMosaic.Pipeline (Dat)
open Cert.FfnIdeal Cert.FfnIdeal.Gen

theorem idx : ∀ t : Fin cfg0.N, win0_0.index t = ![t.val / 11, 0] ∧ win0_1.index t = ![0, 0] ∧ win0_2.index t = ![0, 0] ∧ win0_3.index t = ![0, 0]
    ∧ win0_4.index t = ![1, 0, t.val % 11] ∧ win0_5.index t = ![1, 0, t.val % 11] ∧ win0_6.index t = ![1, t.val % 11, 0]
    ∧ win0_7.index t = ![0, 0] ∧ win0_8.index t = ![0, 0] ∧ win0_9.index t = ![t.val / 11, 0] ∧ t.val / 11 < 32 :=
  (by decide +kernel : ∀ t : Fin grid0.N, _)

variable (m : (ℓ : Loc nD τ sig) → Buf (Elt Ideal) ℓ)

/-- The arguments, as arrays. -/
abbrev ax (c : Dev nD) : FVec Ideal S16384x2048 .f32 := m ((c : Thread nD τ).loc main_arg0)
abbrev ash (c : Dev nD) : FVec Ideal S1x2048 .f32 := m ((c : Thread nD τ).loc main_arg1)
abbrev asc (c : Dev nD) : FVec Ideal S1x2048 .f32 := m ((c : Thread nD τ).loc main_arg2)
abbrev aga (c : Dev nD) : FVec Ideal S1x2048 .f32 := m ((c : Thread nD τ).loc main_arg3)
abbrev awg (c : Dev nD) : FVec Ideal S2x2048x5632 .f32 := m ((c : Thread nD τ).loc main_arg4)
abbrev awu (c : Dev nD) : FVec Ideal S2x2048x5632 .f32 := m ((c : Thread nD τ).loc main_arg5)
abbrev awd (c : Dev nD) : FVec Ideal S2x5632x2048 .f32 := m ((c : Thread nD τ).loc main_arg6)
abbrev ag (c : Dev nD) : FVec Ideal S1x2048 .f32 := m ((c : Thread nD τ).loc main_arg7)
abbrev ab (c : Dev nD) : FVec Ideal S1x2048 .f32 := m ((c : Thread nD τ).loc main_arg8)

/-- The row in place `r` of a point's row block. -/
def row (t : Fin cfg0.N) (r : Fin 512) : Fin 16384 := ⟨512 * (t.val / 11) + r.val, by have := (idx t).2.2.2.2.2.2.2.2.2.2; omega⟩
/-- The hidden unit in place `k` of a point's weight blocks. -/
def hcol (t : Fin cfg0.N) (k : Fin 512) : Fin 5632 := ⟨512 * (t.val % 11) + k.val, by omega⟩

theorem b0 (c : Dev nD) (t : Fin cfg0.N) (r : Fin 512) (d : Fin 2048) :
    (show FVec Ideal S512x2048 .f32 from iblk m c 0 t) (ix2 r d) = ax m c (ix2 (row t r) d) := by
  unfold row ax
  blk_ext [iblk, V, idx t]
theorem b1 (c : Dev nD) (t : Fin cfg0.N) (d : Fin 2048) :
    (show FVec Ideal S1x2048 .f32 from iblk m c 1 t) (ix2 0 d) = ash m c (ix2 0 d) := by
  unfold ash
  blk_ext [iblk, V, idx t]
theorem b2 (c : Dev nD) (t : Fin cfg0.N) (d : Fin 2048) :
    (show FVec Ideal S1x2048 .f32 from iblk m c 2 t) (ix2 0 d) = asc m c (ix2 0 d) := by
  unfold asc
  blk_ext [iblk, V, idx t]
theorem b3 (c : Dev nD) (t : Fin cfg0.N) (d : Fin 2048) :
    (show FVec Ideal S1x2048 .f32 from iblk m c 3 t) (ix2 0 d) = aga m c (ix2 0 d) := by
  unfold aga
  blk_ext [iblk, V, idx t]
theorem b7 (c : Dev nD) (t : Fin cfg0.N) (d : Fin 2048) :
    (show FVec Ideal S1x2048 .f32 from iblk m c 7 t) (ix2 0 d) = ag m c (ix2 0 d) := by
  unfold ag
  blk_ext [iblk, V, idx t]
theorem b8 (c : Dev nD) (t : Fin cfg0.N) (d : Fin 2048) :
    (show FVec Ideal S1x2048 .f32 from iblk m c 8 t) (ix2 0 d) = ab m c (ix2 0 d) := by
  unfold ab
  blk_ext [iblk, V, idx t]

theorem v0 (c : Dev nD) : (show FVec Ideal S2x2048x5632 .bf16 from V m c main_v0) = fun i => awg m c i := by
  entry_read
  rfl
theorem v1 (c : Dev nD) : (show FVec Ideal S2x2048x5632 .bf16 from V m c main_v1) = fun i => awu m c i := by
  entry_read
  rfl
theorem v2 (c : Dev nD) : (show FVec Ideal S2x5632x2048 .bf16 from V m c main_v2) = fun i => awd m c i := by
  entry_read
  rfl

theorem b4 (c : Dev nD) (t : Fin cfg0.N) (d : Fin 2048) (k : Fin 512) :
    (show FVec Ideal S1x2048x512 .bf16 from iblk m c 4 t) (ix3 0 d k) = awg m c (ix3 1 d (hcol t k)) := by
  refine Eq.trans ?_ (congrFun (v0 m c) _)
  unfold hcol
  blk_ext [iblk, idx t]
theorem b5 (c : Dev nD) (t : Fin cfg0.N) (d : Fin 2048) (k : Fin 512) :
    (show FVec Ideal S1x2048x512 .bf16 from iblk m c 5 t) (ix3 0 d k) = awu m c (ix3 1 d (hcol t k)) := by
  refine Eq.trans ?_ (congrFun (v1 m c) _)
  unfold hcol
  blk_ext [iblk, idx t]
theorem b6 (c : Dev nD) (t : Fin cfg0.N) (k : Fin 512) (o : Fin 2048) :
    (show FVec Ideal S1x512x2048 .bf16 from iblk m c 6 t) (ix3 0 k o) = awd m c (ix3 1 (hcol t k) o) := by
  refine Eq.trans ?_ (congrFun (v2 m c) _)
  unfold hcol
  blk_ext [iblk, idx t]

abbrev hrow (c : Dev nD) := hid (ax m c) (ash m c) (asc m c)
abbrev trm (c : Dev nD) := term (ax m c) (ash m c) (asc m c) (awg m c) (awu m c) (awd m c)

/-- A point's terms are those of its 512 hidden units. -/
theorem part (c : Dev nD) (t : Fin cfg0.N) (H : FVec Ideal S512x2048 .bf16) (acc : FVec Ideal S512x2048 .f32)
    (hH : ∀ r d, H (ix2 r d) = hrow m c (row t r) d) (r : Fin 512) (o : Fin 2048)
    (ha : acc (ix2 r o) = ∑ j ∈ Finset.range (512 * (t.val % 11)), trm m c (row t r) o j) :
    stepV H acc (iblk m c 4 t) (iblk m c 5 t) (iblk m c 6 t) (ix2 r o) = ∑ j ∈ Finset.range (512 * (t.val % 11) + 512), trm m c (row t r) o j := by
  rw [stepV_at, ha, Finset.sum_range_add, Finset.sum_range (n := 512)]
  refine congrArg _ (Finset.sum_congr rfl fun k _ => ?_)
  unfold trm term
  rw [dif_pos (by omega)]
  exact congrArg₂ (· * ·) (congrArg₂ (· · ) (congrArg₂ unit (funext fun d => hH r d) (funext fun d => b4 m c t d k)) (funext fun d => b5 m c t d k)) (b6 m c t k o)

/-- At a row block's first point. -/
theorem inv_first (c : Dev nD) (t : Fin cfg0.N) (h0 : t.val % 11 = 0) :
    (∀ r d, (show FVec Ideal S512x2048 .bf16 from (outsAt0 m c t.val t.isLt).2.1) (ix2 r d) = hrow m c (row t r) d)
    ∧ ∀ r o, (show FVec Ideal S512x2048 .f32 from (outsAt0 m c t.val t.isLt).2.2) (ix2 r o) = ∑ j ∈ Finset.range (512 * (t.val % 11) + 512), trm m c (row t r) o j := by
  obtain ⟨e1, e2⟩ := first m c t h0
  have hH : ∀ r d, k0_pay3 (F := Ideal) (iblk m c 0 t) (iblk m c 2 t) (iblk m c 1 t) (ix2 r d) = hrow m c (row t r) d := fun r d =>
    (pay3_at _ _ _ r d).trans (congrArg₂ (· + ·) (congrArg₂ (· * ·) (b0 m c t r d) (congrArg (1 + ·) (b2 m c t d))) (b1 m c t d))
  refine ⟨fun r d => (congrFun e1 (ix2 r d)).trans (hH r d), fun r o => (congrFun e2 (ix2 r o)).trans (part m c t _ _ hH r o ?_)⟩
  rw [pay4_at, h0]
  rfl

theorem inv (c : Dev nD) (n : ℕ) (h : n < cfg0.N) :
    (∀ r d, (show FVec Ideal S512x2048 .bf16 from (outsAt0 m c n h).2.1) (ix2 r d) = hrow m c (row ⟨n, h⟩ r) d)
    ∧ ∀ r o, (show FVec Ideal S512x2048 .f32 from (outsAt0 m c n h).2.2) (ix2 r o) = ∑ j ∈ Finset.range (512 * (n % 11) + 512), trm m c (row ⟨n, h⟩ r) o j := by
  induction n with
  | zero => exact inv_first m c ⟨0, h⟩ rfl
  | succ n ih =>
    by_cases h0 : (n + 1) % 11 = 0
    · exact inv_first m c ⟨n + 1, h⟩ h0
    · have hp : n < cfg0.N := Nat.lt_of_succ_lt h
      obtain ⟨i1, i2⟩ := ih hp
      obtain ⟨e1, e2⟩ := next m c ⟨n + 1, h⟩ h0 hp
      have er : ∀ r, row ⟨n, hp⟩ r = row ⟨n + 1, h⟩ r := fun r => Fin.ext (by show 512 * (n / 11) + r.val = 512 * ((n + 1) / 11) + r.val; omega)
      have hH : ∀ r d, (show FVec Ideal S512x2048 .bf16 from (outsAt0 m c n hp).2.1) (ix2 r d) = hrow m c (row ⟨n + 1, h⟩ r) d := fun r d => by
        rw [← er]
        exact i1 r d
      refine ⟨fun r d => (congrFun e1 (ix2 r d)).trans (hH r d), fun r o => (congrFun e2 (ix2 r o)).trans (part m c ⟨n + 1, h⟩ _ _ hH r o ?_)⟩
      refine (i2 r o).trans ?_
      rw [er]
      congr 2
      show 512 * (n % 11) + 512 = 512 * ((n + 1) % 11)
      omega

/-- The result array after the run. -/
theorem final (c : Dev nD) : (dats m 0 c).arrAt 9 (cfgs 0).N
    = fun Y : S16384x2048.Idx => ffn (ax m c) (ash m c) (asc m c) (aga m c) (awg m c) (awu m c) (awd m c) (ag m c) (ab m c) (Y 0) (Y 1) := by
  refine (dats m 0 c).arrAt_eq_of_covers 9 _ (by decide +kernel) fun t hfl y => ?_
  have h1 : t.val % 11 = 10 := (flush0_9 t).1 hfl
  blk_simp
  rw [after0_9, last m c t h1]
  obtain ⟨r, o, rfl⟩ : ∃ (r : Fin 512) (o : Fin 2048), y = ix2 r o := ⟨y 0, y 1, eq_ix2 y⟩
  refine (pay2_at _ _ _ _ _ r o).trans ?_
  have e3 : ∀ (a : Fin 16384) (e : Fin 2048), a.val = 512 * (t.val / 11) + r.val → e.val = o.val →
      ffn (ax m c) (ash m c) (asc m c) (aga m c) (awg m c) (awu m c) (awd m c) (ag m c) (ab m c) a e
        = ffn (ax m c) (ash m c) (asc m c) (aga m c) (awg m c) (awu m c) (awd m c) (ag m c) (ab m c) (row t r) o := by
    intro a e ha he
    rw [show a = row t r from Fin.ext ha, show e = o from Fin.ext he]
  refine Eq.trans ?_ (e3 _ _ ?_ ?_).symm
  · unfold ffn
    have hz : ∀ e, (show FVec Ideal S512x2048 .f32 from (outsAt0 m c t.val t.isLt).2.2) (ix2 r e) = ∑ j ∈ Finset.range 5632, trm m c (row t r) e j := fun e => by
      refine ((inv m c t.val t.isLt).2 r e).trans ?_
      rw [h1]
    rw [funext fun e => b7 m c t e, funext fun e => b8 m c t e]
    refine congrArg (fun z => norm z _ _ o) (funext fun e => ?_)
    exact congrArg₂ (· + ·) (congrArg _ (b0 m c t r e)) (congrArg₂ (· * ·) (b3 m c t e) (hz e))
  · blk_simp [idx t] <;> (try simp) <;> try omega
  · blk_simp [idx t] <;> (try simp) <;> try omega

end Cert.FfnIdeal.Mlp
-- ==== Proof.FfnRef.lean ====
module

public import proofs.«01_k».proof.Proof.FfnMath
public import proofs.«01_k».proof.Proof.Gen.FfnReferenceIdeal.Run
public import Idealize.ShloMosaic.Lib.Pointwise

/-! The feed-forward's reference at an index. -/

@[expose] public section

set_option maxRecDepth 16384

noncomputable section

namespace Cert.FfnReferenceIdeal.Mlp

open Idealize.ShloMosaic Idealize.ShloMosaic.Tactic
open Cert.FfnReferenceIdeal Cert.FfnReferenceIdeal.Gen
open Cert.FfnIdeal.Mlp (unit hid term ffn)

/-- The modulated rows. -/
abbrev rows (x : FVec Ideal S16384x2048 .f32) (sh sc : FVec Ideal S1x2048 .f32) : FVec Ideal S16384x2048 .f32 :=
  addf (mulf x (broadcastInDim S16384x2048 ![0, 1] bcast_S1x2048_S16384x2048_0_1 (addf (broadcastInDim S1x2048 ![] bcast_S_S1x2048 (constant S_ .f32 0x3F800000#32)) sc))) (broadcastInDim S16384x2048 ![0, 1] bcast_S1x2048_S16384x2048_0_1 sh)
abbrev proj (h : FVec Ideal S16384x2048 .f32) (w : FVec Ideal S2x2048x5632 .f32) : FVec Ideal S16384x5632 .f32 :=
  Host.dotGeneral dot_S16384x2048_S2048x5632_S16384x5632_1_0_0_1_n_n none h (shapeCast _ (extractStridedSlice S1x2048x5632 ![1, 0, 0] w slices_S2x2048x5632_S1x2048x5632_1_0_0) shapeCasts_S1x2048x5632_S2048x5632)
/-- The hidden units. -/
abbrev act (g u : FVec Ideal S16384x5632 .f32) : FVec Ideal S16384x5632 .f32 :=
  mulf (mulf g (Host.divf (broadcastInDim S16384x5632 ![] bcast_S_S16384x5632 (constant S_ .f32 0x3F800000#32)) (addf (broadcastInDim S16384x5632 ![] bcast_S_S16384x5632 (constant S_ .f32 0x3F800000#32)) (Host.exp (Host.negf g))))) u
abbrev back (a : FVec Ideal S16384x5632 .f32) (w : FVec Ideal S2x5632x2048 .f32) : FVec Ideal S16384x2048 .f32 :=
  Host.dotGeneral dot_S16384x5632_S5632x2048_S16384x2048_1_0_0_1_n_n none a (shapeCast _ (extractStridedSlice S1x5632x2048 ![1, 0, 0] w slices_S2x5632x2048_S1x5632x2048_1_0_0) shapeCasts_S1x5632x2048_S5632x2048)
/-- The residual with the gated feed-forward. -/
abbrev resid (x : FVec Ideal S16384x2048 .f32) (ga : FVec Ideal S1x2048 .f32) (y : FVec Ideal S16384x2048 .f32) : FVec Ideal S16384x2048 .f32 :=
  addf (mulf (broadcastInDim S16384x2048 ![] bcast_S_S16384x2048 (constant S_ .f32 0x3FB504F3#32)) x) (mulf (broadcastInDim S16384x2048 ![0, 1] bcast_S1x2048_S16384x2048_0_1 ga) y)
/-- The mean of each row. -/
abbrev mean (z : FVec Ideal S16384x2048 .f32) : FVec Ideal S16384x1 .f32 :=
  Host.divf (broadcastInDim S16384x1 ![0] bcast_S16384_S16384x1_0 (Host.reduceAdd z (constant S_ .f32 0x00000000#32) reducesTo_S16384x2048_S16384_d1 h_S_)) (broadcastInDim S16384x1 ![] bcast_S_S16384x1 (constant S_ .f32 0x45000000#32))
abbrev cent (z : FVec Ideal S16384x2048 .f32) : FVec Ideal S16384x2048 .f32 :=
  subf z (broadcastInDim S16384x2048 ![0, 1] bcast_S16384x1_S16384x2048_0_1 (mean z))
/-- The layer norm from the centred rows. -/
abbrev scaled (k : FVec Ideal S16384x2048 .f32) (g b : FVec Ideal S1x2048 .f32) : FVec Ideal S16384x2048 .f32 :=
  addf (mulf (mulf k (broadcastInDim S16384x2048 ![0, 1] bcast_S16384x1_S16384x2048_0_1 (Host.rsqrt (addf (mean (mulf k k)) (broadcastInDim S16384x1 ![] bcast_S_S16384x1 (constant S_ .f32 0x3727C5AC#32))))))
    (broadcastInDim S16384x2048 ![0, 1] bcast_S1x2048_S16384x2048_0_1 g)) (broadcastInDim S16384x2048 ![0, 1] bcast_S1x2048_S16384x2048_0_1 b)

/-- The reference's result by its steps. -/
theorem res_eq (m : (ℓ : Loc nD τ sig) → Buf (Elt Ideal) ℓ) (c : Dev nD) : Cert.FfnReferenceIdeal.Value.res_out0 m c
    = scaled (cent (resid (m ((c.tc : Thread nD τ).loc main_arg0)) (m ((c.tc : Thread nD τ).loc main_arg3))
        (back (act (proj (rows (m ((c.tc : Thread nD τ).loc main_arg0)) (m ((c.tc : Thread nD τ).loc main_arg1)) (m ((c.tc : Thread nD τ).loc main_arg2))) (m ((c.tc : Thread nD τ).loc main_arg4)))
          (proj (rows (m ((c.tc : Thread nD τ).loc main_arg0)) (m ((c.tc : Thread nD τ).loc main_arg1)) (m ((c.tc : Thread nD τ).loc main_arg2))) (m ((c.tc : Thread nD τ).loc main_arg5))))
          (m ((c.tc : Thread nD τ).loc main_arg6)))))
        (m ((c.tc : Thread nD τ).loc main_arg7)) (m ((c.tc : Thread nD τ).loc main_arg8)) := rfl

theorem rows_at (x : FVec Ideal S16384x2048 .f32) (sh sc : FVec Ideal S1x2048 .f32) (i : Fin 16384) (d : Fin 2048) :
    rows x sh sc (ix2 i d) = hid x sh sc i d := by
  unfold rows hid
  pointwise!

theorem proj_at (h : FVec Ideal S16384x2048 .f32) (w : FVec Ideal S2x2048x5632 .f32) (i : Fin 16384) (j : Fin 5632) :
    proj h w (ix2 i j) = ∑ d : Fin 2048, h (ix2 i d) * w (ix3 1 d j) := by
  unfold proj
  pointwise!

theorem act_at (g u : FVec Ideal S16384x5632 .f32) (i : Fin 16384) (j : Fin 5632) :
    act g u (ix2 i j) = g (ix2 i j) * Ideal.logistic (g (ix2 i j)) * u (ix2 i j) := by
  unfold act
  pointwise!

theorem back_at (a : FVec Ideal S16384x5632 .f32) (w : FVec Ideal S2x5632x2048 .f32) (i : Fin 16384) (o : Fin 2048) :
    back a w (ix2 i o) = ∑ j : Fin 5632, a (ix2 i j) * w (ix3 1 j o) := by
  unfold back
  pointwise!

theorem resid_at (x : FVec Ideal S16384x2048 .f32) (ga : FVec Ideal S1x2048 .f32) (y : FVec Ideal S16384x2048 .f32) (i : Fin 16384) (o : Fin 2048) :
    resid x ga y (ix2 i o) = Ideal.ofBits .f32 0x3FB504F3#32 * x (ix2 i o) + ga (ix2 0 o) * y (ix2 i o) := by
  unfold resid
  pointwise!

theorem mean_at (z : FVec Ideal S16384x2048 .f32) (i : Fin 16384) :
    mean z (ix2 i 0) = Ideal.div (∑ e : Fin 2048, z (ix2 i e)) (Ideal.ofBits .f32 0x45000000#32) := by
  unfold mean
  pointwise!

theorem norm_at (z : FVec Ideal S16384x2048 .f32) (g b : FVec Ideal S1x2048 .f32) (i : Fin 16384) (o : Fin 2048) :
    scaled (cent z) g b (ix2 i o) = Cert.FfnIdeal.Mlp.norm (fun e => z (ix2 i e)) (fun e => g (ix2 0 e)) (fun e => b (ix2 0 e)) o := by
  unfold scaled cent Cert.FfnIdeal.Mlp.norm mean
  pointwise!

/-- The feed-forward of the modulated rows. -/
theorem mlp_at (x : FVec Ideal S16384x2048 .f32) (sh sc : FVec Ideal S1x2048 .f32) (wg wu : FVec Ideal S2x2048x5632 .f32) (wd : FVec Ideal S2x5632x2048 .f32)
    (i : Fin 16384) (o : Fin 2048) : back (act (proj (rows x sh sc) wg) (proj (rows x sh sc) wu)) wd (ix2 i o)
      = ∑ j ∈ Finset.range 5632, term x sh sc wg wu wd i o j := by
  rw [back_at, Finset.sum_range (n := 5632)]
  refine Finset.sum_congr rfl fun j _ => ?_
  unfold term
  rw [dif_pos j.isLt, act_at, proj_at, proj_at]
  unfold unit
  simp only [rows_at]

theorem ref_at (x : FVec Ideal S16384x2048 .f32) (sh sc ga : FVec Ideal S1x2048 .f32) (wg wu : FVec Ideal S2x2048x5632 .f32) (wd : FVec Ideal S2x5632x2048 .f32)
    (g b : FVec Ideal S1x2048 .f32) (i : Fin 16384) (o : Fin 2048) :
    scaled (cent (resid x ga (back (act (proj (rows x sh sc) wg) (proj (rows x sh sc) wu)) wd))) g b (ix2 i o)
      = ffn x sh sc ga wg wu wd g b i o := by
  rw [norm_at]
  unfold ffn
  refine congrArg (fun z => Cert.FfnIdeal.Mlp.norm z _ _ o) (funext fun e => ?_)
  rw [resid_at, mlp_at]

/-- The reference's result from any memory whose arguments are these. -/
theorem res (m : (ℓ : Loc nD τ sig) → Buf (Elt Ideal) ℓ) (c : Dev nD)
    (x : FVec Ideal S16384x2048 .f32) (sh sc ga : FVec Ideal S1x2048 .f32) (wg wu : FVec Ideal S2x2048x5632 .f32) (wd : FVec Ideal S2x5632x2048 .f32)
    (g b : FVec Ideal S1x2048 .f32)
    (h0 : m ((c.tc : Thread nD τ).loc main_arg0) = x) (h1 : m ((c.tc : Thread nD τ).loc main_arg1) = sh) (h2 : m ((c.tc : Thread nD τ).loc main_arg2) = sc)
    (h3 : m ((c.tc : Thread nD τ).loc main_arg3) = ga) (h4 : m ((c.tc : Thread nD τ).loc main_arg4) = wg) (h5 : m ((c.tc : Thread nD τ).loc main_arg5) = wu)
    (h6 : m ((c.tc : Thread nD τ).loc main_arg6) = wd) (h7 : m ((c.tc : Thread nD τ).loc main_arg7) = g) (h8 : m ((c.tc : Thread nD τ).loc main_arg8) = b) :
    Cert.FfnReferenceIdeal.Value.res_main_v43 m c = fun Y : S16384x2048.Idx => ffn x sh sc ga wg wu wd g b (Y 0) (Y 1) := by
  subst h0 h1 h2 h3 h4 h5 h6 h7 h8
  refine (res_eq m c).trans (funext fun Y => ?_)
  obtain ⟨i, o, rfl⟩ : ∃ (i : Fin 16384) (o : Fin 2048), Y = ix2 i o := ⟨Y 0, Y 1, eq_ix2 Y⟩
  exact ref_at _ _ _ _ _ _ _ _ _ i o

end Cert.FfnReferenceIdeal.Mlp
-- ==== Proof.DiffLoop.lean ====
module

public import proofs.«01_k».proof.Proof.Gen.DiffIdeal.Frame
public import proofs.«01_k».proof.Proof.Gen.DiffIdeal.Skeleton
public import Idealize.ShloMosaic.Lib.Pointwise
public import Idealize.ShloMosaic.Lib.VecWindow
public import proofs.«01_k».proof.Proof.Loop

@[expose] public section

set_option maxRecDepth 16384

noncomputable section

namespace Cert.DiffIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal.Gen
open Idealize.ShloMosaic.View (ld)

variable {F : FTy → Type} [FloatOps F]

local notation "𝕄" => MT nD τ sig Unit (Elt F) ℕ (UR sig nD τ) ℕ

section
variable {α : Type} {p n : ℕ}

/-- Two components, one after the other. -/
def two (w0 w1 : (⟨3, ![1, p, n]⟩ : Shape).Idx → α) : (⟨3, ![2, p, n]⟩ : Shape).Idx → α :=
  fun y => if (y (0 : Fin 3)).val = 0 then w0 (ix3 (0 : Fin 1) (y (1 : Fin 3)) (y (2 : Fin 3))) else w1 (ix3 (0 : Fin 1) (y (1 : Fin 3)) (y (2 : Fin 3)))

variable {sg : RefSig} {κ : Kind} {sp : Space} {e : EltTy} {Val : EltTy → Type}

/-- Stores to both components leave the two, whatever was there. -/
theorem read_two (v : View sg κ sp (⟨3, ![2, p, n]⟩ : Shape) e) (f : v.ty.Contents Val) (i0 : ∀ a, (![0, 0, 0] : Fin 3 → ℕ) a + (![1, p, n] : Fin 3 → ℕ) a ≤ (![2, p, n] : Fin 3 → ℕ) a)
    (i1 : ∀ a, (![1, 0, 0] : Fin 3 → ℕ) a + (![1, p, n] : Fin 3 → ℕ) a ≤ (![2, p, n] : Fin 3 → ℕ) a) (w0 w1 : (⟨3, ![1, p, n]⟩ : Shape).Idx → Val e) (L : List (View.Piece Val (⟨3, ![2, p, n]⟩ : Shape) e)) :
    v.read Val (v.writes Val f ((⟨Rect.unit (s := ⟨3, ![2, p, n]⟩) ![1, 0, 0] ![1, p, n] i1, w1⟩ : View.Piece Val _ e) :: ⟨Rect.unit (s := ⟨3, ![2, p, n]⟩) ![0, 0, 0] ![1, p, n] i0, w0⟩ :: L)) = two w0 w1 := by
  funext y
  have hy : (y (0 : Fin 3)).val < 2 := (y (0 : Fin 3)).isLt
  unfold two
  split
  · rename_i h
    rw [View.read_writes_cons_unit_of_not_mem v f i1 w1 _ y rfl (0 : Fin 3) (by left; show (y (0 : Fin 3)).val < 1; omega)]
    refine View.read_writes_cons_unit_of_mem v f i0 w0 L y (ix3 (0 : Fin 1) (y (1 : Fin 3)) (y (2 : Fin 3))) rfl ?_
    intro a; fin_cases a
    · show (y (0 : Fin 3)).val = 0 + 0; omega
    · show (y (1 : Fin 3)).val = 0 + (y (1 : Fin 3)).val; omega
    · show (y (2 : Fin 3)).val = 0 + (y (2 : Fin 3)).val; omega
  · rename_i h
    refine View.read_writes_cons_unit_of_mem v f i1 w1 _ y (ix3 (0 : Fin 1) (y (1 : Fin 3)) (y (2 : Fin 3))) rfl ?_
    intro a; fin_cases a
    · show (y (0 : Fin 3)).val = 1 + 0; omega
    · show (y (1 : Fin 3)).val = 0 + (y (1 : Fin 3)).val; omega
    · show (y (2 : Fin 3)).val = 0 + (y (2 : Fin 3)).val; omega

theorem writes_two {M : Memref sg κ sp (⟨3, ![2, p, n]⟩ : Shape) e} (h : M.IsWhole) (f : M.view.ty.Contents Val) (i0 : ∀ a, (![0, 0, 0] : Fin 3 → ℕ) a + (![1, p, n] : Fin 3 → ℕ) a ≤ (![2, p, n] : Fin 3 → ℕ) a)
    (i1 : ∀ a, (![1, 0, 0] : Fin 3 → ℕ) a + (![1, p, n] : Fin 3 → ℕ) a ≤ (![2, p, n] : Fin 3 → ℕ) a) (w0 w1 : (⟨3, ![1, p, n]⟩ : Shape).Idx → Val e) (L : List (View.Piece Val (⟨3, ![2, p, n]⟩ : Shape) e)) :
    M.view.writes Val f ((⟨Rect.unit (s := ⟨3, ![2, p, n]⟩) ![1, 0, 0] ![1, p, n] i1, w1⟩ : View.Piece Val _ e) :: ⟨Rect.unit (s := ⟨3, ![2, p, n]⟩) ![0, 0, 0] ![1, p, n] i0, w0⟩ :: L) = h.unread (two w0 w1) :=
  h.eq_unread (read_two M.view f i0 i1 w0 w1 L)

/-- A load of the other component after a store to the first reads what was there before. -/
theorem readAt_other {M : Memref sg κ sp (⟨3, ![2, p, n]⟩ : Shape) e} (h : M.IsWhole) (x : (⟨3, ![2, p, n]⟩ : Shape).Idx → Val e) (i0 : ∀ a, (![0, 0, 0] : Fin 3 → ℕ) a + (![1, p, n] : Fin 3 → ℕ) a ≤ (![2, p, n] : Fin 3 → ℕ) a)
    (i1 : ∀ a, (![1, 0, 0] : Fin 3 → ℕ) a + (![1, p, n] : Fin 3 → ℕ) a ≤ (![2, p, n] : Fin 3 → ℕ) a) (w0 : (⟨3, ![1, p, n]⟩ : Shape).Idx → Val e) :
    M.view.readAt Val (Rect.unit (s := ⟨3, ![2, p, n]⟩) ![1, 0, 0] ![1, p, n] i1).toLoadRect (M.view.writes Val (h.unread x) [(⟨Rect.unit (s := ⟨3, ![2, p, n]⟩) ![0, 0, 0] ![1, p, n] i0, w0⟩ : View.Piece Val _ e)])
      = ld x (Rect.unit (s := ⟨3, ![2, p, n]⟩) ![1, 0, 0] ![1, p, n] i1) := by
  funext y
  refine (View.read_writes_cons_unit_of_not_mem M.view _ i0 w0 [] _ rfl (0 : Fin 3) (by right; show 0 + 1 ≤ 1 + 1 * (y (0 : Fin 3)).val; exact Nat.le_add_right _ _)).trans ?_
  rw [View.writes_nil, h.read_unread]

/-- A load of the component last stored reads what was stored. -/
theorem cov_last [∀ e, Nonempty (Val e)] (v : View sg κ sp (⟨3, ![2, p, n]⟩ : Shape) e) (off : Fin 3 → ℕ) (i0 : ∀ a, off a + (![1, p, n] : Fin 3 → ℕ) a ≤ (![2, p, n] : Fin 3 → ℕ) a) (w : (⟨3, ![1, p, n]⟩ : Shape).Idx → Val e) (L : List (View.Piece Val (⟨3, ![2, p, n]⟩ : Shape) e)) :
    v.readCov ((⟨Rect.unit (s := ⟨3, ![2, p, n]⟩) off ![1, p, n] i0, w⟩ : View.Piece Val _ e) :: L) (Rect.unit (s := ⟨3, ![2, p, n]⟩) off ![1, p, n] i0).toLoadRect = w := by
  funext y
  refine View.read_writes_cons_unit_of_mem v _ i0 w L _ y rfl fun a => ?_
  show off a + 1 * (y a).val = off a + (y a).val
  omega

/-- A load of the first component when the second was stored last. -/
theorem cov_first [∀ e, Nonempty (Val e)] (v : View sg κ sp (⟨3, ![2, p, n]⟩ : Shape) e) (i0 : ∀ a, (![0, 0, 0] : Fin 3 → ℕ) a + (![1, p, n] : Fin 3 → ℕ) a ≤ (![2, p, n] : Fin 3 → ℕ) a) (i1 : ∀ a, (![1, 0, 0] : Fin 3 → ℕ) a + (![1, p, n] : Fin 3 → ℕ) a ≤ (![2, p, n] : Fin 3 → ℕ) a) (w0 w1 : (⟨3, ![1, p, n]⟩ : Shape).Idx → Val e) (L : List (View.Piece Val (⟨3, ![2, p, n]⟩ : Shape) e)) :
    v.readCov ((⟨(Rect.unit (s := ⟨3, ![2, p, n]⟩) ![1, 0, 0] ![1, p, n] i1), w1⟩ : View.Piece Val _ e) :: ⟨(Rect.unit (s := ⟨3, ![2, p, n]⟩) ![0, 0, 0] ![1, p, n] i0), w0⟩ :: L) (Rect.unit (s := ⟨3, ![2, p, n]⟩) ![0, 0, 0] ![1, p, n] i0).toLoadRect = w0 := by
  refine Eq.trans ?_ (cov_last v ![0, 0, 0] i0 w0 L)
  funext y
  refine View.read_writes_cons_unit_of_not_mem v _ i1 w1 _ _ rfl (0 : Fin 3) (by left; show 0 + 1 * (y (0 : Fin 3)).val < 1; have : (y (0 : Fin 3)).val < 1 := (y (0 : Fin 3)).isLt; omega)

/-- A load of a component just after a store of both. -/
theorem cov_both [∀ e, Nonempty (Val e)] (v : View sg κ sp (⟨3, ![2, p, n]⟩ : Shape) e) {off : Fin 3 → ℕ} (i : ∀ a, off a + (![2, p, n] : Fin 3 → ℕ) a ≤ (![2, p, n] : Fin 3 → ℕ) a) (w : (⟨3, ![2, p, n]⟩ : Shape).Idx → Val e) (L : List (View.Piece Val (⟨3, ![2, p, n]⟩ : Shape) e)) (r : Rect (⟨3, ![2, p, n]⟩ : Shape)) :
    v.readCov ((⟨Rect.unit (s := ⟨3, ![2, p, n]⟩) off ![2, p, n] i, w⟩ : View.Piece Val _ e) :: L) r.toLoadRect = ld w r :=
  Cert.KernelIdeal.Mla.readCov_part v i w L r

/-- A load of any part after stores to both components reads that part of the two. -/
theorem cov_pair [∀ e, Nonempty (Val e)] (v : View sg κ sp (⟨3, ![2, p, n]⟩ : Shape) e) (i0 : ∀ a, (![0, 0, 0] : Fin 3 → ℕ) a + (![1, p, n] : Fin 3 → ℕ) a ≤ (![2, p, n] : Fin 3 → ℕ) a) (i1 : ∀ a, (![1, 0, 0] : Fin 3 → ℕ) a + (![1, p, n] : Fin 3 → ℕ) a ≤ (![2, p, n] : Fin 3 → ℕ) a) (w0 w1 : (⟨3, ![1, p, n]⟩ : Shape).Idx → Val e) (L : List (View.Piece Val (⟨3, ![2, p, n]⟩ : Shape) e)) (r : Rect (⟨3, ![2, p, n]⟩ : Shape)) :
    v.readCov ((⟨(Rect.unit (s := ⟨3, ![2, p, n]⟩) ![1, 0, 0] ![1, p, n] i1), w1⟩ : View.Piece Val _ e) :: ⟨(Rect.unit (s := ⟨3, ![2, p, n]⟩) ![0, 0, 0] ![1, p, n] i0), w0⟩ :: L) r.toLoadRect = ld (two w0 w1) r := by
  show v.readAt Val r.toLoadRect (v.writes Val v.junk _) = _
  rw [View.readAt_eq_ld, read_two v v.junk i0 i1 w0 w1 L]

/-- A load of the second component when the first was stored last, over a store of both. -/
theorem cov_second [∀ e, Nonempty (Val e)] (v : View sg κ sp (⟨3, ![2, p, n]⟩ : Shape) e) (i0 : ∀ a, (![0, 0, 0] : Fin 3 → ℕ) a + (![1, p, n] : Fin 3 → ℕ) a ≤ (![2, p, n] : Fin 3 → ℕ) a) (i1 : ∀ a, (![1, 0, 0] : Fin 3 → ℕ) a + (![1, p, n] : Fin 3 → ℕ) a ≤ (![2, p, n] : Fin 3 → ℕ) a) {off : Fin 3 → ℕ} (i : ∀ a, off a + (![2, p, n] : Fin 3 → ℕ) a ≤ (![2, p, n] : Fin 3 → ℕ) a) (w0 : (⟨3, ![1, p, n]⟩ : Shape).Idx → Val e) (w : (⟨3, ![2, p, n]⟩ : Shape).Idx → Val e) (L : List (View.Piece Val (⟨3, ![2, p, n]⟩ : Shape) e)) :
    v.readCov ((⟨(Rect.unit (s := ⟨3, ![2, p, n]⟩) ![0, 0, 0] ![1, p, n] i0), w0⟩ : View.Piece Val _ e) :: ⟨Rect.unit (s := ⟨3, ![2, p, n]⟩) off ![2, p, n] i, w⟩ :: L) (Rect.unit (s := ⟨3, ![2, p, n]⟩) ![1, 0, 0] ![1, p, n] i1).toLoadRect = ld w (Rect.unit (s := ⟨3, ![2, p, n]⟩) ![1, 0, 0] ![1, p, n] i1) := by
  refine Eq.trans ?_ (Cert.KernelIdeal.Mla.readCov_part v i w L (Rect.unit (s := ⟨3, ![2, p, n]⟩) ![1, 0, 0] ![1, p, n] i1))
  funext y
  exact View.read_writes_cons_unit_of_not_mem v _ i0 w0 _ _ rfl (0 : Fin 3) (by right; show 0 + 1 ≤ 1 + 1 * (y (0 : Fin 3)).val; exact Nat.le_add_right _ _)

/-- The first of two components. -/
theorem ld_two0 (i0 : ∀ a, (![0, 0, 0] : Fin 3 → ℕ) a + (![1, p, n] : Fin 3 → ℕ) a ≤ (![2, p, n] : Fin 3 → ℕ) a) (w0 w1 : (⟨3, ![1, p, n]⟩ : Shape).Idx → Val e) :
    ld (Val := Val) (e' := e) (two w0 w1) (Rect.unit (s := ⟨3, ![2, p, n]⟩) ![0, 0, 0] ![1, p, n] i0) = w0 := by
  funext y
  have hy : (y (0 : Fin 3)).val < 1 := (y (0 : Fin 3)).isLt
  show two w0 w1 _ = _
  unfold two
  rw [if_pos (by show 0 + 1 * (y (0 : Fin 3)).val = 0; omega)]
  refine congrArg w0 (funext fun a => Fin.ext ?_)
  fin_cases a
  · show 0 = (y (0 : Fin 3)).val; omega
  · show 0 + 1 * (y (1 : Fin 3)).val = (y (1 : Fin 3)).val; omega
  · show 0 + 1 * (y (2 : Fin 3)).val = (y (2 : Fin 3)).val; omega

/-- The second of two components. -/
theorem ld_two1 (i1 : ∀ a, (![1, 0, 0] : Fin 3 → ℕ) a + (![1, p, n] : Fin 3 → ℕ) a ≤ (![2, p, n] : Fin 3 → ℕ) a) (w0 w1 : (⟨3, ![1, p, n]⟩ : Shape).Idx → Val e) :
    ld (Val := Val) (e' := e) (two w0 w1) (Rect.unit (s := ⟨3, ![2, p, n]⟩) ![1, 0, 0] ![1, p, n] i1) = w1 := by
  funext y
  have hy : (y (0 : Fin 3)).val < 1 := (y (0 : Fin 3)).isLt
  show two w0 w1 _ = _
  unfold two
  rw [if_neg (by show ¬ 1 + 1 * (y (0 : Fin 3)).val = 0; omega)]
  refine congrArg w1 (funext fun a => Fin.ext ?_)
  fin_cases a
  · show 0 = (y (0 : Fin 3)).val; omega
  · show 0 + 1 * (y (1 : Fin 3)).val = (y (1 : Fin 3)).val; omega
  · show 0 + 1 * (y (2 : Fin 3)).val = (y (2 : Fin 3)).val; omega
end

/-- The transposed queries of the two components. -/
abbrev q0 (x : Vec F S2x128x1024 .bf16) : Vec F S1x128x1024 .bf16 := ld x (Rect.unit (s := S2x128x1024) ![0, 0, 0] S1x128x1024.size inb_S2x128x1024_S1x128x1024_0_0_0)
abbrev q1 (x : Vec F S2x128x1024 .bf16) : Vec F S1x128x1024 .bf16 := ld x (Rect.unit (s := S2x128x1024) ![1, 0, 0] S1x128x1024.size inb_S2x128x1024_S1x128x1024_1_0_0)
/-- The running maxima of the two components. -/
abbrev m0 (x : Vec F S2x1x1024 .f32) : Vec F S1x1x1024 .f32 := ld x (Rect.unit (s := S2x1x1024) ![0, 0, 0] S1x1x1024.size inb_S2x1x1024_S1x1x1024_0_0_0)
abbrev m1 (x : Vec F S2x1x1024 .f32) : Vec F S1x1x1024 .f32 := ld x (Rect.unit (s := S2x1x1024) ![1, 0, 0] S1x1x1024.size inb_S2x1x1024_S1x1x1024_1_0_0)
/-- The running sums of the two components. -/
abbrev a0 (x : Vec F S2x144x1024 .f32) : Vec F S1x144x1024 .f32 := ld x (Rect.unit (s := S2x144x1024) ![0, 0, 0] S1x144x1024.size inb_S2x144x1024_S1x144x1024_0_0_0)
abbrev a1 (x : Vec F S2x144x1024 .f32) : Vec F S1x144x1024 .f32 := ld x (Rect.unit (s := S2x144x1024) ![1, 0, 0] S1x144x1024.size inb_S2x144x1024_S1x144x1024_1_0_0)

theorem q0_two (x y : Vec F S1x128x1024 .bf16) : q0 (two x y : Vec F S2x128x1024 .bf16) = x := ld_two0 _ x y
theorem q1_two (x y : Vec F S1x128x1024 .bf16) : q1 (two x y : Vec F S2x128x1024 .bf16) = y := ld_two1 _ x y
theorem m0_two (x y : Vec F S1x1x1024 .f32) : m0 (two x y : Vec F S2x1x1024 .f32) = x := ld_two0 _ x y
theorem m1_two (x y : Vec F S1x1x1024 .f32) : m1 (two x y : Vec F S2x1x1024 .f32) = y := ld_two1 _ x y
theorem a0_two (x y : Vec F S1x144x1024 .f32) : a0 (two x y : Vec F S2x144x1024 .f32) = x := ld_two0 _ x y
theorem a1_two (x y : Vec F S1x144x1024 .f32) : a1 (two x y : Vec F S2x144x1024 .f32) = y := ld_two1 _ x y

/-- Chunk `k` of the resident keys, as the loop's trip loads it. -/
abbrev kSlice (kx : Vec F S8192x128 .bf16) (k : Fin k0_t1_loop.trips) : Vec F S512x128 .bf16 :=
  ld kx (Rect.unit (s := S8192x128) (k0_off1 k) S512x128.size (k0_off1_inb k))
/-- Chunk `k` of the resident values. -/
abbrev vSlice (vx : Vec F S128x8192 .bf16) (k : Fin k0_t1_loop.trips) : Vec F S128x512 .bf16 :=
  ld vx (Rect.unit (s := S128x8192) (k0_off2 k) S128x512.size (k0_off2_inb k))

/-- One chunk of the running softmax of one component: the running maximum and the running sums after it. -/
def step1 (qt : Vec F S1x128x1024 .bf16) (K : Vec F S512x128 .bf16) (V : Vec F S128x512 .bf16) (s : Vec F S1x1x1024 .f32 × Vec F S1x144x1024 .f32) : Vec F S1x1x1024 .f32 × Vec F S1x144x1024 .f32 :=
  (k0_pay23 qt K s.1, k0_pay22 qt K V s.1 s.2)

/-- One chunk of the running softmaxes of both components. -/
def slowStep (qt : Vec F S2x128x1024 .bf16) (K : Vec F S512x128 .bf16) (V : Vec F S128x512 .bf16) (s : Vec F S2x1x1024 .f32 × Vec F S2x144x1024 .f32) : Vec F S2x1x1024 .f32 × Vec F S2x144x1024 .f32 :=
  (two (step1 (q0 qt) K V (m0 s.1, a0 s.2)).1 (step1 (q1 qt) K V (m1 s.1, a1 s.2)).1, two (step1 (q0 qt) K V (m0 s.1, a0 s.2)).2 (step1 (q1 qt) K V (m1 s.1, a1 s.2)).2)

/-- The running softmaxes over the first `k` chunks. -/
def slow (qt : Vec F S2x128x1024 .bf16) (kx : Vec F S8192x128 .bf16) (vx : Vec F S128x8192 .bf16) (s : Vec F S2x1x1024 .f32 × Vec F S2x144x1024 .f32) : ℕ → Vec F S2x1x1024 .f32 × Vec F S2x144x1024 .f32
  | 0 => s
  | k + 1 => if h : k < k0_t1_loop.trips then slowStep qt (kSlice kx ⟨k, h⟩) (vSlice vx ⟨k, h⟩) (slow qt kx vx s k) else slow qt kx vx s k

theorem slow_succ (qt : Vec F S2x128x1024 .bf16) (kx : Vec F S8192x128 .bf16) (vx : Vec F S128x8192 .bf16) (s : Vec F S2x1x1024 .f32 × Vec F S2x144x1024 .f32) (k : Fin k0_t1_loop.trips) :
    slow qt kx vx s (k.val + 1) = slowStep qt (kSlice kx k) (vSlice vx k) (slow qt kx vx s k.val) := by
  rw [slow]; exact dif_pos k.isLt

open Cert.KernelIdeal.Mla (writes_full readAt_full readAt_part readCov_part)

/-- One trip of the chunk loop: the two scratch buffers go from one state of the running softmaxes to the next. -/
theorem trip_run (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (qt : Vec F S2x128x1024 .bf16) (kx : Vec F S8192x128 .bf16) (vx : Vec F S128x8192 .bf16)
    (s : Vec F S2x1x1024 .f32 × Vec F S2x144x1024 .f32) (k : Fin k0_t1_loop.trips) :
    (iprop((arg6.view.loc (c : Thread nD τ) ↦[arg6.view.set]{fullShare} harg6.unread kx) ∗ (arg7.view.loc (c : Thread nD τ) ↦[arg7.view.set]{fullShare} harg7.unread vx) ∗ (arg14.view.loc (c : Thread nD τ) ↦[arg14.view.set]{fullShare} harg14.unread qt) ∗ (arg15.view.loc (c : Thread nD τ) ↦[arg15.view.set]{fullShare} harg15.unread s.1) ∗ (arg16.view.loc (c : Thread nD τ) ↦[arg16.view.set]{fullShare} harg16.unread s.2)) : sProp 𝕄)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 k PUnit.unit)
        (fun _ => iprop((arg6.view.loc (c : Thread nD τ) ↦[arg6.view.set]{fullShare} harg6.unread kx) ∗ (arg7.view.loc (c : Thread nD τ) ↦[arg7.view.set]{fullShare} harg7.unread vx) ∗ (arg14.view.loc (c : Thread nD τ) ↦[arg14.view.set]{fullShare} harg14.unread qt) ∗ (arg15.view.loc (c : Thread nD τ) ↦[arg15.view.set]{fullShare} harg15.unread (slowStep qt (kSlice kx k) (vSlice vx k) s).1) ∗ (arg16.view.loc (c : Thread nD τ) ↦[arg16.view.set]{fullShare} harg16.unread (slowStep qt (kSlice kx k) (vSlice vx k) s).2))) := by
  have hk : k.val < 16 := Nat.lt_of_lt_of_le k.isLt k0_t1_abs.2.1
  unfold k0_t1_body
  simp only [k0_part3_eq_skeleton]
  iintro ⟨H6, H7, H14, H15, H16⟩
  sl_exec
  sl_step
  isplitl [H6]; · iexact H6
  isplitl [H7]; · iexact H7
  isplitl [H14]; · iexact H14
  delta trip_run.sl.v577 trip_run.sl.v584
  isplitl [H15]
  · rw [writes_two harg15]; simp only [readAt_part harg14, readAt_part harg6, readAt_part harg15]; iexact H15
  · rw [writes_two harg16]; simp only [readAt_part harg14, readAt_part harg6, readAt_part harg7, readAt_part harg15, readAt_part harg16]; iexact H16

set_option warn.classDefReducibility false in
/-- The chunk loop by its invariant: before trip `k` the scratch buffers hold the running softmaxes over the first `k` chunks. -/
@[sl_loop] def slowInv (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (qt : Vec F S2x128x1024 .bf16) (kx : Vec F S8192x128 .bf16) (vx : Vec F S128x8192 .bf16)
    (m : Vec F S2x1x1024 .f32) (a : Vec F S2x144x1024 .f32) :
    Idealize.ShloMosaic.LoopInv (M := 𝕄) Idealize.ShloMosaic.frame (wpE (defs₀ (F := F)) Variants.none (c : Thread nD τ) none) E
      k0_t1_loop.lb k0_t1_loop.ub k0_t1_loop.st k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16) where
  inv k _ := iprop((arg6.view.loc (c : Thread nD τ) ↦[arg6.view.set]{fullShare} harg6.unread kx) ∗ (arg7.view.loc (c : Thread nD τ) ↦[arg7.view.set]{fullShare} harg7.unread vx) ∗ (arg14.view.loc (c : Thread nD τ) ↦[arg14.view.set]{fullShare} harg14.unread qt) ∗ (arg15.view.loc (c : Thread nD τ) ↦[arg15.view.set]{fullShare} harg15.unread (slow qt kx vx (m, a) k).1) ∗ (arg16.view.loc (c : Thread nD τ) ↦[arg16.view.set]{fullShare} harg16.unread (slow qt kx vx (m, a) k).2))
  step k acc := by
    rw [slow_succ qt kx vx (m, a) k]
    exact trip_run c E i arg3 harg3 arg4 harg4 arg5 harg5 arg6 harg6 arg7 harg7 arg8 harg8 arg9 harg9 arg10 harg10 arg11 harg11 arg12 harg12 arg13 harg13 arg14 harg14 arg15 harg15 arg16 harg16 qt kx vx (slow qt kx vx (m, a) k.val) k

end Cert.DiffIdeal.Da
end
end
-- ==== Proof.DiffBody.lean ====
module

public import proofs.«01_k».proof.Proof.Gen.DiffIdeal.Frame
public import proofs.«01_k».proof.Proof.Gen.DiffIdeal.Skeleton
public import Idealize.ShloMosaic.Lib.Pointwise
public import Idealize.ShloMosaic.Lib.VecWindow
public import proofs.«01_k».proof.Proof.DiffLoop

@[expose] public section

set_option maxRecDepth 16384

noncomputable section

namespace Cert.DiffIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal.Gen
open Idealize.ShloMosaic.View (ld)
open Cert.KernelIdeal.Mla (writes_full readAt_full readAt_part readCov_part)

variable {F : FTy → Type} [FloatOps F]

local notation "𝕄" => MT nD τ sig Unit (Elt F) ℕ (UR sig nD τ) ℕ

theorem keys_inb (n : ℕ) : ∀ a, (![512 * (n % 16), 0] : Fin 2 → ℕ) a + S512x128.size a ≤ S8192x128.size a := by
  have := Nat.mod_lt n (show 0 < 16 by decide)
  intro a; fin_cases a
  · show 512 * (n % 16) + 512 ≤ 8192; omega
  · exact le_rfl
theorem vals_inb (n : ℕ) : ∀ a, (![0, 512 * (n % 16)] : Fin 2 → ℕ) a + S128x512.size a ≤ S128x8192.size a := by
  have := Nat.mod_lt n (show 0 < 16 by decide)
  intro a; fin_cases a
  · exact le_rfl
  · show 512 * (n % 16) + 512 ≤ 8192; omega

/-- Chunk `n` of the resident tile's sixteen: 512 keys. -/
abbrev keys (n : ℕ) (kx : Vec F S8192x128 .bf16) : Vec F S512x128 .bf16 := ld kx (Rect.unit (s := S8192x128) ![512 * (n % 16), 0] S512x128.size (keys_inb n))
/-- Their values. -/
abbrev vals (n : ℕ) (vx : Vec F S128x8192 .bf16) : Vec F S128x512 .bf16 := ld vx (Rect.unit (s := S128x8192) ![0, 512 * (n % 16)] S128x512.size (vals_inb n))

/-! ### The values of the fast branch: `zN` is the value `%N`, in terms of the queries, keys, values and running maxima -/

def z4 (qt : Vec F S2x128x1024 .bf16) (kx : Vec F S8192x128 .bf16) (vx : Vec F S128x8192 .bf16) (m : Vec F S2x1x1024 .f32) : FVec F S1x1024 .f32 := k0_pay31 (m0 m)
def z6 (qt : Vec F S2x128x1024 .bf16) (kx : Vec F S8192x128 .bf16) (vx : Vec F S128x8192 .bf16) (m : Vec F S2x1x1024 .f32) : FVec F S1x1024 .f32 := k0_pay32 (m1 m)
def z12 (qt : Vec F S2x128x1024 .bf16) (kx : Vec F S8192x128 .bf16) (vx : Vec F S128x8192 .bf16) (m : Vec F S2x1x1024 .f32) : FVec F S1x1024 .f32 := k0_pay34 (q0 qt) (keys 0 kx)
def z20 (qt : Vec F S2x128x1024 .bf16) (kx : Vec F S8192x128 .bf16) (vx : Vec F S128x8192 .bf16) (m : Vec F S2x1x1024 .f32) : FVec F S144x1024 .f32 := k0_pay35 (m0 m) (q0 qt) (keys 0 kx) (vals 0 vx)
def z24 (qt : Vec F S2x128x1024 .bf16) (kx : Vec F S8192x128 .bf16) (vx : Vec F S128x8192 .bf16) (m : Vec F S2x1x1024 .f32) : FVec F S512x1024 .f32 := k0_pay36 (q1 qt) (keys 0 kx)
def z26 (qt : Vec F S2x128x1024 .bf16) (kx : Vec F S8192x128 .bf16) (vx : Vec F S128x8192 .bf16) (m : Vec F S2x1x1024 .f32) : FVec F S1x1024 .f32 := k0_pay37 (q1 qt) (keys 0 kx)
def z34 (qt : Vec F S2x128x1024 .bf16) (kx : Vec F S8192x128 .bf16) (vx : Vec F S128x8192 .bf16) (m : Vec F S2x1x1024 .f32) : FVec F S144x1024 .f32 := k0_pay38 (z6 qt kx vx m) (z24 qt kx vx m) (vals 0 vx)
def z49 (qt : Vec F S2x128x1024 .bf16) (kx : Vec F S8192x128 .bf16) (vx : Vec F S128x8192 .bf16) (m : Vec F S2x1x1024 .f32) : FVec F S144x1024 .f32 := k0_pay40 (z4 qt kx vx m) (z20 qt kx vx m) (q0 qt) (keys 1 kx) (vals 1 vx)
def z50 (qt : Vec F S2x128x1024 .bf16) (kx : Vec F S8192x128 .bf16) (vx : Vec F S128x8192 .bf16) (m : Vec F S2x1x1024 .f32) : FVec F S1x1024 .f32 := k0_pay41 (z12 qt kx vx m) (q0 qt) (keys 1 kx)
def z56 (qt : Vec F S2x128x1024 .bf16) (kx : Vec F S8192x128 .bf16) (vx : Vec F S128x8192 .bf16) (m : Vec F S2x1x1024 .f32) : FVec F S1x1024 .f32 := k0_pay43 (q1 qt) (keys 1 kx)
def z61 (qt : Vec F S2x128x1024 .bf16) (kx : Vec F S8192x128 .bf16) (vx : Vec F S128x8192 .bf16) (m : Vec F S2x1x1024 .f32) : FVec F S512x1024 .bf16 := k0_pay44 (z6 qt kx vx m) (q1 qt) (keys 1 kx)
def z63 (qt : Vec F S2x128x1024 .bf16) (kx : Vec F S8192x128 .bf16) (vx : Vec F S128x8192 .bf16) (m : Vec F S2x1x1024 .f32) : FVec F S144x512 .bf16 := k0_pay45 (vals 1 vx)
def z81 (qt : Vec F S2x128x1024 .bf16) (kx : Vec F S8192x128 .bf16) (vx : Vec F S128x8192 .bf16) (m : Vec F S2x1x1024 .f32) : FVec F S144x1024 .f32 := k0_pay47 (z4 qt kx vx m) (z49 qt kx vx m) (q0 qt) (keys 2 kx) (vals 2 vx)
def z82 (qt : Vec F S2x128x1024 .bf16) (kx : Vec F S8192x128 .bf16) (vx : Vec F S128x8192 .bf16) (m : Vec F S2x1x1024 .f32) : FVec F S1x1024 .f32 := k0_pay48 (z50 qt kx vx m) (q0 qt) (keys 2 kx)
def z97 (qt : Vec F S2x128x1024 .bf16) (kx : Vec F S8192x128 .bf16) (vx : Vec F S128x8192 .bf16) (m : Vec F S2x1x1024 .f32) : FVec F S144x1024 .f32 := k0_pay50 (z6 qt kx vx m) (z34 qt kx vx m) (z61 qt kx vx m) (z63 qt kx vx m) (constant S144x1024 .f32 0x00000000#32) (q1 qt) (keys 2 kx) (vals 2 vx)
def z98 (qt : Vec F S2x128x1024 .bf16) (kx : Vec F S8192x128 .bf16) (vx : Vec F S128x8192 .bf16) (m : Vec F S2x1x1024 .f32) : FVec F S1x1024 .f32 := k0_pay51 (z26 qt kx vx m) (z56 qt kx vx m) (q1 qt) (keys 2 kx)
def z113 (qt : Vec F S2x128x1024 .bf16) (kx : Vec F S8192x128 .bf16) (vx : Vec F S128x8192 .bf16) (m : Vec F S2x1x1024 .f32) : FVec F S144x1024 .f32 := k0_pay53 (z4 qt kx vx m) (z81 qt kx vx m) (q0 qt) (keys 3 kx) (vals 3 vx)
def z114 (qt : Vec F S2x128x1024 .bf16) (kx : Vec F S8192x128 .bf16) (vx : Vec F S128x8192 .bf16) (m : Vec F S2x1x1024 .f32) : FVec F S1x1024 .f32 := k0_pay54 (z82 qt kx vx m) (q0 qt) (keys 3 kx)
def z129 (qt : Vec F S2x128x1024 .bf16) (kx : Vec F S8192x128 .bf16) (vx : Vec F S128x8192 .bf16) (m : Vec F S2x1x1024 .f32) : FVec F S144x1024 .f32 := k0_pay56 (z6 qt kx vx m) (z97 qt kx vx m) (q1 qt) (keys 3 kx) (vals 3 vx)
def z130 (qt : Vec F S2x128x1024 .bf16) (kx : Vec F S8192x128 .bf16) (vx : Vec F S128x8192 .bf16) (m : Vec F S2x1x1024 .f32) : FVec F S1x1024 .f32 := k0_pay57 (z98 qt kx vx m) (q1 qt) (keys 3 kx)
def z132 (qt : Vec F S2x128x1024 .bf16) (kx : Vec F S8192x128 .bf16) (vx : Vec F S128x8192 .bf16) (m : Vec F S2x1x1024 .f32) : FVec F S128x1024 .bf16 := k0_pay58 (q0 qt)
def z145 (qt : Vec F S2x128x1024 .bf16) (kx : Vec F S8192x128 .bf16) (vx : Vec F S128x8192 .bf16) (m : Vec F S2x1x1024 .f32) : FVec F S144x1024 .f32 := k0_pay60 (z4 qt kx vx m) (z113 qt kx vx m) (z132 qt kx vx m) (keys 4 kx) (constant S512x1024 .f32 0x00000000#32) (vals 4 vx)
def z146 (qt : Vec F S2x128x1024 .bf16) (kx : Vec F S8192x128 .bf16) (vx : Vec F S128x8192 .bf16) (m : Vec F S2x1x1024 .f32) : FVec F S1x1024 .f32 := k0_pay61 (z114 qt kx vx m) (z132 qt kx vx m) (keys 4 kx) (constant S512x1024 .f32 0x00000000#32)
def z161 (qt : Vec F S2x128x1024 .bf16) (kx : Vec F S8192x128 .bf16) (vx : Vec F S128x8192 .bf16) (m : Vec F S2x1x1024 .f32) : FVec F S144x1024 .f32 := k0_pay63 (z6 qt kx vx m) (z129 qt kx vx m) (q1 qt) (keys 4 kx) (vals 4 vx)
def z162 (qt : Vec F S2x128x1024 .bf16) (kx : Vec F S8192x128 .bf16) (vx : Vec F S128x8192 .bf16) (m : Vec F S2x1x1024 .f32) : FVec F S1x1024 .f32 := k0_pay64 (z130 qt kx vx m) (q1 qt) (keys 4 kx)
def z166 (qt : Vec F S2x128x1024 .bf16) (kx : Vec F S8192x128 .bf16) (vx : Vec F S128x8192 .bf16) (m : Vec F S2x1x1024 .f32) : FVec F S512x1024 .f32 := k0_pay65 (q0 qt) (keys 5 kx)
def z168 (qt : Vec F S2x128x1024 .bf16) (kx : Vec F S8192x128 .bf16) (vx : Vec F S128x8192 .bf16) (m : Vec F S2x1x1024 .f32) : FVec F S1x1024 .f32 := k0_pay66 (q0 qt) (keys 5 kx)
def z177 (qt : Vec F S2x128x1024 .bf16) (kx : Vec F S8192x128 .bf16) (vx : Vec F S128x8192 .bf16) (m : Vec F S2x1x1024 .f32) : FVec F S144x1024 .f32 := k0_pay67 (z4 qt kx vx m) (z145 qt kx vx m) (z166 qt kx vx m) (vals 5 vx)
def z178 (qt : Vec F S2x128x1024 .bf16) (kx : Vec F S8192x128 .bf16) (vx : Vec F S128x8192 .bf16) (m : Vec F S2x1x1024 .f32) : FVec F S1x1024 .f32 := k0_pay68 (z146 qt kx vx m) (z168 qt kx vx m)
def z193 (qt : Vec F S2x128x1024 .bf16) (kx : Vec F S8192x128 .bf16) (vx : Vec F S128x8192 .bf16) (m : Vec F S2x1x1024 .f32) : FVec F S144x1024 .f32 := k0_pay70 (z6 qt kx vx m) (z161 qt kx vx m) (q1 qt) (keys 5 kx) (vals 5 vx)
def z194 (qt : Vec F S2x128x1024 .bf16) (kx : Vec F S8192x128 .bf16) (vx : Vec F S128x8192 .bf16) (m : Vec F S2x1x1024 .f32) : FVec F S1x1024 .f32 := k0_pay71 (z162 qt kx vx m) (q1 qt) (keys 5 kx)
def z200 (qt : Vec F S2x128x1024 .bf16) (kx : Vec F S8192x128 .bf16) (vx : Vec F S128x8192 .bf16) (m : Vec F S2x1x1024 .f32) : FVec F S1x1024 .f32 := k0_pay73 (q0 qt) (keys 6 kx)
def z205 (qt : Vec F S2x128x1024 .bf16) (kx : Vec F S8192x128 .bf16) (vx : Vec F S128x8192 .bf16) (m : Vec F S2x1x1024 .f32) : FVec F S512x1024 .bf16 := k0_pay74 (z4 qt kx vx m) (q0 qt) (keys 6 kx)
def z225 (qt : Vec F S2x128x1024 .bf16) (kx : Vec F S8192x128 .bf16) (vx : Vec F S128x8192 .bf16) (m : Vec F S2x1x1024 .f32) : FVec F S144x1024 .f32 := k0_pay76 (z6 qt kx vx m) (z193 qt kx vx m) (q1 qt) (keys 6 kx) (vals 6 vx)
def z226 (qt : Vec F S2x128x1024 .bf16) (kx : Vec F S8192x128 .bf16) (vx : Vec F S128x8192 .bf16) (m : Vec F S2x1x1024 .f32) : FVec F S1x1024 .f32 := k0_pay77 (z194 qt kx vx m) (q1 qt) (keys 6 kx)
def z241 (qt : Vec F S2x128x1024 .bf16) (kx : Vec F S8192x128 .bf16) (vx : Vec F S128x8192 .bf16) (m : Vec F S2x1x1024 .f32) : FVec F S144x1024 .f32 := k0_pay79 (z4 qt kx vx m) (z177 qt kx vx m) (vals 6 vx) (z205 qt kx vx m) (Scalar.ofBits .bf16 0x3F80#16) (q0 qt) (keys 7 kx) (vals 7 vx)
def z242 (qt : Vec F S2x128x1024 .bf16) (kx : Vec F S8192x128 .bf16) (vx : Vec F S128x8192 .bf16) (m : Vec F S2x1x1024 .f32) : FVec F S1x1024 .f32 := k0_pay80 (z178 qt kx vx m) (z200 qt kx vx m) (q0 qt) (keys 7 kx)
def z257 (qt : Vec F S2x128x1024 .bf16) (kx : Vec F S8192x128 .bf16) (vx : Vec F S128x8192 .bf16) (m : Vec F S2x1x1024 .f32) : FVec F S144x1024 .f32 := k0_pay82 (z6 qt kx vx m) (z225 qt kx vx m) (q1 qt) (keys 7 kx) (vals 7 vx)
def z258 (qt : Vec F S2x128x1024 .bf16) (kx : Vec F S8192x128 .bf16) (vx : Vec F S128x8192 .bf16) (m : Vec F S2x1x1024 .f32) : FVec F S1x1024 .f32 := k0_pay83 (z226 qt kx vx m) (q1 qt) (keys 7 kx)
def z273 (qt : Vec F S2x128x1024 .bf16) (kx : Vec F S8192x128 .bf16) (vx : Vec F S128x8192 .bf16) (m : Vec F S2x1x1024 .f32) : FVec F S144x1024 .f32 := k0_pay85 (z4 qt kx vx m) (z241 qt kx vx m) (q0 qt) (keys 8 kx) (vals 8 vx)
def z274 (qt : Vec F S2x128x1024 .bf16) (kx : Vec F S8192x128 .bf16) (vx : Vec F S128x8192 .bf16) (m : Vec F S2x1x1024 .f32) : FVec F S1x1024 .f32 := k0_pay86 (z242 qt kx vx m) (q0 qt) (keys 8 kx)
def z276 (qt : Vec F S2x128x1024 .bf16) (kx : Vec F S8192x128 .bf16) (vx : Vec F S128x8192 .bf16) (m : Vec F S2x1x1024 .f32) : FVec F S128x1024 .bf16 := k0_pay87 (q1 qt)
def z289 (qt : Vec F S2x128x1024 .bf16) (kx : Vec F S8192x128 .bf16) (vx : Vec F S128x8192 .bf16) (m : Vec F S2x1x1024 .f32) : FVec F S144x1024 .f32 := k0_pay89 (z6 qt kx vx m) (z257 qt kx vx m) (z276 qt kx vx m) (keys 8 kx) (vals 8 vx)
def z290 (qt : Vec F S2x128x1024 .bf16) (kx : Vec F S8192x128 .bf16) (vx : Vec F S128x8192 .bf16) (m : Vec F S2x1x1024 .f32) : FVec F S1x1024 .f32 := k0_pay90 (z258 qt kx vx m) (z276 qt kx vx m) (keys 8 kx)
def z305 (qt : Vec F S2x128x1024 .bf16) (kx : Vec F S8192x128 .bf16) (vx : Vec F S128x8192 .bf16) (m : Vec F S2x1x1024 .f32) : FVec F S144x1024 .f32 := k0_pay92 (z4 qt kx vx m) (z273 qt kx vx m) (q0 qt) (keys 9 kx) (vals 9 vx)
def z306 (qt : Vec F S2x128x1024 .bf16) (kx : Vec F S8192x128 .bf16) (vx : Vec F S128x8192 .bf16) (m : Vec F S2x1x1024 .f32) : FVec F S1x1024 .f32 := k0_pay93 (z274 qt kx vx m) (q0 qt) (keys 9 kx)
def z310 (qt : Vec F S2x128x1024 .bf16) (kx : Vec F S8192x128 .bf16) (vx : Vec F S128x8192 .bf16) (m : Vec F S2x1x1024 .f32) : FVec F S512x1024 .f32 := k0_pay94 (q1 qt) (keys 9 kx)
def z311 (qt : Vec F S2x128x1024 .bf16) (kx : Vec F S8192x128 .bf16) (vx : Vec F S128x8192 .bf16) (m : Vec F S2x1x1024 .f32) : FVec F S1024 .f32 := k0_pay95 (q1 qt) (keys 9 kx)
def z321 (qt : Vec F S2x128x1024 .bf16) (kx : Vec F S8192x128 .bf16) (vx : Vec F S128x8192 .bf16) (m : Vec F S2x1x1024 .f32) : FVec F S144x1024 .f32 := k0_pay96 (z6 qt kx vx m) (z289 qt kx vx m) (z310 qt kx vx m) (vals 9 vx)
def z322 (qt : Vec F S2x128x1024 .bf16) (kx : Vec F S8192x128 .bf16) (vx : Vec F S128x8192 .bf16) (m : Vec F S2x1x1024 .f32) : FVec F S1x1024 .f32 := k0_pay97 (z290 qt kx vx m) (z311 qt kx vx m)
def z337 (qt : Vec F S2x128x1024 .bf16) (kx : Vec F S8192x128 .bf16) (vx : Vec F S128x8192 .bf16) (m : Vec F S2x1x1024 .f32) : FVec F S144x1024 .f32 := k0_pay99 (z4 qt kx vx m) (z305 qt kx vx m) (q0 qt) (keys 10 kx) (vals 10 vx)
def z338 (qt : Vec F S2x128x1024 .bf16) (kx : Vec F S8192x128 .bf16) (vx : Vec F S128x8192 .bf16) (m : Vec F S2x1x1024 .f32) : FVec F S1x1024 .f32 := k0_pay100 (z306 qt kx vx m) (q0 qt) (keys 10 kx)
def z344 (qt : Vec F S2x128x1024 .bf16) (kx : Vec F S8192x128 .bf16) (vx : Vec F S128x8192 .bf16) (m : Vec F S2x1x1024 .f32) : FVec F S1x1024 .f32 := k0_pay102 (q1 qt) (keys 10 kx)
def z347 (qt : Vec F S2x128x1024 .bf16) (kx : Vec F S8192x128 .bf16) (vx : Vec F S128x8192 .bf16) (m : Vec F S2x1x1024 .f32) : FVec F S512x1024 .f32 := k0_pay103 (z6 qt kx vx m) (q1 qt) (keys 10 kx)
def z353 (qt : Vec F S2x128x1024 .bf16) (kx : Vec F S8192x128 .bf16) (vx : Vec F S128x8192 .bf16) (m : Vec F S2x1x1024 .f32) : FVec F S144x1024 .f32 := k0_pay104 (z321 qt kx vx m) (vals 10 vx) (z347 qt kx vx m)
def z354 (qt : Vec F S2x128x1024 .bf16) (kx : Vec F S8192x128 .bf16) (vx : Vec F S128x8192 .bf16) (m : Vec F S2x1x1024 .f32) : FVec F S1x1024 .f32 := k0_pay105 (z322 qt kx vx m) (z344 qt kx vx m)
def z369 (qt : Vec F S2x128x1024 .bf16) (kx : Vec F S8192x128 .bf16) (vx : Vec F S128x8192 .bf16) (m : Vec F S2x1x1024 .f32) : FVec F S144x1024 .f32 := k0_pay107 (z4 qt kx vx m) (z337 qt kx vx m) (q0 qt) (keys 11 kx) (vals 11 vx)
def z370 (qt : Vec F S2x128x1024 .bf16) (kx : Vec F S8192x128 .bf16) (vx : Vec F S128x8192 .bf16) (m : Vec F S2x1x1024 .f32) : FVec F S1x1024 .f32 := k0_pay108 (z338 qt kx vx m) (q0 qt) (keys 11 kx)
def z376 (qt : Vec F S2x128x1024 .bf16) (kx : Vec F S8192x128 .bf16) (vx : Vec F S128x8192 .bf16) (m : Vec F S2x1x1024 .f32) : FVec F S1x1024 .f32 := k0_pay110 (q1 qt) (keys 11 kx)
def z381 (qt : Vec F S2x128x1024 .bf16) (kx : Vec F S8192x128 .bf16) (vx : Vec F S128x8192 .bf16) (m : Vec F S2x1x1024 .f32) : FVec F S512x1024 .bf16 := k0_pay111 (z6 qt kx vx m) (q1 qt) (keys 11 kx)
def z383 (qt : Vec F S2x128x1024 .bf16) (kx : Vec F S8192x128 .bf16) (vx : Vec F S128x8192 .bf16) (m : Vec F S2x1x1024 .f32) : FVec F S144x512 .bf16 := k0_pay112 (vals 11 vx)
def z401 (qt : Vec F S2x128x1024 .bf16) (kx : Vec F S8192x128 .bf16) (vx : Vec F S128x8192 .bf16) (m : Vec F S2x1x1024 .f32) : FVec F S144x1024 .f32 := k0_pay114 (z4 qt kx vx m) (z369 qt kx vx m) (q0 qt) (keys 12 kx) (vals 12 vx)
def z402 (qt : Vec F S2x128x1024 .bf16) (kx : Vec F S8192x128 .bf16) (vx : Vec F S128x8192 .bf16) (m : Vec F S2x1x1024 .f32) : FVec F S1x1024 .f32 := k0_pay115 (z370 qt kx vx m) (q0 qt) (keys 12 kx)
def z417 (qt : Vec F S2x128x1024 .bf16) (kx : Vec F S8192x128 .bf16) (vx : Vec F S128x8192 .bf16) (m : Vec F S2x1x1024 .f32) : FVec F S144x1024 .f32 := k0_pay117 (z6 qt kx vx m) (z353 qt kx vx m) (z381 qt kx vx m) (z383 qt kx vx m) (constant S144x1024 .f32 0x00000000#32) (q1 qt) (keys 12 kx) (vals 12 vx)
def z418 (qt : Vec F S2x128x1024 .bf16) (kx : Vec F S8192x128 .bf16) (vx : Vec F S128x8192 .bf16) (m : Vec F S2x1x1024 .f32) : FVec F S1x1024 .f32 := k0_pay118 (z354 qt kx vx m) (z376 qt kx vx m) (q1 qt) (keys 12 kx)
def z433 (qt : Vec F S2x128x1024 .bf16) (kx : Vec F S8192x128 .bf16) (vx : Vec F S128x8192 .bf16) (m : Vec F S2x1x1024 .f32) : FVec F S144x1024 .f32 := k0_pay120 (z4 qt kx vx m) (z401 qt kx vx m) (q0 qt) (keys 13 kx) (vals 13 vx)
def z434 (qt : Vec F S2x128x1024 .bf16) (kx : Vec F S8192x128 .bf16) (vx : Vec F S128x8192 .bf16) (m : Vec F S2x1x1024 .f32) : FVec F S1x1024 .f32 := k0_pay121 (z402 qt kx vx m) (q0 qt) (keys 13 kx)
def z449 (qt : Vec F S2x128x1024 .bf16) (kx : Vec F S8192x128 .bf16) (vx : Vec F S128x8192 .bf16) (m : Vec F S2x1x1024 .f32) : FVec F S144x1024 .f32 := k0_pay123 (z6 qt kx vx m) (z417 qt kx vx m) (q1 qt) (keys 13 kx) (vals 13 vx)
def z450 (qt : Vec F S2x128x1024 .bf16) (kx : Vec F S8192x128 .bf16) (vx : Vec F S128x8192 .bf16) (m : Vec F S2x1x1024 .f32) : FVec F S1x1024 .f32 := k0_pay124 (z418 qt kx vx m) (q1 qt) (keys 13 kx)
def z452 (qt : Vec F S2x128x1024 .bf16) (kx : Vec F S8192x128 .bf16) (vx : Vec F S128x8192 .bf16) (m : Vec F S2x1x1024 .f32) : FVec F S128x1024 .bf16 := k0_pay125 (q0 qt)
def z465 (qt : Vec F S2x128x1024 .bf16) (kx : Vec F S8192x128 .bf16) (vx : Vec F S128x8192 .bf16) (m : Vec F S2x1x1024 .f32) : FVec F S144x1024 .f32 := k0_pay127 (z4 qt kx vx m) (z433 qt kx vx m) (z452 qt kx vx m) (keys 14 kx) (constant S512x1024 .f32 0x00000000#32) (vals 14 vx)
def z466 (qt : Vec F S2x128x1024 .bf16) (kx : Vec F S8192x128 .bf16) (vx : Vec F S128x8192 .bf16) (m : Vec F S2x1x1024 .f32) : FVec F S1x1024 .f32 := k0_pay128 (z434 qt kx vx m) (z452 qt kx vx m) (keys 14 kx) (constant S512x1024 .f32 0x00000000#32)
def z481 (qt : Vec F S2x128x1024 .bf16) (kx : Vec F S8192x128 .bf16) (vx : Vec F S128x8192 .bf16) (m : Vec F S2x1x1024 .f32) : FVec F S144x1024 .f32 := k0_pay130 (z6 qt kx vx m) (z449 qt kx vx m) (q1 qt) (keys 14 kx) (vals 14 vx)
def z482 (qt : Vec F S2x128x1024 .bf16) (kx : Vec F S8192x128 .bf16) (vx : Vec F S128x8192 .bf16) (m : Vec F S2x1x1024 .f32) : FVec F S1x1024 .f32 := k0_pay131 (z450 qt kx vx m) (q1 qt) (keys 14 kx)
def z486 (qt : Vec F S2x128x1024 .bf16) (kx : Vec F S8192x128 .bf16) (vx : Vec F S128x8192 .bf16) (m : Vec F S2x1x1024 .f32) : FVec F S512x1024 .f32 := k0_pay132 (q0 qt) (keys 15 kx)
def z488 (qt : Vec F S2x128x1024 .bf16) (kx : Vec F S8192x128 .bf16) (vx : Vec F S128x8192 .bf16) (m : Vec F S2x1x1024 .f32) : FVec F S1x1024 .f32 := k0_pay133 (q0 qt) (keys 15 kx)

/-- From `A` the stretch `p` of the body returns `r` and leaves `B`. -/
abbrev Runs (c : Dev nD) (E : Set ℕ) {R : Type _} (A B : sProp 𝕄) (p : Prog (TpuEff nD τ sig (Elt F) Λ₀ .tc) R) (r : R) : Prop :=
  A ⊢ wp frame (wpE (defs₀ (F := F)) Variants.none (c : Thread nD τ) none) E p (fun x => iprop(⌜x = r⌝ ∗ B))

/-- After such a stretch the rest of the body goes on from what it returns. -/
theorem Runs.seq {c : Dev nD} {E : Set ℕ} {R S : Type} {A B X : sProp 𝕄} {p : Prog (TpuEff nD τ sig (Elt F) Λ₀ .tc) R} {r : R}
    {k : R → Prog (TpuEff nD τ sig (Elt F) Λ₀ .tc) S} {Q : S → sProp 𝕄} (h : Runs c E A B p r)
    (hk : iprop(B ∗ X) ⊢ wp frame (wpE (defs₀ (F := F)) Variants.none (c : Thread nD τ) none) E (k r) Q) :
    iprop(A ∗ X) ⊢ wp frame (wpE (defs₀ (F := F)) Variants.none (c : Thread nD τ) none) E (p >>= k) Q := by
  iintro ⟨HA, HX⟩
  irw [wp_bind]
  iapply (wp_wand_r Idealize.ShloMosaic.frame (wpE (defs₀ (F := F)) Variants.none (c : Thread nD τ) none) E)
  isplitl [HA]
  · iapply h; iexact HA
  iintro %x ⟨%e, HB⟩
  subst e
  iapply hk
  isplitl [HB]; · iexact HB
  iexact HX

/-- The resident keys, values and transposed queries, held at `kx`, `vx` and `qt`. -/
abbrev Held (c : Dev nD) {arg6 : Memref sig .tc .vmem S8192x128 .bf16} (harg6 : arg6.IsWhole) {arg7 : Memref sig .tc .vmem S128x8192 .bf16} (harg7 : arg7.IsWhole)
    {arg14 : Memref sig .tc .vmem S2x128x1024 .bf16} (harg14 : arg14.IsWhole) (kx : Vec F S8192x128 .bf16) (vx : Vec F S128x8192 .bf16) (qt : Vec F S2x128x1024 .bf16) : sProp 𝕄 :=
  iprop((arg6.view.loc (c : Thread nD τ) ↦[arg6.view.set]{fullShare} harg6.unread kx) ∗ (arg7.view.loc (c : Thread nD τ) ↦[arg7.view.set]{fullShare} harg7.unread vx) ∗ (arg14.view.loc (c : Thread nD τ) ↦[arg14.view.set]{fullShare} harg14.unread qt))

/-- The stretches between the first and the last only read the keys, values and queries, and return the values that they print. -/
theorem parts_run (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (qt : Vec F S2x128x1024 .bf16) (kx : Vec F S8192x128 .bf16) (vx : Vec F S128x8192 .bf16) (m : Vec F S2x1x1024 .f32) :
    Runs c E (Held c harg6 harg7 harg14 kx vx qt) (Held c harg6 harg7 harg14 kx vx qt) (k0_part6 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z12 qt kx vx m) (z20 qt kx vx m) (z24 qt kx vx m) (vals 0 vx)) ⟨(z34 qt kx vx m), (z49 qt kx vx m), (z50 qt kx vx m), (z56 qt kx vx m), (z61 qt kx vx m), (z63 qt kx vx m), (constant S144x1024 .f32 0x00000000#32)⟩ ∧
    Runs c E (Held c harg6 harg7 harg14 kx vx qt) (Held c harg6 harg7 harg14 kx vx qt) (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z26 qt kx vx m) (z34 qt kx vx m) (z49 qt kx vx m) (z50 qt kx vx m) (z56 qt kx vx m) (z61 qt kx vx m) (z63 qt kx vx m) (constant S144x1024 .f32 0x00000000#32)) ⟨(z81 qt kx vx m), (z82 qt kx vx m), (z97 qt kx vx m), (z98 qt kx vx m)⟩ ∧
    Runs c E (Held c harg6 harg7 harg14 kx vx qt) (Held c harg6 harg7 harg14 kx vx qt) (k0_part8 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z81 qt kx vx m) (z82 qt kx vx m) (z97 qt kx vx m) (z98 qt kx vx m)) ⟨(z113 qt kx vx m), (z114 qt kx vx m), (z129 qt kx vx m), (z130 qt kx vx m), (z132 qt kx vx m), (keys 4 kx), (constant S512x1024 .f32 0x00000000#32)⟩ ∧
    Runs c E (Held c harg6 harg7 harg14 kx vx qt) (Held c harg6 harg7 harg14 kx vx qt) (k0_part9 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z113 qt kx vx m) (z114 qt kx vx m) (z129 qt kx vx m) (z130 qt kx vx m) (z132 qt kx vx m) (keys 4 kx) (constant S512x1024 .f32 0x00000000#32)) ⟨(z145 qt kx vx m), (z146 qt kx vx m), (z161 qt kx vx m), (z162 qt kx vx m), (z166 qt kx vx m), (z168 qt kx vx m)⟩ ∧
    Runs c E (Held c harg6 harg7 harg14 kx vx qt) (Held c harg6 harg7 harg14 kx vx qt) (k0_part10 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z145 qt kx vx m) (z146 qt kx vx m) (z161 qt kx vx m) (z162 qt kx vx m) (z166 qt kx vx m) (z168 qt kx vx m)) ⟨(z177 qt kx vx m), (z178 qt kx vx m), (z193 qt kx vx m), (z194 qt kx vx m), (z200 qt kx vx m), (vals 6 vx), (z205 qt kx vx m), (Scalar.ofBits .bf16 0x3F80#16)⟩ ∧
    Runs c E (Held c harg6 harg7 harg14 kx vx qt) (Held c harg6 harg7 harg14 kx vx qt) (k0_part11 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z177 qt kx vx m) (z178 qt kx vx m) (z193 qt kx vx m) (z194 qt kx vx m) (z200 qt kx vx m) (vals 6 vx) (z205 qt kx vx m) (Scalar.ofBits .bf16 0x3F80#16)) ⟨(z225 qt kx vx m), (z226 qt kx vx m), (z241 qt kx vx m), (z242 qt kx vx m)⟩ ∧
    Runs c E (Held c harg6 harg7 harg14 kx vx qt) (Held c harg6 harg7 harg14 kx vx qt) (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z225 qt kx vx m) (z226 qt kx vx m) (z241 qt kx vx m) (z242 qt kx vx m)) ⟨(z257 qt kx vx m), (z258 qt kx vx m), (z273 qt kx vx m), (z274 qt kx vx m), (z276 qt kx vx m)⟩ ∧
    Runs c E (Held c harg6 harg7 harg14 kx vx qt) (Held c harg6 harg7 harg14 kx vx qt) (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z257 qt kx vx m) (z258 qt kx vx m) (z273 qt kx vx m) (z274 qt kx vx m) (z276 qt kx vx m)) ⟨(z289 qt kx vx m), (z290 qt kx vx m), (z305 qt kx vx m), (z306 qt kx vx m), (z310 qt kx vx m), (z311 qt kx vx m)⟩ ∧
    Runs c E (Held c harg6 harg7 harg14 kx vx qt) (Held c harg6 harg7 harg14 kx vx qt) (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z289 qt kx vx m) (z290 qt kx vx m) (z305 qt kx vx m) (z306 qt kx vx m) (z310 qt kx vx m) (z311 qt kx vx m)) ⟨(z321 qt kx vx m), (z322 qt kx vx m), (z337 qt kx vx m), (z338 qt kx vx m), (z344 qt kx vx m), (vals 10 vx), (z347 qt kx vx m)⟩ ∧
    Runs c E (Held c harg6 harg7 harg14 kx vx qt) (Held c harg6 harg7 harg14 kx vx qt) (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z321 qt kx vx m) (z322 qt kx vx m) (z337 qt kx vx m) (z338 qt kx vx m) (z344 qt kx vx m) (vals 10 vx) (z347 qt kx vx m)) ⟨(z353 qt kx vx m), (z354 qt kx vx m), (z369 qt kx vx m), (z370 qt kx vx m), (z376 qt kx vx m), (z381 qt kx vx m), (z383 qt kx vx m), (constant S144x1024 .f32 0x00000000#32)⟩ ∧
    Runs c E (Held c harg6 harg7 harg14 kx vx qt) (Held c harg6 harg7 harg14 kx vx qt) (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z353 qt kx vx m) (z354 qt kx vx m) (z369 qt kx vx m) (z370 qt kx vx m) (z376 qt kx vx m) (z381 qt kx vx m) (z383 qt kx vx m) (constant S144x1024 .f32 0x00000000#32)) ⟨(z401 qt kx vx m), (z402 qt kx vx m), (z417 qt kx vx m), (z418 qt kx vx m)⟩ ∧
    Runs c E (Held c harg6 harg7 harg14 kx vx qt) (Held c harg6 harg7 harg14 kx vx qt) (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z401 qt kx vx m) (z402 qt kx vx m) (z417 qt kx vx m) (z418 qt kx vx m)) ⟨(z433 qt kx vx m), (z434 qt kx vx m), (z449 qt kx vx m), (z450 qt kx vx m), (z452 qt kx vx m), (keys 14 kx), (constant S512x1024 .f32 0x00000000#32)⟩ ∧
    Runs c E (Held c harg6 harg7 harg14 kx vx qt) (Held c harg6 harg7 harg14 kx vx qt) (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z433 qt kx vx m) (z434 qt kx vx m) (z449 qt kx vx m) (z450 qt kx vx m) (z452 qt kx vx m) (keys 14 kx) (constant S512x1024 .f32 0x00000000#32)) ⟨(z465 qt kx vx m), (z466 qt kx vx m), (z481 qt kx vx m), (z482 qt kx vx m), (z486 qt kx vx m), (z488 qt kx vx m)⟩ := by
  refine ⟨?_, ?_, ?_, ?_, ?_, ?_, ?_, ?_, ?_, ?_, ?_, ?_, ?_⟩ <;>
  · simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    first | unfold k0_part6_skel | unfold k0_part7_skel | unfold k0_part8_skel | unfold k0_part9_skel | unfold k0_part10_skel | unfold k0_part11_skel | unfold k0_part12_skel | unfold k0_part13_skel | unfold k0_part14_skel | unfold k0_part15_skel | unfold k0_part16_skel | unfold k0_part17_skel | unfold k0_part18_skel
    iintro ⟨H6, H7, H14⟩
    sl_exec
    sl_step
    isplitr
    · ipureintro; simp only [z4, z6, z12, z20, z24, z26, z34, z49, z50, z56, z61, z63, z81, z82, z97, z98, z113, z114, z129, z130, z132, z145, z146, z161, z162, z166, z168, z177, z178, z193, z194, z200, z205, z225, z226, z241, z242, z257, z258, z273, z274, z276, z289, z290, z305, z306, z310, z311, z321, z322, z337, z338, z344, z347, z353, z354, z369, z370, z376, z381, z383, z401, z402, z417, z418, z433, z434, z449, z450, z452, z465, z466, z481, z482, z486, z488, readAt_part harg14, readAt_part harg6, readAt_part harg7]; try rfl
    isplitl [H6]; · iexact H6
    isplitl [H7]; · iexact H7
    iexact H14

/-- The branch condition of the first part: the point is the first of its row of points. -/
abbrev first (i : grid0.Coords) : Prop := (Scalar.cmpi .ne (Scalar.extui (Scalar.cmpi .eq (BitVec.ofNat 32 (i 2).val) 0#32)) 0#32 = 1#1)

/-- The first stretch at a later point of a row: it only reads. -/
theorem part5_odd (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (hc0 : ¬ first i) (qt : Vec F S2x128x1024 .bf16) (kx : Vec F S8192x128 .bf16) (vx : Vec F S128x8192 .bf16) (m : Vec F S2x1x1024 .f32) :
    Runs c E (iprop(Held c harg6 harg7 harg14 kx vx qt ∗ (arg15.view.loc (c : Thread nD τ) ↦[arg15.view.set]{fullShare} harg15.unread m))) (iprop(Held c harg6 harg7 harg14 kx vx qt ∗ (arg15.view.loc (c : Thread nD τ) ↦[arg15.view.set]{fullShare} harg15.unread m))) (k0_part5 (F := F) i arg3 harg3 arg4 harg4 arg5 harg5 arg6 harg6 arg7 harg7 arg8 harg8 arg9 harg9 arg10 harg10 arg11 harg11 arg12 harg12 arg13 harg13 arg14 harg14 arg15 harg15 arg16 harg16) ⟨(BitVec.ofNat 32 (i 2).val), (z4 qt kx vx m), (z6 qt kx vx m), (z12 qt kx vx m), (z20 qt kx vx m), (z24 qt kx vx m), (z26 qt kx vx m), (vals 0 vx)⟩ := by
  simp only [k0_part5_eq_skeleton]; unfold k0_part5_skel
  unfold first at hc0
  iintro ⟨⟨H6, H7, H14⟩, H15⟩
  sl_exec (disch := sl_exact hc0)
  sl_step
  isplitr
  · ipureintro; simp only [z4, z6, z12, z20, z24, z26, readAt_part harg14, readAt_part harg15, readAt_part harg6, readAt_part harg7]; try rfl
  isplitr [H15]
  · isplitl [H6]; · iexact H6
    isplitl [H7]; · iexact H7
    iexact H14
  iexact H15

/-- The transposed queries of the two components: each keeps its half of the rows. -/
def queries (q : Vec F S1024x128 .bf16) : Vec F S2x128x1024 .bf16 := two (k0_pay10 q) (k0_pay11 q)

/-- The context keys of one component, from the running maximum and sums before them. -/
def pre1 (qt : Vec F S1x128x1024 .bf16) (kc : Vec F S256x128 .bf16) (vc : Vec F S128x256 .bf16) (s : Vec F S1x1x1024 .f32 × Vec F S1x144x1024 .f32) : Vec F S1x1x1024 .f32 × Vec F S1x144x1024 .f32 :=
  (k0_pay17 (k0_pay12 qt) kc s.1, k0_pay16 (k0_pay12 qt) kc vc s.1 s.2)

/-- The running maxima and sums after the context keys, from nothing. -/
def pre (q : Vec F S1024x128 .bf16) (kc : Vec F S256x128 .bf16) (vc : Vec F S128x256 .bf16) : Vec F S2x1x1024 .f32 × Vec F S2x144x1024 .f32 :=
  (two (pre1 (k0_pay10 q) kc vc (m0 (k0_pay7 (F := F)), a0 (k0_pay8 (F := F)))).1 (pre1 (k0_pay11 q) kc vc (m1 (k0_pay7 (F := F)), a1 (k0_pay8 (F := F)))).1,
   two (pre1 (k0_pay10 q) kc vc (m0 (k0_pay7 (F := F)), a0 (k0_pay8 (F := F)))).2 (pre1 (k0_pay11 q) kc vc (m1 (k0_pay7 (F := F)), a1 (k0_pay8 (F := F)))).2)

/-- The second component's values are the first's, at its own queries. -/
theorem pay30_eq (qt : Vec F S1x128x1024 .bf16) (kc : Vec F S256x128 .bf16) (m : Vec F S1x1x1024 .f32) : k0_pay30 (k0_pay18 qt kc) m = k0_pay17 (k0_pay12 qt) kc m := rfl
theorem pay29_eq (qt : Vec F S1x128x1024 .bf16) (kc : Vec F S256x128 .bf16) (vc : Vec F S128x256 .bf16) (m : Vec F S1x1x1024 .f32) (a : Vec F S1x144x1024 .f32) :
    k0_pay29 (k0_pay18 qt kc) vc m a = k0_pay16 (k0_pay12 qt) kc vc m a := rfl

/-- The first stretch at the first point of a row: the queries are transposed into scratch and the context keys start the running sums. -/
theorem part5_even (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (hc0 : first i) (q : Vec F S1024x128 .bf16) (kc : Vec F S256x128 .bf16) (vc : Vec F S128x256 .bf16)
    (kx : Vec F S8192x128 .bf16) (vx : Vec F S128x8192 .bf16) (f14 : BufTy.Contents (Elt F) arg14.view.ty) (f15 : BufTy.Contents (Elt F) arg15.view.ty) (f16 : BufTy.Contents (Elt F) arg16.view.ty) :
    Runs c E (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)))
      (iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ Held c harg6 harg7 harg14 kx vx (queries q) ∗ (arg15.view.loc (c : Thread nD τ) ↦[arg15.view.set]{fullShare} harg15.unread (pre q kc vc).1) ∗ (arg16.view.loc (c : Thread nD τ) ↦[arg16.view.set]{fullShare} harg16.unread (pre q kc vc).2))) (k0_part5 (F := F) i arg3 harg3 arg4 harg4 arg5 harg5 arg6 harg6 arg7 harg7 arg8 harg8 arg9 harg9 arg10 harg10 arg11 harg11 arg12 harg12 arg13 harg13 arg14 harg14 arg15 harg15 arg16 harg16)
      ⟨(BitVec.ofNat 32 (i 2).val), (z4 (queries q) kx vx (pre q kc vc).1), (z6 (queries q) kx vx (pre q kc vc).1), (z12 (queries q) kx vx (pre q kc vc).1), (z20 (queries q) kx vx (pre q kc vc).1), (z24 (queries q) kx vx (pre q kc vc).1), (z26 (queries q) kx vx (pre q kc vc).1), (vals 0 vx)⟩ := by
  simp only [k0_part5_eq_skeleton]; unfold k0_part5_skel
  simp only [k0_part1_eq_skeleton, k0_part2_eq_skeleton]
  unfold first at hc0
  iintro ⟨H3, H4, H5, H6, H7, H14, H15, H16⟩
  sl_exec (disch := sl_exact hc0)
  sl_step
  delta part5_even.sl.r_2 part5_even.sl.r_3 part5_even.sl.v598 part5_even.sl.v605 part5_even.sl.v3 part5_even.sl.v5 part5_even.sl.v7 part5_even.sl.v21 part5_even.sl.H14_2 part5_even.sl.H15_3 part5_even.sl.H16_2
  delta part5_even.sl.v593 part5_even.sl.H15_2 part5_even.sl.H14_2
  delta part5_even.sl.r part5_even.sl.r_1 part5_even.sl.v568 part5_even.sl.v575
  delta part5_even.sl.v563 part5_even.sl.H15_1 part5_even.sl.H16_1
  delta part5_even.sl.H14_2
  simp only [cov_first, cov_last, cov_second, cov_both, pay29_eq, pay30_eq, readAt_full harg3, readAt_full harg4, readAt_full harg5, readAt_part harg6, readAt_part harg7, writes_two harg14, writes_two harg15, writes_two harg16]
  isplitr
  · ipureintro; simp only [z4, z6, z12, z20, z24, z26, pre, pre1, queries]; rw [m0_two, m1_two, q0_two, q1_two]
  isplitl [H3]; · iexact H3
  isplitl [H4]; · iexact H4
  isplitl [H5]; · iexact H5
  isplitr [H15 H16]
  · isplitl [H6]; · iexact H6
    isplitl [H7]; · iexact H7
    simp only [queries]; iexact H14
  isplitl [H15]
  · simp only [pre, pre1]; iexact H15
  · simp only [pre, pre1]; iexact H16

end Cert.DiffIdeal.Da
end
end
-- ==== Proof.DiffBody2.lean ====
module

public import proofs.«01_k».proof.Proof.Gen.DiffIdeal.Frame
public import proofs.«01_k».proof.Proof.Gen.DiffIdeal.Skeleton
public import Idealize.ShloMosaic.Lib.Pointwise
public import Idealize.ShloMosaic.Lib.VecWindow
public import proofs.«01_k».proof.Proof.DiffBody
public import proofs.«01_k».proof.Proof.Body2

@[expose] public section

set_option maxRecDepth 16384

noncomputable section

namespace Cert.DiffIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal.Gen
open Idealize.ShloMosaic.View (ld)
open Cert.KernelIdeal.Mla (writes_full readAt_full readAt_part readCov_part not_of_xor)

variable {F : FTy → Type} [FloatOps F]

local notation "𝕄" => MT nD τ sig Unit (Elt F) ℕ (UR sig nD τ) ℕ

/-- The fast branch is taken: no score of the tile exceeds its running maximum by more than 32. -/
def fastC (qt : Vec F S2x128x1024 .bf16) (kx : Vec F S8192x128 .bf16) (vx : Vec F S128x8192 .bf16) (m : Vec F S2x1x1024 .f32) : Prop :=
  Scalar.cmpi .ne (Scalar.extui (Scalar.cmpf .ole (k0_pay137 (z4 qt kx vx m) (z6 qt kx vx m) (z466 qt kx vx m) (z482 qt kx vx m) (z488 qt kx vx m) (q1 qt) (keys 15 kx)) (Scalar.ofBits .f32 0x42000000#32))) 0#32 = 1#1

/-- The fast branch: one rescaling for the whole tile. -/
def fast (qt : Vec F S2x128x1024 .bf16) (kx : Vec F S8192x128 .bf16) (vx : Vec F S128x8192 .bf16) (m : Vec F S2x1x1024 .f32) (a : Vec F S2x144x1024 .f32) : Vec F S2x1x1024 .f32 × Vec F S2x144x1024 .f32 :=
  (two (k0_pay140 (z4 qt kx vx m) (z466 qt kx vx m) (z488 qt kx vx m)) (k0_pay143 (z6 qt kx vx m) (z482 qt kx vx m) (q1 qt) (keys 15 kx)),
   two (k0_pay139 (z4 qt kx vx m) (z465 qt kx vx m) (z466 qt kx vx m) (z486 qt kx vx m) (z488 qt kx vx m) (vals 15 vx) (a0 a)) (k0_pay142 (z6 qt kx vx m) (z481 qt kx vx m) (z482 qt kx vx m) (q1 qt) (keys 15 kx) (vals 15 vx) (a1 a)))

open Classical in
/-- One tile of keys: the running maxima and sums after it. -/
def tile (qt : Vec F S2x128x1024 .bf16) (kx : Vec F S8192x128 .bf16) (vx : Vec F S128x8192 .bf16) (m : Vec F S2x1x1024 .f32) (a : Vec F S2x144x1024 .f32) : Vec F S2x1x1024 .f32 × Vec F S2x144x1024 .f32 :=
  if fastC qt kx vx m then fast qt kx vx m a else slow qt kx vx (m, a) k0_t1_loop.trips

/-- The rows of sums an output block is made of, and the rows of weights they are divided by. -/
abbrev sums0 (a : Vec F S2x144x1024 .f32) : Vec F S1x128x1024 .f32 := ld a (Rect.unit (s := S2x144x1024) ![0, 0, 0] S1x128x1024.size inb_S2x144x1024_S1x128x1024_0_0_0)
abbrev sums1 (a : Vec F S2x144x1024 .f32) : Vec F S1x128x1024 .f32 := ld a (Rect.unit (s := S2x144x1024) ![1, 0, 0] S1x128x1024.size inb_S2x144x1024_S1x128x1024_1_0_0)
abbrev weights0 (a : Vec F S2x144x1024 .f32) : Vec F S1x1x1024 .f32 := ld a (Rect.unit (s := S2x144x1024) ![0, 128, 0] S1x1x1024.size inb_S2x144x1024_S1x1x1024_0_128_0)
abbrev weights1 (a : Vec F S2x144x1024 .f32) : Vec F S1x1x1024 .f32 := ld a (Rect.unit (s := S2x144x1024) ![1, 128, 0] S1x1x1024.size inb_S2x144x1024_S1x1x1024_1_128_0)
/-- The output block of a state. -/
def outB (l1 k1 l2 k2 : Vec F S1x64 .f32) (g : Vec F S1x128 .f32) (a : Vec F S2x144x1024 .f32) : FVec F S1024x128 .bf16 :=
  k0_pay6 (k0_pay24 l1 k1 l2 k2) (k0_pay25 (sums0 a) (weights0 a)) (k0_pay26 (sums1 a) (weights1 a)) g

/-- The body after its first stretch. -/
def rest (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (v4 v6 v12 : FVec F S1x1024 .f32) (v20 : FVec F S144x1024 .f32) (v24 : FVec F S512x1024 .f32) (v26 : FVec F S1x1024 .f32) (v27 : Vec F S128x512 .bf16) :
    Prog (TpuEff nD τ sig (Elt F) Λ₀ .tc) PUnit := do
  let ⟨v34, v49, v50, v56, v61, v63, cst_46⟩ : Σ' (v34 : FVec F S144x1024 .f32) (v49 : FVec F S144x1024 .f32) (v50 : FVec F S1x1024 .f32) (v56 : FVec F S1x1024 .f32) (v61 : FVec F S512x1024 .bf16) (v63 : FVec F S144x512 .bf16), FVec F S144x1024 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 v4 v6 v12 v20 v24 v27
  let ⟨v81, v82, v97, v98⟩ : Σ' (v81 : FVec F S144x1024 .f32) (v82 : FVec F S1x1024 .f32) (v97 : FVec F S144x1024 .f32), FVec F S1x1024 .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 v4 v6 v26 v34 v49 v50 v56 v61 v63 cst_46
  let ⟨v113, v114, v129, v130, v132, v133, cst_93⟩ : Σ' (v113 : FVec F S144x1024 .f32) (v114 : FVec F S1x1024 .f32) (v129 : FVec F S144x1024 .f32) (v130 : FVec F S1x1024 .f32) (v132 : FVec F S128x1024 .bf16) (v133 : Vec F S512x128 .bf16), FVec F S512x1024 .f32 ← k0_part8 i arg3 harg3 arg4 harg4 arg5 harg5 arg6 harg6 arg7 harg7 arg8 harg8 arg9 harg9 arg10 harg10 arg11 harg11 arg12 harg12 arg13 harg13 arg14 harg14 arg15 harg15 arg16 harg16 v4 v6 v81 v82 v97 v98
  let ⟨v145, v146, v161, v162, v166, v168⟩ : Σ' (v145 : FVec F S144x1024 .f32) (v146 : FVec F S1x1024 .f32) (v161 : FVec F S144x1024 .f32) (v162 : FVec F S1x1024 .f32) (v166 : FVec F S512x1024 .f32), FVec F S1x1024 .f32 ← k0_part9 i arg3 harg3 arg4 harg4 arg5 harg5 arg6 harg6 arg7 harg7 arg8 harg8 arg9 harg9 arg10 harg10 arg11 harg11 arg12 harg12 arg13 harg13 arg14 harg14 arg15 harg15 arg16 harg16 v4 v6 v113 v114 v129 v130 v132 v133 cst_93
  let ⟨v177, v178, v193, v194, v200, v201, v205, cst_139⟩ : Σ' (v177 : FVec F S144x1024 .f32) (v178 : FVec F S1x1024 .f32) (v193 : FVec F S144x1024 .f32) (v194 : FVec F S1x1024 .f32) (v200 : FVec F S1x1024 .f32) (v201 : Vec F S128x512 .bf16) (v205 : FVec F S512x1024 .bf16), F .bf16 ← k0_part10 i arg3 harg3 arg4 harg4 arg5 harg5 arg6 harg6 arg7 harg7 arg8 harg8 arg9 harg9 arg10 harg10 arg11 harg11 arg12 harg12 arg13 harg13 arg14 harg14 arg15 harg15 arg16 harg16 v4 v6 v145 v146 v161 v162 v166 v168
  let ⟨v225, v226, v241, v242⟩ : Σ' (v225 : FVec F S144x1024 .f32) (v226 : FVec F S1x1024 .f32) (v241 : FVec F S144x1024 .f32), FVec F S1x1024 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 v4 v6 v177 v178 v193 v194 v200 v201 v205 cst_139
  let ⟨v257, v258, v273, v274, v276⟩ : Σ' (v257 : FVec F S144x1024 .f32) (v258 : FVec F S1x1024 .f32) (v273 : FVec F S144x1024 .f32) (v274 : FVec F S1x1024 .f32), FVec F S128x1024 .bf16 ← k0_part12 i arg3 harg3 arg4 harg4 arg5 harg5 arg6 harg6 arg7 harg7 arg8 harg8 arg9 harg9 arg10 harg10 arg11 harg11 arg12 harg12 arg13 harg13 arg14 harg14 arg15 harg15 arg16 harg16 v4 v6 v225 v226 v241 v242
  let ⟨v289, v290, v305, v306, v310, v311⟩ : Σ' (v289 : FVec F S144x1024 .f32) (v290 : FVec F S1x1024 .f32) (v305 : FVec F S144x1024 .f32) (v306 : FVec F S1x1024 .f32) (v310 : FVec F S512x1024 .f32), FVec F S1024 .f32 ← k0_part13 i arg3 harg3 arg4 harg4 arg5 harg5 arg6 harg6 arg7 harg7 arg8 harg8 arg9 harg9 arg10 harg10 arg11 harg11 arg12 harg12 arg13 harg13 arg14 harg14 arg15 harg15 arg16 harg16 v4 v6 v257 v258 v273 v274 v276
  let ⟨v321, v322, v337, v338, v344, v345, v347⟩ : Σ' (v321 : FVec F S144x1024 .f32) (v322 : FVec F S1x1024 .f32) (v337 : FVec F S144x1024 .f32) (v338 : FVec F S1x1024 .f32) (v344 : FVec F S1x1024 .f32) (v345 : Vec F S128x512 .bf16), FVec F S512x1024 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 v4 v6 v289 v290 v305 v306 v310 v311
  let ⟨v353, v354, v369, v370, v376, v381, v383, cst_256⟩ : Σ' (v353 : FVec F S144x1024 .f32) (v354 : FVec F S1x1024 .f32) (v369 : FVec F S144x1024 .f32) (v370 : FVec F S1x1024 .f32) (v376 : FVec F S1x1024 .f32) (v381 : FVec F S512x1024 .bf16) (v383 : FVec F S144x512 .bf16), FVec F S144x1024 .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 v4 v6 v321 v322 v337 v338 v344 v345 v347
  let ⟨v401, v402, v417, v418⟩ : Σ' (v401 : FVec F S144x1024 .f32) (v402 : FVec F S1x1024 .f32) (v417 : FVec F S144x1024 .f32), FVec F S1x1024 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 v4 v6 v353 v354 v369 v370 v376 v381 v383 cst_256
  let ⟨v433, v434, v449, v450, v452, v453, cst_303⟩ : Σ' (v433 : FVec F S144x1024 .f32) (v434 : FVec F S1x1024 .f32) (v449 : FVec F S144x1024 .f32) (v450 : FVec F S1x1024 .f32) (v452 : FVec F S128x1024 .bf16) (v453 : Vec F S512x128 .bf16), FVec F S512x1024 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 v4 v6 v401 v402 v417 v418
  let ⟨v465, v466, v481, v482, v486, v488⟩ : Σ' (v465 : FVec F S144x1024 .f32) (v466 : FVec F S1x1024 .f32) (v481 : FVec F S144x1024 .f32) (v482 : FVec F S1x1024 .f32) (v486 : FVec F S512x1024 .f32), FVec F S1x1024 .f32 ← k0_part18 i arg3 harg3 arg4 harg4 arg5 harg5 arg6 harg6 arg7 harg7 arg8 harg8 arg9 harg9 arg10 harg10 arg11 harg11 arg12 harg12 arg13 harg13 arg14 harg14 arg15 harg15 arg16 harg16 v4 v6 v433 v434 v449 v450 v452 v453 cst_303
  let v529 : BitVec 1 ← k0_part19 i arg3 harg3 arg4 harg4 arg5 harg5 arg6 harg6 arg7 harg7 arg8 harg8 arg9 harg9 arg10 harg10 arg11 harg11 arg12 harg12 arg13 harg13 arg14 harg14 arg15 harg15 arg16 harg16 v4 v6 v465 v466 v481 v482 v486 v488
  let v530 : BitVec 32 := Scalar.extui v529
  let v531 : BitVec 1 := Scalar.cmpi .ne v530 0#32
  if v531 = 1#1 then do
    Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16)
    pure ⟨⟩
  else do
    pure ⟨⟩
  if k0_h4 : k0_cond4 i = 1#1 then do
    let ⟨v559, v565, v571⟩ : Σ' (v559 : FVec F S1x1 .f32) (v565 : FVec F S128x1024 .f32), FVec F S128x1024 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16
    let v586 : Vec F S1x128 .f32 ← Prog.lift (.load arg12 (Rect.unit (s := S1x128) ![0, 0] S1x128.size inb_S1x128_S1x128_0_0).toLoadRect (View.loadsAt_vmem h_S1x128))
    let v593 : Vec F S1024x128 .bf16 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay6 v559 v565 v571 v586) Finset.univ (View.stores_vmem h_S1024x128 (harg13.storeExact_slice rfl _ packedbf16_S1024x128_S1024x128_0_0) (fun _ => rfl)) (.inl rfl))
    pure ⟨⟩
  else do
    pure ⟨⟩
  pure ⟨⟩

set_option maxHeartbeats 1000000 in
/-- The body after its first stretch: the tile is folded in, and at the last point of a row the output block stored. -/
theorem rest_run (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (qt : Vec F S2x128x1024 .bf16) (kx : Vec F S8192x128 .bf16) (vx : Vec F S128x8192 .bf16) (m : Vec F S2x1x1024 .f32) (a : Vec F S2x144x1024 .f32) (l1 k1 l2 k2 : Vec F S1x64 .f32) (g : Vec F S1x128 .f32)
    (f13 : BufTy.Contents (Elt F) arg13.view.ty) (X : sProp 𝕄) (K : PUnit → sProp 𝕄) :
    (iprop(Held c harg6 harg7 harg14 kx vx qt ∗ (arg15.view.loc (c : Thread nD τ) ↦[arg15.view.set]{fullShare} harg15.unread m) ∗ (arg16.view.loc (c : Thread nD τ) ↦[arg16.view.set]{fullShare} harg16.unread a) ∗ (arg8.view.loc (c : Thread nD τ) ↦[arg8.view.set]{fullShare} harg8.unread l1) ∗ (arg9.view.loc (c : Thread nD τ) ↦[arg9.view.set]{fullShare} harg9.unread k1) ∗ (arg10.view.loc (c : Thread nD τ) ↦[arg10.view.set]{fullShare} harg10.unread l2) ∗ (arg11.view.loc (c : Thread nD τ) ↦[arg11.view.set]{fullShare} harg11.unread k2) ∗ (arg12.view.loc (c : Thread nD τ) ↦[arg12.view.set]{fullShare} harg12.unread g) ∗ (arg13.view.loc (c : Thread nD τ) ↦[arg13.view.set]{fullShare} f13) ∗ X ∗ ((Held c harg6 harg7 harg14 kx vx qt ∗ (arg15.view.loc (c : Thread nD τ) ↦[arg15.view.set]{fullShare} harg15.unread (tile qt kx vx m a).1) ∗ (arg16.view.loc (c : Thread nD τ) ↦[arg16.view.set]{fullShare} harg16.unread (tile qt kx vx m a).2) ∗ (arg8.view.loc (c : Thread nD τ) ↦[arg8.view.set]{fullShare} harg8.unread l1) ∗ (arg9.view.loc (c : Thread nD τ) ↦[arg9.view.set]{fullShare} harg9.unread k1) ∗ (arg10.view.loc (c : Thread nD τ) ↦[arg10.view.set]{fullShare} harg10.unread l2) ∗ (arg11.view.loc (c : Thread nD τ) ↦[arg11.view.set]{fullShare} harg11.unread k2) ∗ (arg12.view.loc (c : Thread nD τ) ↦[arg12.view.set]{fullShare} harg12.unread g) ∗ (arg13.view.loc (c : Thread nD τ) ↦[arg13.view.set]{fullShare} (if k0_cond4 i = 1#1 then harg13.unread (outB l1 k1 l2 k2 g (tile qt kx vx m a).2) else f13))) -∗ X -∗ K ⟨⟩)) : sProp 𝕄)
      ⊢ wp frame (wpE (defs₀ (F := F)) Variants.none (c : Thread nD τ) none) E (rest (F := F) i arg3 harg3 arg4 harg4 arg5 harg5 arg6 harg6 arg7 harg7 arg8 harg8 arg9 harg9 arg10 harg10 arg11 harg11 arg12 harg12 arg13 harg13 arg14 harg14 arg15 harg15 arg16 harg16 (z4 qt kx vx m) (z6 qt kx vx m) (z12 qt kx vx m) (z20 qt kx vx m) (z24 qt kx vx m) (z26 qt kx vx m) (vals 0 vx)) K := by
  unfold rest
  simp only [k0_part19_eq_skeleton, k0_part4_eq_skeleton]
  have R := parts_run c E i arg3 harg3 arg4 harg4 arg5 harg5 arg6 harg6 arg7 harg7 arg8 harg8 arg9 harg9 arg10 harg10 arg11 harg11 arg12 harg12 arg13 harg13 arg14 harg14 arg15 harg15 arg16 harg16 qt kx vx m
  obtain ⟨R6, R7, R8, R9, R10, R11, R12, R13, R14, R15, R16, R17, R18⟩ := R
  refine Runs.seq R6 ?_
  dsimp only
  refine Runs.seq R7 ?_
  dsimp only
  refine Runs.seq R8 ?_
  dsimp only
  refine Runs.seq R9 ?_
  dsimp only
  refine Runs.seq R10 ?_
  dsimp only
  refine Runs.seq R11 ?_
  dsimp only
  refine Runs.seq R12 ?_
  dsimp only
  refine Runs.seq R13 ?_
  dsimp only
  refine Runs.seq R14 ?_
  dsimp only
  refine Runs.seq R15 ?_
  dsimp only
  refine Runs.seq R16 ?_
  dsimp only
  refine Runs.seq R17 ?_
  dsimp only
  refine Runs.seq R18 ?_
  clear R6 R7 R8 R9 R10 R11 R12 R13 R14 R15 R16 R17 R18
  dsimp only
  iintro ⟨⟨H6, H7, H14⟩, H15, H16, H8, H9, H10, H11, H12, H13, HX, Hk⟩
  have hraw : ∀ h1 h2, (Scalar.cmpi .ne (Scalar.extui (Scalar.cmpf .ole (k0_pay137 (z4 qt kx vx m) (z6 qt kx vx m) (z466 qt kx vx m) (z482 qt kx vx m) (z488 qt kx vx m)
        (arg14.view.readAt (Elt F) (Rect.unit (s := S2x128x1024) ![1, 0, 0] S1x128x1024.size h1).toLoadRect (harg14.unread qt))
        (arg6.view.readAt (Elt F) (Rect.unit (s := S8192x128) ![7680, 0] S512x128.size h2).toLoadRect (harg6.unread kx))) (Scalar.ofBits .f32 0x42000000#32))) 0#32 = 1#1) = fastC qt kx vx m := by
    intro h1 h2; rw [readAt_part harg14, readAt_part harg6]; rfl
  by_cases hf : fastC qt kx vx m
  · have ht : tile qt kx vx m a = fast qt kx vx m a := if_pos hf
    have hf1 := hf
    rw [← hraw inb_S2x128x1024_S1x128x1024_1_0_0 inb_S8192x128_S512x128_7680_0] at hf1
    have hf2 := (not_of_xor _).1 hf1
    sl_exec (disch := first | sl_exact hf1 | sl_exact hf2)
    sl_step
    rw [ht]
    delta rest_run.sl.H15_2 rest_run.sl.r rest_run.sl.r_1 rest_run.sl.r_2
    delta rest_run.sl.v560 rest_run.sl.v562 rest_run.sl.v566 rest_run.sl.v568
    delta rest_run.sl.H16_2
    delta rest_run.sl.v550
    try delta rest_run.sl.H16_1
    unfold outB
    simp only [dite_eq_ite, writes_full harg13, fast, cov_pair, writes_two harg15, writes_two harg16, readAt_other, readAt_part harg16, readAt_part harg15, readAt_part harg14, readAt_part harg6, readAt_part harg7, readAt_full harg8, readAt_full harg9, readAt_full harg10, readAt_full harg11, readAt_full harg12]
    ihave Hk' := Hk $$ [H6 H7 H14 H15 H16 H8 H9 H10 H11 H12 H13]
    · isplitl [H6 H7 H14]
      · isplitl [H6]; · iexact H6
        isplitl [H7]; · iexact H7
        iexact H14
      isplitl [H15]; · iexact H15
      isplitl [H16]; · iexact H16
      isplitl [H8]; · iexact H8
      isplitl [H9]; · iexact H9
      isplitl [H10]; · iexact H10
      isplitl [H11]; · iexact H11
      isplitl [H12]; · iexact H12
      iexact H13
    iapply Hk'
    iexact HX
  · have ht : tile qt kx vx m a = slow qt kx vx (m, a) k0_t1_loop.trips := if_neg hf
    have hf1 := hf
    rw [← hraw inb_S2x128x1024_S1x128x1024_1_0_0 inb_S8192x128_S512x128_7680_0] at hf1
    have hf2 := (not_of_xor _).2 hf1
    sl_exec (disch := first | sl_exact hf1 | sl_exact hf2)
    sl_step
    rw [ht]
    unfold outB
    delta rest_run.sl.r_3 rest_run.sl.r_4 rest_run.sl.r_5
    simp only [dite_eq_ite, writes_full harg13, readAt_part harg16, readAt_part harg15, readAt_part harg14, readAt_part harg6, readAt_part harg7, readAt_full harg8, readAt_full harg9, readAt_full harg10, readAt_full harg11, readAt_full harg12]
    ihave Hk' := Hk $$ [H6 H7 H14 H15 H16 H8 H9 H10 H11 H12 H13]
    · isplitl [H6 H7 H14]
      · isplitl [H6]; · iexact H6
        isplitl [H7]; · iexact H7
        iexact H14
      isplitl [H15]; · iexact H15
      isplitl [H16]; · iexact H16
      isplitl [H8]; · iexact H8
      isplitl [H9]; · iexact H9
      isplitl [H10]; · iexact H10
      isplitl [H11]; · iexact H11
      isplitl [H12]; · iexact H12
      iexact H13
    iapply Hk'
    iexact HX

set_option maxHeartbeats 1000000 in
/-- The body once its first stretch is known: from `A`, it leaves `Y`, the queries, the maxima and the sums. -/
theorem body_of (c : Dev nD) (E : Set ℕ) (i : grid0.Coords) (arg3 : Memref sig .tc .vmem S1024x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S8192x128 .bf16) (harg6 : arg6.IsWhole) (arg7 : Memref sig .tc .vmem S128x8192 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S2x1x1024 .f32) (harg15 : arg15.IsWhole) (arg16 : Memref sig .tc .vmem S2x144x1024 .f32) (harg16 : arg16.IsWhole) (q : Vec F S1024x128 .bf16) (kc : Vec F S256x128 .bf16) (vc : Vec F S128x256 .bf16) (qt : Vec F S2x128x1024 .bf16) (kx : Vec F S8192x128 .bf16) (vx : Vec F S128x8192 .bf16) (m : Vec F S2x1x1024 .f32) (a : Vec F S2x144x1024 .f32) (l1 k1 l2 k2 : Vec F S1x64 .f32) (g : Vec F S1x128 .f32)
    (f13 : BufTy.Contents (Elt F) arg13.view.ty) (A Y X : sProp 𝕄) (K : PUnit → sProp 𝕄)
    (h5 : Runs c E A Y (k0_part5 (F := F) i arg3 harg3 arg4 harg4 arg5 harg5 arg6 harg6 arg7 harg7 arg8 harg8 arg9 harg9 arg10 harg10 arg11 harg11 arg12 harg12 arg13 harg13 arg14 harg14 arg15 harg15 arg16 harg16) ⟨(BitVec.ofNat 32 (i 2).val), (z4 qt kx vx m), (z6 qt kx vx m), (z12 qt kx vx m), (z20 qt kx vx m), (z24 qt kx vx m), (z26 qt kx vx m), (vals 0 vx)⟩)
    (hY : iprop(Y ∗ X) ⊢ iprop(Held c harg6 harg7 harg14 kx vx qt ∗ (arg15.view.loc (c : Thread nD τ) ↦[arg15.view.set]{fullShare} harg15.unread m) ∗ (arg16.view.loc (c : Thread nD τ) ↦[arg16.view.set]{fullShare} harg16.unread a) ∗ (arg8.view.loc (c : Thread nD τ) ↦[arg8.view.set]{fullShare} harg8.unread l1) ∗ (arg9.view.loc (c : Thread nD τ) ↦[arg9.view.set]{fullShare} harg9.unread k1) ∗ (arg10.view.loc (c : Thread nD τ) ↦[arg10.view.set]{fullShare} harg10.unread l2) ∗ (arg11.view.loc (c : Thread nD τ) ↦[arg11.view.set]{fullShare} harg11.unread k2) ∗ (arg12.view.loc (c : Thread nD τ) ↦[arg12.view.set]{fullShare} harg12.unread g) ∗ (arg13.view.loc (c : Thread nD τ) ↦[arg13.view.set]{fullShare} f13) ∗ (arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc))) :
    (iprop(A ∗ X ∗ (((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc) ∗ (arg6.view.loc (c : Thread nD τ) ↦[arg6.view.set]{fullShare} harg6.unread kx) ∗ (arg7.view.loc (c : Thread nD τ) ↦[arg7.view.set]{fullShare} harg7.unread vx) ∗ (arg8.view.loc (c : Thread nD τ) ↦[arg8.view.set]{fullShare} harg8.unread l1) ∗ (arg9.view.loc (c : Thread nD τ) ↦[arg9.view.set]{fullShare} harg9.unread k1) ∗ (arg10.view.loc (c : Thread nD τ) ↦[arg10.view.set]{fullShare} harg10.unread l2) ∗ (arg11.view.loc (c : Thread nD τ) ↦[arg11.view.set]{fullShare} harg11.unread k2) ∗ (arg12.view.loc (c : Thread nD τ) ↦[arg12.view.set]{fullShare} harg12.unread g) ∗ (arg13.view.loc (c : Thread nD τ) ↦[arg13.view.set]{fullShare} (if k0_cond4 i = 1#1 then harg13.unread (outB l1 k1 l2 k2 g (tile qt kx vx m a).2) else f13)) ∗ (arg14.view.loc (c : Thread nD τ) ↦[arg14.view.set]{fullShare} harg14.unread qt) ∗ (arg15.view.loc (c : Thread nD τ) ↦[arg15.view.set]{fullShare} harg15.unread (tile qt kx vx m a).1) ∗ (arg16.view.loc (c : Thread nD τ) ↦[arg16.view.set]{fullShare} harg16.unread (tile qt kx vx m a).2)) -∗ K ⟨⟩)) : sProp 𝕄) ⊢ wp frame (wpE (defs₀ (F := F)) Variants.none (c : Thread nD τ) none) E (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_diff_attention_eq_skeleton]; unfold cc0_diff_attention_skel
  refine Runs.seq h5 ?_
  refine (?_ : _ ⊢ _).trans (rest_run c E i arg3 harg3 arg4 harg4 arg5 harg5 arg6 harg6 arg7 harg7 arg8 harg8 arg9 harg9 arg10 harg10 arg11 harg11 arg12 harg12 arg13 harg13 arg14 harg14 arg15 harg15 arg16 harg16 qt kx vx m a l1 k1 l2 k2 g f13 iprop((arg3.view.loc (c : Thread nD τ) ↦[arg3.view.set]{fullShare} harg3.unread q) ∗ (arg4.view.loc (c : Thread nD τ) ↦[arg4.view.set]{fullShare} harg4.unread kc) ∗ (arg5.view.loc (c : Thread nD τ) ↦[arg5.view.set]{fullShare} harg5.unread vc)) K)
  iintro ⟨HY, HX, Hk⟩
  ihave HZ := hY $$ [HY HX]
  · isplitl [HY]; · iexact HY
    iexact HX
  icases HZ with ⟨H0, H15, H16, H8, H9, H10, H11, H12, H13, HI⟩
  isplitl [H0]; · iexact H0
  isplitl [H15]; · iexact H15
  isplitl [H16]; · iexact H16
  isplitl [H8]; · iexact H8
  isplitl [H9]; · iexact H9
  isplitl [H10]; · iexact H10
  isplitl [H11]; · iexact H11
  isplitl [H12]; · iexact H12
  isplitl [H13]; · iexact H13
  isplitl [HI]; · iexact HI
  iintro ⟨⟨H6, H7, H14⟩, H15, H16, H8, H9, H10, H11, H12, H13⟩ ⟨H3, H4, H5⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.DiffIdeal.Da
end
end
-- ==== Proof.DiffTile.lean ====
module

public import proofs.«01_k».proof.Proof.Tile
public import proofs.«01_k».proof.Proof.DiffBody2
public import Idealize.ShloMosaic.Lib.Pipeline.ValueKit

/-! One tile of keys folded into the running sums of one component of the differential attention, in
either branch: the pivots stay real and the sums become those over the keys before the tile and in it. -/

@[expose] public section

set_option maxRecDepth 16384

noncomputable section

namespace Cert.DiffIdeal.Da

open Idealize.ShloMosaic Idealize.ShloMosaic.Tactic
open Cert.DiffIdeal.Gen
open Idealize.ShloMosaic.View (ld)
open _root_.Mla.Math
open Cert.KernelIdeal.Mla (chain chain_addf_at chain_maximumf_lt max_real)

/-! ### One component's vector expressions -/

/-- The scores of a chunk of keys. -/
abbrev sc (qt : Vec Ideal S1x128x1024 .bf16) (K : Vec Ideal S512x128 .bf16) : FVec Ideal S512x1024 .f32 := k0_pay33 qt K
/-- The largest score of a chunk. -/
abbrev mx (qt : Vec Ideal S1x128x1024 .bf16) (K : Vec Ideal S512x128 .bf16) : FVec Ideal S1x1024 .f32 := k0_pay34 qt K
/-- A chunk's weighted values at the pivots `M`, with its weights in the rows from 128 on. -/
def pv (M : FVec Ideal S1x1024 .f32) (X : FVec Ideal S512x1024 .f32) (V : Vec Ideal S128x512 .bf16) : FVec Ideal S144x1024 .f32 :=
  matmul dot_S144x512_S512x1024_S144x1024_1_0_0_1_n_n none
    (concatenate S144x512 0 [⟨S128x512, V⟩, ⟨S16x512, broadcast S16x512 (Scalar.ofBits .bf16 0x3F80#16 : Ideal .bf16)⟩] concatenates_S128x512_S16x512_S144x512_d0)
    (truncf .bf16 (exp2 (subf X (broadcastTo S512x1024 M broadcasts_S1x1024_S512x1024))) bitsLt_bf16_f32)
    (constant S144x1024 .f32 0x00000000#32)
/-- A component's pivots as a row. -/
abbrev row (m : Vec Ideal S1x1x1024 .f32) : FVec Ideal S1x1024 .f32 := k0_pay31 m

theorem sc_at (qt : Vec Ideal S1x128x1024 .bf16) (K : Vec Ideal S512x128 .bf16) (i : Fin 512) (j : Fin 1024) :
    sc qt K (ix2 i j) = ∑ d : Fin 128, K (ix2 i d) * qt (ix3 0 d j) := by
  pointwise! [k0_pay33]

theorem mx_at (qt : Vec Ideal S1x128x1024 .bf16) (K : Vec Ideal S512x128 .bf16) (j : Fin 1024) :
    mx qt K (ix2 0 j) = (Finset.univ : Finset (Fin 512)).fold max ⊥ (fun i => sc qt K (ix2 i j)) := by
  pointwise! [k0_pay34, k0_pay33]

theorem pv_at (M : FVec Ideal S1x1024 .f32) (X : FVec Ideal S512x1024 .f32) (V : Vec Ideal S128x512 .bf16) (r : Fin 144) (j : Fin 1024) :
    pv M X V (ix2 r j) = ∑ i : Fin 512, (if h : r.val < 128 then V (ix2 ⟨r.val, h⟩ i) else 1) * Ideal.exp2 (X (ix2 i j) - M (ix2 0 j)) := by
  pointwise! [pv]

theorem row_at (m : Vec Ideal S1x1x1024 .f32) (j : Fin 1024) : row m (ix2 0 j) = m (ix3 0 0 j) := by
  pointwise! [k0_pay31]

/-- The chunk of 512 keys `K` with values `V` is the stream's keys from `n` on, seen by query column `j`. -/
structure Ch (qt : Vec Ideal S1x128x1024 .bf16) (j : Fin 1024) (s : ℕ → ℝ) (v : Fin 144 → ℕ → EReal)
    (n : ℕ) (K : Vec Ideal S512x128 .bf16) (V : Vec Ideal S128x512 .bf16) : Prop where
  score : ∀ i : Fin 512, sc qt K (ix2 i j) = (s (n + i) : EReal)
  val : ∀ (r : Fin 144) (i : Fin 512), (if h : r.val < 128 then V (ix2 ⟨r.val, h⟩ i) else 1) = v r (n + i)

/-- The resident tile of 8192 keys is the stream's keys from `n` on, seen by query column `j`. -/
structure Tl (qt : Vec Ideal S1x128x1024 .bf16) (j : Fin 1024) (s : ℕ → ℝ) (v : Fin 144 → ℕ → EReal)
    (n : ℕ) (kx : Vec Ideal S8192x128 .bf16) (vx : Vec Ideal S128x8192 .bf16) : Prop where
  score : ∀ i : Fin 8192, ∑ d : Fin 128, kx (ix2 i d) * qt (ix3 0 d j) = (s (n + i) : EReal)
  val : ∀ (r : Fin 144) (i : Fin 8192), (if h : r.val < 128 then vx (ix2 ⟨r.val, h⟩ i) else 1) = v r (n + i)

/-- The state `(m, a)` of a component at query column `j` after the stream's first `n` keys: a real pivot and the sums at it. -/
def Inv (j : Fin 1024) (s : ℕ → ℝ) (v : Fin 144 → ℕ → EReal) (n : ℕ) (st : Vec Ideal S1x1x1024 .f32 × Vec Ideal S1x144x1024 .f32) : Prop :=
  ∃ a : ℝ, st.1 (ix3 0 0 j) = (a : EReal) ∧ ∀ r : Fin 144, st.2 (ix3 0 r j) = W s (v r) n a

section
variable {qt : Vec Ideal S1x128x1024 .bf16} {j : Fin 1024} {s : ℕ → ℝ} {v : Fin 144 → ℕ → EReal} {n : ℕ}

theorem Ch.max_lt {K V} (h : Ch qt j s v n K V) : mx qt K (ix2 0 j) < ⊤ := by
  rw [mx_at]
  refine fold_max_lt _ fun k => ?_
  rw [h.score]; exact EReal.coe_lt_top _

theorem Ch.sum {K V} (h : Ch qt j s v n K V) (M : FVec Ideal S1x1024 .f32) (a : ℝ) (hM : M (ix2 0 j) = (a : EReal)) (r : Fin 144) :
    pv M (sc qt K) V (ix2 r j) = ∑ i : Fin 512, v r (n + i) * wt (s (n + i)) a := by
  rw [pv_at]
  refine Finset.sum_congr rfl fun i _ => ?_
  rw [h.val, h.score, hM, exp2_sub]

theorem Ch.step {K V} (h : Ch qt j s v n K V) (M : FVec Ideal S1x1024 .f32) (a : ℝ) (hM : M (ix2 0 j) = (a : EReal)) (r : Fin 144) (n' : ℕ) (hn : n' = n + 512) :
    W s (v r) n a + pv M (sc qt K) V (ix2 r j) = W s (v r) n' a := by
  subst hn; rw [h.sum M a hM, W_add]

/-- A chunk of the tile, loaded from `o` keys on. -/
theorem Tl.chunk {kx vx} (h : Tl qt j s v n kx vx) (o n' : ℕ) (ho : o + 512 ≤ 8192) (hn : n' = n + o)
    (f : Fin 2 → ℕ) (hf : f = ![o, 0]) (inb) (g : Fin 2 → ℕ) (hg : g = ![0, o]) (inb') :
    Ch qt j s v n' (ld kx (Rect.unit (s := S8192x128) f S512x128.size inb)) (ld vx (Rect.unit (s := S128x8192) g S128x512.size inb')) := by
  subst hf hg hn
  constructor
  · intro i
    rw [sc_at]
    have := h.score ⟨o + i, by omega⟩
    rw [Nat.add_assoc]
    rw [← this]
    refine Finset.sum_congr rfl fun d _ => congrArg (· * _) (View.ld_unit_apply_of _ _ _ _ _ (ix2 ⟨o + i, by omega⟩ d) fun a => ?_)
    fin_cases a
    · rfl
    · exact (Nat.zero_add _).symm
  · intro r i
    have := h.val r ⟨o + i, by omega⟩
    rw [Nat.add_assoc]
    rw [← this]
    split
    · rename_i hr
      refine View.ld_unit_apply_of _ _ _ _ _ (ix2 ⟨r.val, hr⟩ ⟨o + i, by omega⟩) fun a => ?_
      fin_cases a
      · exact (Nat.zero_add _).symm
      · rfl
    · rfl

/-- Chunk `c` of the tile's sixteen. -/
theorem Tl.part {kx vx} (h : Tl qt j s v n kx vx) (c : ℕ) (hc : c < 16) : Ch qt j s v (n + 512 * c) (keys c kx) (vals c vx) :=
  h.chunk (512 * c) _ (by omega) rfl _ (by rw [Nat.mod_eq_of_lt hc]) _ _ (by rw [Nat.mod_eq_of_lt hc]) _

/-- The first `N` chunks' weighted values complete the running sum by their keys. -/
theorem sum_parts {kx vx} (h : Tl qt j s v n kx vx) (M : FVec Ideal S1x1024 .f32) (a : ℝ) (hM : M (ix2 0 j) = (a : EReal)) (r : Fin 144) :
    ∀ N ≤ 16, W s (v r) n a + ∑ c ∈ Finset.range N, pv M (sc qt (keys c kx)) (vals c vx) (ix2 r j) = W s (v r) (n + 512 * N) a := by
  intro N
  induction N with
  | zero => intro _; rw [Finset.sum_range_zero, add_zero]; rfl
  | succ N ih =>
    intro hN
    rw [Finset.sum_range_succ, ← add_assoc, ih (by omega)]
    exact (h.part N (by omega)).step M a hM r _ (by omega)
end

/-! ### One chunk at a time -/

/-- The pivots after a chunk. -/
def stepM (qt : Vec Ideal S1x128x1024 .bf16) (K : Vec Ideal S512x128 .bf16) (m : Vec Ideal S1x1x1024 .f32) : FVec Ideal S1x1024 .f32 :=
  maximumf (row m) (mx qt K)

theorem stepM_at (qt : Vec Ideal S1x128x1024 .bf16) (K : Vec Ideal S512x128 .bf16) (m : Vec Ideal S1x1x1024 .f32) (j : Fin 1024) :
    stepM qt K m (ix2 0 j) = max (m (ix3 0 0 j)) (mx qt K (ix2 0 j)) := by
  rw [← row_at m j]; rfl

/-- A row of pivots as a component. -/
theorem cast_row (M : FVec Ideal S1x1024 .f32) (j : Fin 1024) : shapeCast S1x1x1024 M shapeCasts_S1x1024_S1x1x1024 (ix3 0 0 j) = M (ix2 0 j) := by
  pointwise!

theorem step1_1 (qt : Vec Ideal S1x128x1024 .bf16) (K : Vec Ideal S512x128 .bf16) (V : Vec Ideal S128x512 .bf16) (st : Vec Ideal S1x1x1024 .f32 × Vec Ideal S1x144x1024 .f32) (j : Fin 1024) :
    (step1 qt K V st).1 (ix3 0 0 j) = stepM qt K st.1 (ix2 0 j) := by
  have e : (step1 qt K V st).1 = shapeCast S1x1x1024 (stepM qt K st.1) shapeCasts_S1x1024_S1x1x1024 := rfl
  rw [e, cast_row]

theorem step1_2 (qt : Vec Ideal S1x128x1024 .bf16) (K : Vec Ideal S512x128 .bf16) (V : Vec Ideal S128x512 .bf16) (st : Vec Ideal S1x1x1024 .f32 × Vec Ideal S1x144x1024 .f32) (r : Fin 144) (j : Fin 1024) :
    (step1 qt K V st).2 (ix3 0 r j) = Ideal.exp2 (row st.1 (ix2 0 j) - stepM qt K st.1 (ix2 0 j)) * st.2 (ix3 0 r j) + pv (stepM qt K st.1) (sc qt K) V (ix2 r j) := by
  have e : (step1 qt K V st).2 = shapeCast S1x144x1024 (addf (mulf (broadcastTo S144x1024 (exp2 (subf (row st.1) (stepM qt K st.1))) broadcasts_S1x1024_S144x1024)
    (shapeCast S144x1024 st.2 shapeCasts_S1x144x1024_S144x1024)) (pv (stepM qt K st.1) (sc qt K) V)) shapeCasts_S144x1024_S1x144x1024 := rfl
  rw [e]; generalize pv (stepM qt K st.1) (sc qt K) V = Y; generalize stepM qt K st.1 = X; generalize row st.1 = Z
  pointwise!

/-! ### A whole tile at once -/

/-- The pivots after a tile. -/
def fastM (qt : Vec Ideal S1x128x1024 .bf16) (kx : Vec Ideal S8192x128 .bf16) (m : Vec Ideal S1x1x1024 .f32) : FVec Ideal S1x1024 .f32 :=
  maximumf (row m) (maximumf (chain maximumf (fun c => mx qt (keys c kx)) 14) (mx qt (keys 15 kx)))

/-- A tile folded into one component with one rescaling. -/
def fast1 (qt : Vec Ideal S1x128x1024 .bf16) (kx : Vec Ideal S8192x128 .bf16) (vx : Vec Ideal S128x8192 .bf16) (st : Vec Ideal S1x1x1024 .f32 × Vec Ideal S1x144x1024 .f32) :
    Vec Ideal S1x1x1024 .f32 × Vec Ideal S1x144x1024 .f32 :=
  (shapeCast S1x1x1024 (fastM qt kx st.1) shapeCasts_S1x1024_S1x1x1024,
   shapeCast S1x144x1024 (mulf (addf (shapeCast S144x1024 st.2 shapeCasts_S1x144x1024_S144x1024)
      (addf (chain addf (fun c => pv (row st.1) (sc qt (keys c kx)) (vals c vx)) 14) (pv (row st.1) (sc qt (keys 15 kx)) (vals 15 vx))))
    (broadcastTo S144x1024 (exp2 (subf (row st.1) (fastM qt kx st.1))) broadcasts_S1x1024_S144x1024)) shapeCasts_S144x1024_S1x144x1024)

theorem fast_eq (qt : Vec Ideal S2x128x1024 .bf16) (kx : Vec Ideal S8192x128 .bf16) (vx : Vec Ideal S128x8192 .bf16) (m : Vec Ideal S2x1x1024 .f32) (a : Vec Ideal S2x144x1024 .f32) :
    fast qt kx vx m a = (two (fast1 (q0 qt) kx vx (m0 m, a0 a)).1 (fast1 (q1 qt) kx vx (m1 m, a1 a)).1,
      two (fast1 (q0 qt) kx vx (m0 m, a0 a)).2 (fast1 (q1 qt) kx vx (m1 m, a1 a)).2) := by
  have e1 : k0_pay140 (z4 qt kx vx m) (z466 qt kx vx m) (z488 qt kx vx m) = (fast1 (q0 qt) kx vx (m0 m, a0 a)).1 := rfl
  have e2 : k0_pay143 (z6 qt kx vx m) (z482 qt kx vx m) (q1 qt) (keys 15 kx) = (fast1 (q1 qt) kx vx (m1 m, a1 a)).1 := rfl
  have e3 : k0_pay139 (z4 qt kx vx m) (z465 qt kx vx m) (z466 qt kx vx m) (z486 qt kx vx m) (z488 qt kx vx m) (vals 15 vx) (a0 a) = (fast1 (q0 qt) kx vx (m0 m, a0 a)).2 := rfl
  have e4 : k0_pay142 (z6 qt kx vx m) (z481 qt kx vx m) (z482 qt kx vx m) (q1 qt) (keys 15 kx) (vals 15 vx) (a1 a) = (fast1 (q1 qt) kx vx (m1 m, a1 a)).2 := rfl
  unfold fast; rw [e1, e2, e3, e4]

theorem fastM_at (qt : Vec Ideal S1x128x1024 .bf16) (kx : Vec Ideal S8192x128 .bf16) (m : Vec Ideal S1x1x1024 .f32) (j : Fin 1024) :
    fastM qt kx m (ix2 0 j) = max (row m (ix2 0 j)) (max (chain maximumf (fun c => mx qt (keys c kx)) 14 (ix2 0 j)) (mx qt (keys 15 kx) (ix2 0 j))) := rfl

theorem fast1_2 (qt : Vec Ideal S1x128x1024 .bf16) (kx : Vec Ideal S8192x128 .bf16) (vx : Vec Ideal S128x8192 .bf16) (st : Vec Ideal S1x1x1024 .f32 × Vec Ideal S1x144x1024 .f32) (r : Fin 144) (j : Fin 1024) :
    (fast1 qt kx vx st).2 (ix3 0 r j)
      = (st.2 (ix3 0 r j) + (chain addf (fun c => pv (row st.1) (sc qt (keys c kx)) (vals c vx)) 14 (ix2 r j) + pv (row st.1) (sc qt (keys 15 kx)) (vals 15 vx) (ix2 r j)))
        * Ideal.exp2 (row st.1 (ix2 0 j) - fastM qt kx st.1 (ix2 0 j)) := by
  unfold fast1
  generalize chain addf (fun c => pv (row st.1) (sc qt (keys c kx)) (vals c vx)) 14 = Y
  generalize pv (row st.1) (sc qt (keys 15 kx)) (vals 15 vx) = Z
  generalize fastM qt kx st.1 = X
  generalize row st.1 = U
  pointwise!

/-! ### Both components -/

/-- Both components' states at query column `j` after the stream's first `n` keys. -/
structure Inv2 (j : Fin 1024) (s0 s1 : ℕ → ℝ) (v : Fin 144 → ℕ → EReal) (n : ℕ) (st : Vec Ideal S2x1x1024 .f32 × Vec Ideal S2x144x1024 .f32) : Prop where
  fst : Inv j s0 v n (m0 st.1, a0 st.2)
  snd : Inv j s1 v n (m1 st.1, a1 st.2)

theorem Inv2.of {j : Fin 1024} {s0 s1 : ℕ → ℝ} {v : Fin 144 → ℕ → EReal} {n : ℕ} {x y : Vec Ideal S1x1x1024 .f32 × Vec Ideal S1x144x1024 .f32}
    (h0 : Inv j s0 v n x) (h1 : Inv j s1 v n y) : Inv2 j s0 s1 v n (two x.1 y.1, two x.2 y.2) where
  fst := by dsimp only; rw [m0_two, a0_two]; exact h0
  snd := by dsimp only; rw [m1_two, a1_two]; exact h1

section
variable {qt : Vec Ideal S1x128x1024 .bf16} {j : Fin 1024} {s : ℕ → ℝ} {v : Fin 144 → ℕ → EReal} {n : ℕ}

theorem step1_inv {K V st} (h : Ch qt j s v n K V) (hi : Inv j s v n st) : Inv j s v (n + 512) (step1 qt K V st) := by
  obtain ⟨a, hm, hs⟩ := hi
  obtain ⟨b, hb⟩ := max_real a h.max_lt
  have h9 : stepM qt K st.1 (ix2 0 j) = (b : EReal) := by rw [stepM_at, hm, hb]
  refine ⟨b, (step1_1 _ _ _ _ _).trans h9, fun r => (step1_2 _ _ _ _ _ _).trans ?_⟩
  rw [h.sum _ b h9, h9, row_at, hm, exp2_sub, hs, W_shift, W_add]

theorem fast1_inv {kx vx st} (h : Tl qt j s v n kx vx) (hi : Inv j s v n st) : Inv j s v (n + 8192) (fast1 qt kx vx st) := by
  obtain ⟨a, hm, hs⟩ := hi
  have h4 : row st.1 (ix2 0 j) = (a : EReal) := (row_at _ _).trans hm
  obtain ⟨b, hb⟩ := max_real a (max_lt (chain_maximumf_lt _ 14 _ fun c hc => (h.part c (by omega)).max_lt) (h.part 15 (by decide)).max_lt)
  have h9 : fastM qt kx st.1 (ix2 0 j) = (b : EReal) := by rw [fastM_at, h4]; exact hb
  refine ⟨b, (cast_row _ _).trans h9, fun r => (fast1_2 _ _ _ _ _ _).trans ?_⟩
  rw [h9, h4, exp2_sub, hs, chain_addf_at, ← Finset.sum_range_succ (fun c => pv (row st.1) (sc qt (keys c kx)) (vals c vx) (ix2 r j)),
    sum_parts h _ a h4 r 16 le_rfl, mul_comm, W_shift]
end

section
variable {qt : Vec Ideal S2x128x1024 .bf16} {j : Fin 1024} {s0 s1 : ℕ → ℝ} {v : Fin 144 → ℕ → EReal} {n : ℕ}

theorem trips_eq : k0_t1_loop.trips = 16 := by decide +kernel

theorem slow_inv {kx vx st} (h0 : Tl (q0 qt) j s0 v n kx vx) (h1 : Tl (q1 qt) j s1 v n kx vx) (hi : Inv2 j s0 s1 v n st) :
    ∀ k, k ≤ 16 → Inv2 j s0 s1 v (n + 512 * k) (slow qt kx vx st k) := by
  intro k
  induction k with
  | zero => exact fun _ => hi
  | succ k ih =>
    intro hk
    have hlt : k < k0_t1_loop.trips := by rw [trips_eq]; omega
    rw [slow_succ qt kx vx st ⟨k, hlt⟩, show n + 512 * (k + 1) = n + 512 * k + 512 by ring]
    have hk' := ih (by omega)
    exact Inv2.of
      (step1_inv (h0.chunk (512 * k) _ (by omega) rfl _ (k0_off1_eq ⟨k, hlt⟩) _ _ (k0_off2_eq ⟨k, hlt⟩) _) hk'.fst)
      (step1_inv (h1.chunk (512 * k) _ (by omega) rfl _ (k0_off1_eq ⟨k, hlt⟩) _ _ (k0_off2_eq ⟨k, hlt⟩) _) hk'.snd)

theorem tile_inv {kx vx st} (h0 : Tl (q0 qt) j s0 v n kx vx) (h1 : Tl (q1 qt) j s1 v n kx vx) (hi : Inv2 j s0 s1 v n st) :
    Inv2 j s0 s1 v (n + 8192) (tile qt kx vx st.1 st.2) := by
  unfold tile
  split
  · rw [fast_eq]; exact Inv2.of (fast1_inv h0 hi.fst) (fast1_inv h1 hi.snd)
  · have := slow_inv h0 h1 hi 16 le_rfl
    rw [trips_eq]; exact this
end

end Cert.DiffIdeal.Da
-- ==== Proof.DiffAttn.lean ====
module

public import proofs.«01_k».proof.Proof.Math
public import proofs.«01_k».proof.Proof.Gen.DiffIdeal

/-! The differential attention's result as a function of its argument arrays, over the reals: for each
query and head, the difference of two attentions over the context's keys and then the samples' own,
normalised over its components. -/

@[expose] public section

set_option maxRecDepth 16384

noncomputable section

namespace Cert.DiffIdeal.Da

open Idealize.ShloMosaic
open _root_.Mla.Math

/-- Column `d` of component `c` of head `h` among the queries' and keys' 512. -/
def qcol (h : Fin 4) (c : Fin 2) (d : Fin 64) : Fin 512 := ⟨128 * h.val + 64 * c.val + d.val, by omega⟩
/-- Row `d` of head `h` among the values' 512. -/
def vrow (h : Fin 4) (d : Fin 128) : Fin 512 := ⟨128 * h.val + d.val, by omega⟩

variable (q : FVec Ideal S16384x512 .bf16) (k : FVec Ideal S16384x512 .bf16) (vt : FVec Ideal S512x16384 .bf16)
  (kc : FVec Ideal S256x512 .bf16) (vct : FVec Ideal S512x256 .bf16) (l1 k1 l2 k2 : FVec Ideal S2x64 .f32) (g : FVec Ideal S2x128 .f32)

/-- The score of query `i` and key `n` of the stream (the context's 256 keys first) in component `c` of head `h`. -/
def score (h : Fin 4) (c : Fin 2) (i : Fin 16384) (n : ℕ) : EReal :=
  if hn : n < 256 then ∑ d : Fin 64, kc (ix2 ⟨n, hn⟩ (qcol h c d)) * q (ix2 i (qcol h c d))
  else if hm : n - 256 < 16384 then ∑ d : Fin 64, k (ix2 ⟨n - 256, hm⟩ (qcol h c d)) * q (ix2 i (qcol h c d))
  else 0

/-- The same as a real. -/
def sreal (h : Fin 4) (c : Fin 2) (i : Fin 16384) (n : ℕ) : ℝ := (score q k kc h c i n).toReal

/-- Component `d` of the value of key `n` of the stream in head `h`. -/
def vcomp (h : Fin 4) (d : Fin 128) (n : ℕ) : EReal :=
  if hn : n < 256 then vct (ix2 (vrow h d) ⟨n, hn⟩)
  else if hm : n - 256 < 16384 then vt (ix2 (vrow h d) ⟨n - 256, hm⟩)
  else 0

/-- The rows a product sums: a head's value components, then rows of ones. -/
def vrows (h : Fin 4) (r : Fin 144) (n : ℕ) : EReal :=
  if hr : r.val < 128 then vcomp vt vct h ⟨r.val, hr⟩ n else 1

/-- The weight of the second attention. -/
def lam : EReal :=
  Ideal.exp (∑ d : Fin 64, l1 (ix2 1 d) * k1 (ix2 1 d)) - Ideal.exp (∑ d : Fin 64, l2 (ix2 1 d) * k2 (ix2 1 d)) + Ideal.ofBits .f32 0x3EB60549#32

/-- One attention: the values `v` averaged by the scores `s`. -/
def quot (s : ℕ → ℝ) (v : ℕ → EReal) : EReal := Ideal.div (W s v 16640 0) (W s (fun _ => 1) 16640 0)

/-- Component `d` of `o`, normalised over the components and scaled. -/
def normed (o : Fin 128 → EReal) (w : EReal) (d : Fin 128) : EReal :=
  o d * Ideal.rsqrt (Ideal.div (∑ e : Fin 128, o e * o e) (Ideal.ofBits .f32 0x43000000#32) + Ideal.ofBits .f32 0x358637BD#32) * w * Ideal.ofBits .f32 0x3F24FD5C#32

/-- The difference of the two attentions at query `i`, head `h`, component `d`. -/
def dcomp (i : Fin 16384) (h : Fin 4) (d : Fin 128) : EReal :=
  quot (sreal q k kc h 0 i) (vcomp vt vct h d) - lam l1 k1 l2 k2 * quot (sreal q k kc h 1 i) (vcomp vt vct h d)

/-- The result at query `i`, head `h`, component `d`. -/
def diff (i : Fin 16384) (h : Fin 4) (d : Fin 128) : EReal :=
  normed (dcomp q k vt kc vct l1 k1 l2 k2 i h) (g (ix2 1 d)) d

/-- The whole result. -/
def diffOut : FVec Ideal S16384x512 .bf16 := fun y =>
  diff q k vt kc vct l1 k1 l2 k2 g ⟨(y 0).val, (y 0).isLt⟩ ⟨(y 1).val / 128, by have : (y 1).val < 512 := (y 1).isLt; omega⟩ ⟨(y 1).val % 128, by omega⟩

/-- Every query and key is a real number. -/
structure Fin3 : Prop where
  q : ∀ i, q i ≠ ⊤ ∧ q i ≠ ⊥
  k : ∀ i, k i ≠ ⊤ ∧ k i ≠ ⊥
  kc : ∀ i, kc i ≠ ⊤ ∧ kc i ≠ ⊥

variable {q k kc}

theorem score_real (hf : Fin3 q k kc) (h : Fin 4) (c : Fin 2) (i : Fin 16384) (n : ℕ) : score q k kc h c i n = (sreal q k kc h c i n : EReal) := by
  have : ∃ r : ℝ, score q k kc h c i n = (r : EReal) := by
    unfold score
    split
    · exact sum_real _ _ _ (fun _ => hf.kc _) fun _ => hf.q _
    · split
      · exact sum_real _ _ _ (fun _ => hf.k _) fun _ => hf.q _
      · exact ⟨0, rfl⟩
  obtain ⟨r, hr⟩ := this
  unfold sreal; rw [hr, EReal.toReal_coe]

/-- A sum over 128 columns of which only a half is not masked. -/
theorem sum_low (f x : Fin 128 → EReal) : ∑ d : Fin 128, f d * (if d.val < 64 then x d else 0) = ∑ d : Fin 64, f ⟨d.val, by omega⟩ * x ⟨d.val, by omega⟩ := by
  rw [show (∑ d : Fin 128, f d * (if d.val < 64 then x d else 0)) = ∑ d : Fin (64 + 64), f d * (if d.val < 64 then x d else 0) from rfl, Fin.sum_univ_add]
  have e : ∀ d : Fin 64, f (Fin.natAdd 64 d) * (if (Fin.natAdd 64 d).val < 64 then x (Fin.natAdd 64 d) else 0) = 0 := fun d => by
    rw [if_neg (by rw [Fin.val_natAdd]; omega), mul_zero]
  rw [Finset.sum_congr rfl fun d _ => e d, Finset.sum_const_zero, add_zero]
  refine Finset.sum_congr rfl fun d _ => ?_
  rw [if_pos (show (Fin.castAdd 64 d).val < 64 by rw [Fin.val_castAdd]; omega)]; rfl

theorem sum_high (f x : Fin 128 → EReal) : ∑ d : Fin 128, f d * (if 64 ≤ d.val then x d else 0) = ∑ d : Fin 64, f ⟨64 + d.val, by omega⟩ * x ⟨64 + d.val, by omega⟩ := by
  rw [show (∑ d : Fin 128, f d * (if 64 ≤ d.val then x d else 0)) = ∑ d : Fin (64 + 64), f d * (if 64 ≤ d.val then x d else 0) from rfl, Fin.sum_univ_add]
  have e : ∀ d : Fin 64, f (Fin.castAdd 64 d) * (if 64 ≤ (Fin.castAdd 64 d).val then x (Fin.castAdd 64 d) else 0) = 0 := fun d => by
    rw [if_neg (by rw [Fin.val_castAdd]; omega), mul_zero]
  rw [Finset.sum_congr rfl fun d _ => e d, Finset.sum_const_zero, zero_add]
  refine Finset.sum_congr rfl fun d _ => ?_
  rw [if_pos (show 64 ≤ (Fin.natAdd 64 d).val by rw [Fin.val_natAdd]; omega)]; rfl

end Cert.DiffIdeal.Da
-- ==== Proof.DiffOut.lean ====
module

public import proofs.«01_k».proof.Proof.DiffTile
public import proofs.«01_k».proof.Proof.DiffAttn
public import Idealize.ShloMosaic.Lib.Pipeline.ValueKit

/-! The context keys' part of the running softmaxes, and the output block of the finished sums. -/

@[expose] public section

set_option maxRecDepth 16384

noncomputable section

namespace Cert.DiffIdeal.Da

open Idealize.ShloMosaic Idealize.ShloMosaic.Tactic
open Cert.DiffIdeal.Gen
open Idealize.ShloMosaic.View (ld)
open _root_.Mla.Math

/-! ### The queries of a component -/

theorem low_at : ∀ d : Fin 128, IntOp.cmpi .slt (BitVec.ofNat 32 d.val) 64#32 = if d.val < 64 then 1#1 else 0#1 := by decide +kernel
theorem high_at : ∀ d : Fin 128, IntOp.cmpi .sge (BitVec.ofNat 32 d.val) 64#32 = if 64 ≤ d.val then 1#1 else 0#1 := by decide +kernel

theorem pay10_at (q : Vec Ideal S1024x128 .bf16) (d : Fin 128) (j : Fin 1024) :
    k0_pay10 q (ix3 0 d j) = if d.val < 64 then q (ix2 j d) else 0 := by
  pointwise [k0_pay10, k0_pay9]
  rw [low_at]; split <;> rfl

theorem pay11_at (q : Vec Ideal S1024x128 .bf16) (d : Fin 128) (j : Fin 1024) :
    k0_pay11 q (ix3 0 d j) = if 64 ≤ d.val then q (ix2 j d) else 0 := by
  pointwise [k0_pay11, k0_pay9]
  rw [high_at]; split <;> rfl

/-! ### The context keys -/

/-- The context's 256 keys are the stream's first, seen by query column `j`. -/
structure Cx (qt : Vec Ideal S1x128x1024 .bf16) (j : Fin 1024) (s : ℕ → ℝ) (v : Fin 144 → ℕ → EReal)
    (kc : Vec Ideal S256x128 .bf16) (vc : Vec Ideal S128x256 .bf16) : Prop where
  score : ∀ i : Fin 256, ∑ d : Fin 128, kc (ix2 i d) * qt (ix3 0 d j) = (s i : EReal)
  val : ∀ (r : Fin 144) (i : Fin 256), (if h : r.val < 128 then vc (ix2 ⟨r.val, h⟩ i) else 1) = v r i

theorem pay13_at (qt : Vec Ideal S1x128x1024 .bf16) (K : Vec Ideal S256x128 .bf16) (i : Fin 256) (j : Fin 1024) :
    k0_pay13 (k0_pay12 qt) K (ix2 i j) = ∑ d : Fin 128, K (ix2 i d) * qt (ix3 0 d j) := by
  pointwise! [k0_pay13, k0_pay12]

theorem pay15_at (Q : FVec Ideal S128x1024 .bf16) (K : Vec Ideal S256x128 .bf16) (m : Vec Ideal S1x1x1024 .f32) (j : Fin 1024) :
    k0_pay15 Q K m (ix2 0 j) = max (m (ix3 0 0 j)) ((Finset.univ : Finset (Fin 256)).fold max ⊥ (fun i => k0_pay13 Q K (ix2 i j))) := by
  pointwise! [k0_pay15, k0_pay14]

theorem pay17_at (Q : FVec Ideal S128x1024 .bf16) (K : Vec Ideal S256x128 .bf16) (m : Vec Ideal S1x1x1024 .f32) (j : Fin 1024) :
    k0_pay17 Q K m (ix3 0 0 j) = k0_pay15 Q K m (ix2 0 j) := by
  have e : k0_pay17 Q K m = shapeCast S1x1x1024 (k0_pay15 Q K m) shapeCasts_S1x1024_S1x1x1024 := rfl
  rw [e, cast_row]

/-- A context's weighted values at the pivots `M`, with its weights in the rows from 128 on. -/
def pvc (M : FVec Ideal S1x1024 .f32) (X : FVec Ideal S256x1024 .f32) (V : Vec Ideal S128x256 .bf16) : FVec Ideal S144x1024 .f32 :=
  matmul dot_S144x256_S256x1024_S144x1024_1_0_0_1_n_n none
    (concatenate S144x256 0 [⟨S128x256, V⟩, ⟨S16x256, broadcast S16x256 (Scalar.ofBits .bf16 0x3F80#16 : Ideal .bf16)⟩] concatenates_S128x256_S16x256_S144x256_d0)
    (truncf .bf16 (exp2 (subf X (broadcastTo S256x1024 M broadcasts_S1x1024_S256x1024))) bitsLt_bf16_f32)
    (constant S144x1024 .f32 0x00000000#32)

theorem pvc_at (M : FVec Ideal S1x1024 .f32) (X : FVec Ideal S256x1024 .f32) (V : Vec Ideal S128x256 .bf16) (r : Fin 144) (j : Fin 1024) :
    pvc M X V (ix2 r j) = ∑ i : Fin 256, (if h : r.val < 128 then V (ix2 ⟨r.val, h⟩ i) else 1) * Ideal.exp2 (X (ix2 i j) - M (ix2 0 j)) := by
  pointwise! [pvc]

theorem pay16_at (Q : FVec Ideal S128x1024 .bf16) (K : Vec Ideal S256x128 .bf16) (V : Vec Ideal S128x256 .bf16) (m : Vec Ideal S1x1x1024 .f32) (a : Vec Ideal S1x144x1024 .f32)
    (r : Fin 144) (j : Fin 1024) :
    k0_pay16 Q K V m a (ix3 0 r j) = Ideal.exp2 (k0_pay14 m (ix2 0 j) - k0_pay15 Q K m (ix2 0 j)) * a (ix3 0 r j) + pvc (k0_pay15 Q K m) (k0_pay13 Q K) V (ix2 r j) := by
  have e : k0_pay16 Q K V m a = shapeCast S1x144x1024 (addf (mulf (broadcastTo S144x1024 (exp2 (subf (k0_pay14 m) (k0_pay15 Q K m))) broadcasts_S1x1024_S144x1024)
    (shapeCast S144x1024 a shapeCasts_S1x144x1024_S144x1024)) (pvc (k0_pay15 Q K m) (k0_pay13 Q K) V)) shapeCasts_S144x1024_S1x144x1024 := rfl
  rw [e]; generalize pvc (k0_pay15 Q K m) (k0_pay13 Q K) V = Y; generalize k0_pay15 Q K m = X; generalize k0_pay14 m = Z
  pointwise!

theorem pay7_at (y : S1x1x1024.Idx) : m0 (F := Ideal) (k0_pay7 (F := Ideal)) y = ⊥ ∧ m1 (F := Ideal) (k0_pay7 (F := Ideal)) y = ⊥ :=
  ⟨_root_.Mla.Math.bits_ninf, _root_.Mla.Math.bits_ninf⟩
theorem bits_zero : Ideal.ofBits .f32 0x00000000#32 = 0 := by
  simp [Ideal.ofBits, Ideal.ieee]
theorem pay8_at (y : S1x144x1024.Idx) : a0 (F := Ideal) (k0_pay8 (F := Ideal)) y = 0 ∧ a1 (F := Ideal) (k0_pay8 (F := Ideal)) y = 0 := ⟨bits_zero, bits_zero⟩

theorem pre1_inv {qt : Vec Ideal S1x128x1024 .bf16} {j : Fin 1024} {s : ℕ → ℝ} {v : Fin 144 → ℕ → EReal} {kc vc}
    (h : Cx qt j s v kc vc) (st : Vec Ideal S1x1x1024 .f32 × Vec Ideal S1x144x1024 .f32) (hm : ∀ y, st.1 y = ⊥) (ha : ∀ y, st.2 y = 0) : Inv j s v 256 (pre1 qt kc vc st) := by
  have hx : ∀ i : Fin 256, k0_pay13 (k0_pay12 qt) kc (ix2 i j) = (s i : EReal) := fun i => by rw [pay13_at, ← h.score]
  obtain ⟨a, ha'⟩ : ∃ a : ℝ, k0_pay15 (k0_pay12 qt) kc st.1 (ix2 0 j) = (a : EReal) := by
    rw [pay15_at, hm, max_eq_right bot_le]
    refine real_of (bot_lt_fold_max _ 0 ?_) (fold_max_lt _ fun i => ?_)
    · rw [hx]; exact EReal.bot_lt_coe _
    · rw [hx]; exact EReal.coe_lt_top _
  refine ⟨a, (pay17_at _ _ _ _).trans ha', fun r => (pay16_at _ _ _ _ _ _ _).trans ?_⟩
  rw [ha, mul_zero, zero_add, pvc_at]
  have := W_add s (v r) 0 256 a
  simp only [Nat.zero_add, W_zero, zero_add] at this
  rw [this]
  refine Finset.sum_congr rfl fun i _ => ?_
  rw [h.val, hx, ha', exp2_sub]

theorem pre_inv {q : Vec Ideal S1024x128 .bf16} {j : Fin 1024} {s0 s1 : ℕ → ℝ} {v : Fin 144 → ℕ → EReal} {kc vc}
    (h0 : Cx (k0_pay10 q) j s0 v kc vc) (h1 : Cx (k0_pay11 q) j s1 v kc vc) : Inv2 j s0 s1 v 256 (pre q kc vc) :=
  Inv2.of (pre1_inv h0 _ (fun y => (pay7_at y).1) fun y => (pay8_at y).1) (pre1_inv h1 _ (fun y => (pay7_at y).2) fun y => (pay8_at y).2)

/-! ### The output block -/

theorem pay6_at (L : FVec Ideal S1x1 .f32) (X Y : FVec Ideal S128x1024 .f32) (g : Vec Ideal S1x128 .f32) (i : Fin 1024) (d : Fin 128) :
    k0_pay6 L X Y g (ix2 i d) = normed (fun e => X (ix2 e i) - L (ix2 0 0) * Y (ix2 e i)) (g (ix2 0 d)) d := by
  unfold normed
  pointwise! [k0_pay6]

theorem pay24_at (l1 k1 l2 k2 : Vec Ideal S1x64 .f32) :
    k0_pay24 l1 k1 l2 k2 (ix2 0 0) = Ideal.exp (∑ d : Fin 64, l1 (ix2 0 d) * k1 (ix2 0 d)) - Ideal.exp (∑ d : Fin 64, l2 (ix2 0 d) * k2 (ix2 0 d)) + Ideal.ofBits .f32 0x3EB60549#32 := by
  pointwise! [k0_pay24]
  simp

theorem pay25_at (x : Vec Ideal S1x128x1024 .f32) (w : Vec Ideal S1x1x1024 .f32) (d : Fin 128) (i : Fin 1024) :
    k0_pay25 x w (ix2 d i) = Ideal.div (x (ix3 0 d i)) (w (ix3 0 0 i)) := by
  pointwise! [k0_pay25]

/-- Both components are divided alike. -/
theorem pay26_eq (x : Vec Ideal S1x128x1024 .f32) (w : Vec Ideal S1x1x1024 .f32) : k0_pay26 x w = k0_pay25 x w := rfl

/-- The row that holds the totals of the weights. -/
def rowW : Fin 144 := ⟨128, by omega⟩

/-- A component's sums and weights, as the output block reads them. -/
theorem rows_at (a : Vec Ideal S2x144x1024 .f32) (d : Fin 128) (i : Fin 1024) :
    sums0 a (ix3 0 d i) = a0 a (ix3 0 ⟨d.val, by omega⟩ i) ∧ weights0 a (ix3 0 0 i) = a0 a (ix3 0 rowW i)
    ∧ sums1 a (ix3 0 d i) = a1 a (ix3 0 ⟨d.val, by omega⟩ i) ∧ weights1 a (ix3 0 0 i) = a1 a (ix3 0 rowW i) := by
  refine ⟨?_, ?_, ?_, ?_⟩ <;> refine congrArg a (funext fun b => Fin.ext ?_) <;> fin_cases b <;> rfl

/-- The output block of a state that has seen the whole stream. -/
theorem outB_at {j : Fin 1024} {s0 s1 : ℕ → ℝ} {v : Fin 144 → ℕ → EReal} {u : Fin 128 → ℕ → EReal} {st : Vec Ideal S2x1x1024 .f32 × Vec Ideal S2x144x1024 .f32}
    (hi : Inv2 j s0 s1 v 16640 st) (hv : ∀ d : Fin 128, v ⟨d.val, by omega⟩ = u d) (hw : v rowW = fun _ => 1)
    (l1 k1 l2 k2 : Vec Ideal S1x64 .f32) (g : Vec Ideal S1x128 .f32) (d : Fin 128) :
    outB l1 k1 l2 k2 g st.2 (ix2 j d)
      = normed (fun e => quot s0 (u e) - (Ideal.exp (∑ d : Fin 64, l1 (ix2 0 d) * k1 (ix2 0 d)) - Ideal.exp (∑ d : Fin 64, l2 (ix2 0 d) * k2 (ix2 0 d)) + Ideal.ofBits .f32 0x3EB60549#32) * quot s1 (u e)) (g (ix2 0 d)) d := by
  obtain ⟨⟨a, -, hs⟩, ⟨b, -, ht⟩⟩ := hi
  unfold outB
  rw [pay6_at, pay24_at, pay26_eq]
  refine congrArg (fun f => normed f _ _) (funext fun e => ?_)
  obtain ⟨e0, e1, e2, e3⟩ := rows_at st.2 e j
  rw [pay25_at, pay25_at, e0, e1, e2, e3]
  dsimp only at hs ht
  rw [hs, hs, ht, ht, hv, hw]
  unfold quot
  rw [W_div _ _ _ (by omega) a 0, W_div _ _ _ (by omega) b 0]

end Cert.DiffIdeal.Da
-- ==== Proof.DiffLaunch.lean ====
module

public import proofs.«01_k».proof.Proof.Gen.DiffIdeal.Frame
public import proofs.«01_k».proof.Proof.Gen.DiffIdeal.Skeleton
public import Idealize.ShloMosaic.Lib.Pointwise
public import Idealize.ShloMosaic.Lib.VecWindow
public import proofs.«01_k».proof.Proof.Gen.DiffIdeal.Frame
public import proofs.«01_k».proof.Proof.DiffBody2
public import proofs.«01_k».proof.Proof.Launch

@[expose] public section

set_option maxRecDepth 16384

noncomputable section

namespace Cert.DiffIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal.Gen
open Idealize.ShloMosaic.View (ld)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole staging buffer held at `x` is its points-to at `x` written out. -/
theorem owns_whole_iff {S : Shape} {e : EltTy} {M : Memref sig .tc .vmem S e} (h : M.IsWhole) (c : Dev nD) (x : Vec F S e) :
    (owns (c : Thread nD τ) M fullShare x : sProp 𝕄) ⊢ (M.view.loc (c : Thread nD τ) ↦[M.view.set]{fullShare} h.unread x) := by
  unfold owns
  iintro ⟨%f, %hf, H⟩
  obtain rfl := h.eq_unread hf
  iexact H

theorem owns_of_unread {S : Shape} {e : EltTy} {M : Memref sig .tc .vmem S e} (h : M.IsWhole) (c : Dev nD) (x : Vec F S e) :
    ((M.view.loc (c : Thread nD τ) ↦[M.view.set]{fullShare} h.unread x) : sProp 𝕄) ⊢ owns (c : Thread nD τ) M fullShare x := by
  unfold owns
  iintro H
  iexists _
  isplitr
  · ipureintro; exact h.read_unread _
  iexact H

theorem owns_any {S : Shape} {e : EltTy} {M : Memref sig .tc .vmem S e} (h : M.IsWhole) (c : Dev nD) (x : Vec F S e) :
    (owns (c : Thread nD τ) M fullShare x : sProp 𝕄) ⊢ iprop(∃ f, M.view.loc (c : Thread nD τ) ↦[M.view.set]{fullShare} f) := by
  unfold owns
  iintro ⟨%f, %hf, H⟩
  iexists _
  iexact H

abbrev sc0 : Memref sig .tc .vmem S2x128x1024 .bf16 := Memref.whole cc0_scratch0
abbrev sc1 : Memref sig .tc .vmem S2x1x1024 .f32 := Memref.whole cc0_scratch1
abbrev sc2 : Memref sig .tc .vmem S2x144x1024 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The first key tile of a row sits at the even points. -/
theorem first_iff : ∀ t : Fin cfg0.N, first (grid0.coords t) ↔ t.val % 2 = 0 :=
  (fun t => by
    have ht : t.val < 128 := Nat.lt_of_lt_of_eq t.isLt N_0
    have e2 : (grid0.coords t 2).val = t.val / 1 % 2 := Pipeline.Grid.coords_val t 2 (by decide) rfl
    simp only [first, e2]
    word_cmp
   : ∀ t : Fin grid0.N, first (grid0.coords t) ↔ t.val % 2 = 0)

/-- The result block is stored at the odd points. -/
theorem last_iff : ∀ t : Fin cfg0.N, k0_cond4 (grid0.coords t) = 1#1 ↔ t.val % 2 = 1 :=
  (fun t => by
    have ht : t.val < 128 := Nat.lt_of_lt_of_eq t.isLt N_0
    have e2 : (grid0.coords t 2).val = t.val / 1 % 2 := Pipeline.Grid.coords_val t 2 (by decide) rfl
    simp only [k0_cond4, e2]
    word_cmp
   : ∀ t : Fin grid0.N, k0_cond4 (grid0.coords t) = 1#1 ↔ t.val % 2 = 1)

/-- The ten argument windows are in use at every point. -/
theorem live : ∀ (w : Fin cfg0.W) (t : Fin cfg0.N), w.val < 10 → cfg0.idle w (grid0.coords t) = false :=
  (by decide +kernel : ∀ (w : Fin cfg0.W) (t : Fin grid0.N), w.val < 10 → cfg0.idle w (grid0.coords t) = false)
theorem live_10 : ∀ t : Fin cfg0.N, t.val % 2 = 1 → cfg0.idle 10 (grid0.coords t) = false :=
  (by decide +kernel : ∀ t : Fin grid0.N, t.val % 2 = 1 → cfg0.idle 10 (grid0.coords t) = false)
theorem idle_10 : ∀ t : Fin cfg0.N, t.val % 2 = 0 → cfg0.idle 10 (grid0.coords t) = true :=
  (by decide +kernel : ∀ t : Fin grid0.N, t.val % 2 = 0 → cfg0.idle 10 (grid0.coords t) = true)
theorem noFlush_10 (t : Fin cfg0.N) (h : t.val % 2 = 0) : (cfg0.win 10).flush t = false := by
  have := flush0_10 t
  cases hf : (cfg0.win 10).flush t
  · rfl
  · rw [hf] at this; have := this.1 rfl; omega

/-- What the scratch buffers hold after a first point of a row, and after a later one. -/
def evenSt (c : Dev nD) (t : Fin cfg0.N) : Vec F S2x128x1024 .bf16 × (Vec F S2x1x1024 .f32 × Vec F S2x144x1024 .f32) :=
  (queries (iblk m c 0 t),
    tile (queries (iblk m c 0 t)) (iblk m c 3 t) (iblk m c 4 t)
      (pre (iblk m c 0 t) (iblk m c 1 t) (iblk m c 2 t)).1 (pre (iblk m c 0 t) (iblk m c 1 t) (iblk m c 2 t)).2)

def oddSt (c : Dev nD) (t : Fin cfg0.N) (s : Vec F S2x128x1024 .bf16 × (Vec F S2x1x1024 .f32 × Vec F S2x144x1024 .f32)) :
    Vec F S2x128x1024 .bf16 × (Vec F S2x1x1024 .f32 × Vec F S2x144x1024 .f32) :=
  (s.1, tile s.1 (iblk m c 3 t) (iblk m c 4 t) s.2.1 s.2.2)

/-- The scratch buffers after each point. -/
def stAt (c : Dev nD) : (n : ℕ) → n < cfg0.N → Vec F S2x128x1024 .bf16 × (Vec F S2x1x1024 .f32 × Vec F S2x144x1024 .f32)
  | 0, hn => evenSt m c ⟨0, hn⟩
  | n + 1, hn => if (n + 1) % 2 = 0 then evenSt m c ⟨n + 1, hn⟩ else oddSt m c ⟨n + 1, hn⟩ (stAt c n (Nat.lt_of_succ_lt hn))

theorem stAt_even (c : Dev nD) (t : Fin cfg0.N) (h : t.val % 2 = 0) : stAt m c t.val t.isLt = evenSt m c t := by
  obtain ⟨n, hn⟩ := t
  cases n with
  | zero => rfl
  | succ n => exact if_pos h

theorem stAt_odd (c : Dev nD) (n : ℕ) (hn : n + 1 < cfg0.N) (h : (n + 1) % 2 = 1) :
    stAt m c (n + 1) hn = oddSt m c ⟨n + 1, hn⟩ (stAt m c n (Nat.lt_of_succ_lt hn)) := if_neg (by omega)

def heldAt (c : Dev nD) (s : Vec F S2x128x1024 .bf16 × (Vec F S2x1x1024 .f32 × Vec F S2x144x1024 .f32)) : sProp 𝕄 :=
  iprop(iprop(owns (c : Thread nD τ) sc0 fullShare s.1 ∗ owns (c : Thread nD τ) sc1 fullShare s.2.1 ∗ owns (c : Thread nD τ) sc2 fullShare s.2.2) ∗ (∃ r, prngReg c r))

theorem heldAt_any (c : Dev nD) (s : Vec F S2x128x1024 .bf16 × (Vec F S2x1x1024 .f32 × Vec F S2x144x1024 .f32)) :
    heldAt c s ⊢ (Pipeline.ΦA spec0 c : sProp 𝕄) := by
  rw [PhiA_eq]; unfold heldAt
  iintro ⟨⟨H0, H1, H2⟩, Hg⟩
  isplitl [H0 H1 H2]
  · isplitl [H0]
    · iexists _; iexact H0
    isplitl [H1]
    · iexists _; iexact H1
    iexists _; iexact H2
  iexact Hg

/-- The invariant between points. -/
def PhiS (c : Dev nD) : (n : ℕ) → n ≤ cfg0.N → sProp 𝕄
  | 0, _ => Pipeline.ΦA spec0 c
  | n + 1, hn => heldAt c (stAt m c n hn)

theorem PhiS_any (c : Dev nD) (n : ℕ) (h : n ≤ cfg0.N) : PhiS m c n h ⊢ (Pipeline.ΦA spec0 c : sProp 𝕄) := by
  cases n with
  | zero => exact Idealize.SL.BI.Entails.refl _
  | succ n => exact heldAt_any c _

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outB (iblk m c 5 t) (iblk m c 6 t) (iblk m c 7 t) (iblk m c 8 t) (iblk m c 9 t) (stAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt_succ t.castSucc.isLt) := by
  rfl

/-- What the body leaves in each window: the arguments as they were, and the result block. -/
theorem after_eq (c : Dev nD) (t : Fin cfg0.N) : (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t ∧ (dats m 0 c).after 7 t = iblk m c 7 t ∧ (dats m 0 c).after 8 t = iblk m c 8 t ∧ (dats m 0 c).after 9 t = iblk m c 9 t ∧ (dats m 0 c).after 10 t = outB (iblk m c 5 t) (iblk m c 6 t) (iblk m c 7 t) (iblk m c 8 t) (iblk m c 9 t) (stAt m c t.val t.isLt).2.2 := by
  refine ⟨?_, ?_, ?_, ?_, ?_, ?_, ?_, ?_, ?_, ?_, ?_⟩ <;> dsimp only [dats]
/-- What each argument window holds before the body runs. -/
theorem before_eq (c : Dev nD) (t : Fin cfg0.N) : (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) :=
  ⟨before0_0_of m (dats m 0 c) (A_eq m c 0) (fun t => (after_eq m c t).1) t, before0_1_of m (dats m 0 c) (A_eq m c 1) (fun t => (after_eq m c t).2.1) t, before0_2_of m (dats m 0 c) (A_eq m c 2) (fun t => (after_eq m c t).2.2.1) t, before0_3_of m (dats m 0 c) (A_eq m c 3) (fun t => (after_eq m c t).2.2.2.1) t, before0_4_of m (dats m 0 c) (A_eq m c 4) (fun t => (after_eq m c t).2.2.2.2.1) t, before0_5_of m (dats m 0 c) (A_eq m c 5) (fun t => (after_eq m c t).2.2.2.2.2.1) t, before0_6_of m (dats m 0 c) (A_eq m c 6) (fun t => (after_eq m c t).2.2.2.2.2.2.1) t, before0_7_of m (dats m 0 c) (A_eq m c 7) (fun t => (after_eq m c t).2.2.2.2.2.2.2.1) t, before0_8_of m (dats m 0 c) (A_eq m c 8) (fun t => (after_eq m c t).2.2.2.2.2.2.2.2.1) t, before0_9_of m (dats m 0 c) (A_eq m c 9) (fun t => (after_eq m c t).2.2.2.2.2.2.2.2.2.1) t⟩

/-- A window in use is left with what the body leaves in it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The argument blocks in their windows, written out. -/
def ins (c : Dev nD) (t : Fin cfg0.N) : sProp 𝕄 := iprop(((st0_0 t).view.loc (c : Thread nD τ) ↦[(st0_0 t).view.set]{fullShare} (hstage0_0 ((cfg0.slots t 0).cast nbuf0_0)).unread (iblk m c 0 t)) ∗ ((st0_1 t).view.loc (c : Thread nD τ) ↦[(st0_1 t).view.set]{fullShare} (hstage0_1 ((cfg0.slots t 1).cast nbuf0_1)).unread (iblk m c 1 t)) ∗ ((st0_2 t).view.loc (c : Thread nD τ) ↦[(st0_2 t).view.set]{fullShare} (hstage0_2 ((cfg0.slots t 2).cast nbuf0_2)).unread (iblk m c 2 t)) ∗ ((st0_3 t).view.loc (c : Thread nD τ) ↦[(st0_3 t).view.set]{fullShare} (hstage0_3 ((cfg0.slots t 3).cast nbuf0_3)).unread (iblk m c 3 t)) ∗ ((st0_4 t).view.loc (c : Thread nD τ) ↦[(st0_4 t).view.set]{fullShare} (hstage0_4 ((cfg0.slots t 4).cast nbuf0_4)).unread (iblk m c 4 t)) ∗ ((st0_5 t).view.loc (c : Thread nD τ) ↦[(st0_5 t).view.set]{fullShare} (hstage0_5 ((cfg0.slots t 5).cast nbuf0_5)).unread (iblk m c 5 t)) ∗ ((st0_6 t).view.loc (c : Thread nD τ) ↦[(st0_6 t).view.set]{fullShare} (hstage0_6 ((cfg0.slots t 6).cast nbuf0_6)).unread (iblk m c 6 t)) ∗ ((st0_7 t).view.loc (c : Thread nD τ) ↦[(st0_7 t).view.set]{fullShare} (hstage0_7 ((cfg0.slots t 7).cast nbuf0_7)).unread (iblk m c 7 t)) ∗ ((st0_8 t).view.loc (c : Thread nD τ) ↦[(st0_8 t).view.set]{fullShare} (hstage0_8 ((cfg0.slots t 8).cast nbuf0_8)).unread (iblk m c 8 t)) ∗ ((st0_9 t).view.loc (c : Thread nD τ) ↦[(st0_9 t).view.set]{fullShare} (hstage0_9 ((cfg0.slots t 9).cast nbuf0_9)).unread (iblk m c 9 t)))

/-- The argument blocks in their windows. -/
def owned (c : Dev nD) (t : Fin cfg0.N) : sProp 𝕄 := iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t))

theorem ins_of_owned (c : Dev nD) (t : Fin cfg0.N) : owned m c t ⊢ ins m c t := by
  unfold owned ins
  iintro ⟨H0, H1, H2, H3, H4, H5, H6, H7, H8, H9⟩
  isplitl [H0]; · iapply (owns_whole_iff (hstage0_0 ((cfg0.slots t 0).cast nbuf0_0)) c (iblk m c 0 t)); iexact H0
  isplitl [H1]; · iapply (owns_whole_iff (hstage0_1 ((cfg0.slots t 1).cast nbuf0_1)) c (iblk m c 1 t)); iexact H1
  isplitl [H2]; · iapply (owns_whole_iff (hstage0_2 ((cfg0.slots t 2).cast nbuf0_2)) c (iblk m c 2 t)); iexact H2
  isplitl [H3]; · iapply (owns_whole_iff (hstage0_3 ((cfg0.slots t 3).cast nbuf0_3)) c (iblk m c 3 t)); iexact H3
  isplitl [H4]; · iapply (owns_whole_iff (hstage0_4 ((cfg0.slots t 4).cast nbuf0_4)) c (iblk m c 4 t)); iexact H4
  isplitl [H5]; · iapply (owns_whole_iff (hstage0_5 ((cfg0.slots t 5).cast nbuf0_5)) c (iblk m c 5 t)); iexact H5
  isplitl [H6]; · iapply (owns_whole_iff (hstage0_6 ((cfg0.slots t 6).cast nbuf0_6)) c (iblk m c 6 t)); iexact H6
  isplitl [H7]; · iapply (owns_whole_iff (hstage0_7 ((cfg0.slots t 7).cast nbuf0_7)) c (iblk m c 7 t)); iexact H7
  isplitl [H8]; · iapply (owns_whole_iff (hstage0_8 ((cfg0.slots t 8).cast nbuf0_8)) c (iblk m c 8 t)); iexact H8
  iapply (owns_whole_iff (hstage0_9 ((cfg0.slots t 9).cast nbuf0_9)) c (iblk m c 9 t)); iexact H9

theorem owned_of_ins (c : Dev nD) (t : Fin cfg0.N) : ins m c t ⊢ owned m c t := by
  unfold owned ins
  iintro ⟨H0, H1, H2, H3, H4, H5, H6, H7, H8, H9⟩
  isplitl [H0]; · iapply (owns_of_unread (hstage0_0 ((cfg0.slots t 0).cast nbuf0_0)) c (iblk m c 0 t)); iexact H0
  isplitl [H1]; · iapply (owns_of_unread (hstage0_1 ((cfg0.slots t 1).cast nbuf0_1)) c (iblk m c 1 t)); iexact H1
  isplitl [H2]; · iapply (owns_of_unread (hstage0_2 ((cfg0.slots t 2).cast nbuf0_2)) c (iblk m c 2 t)); iexact H2
  isplitl [H3]; · iapply (owns_of_unread (hstage0_3 ((cfg0.slots t 3).cast nbuf0_3)) c (iblk m c 3 t)); iexact H3
  isplitl [H4]; · iapply (owns_of_unread (hstage0_4 ((cfg0.slots t 4).cast nbuf0_4)) c (iblk m c 4 t)); iexact H4
  isplitl [H5]; · iapply (owns_of_unread (hstage0_5 ((cfg0.slots t 5).cast nbuf0_5)) c (iblk m c 5 t)); iexact H5
  isplitl [H6]; · iapply (owns_of_unread (hstage0_6 ((cfg0.slots t 6).cast nbuf0_6)) c (iblk m c 6 t)); iexact H6
  isplitl [H7]; · iapply (owns_of_unread (hstage0_7 ((cfg0.slots t 7).cast nbuf0_7)) c (iblk m c 7 t)); iexact H7
  isplitl [H8]; · iapply (owns_of_unread (hstage0_8 ((cfg0.slots t 8).cast nbuf0_8)) c (iblk m c 8 t)); iexact H8
  iapply (owns_of_unread (hstage0_9 ((cfg0.slots t 9).cast nbuf0_9)) c (iblk m c 9 t)); iexact H9

/-- What the body leaves of its output block and its scratch, from a state before a tile. -/
def done (c : Dev nD) (t : Fin cfg0.N) (s : Vec F S2x128x1024 .bf16 × (Vec F S2x1x1024 .f32 × Vec F S2x144x1024 .f32)) (f : BufTy.Contents (Elt F) (st0_10 t).view.ty) : sProp 𝕄 :=
  iprop(((st0_10 t).view.loc (c : Thread nD τ) ↦[(st0_10 t).view.set]{fullShare} (if k0_cond4 (grid0.coords t) = 1#1 then (hstage0_10 ((cfg0.slots t 10).cast nbuf0_10)).unread (outB (iblk m c 5 t) (iblk m c 6 t) (iblk m c 7 t) (iblk m c 8 t) (iblk m c 9 t) (tile s.1 (iblk m c 3 t) (iblk m c 4 t) s.2.1 s.2.2).2) else f)) ∗ (sc0.view.loc (c : Thread nD τ) ↦[sc0.view.set]{fullShare} (Memref.isWhole_whole cc0_scratch0).unread s.1) ∗ (sc1.view.loc (c : Thread nD τ) ↦[sc1.view.set]{fullShare} (Memref.isWhole_whole cc0_scratch1).unread (tile s.1 (iblk m c 3 t) (iblk m c 4 t) s.2.1 s.2.2).1) ∗ (sc2.view.loc (c : Thread nD τ) ↦[sc2.view.set]{fullShare} (Memref.isWhole_whole cc0_scratch2).unread (tile s.1 (iblk m c 3 t) (iblk m c 4 t) s.2.1 s.2.2).2))

set_option maxHeartbeats 1000000 in
/-- The body at a first point of a row. -/
theorem body_even (c : Dev nD) (t : Fin cfg0.N) (hc0 : first (grid0.coords t)) (f : BufTy.Contents (Elt F) (st0_10 t).view.ty) (f14 : BufTy.Contents (Elt F) sc0.view.ty) (f15 : BufTy.Contents (Elt F) sc1.view.ty) (f16 : BufTy.Contents (Elt F) sc2.view.ty) (K : PUnit → sProp 𝕄) :
    iprop(ins m c t ∗ ((st0_10 t).view.loc (c : Thread nD τ) ↦[(st0_10 t).view.set]{fullShare} f) ∗ (sc0.view.loc (c : Thread nD τ) ↦[sc0.view.set]{fullShare} f14) ∗ (sc1.view.loc (c : Thread nD τ) ↦[sc1.view.set]{fullShare} f15) ∗ (sc2.view.loc (c : Thread nD τ) ↦[sc2.view.set]{fullShare} f16) ∗ ((ins m c t ∗ done m c t (queries (iblk m c 0 t), pre (iblk m c 0 t) (iblk m c 1 t) (iblk m c 2 t)) f) -∗ K ⟨⟩))
      ⊢ wp frame (wpE (defs₀ (F := F)) Variants.none (c : Thread nD τ) none) Set.univ (bodyAt0 t) K := by
  unfold bodyAt0
  refine (?_ : _ ⊢ _).trans (body_of c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (queries (iblk m c 0 t)) (iblk m c 3 t) (iblk m c 4 t) (pre (iblk m c 0 t) (iblk m c 1 t) (iblk m c 2 t)).1 (pre (iblk m c 0 t) (iblk m c 1 t) (iblk m c 2 t)).2 (iblk m c 5 t) (iblk m c 6 t) (iblk m c 7 t) (iblk m c 8 t) (iblk m c 9 t) f _ _ iprop(((st0_5 t).view.loc (c : Thread nD τ) ↦[(st0_5 t).view.set]{fullShare} (hstage0_5 ((cfg0.slots t 5).cast nbuf0_5)).unread (iblk m c 5 t)) ∗ ((st0_6 t).view.loc (c : Thread nD τ) ↦[(st0_6 t).view.set]{fullShare} (hstage0_6 ((cfg0.slots t 6).cast nbuf0_6)).unread (iblk m c 6 t)) ∗ ((st0_7 t).view.loc (c : Thread nD τ) ↦[(st0_7 t).view.set]{fullShare} (hstage0_7 ((cfg0.slots t 7).cast nbuf0_7)).unread (iblk m c 7 t)) ∗ ((st0_8 t).view.loc (c : Thread nD τ) ↦[(st0_8 t).view.set]{fullShare} (hstage0_8 ((cfg0.slots t 8).cast nbuf0_8)).unread (iblk m c 8 t)) ∗ ((st0_9 t).view.loc (c : Thread nD τ) ↦[(st0_9 t).view.set]{fullShare} (hstage0_9 ((cfg0.slots t 9).cast nbuf0_9)).unread (iblk m c 9 t)) ∗ ((st0_10 t).view.loc (c : Thread nD τ) ↦[(st0_10 t).view.set]{fullShare} f)) K
    (part5_even c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) hc0 (iblk m c 0 t) (iblk m c 1 t) (iblk m c 2 t) (iblk m c 3 t) (iblk m c 4 t) f14 f15 f16) ?_)
  · unfold ins done
    iintro ⟨⟨H0, H1, H2, H3, H4, H5, H6, H7, H8, H9⟩, H13, H14, H15, H16, Hk⟩
    isplitl [H0 H1 H2 H3 H4 H14 H15 H16]
    · isplitl [H0]; · iexact H0
      isplitl [H1]; · iexact H1
      isplitl [H2]; · iexact H2
      isplitl [H3]; · iexact H3
      isplitl [H4]; · iexact H4
      isplitl [H14]; · iexact H14
      isplitl [H15]; · iexact H15
      iexact H16
    isplitl [H5 H6 H7 H8 H9 H13]
    · isplitl [H5]; · iexact H5
      isplitl [H6]; · iexact H6
      isplitl [H7]; · iexact H7
      isplitl [H8]; · iexact H8
      isplitl [H9]; · iexact H9
      iexact H13
    iintro ⟨H0, H1, H2, H3, H4, H5, H6, H7, H8, H9, H13, H14, H15, H16⟩
    iapply Hk
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H13]; · iexact H13
    isplitl [H14]; · iexact H14
    isplitl [H15]; · iexact H15
    iexact H16
  · iintro ⟨⟨H0, H1, H2, HH, H15, H16⟩, ⟨H5, H6, H7, H8, H9, H13⟩⟩
    isplitl [HH]; · iexact HH
    isplitl [H15]; · iexact H15
    isplitl [H16]; · iexact H16
    isplitl [H5]; · iexact H5
    isplitl [H6]; · iexact H6
    isplitl [H7]; · iexact H7
    isplitl [H8]; · iexact H8
    isplitl [H9]; · iexact H9
    isplitl [H13]; · iexact H13
    isplitl [H0]; · iexact H0
    isplitl [H1]; · iexact H1
    iexact H2

set_option maxHeartbeats 1000000 in
/-- The body at a later point of a row. -/
theorem body_odd (c : Dev nD) (t : Fin cfg0.N) (hc0 : ¬ first (grid0.coords t)) (s : Vec F S2x128x1024 .bf16 × (Vec F S2x1x1024 .f32 × Vec F S2x144x1024 .f32)) (f : BufTy.Contents (Elt F) (st0_10 t).view.ty) (K : PUnit → sProp 𝕄) :
    iprop(ins m c t ∗ ((st0_10 t).view.loc (c : Thread nD τ) ↦[(st0_10 t).view.set]{fullShare} f) ∗ (sc0.view.loc (c : Thread nD τ) ↦[sc0.view.set]{fullShare} (Memref.isWhole_whole cc0_scratch0).unread s.1) ∗ (sc1.view.loc (c : Thread nD τ) ↦[sc1.view.set]{fullShare} (Memref.isWhole_whole cc0_scratch1).unread s.2.1) ∗ (sc2.view.loc (c : Thread nD τ) ↦[sc2.view.set]{fullShare} (Memref.isWhole_whole cc0_scratch2).unread s.2.2) ∗ ((ins m c t ∗ done m c t s f) -∗ K ⟨⟩))
      ⊢ wp frame (wpE (defs₀ (F := F)) Variants.none (c : Thread nD τ) none) Set.univ (bodyAt0 t) K := by
  unfold bodyAt0
  refine (?_ : _ ⊢ _).trans (body_of c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) s.1 (iblk m c 3 t) (iblk m c 4 t) s.2.1 s.2.2 (iblk m c 5 t) (iblk m c 6 t) (iblk m c 7 t) (iblk m c 8 t) (iblk m c 9 t) f _ _ iprop(((st0_0 t).view.loc (c : Thread nD τ) ↦[(st0_0 t).view.set]{fullShare} (hstage0_0 ((cfg0.slots t 0).cast nbuf0_0)).unread (iblk m c 0 t)) ∗ ((st0_1 t).view.loc (c : Thread nD τ) ↦[(st0_1 t).view.set]{fullShare} (hstage0_1 ((cfg0.slots t 1).cast nbuf0_1)).unread (iblk m c 1 t)) ∗ ((st0_2 t).view.loc (c : Thread nD τ) ↦[(st0_2 t).view.set]{fullShare} (hstage0_2 ((cfg0.slots t 2).cast nbuf0_2)).unread (iblk m c 2 t)) ∗ (sc2.view.loc (c : Thread nD τ) ↦[sc2.view.set]{fullShare} (Memref.isWhole_whole cc0_scratch2).unread s.2.2) ∗ ((st0_5 t).view.loc (c : Thread nD τ) ↦[(st0_5 t).view.set]{fullShare} (hstage0_5 ((cfg0.slots t 5).cast nbuf0_5)).unread (iblk m c 5 t)) ∗ ((st0_6 t).view.loc (c : Thread nD τ) ↦[(st0_6 t).view.set]{fullShare} (hstage0_6 ((cfg0.slots t 6).cast nbuf0_6)).unread (iblk m c 6 t)) ∗ ((st0_7 t).view.loc (c : Thread nD τ) ↦[(st0_7 t).view.set]{fullShare} (hstage0_7 ((cfg0.slots t 7).cast nbuf0_7)).unread (iblk m c 7 t)) ∗ ((st0_8 t).view.loc (c : Thread nD τ) ↦[(st0_8 t).view.set]{fullShare} (hstage0_8 ((cfg0.slots t 8).cast nbuf0_8)).unread (iblk m c 8 t)) ∗ ((st0_9 t).view.loc (c : Thread nD τ) ↦[(st0_9 t).view.set]{fullShare} (hstage0_9 ((cfg0.slots t 9).cast nbuf0_9)).unread (iblk m c 9 t)) ∗ ((st0_10 t).view.loc (c : Thread nD τ) ↦[(st0_10 t).view.set]{fullShare} f)) K
    (part5_odd c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) hc0 s.1 (iblk m c 3 t) (iblk m c 4 t) s.2.1) ?_)
  · unfold ins done
    iintro ⟨⟨H0, H1, H2, H3, H4, H5, H6, H7, H8, H9⟩, H13, H14, H15, H16, Hk⟩
    isplitl [H3 H4 H14 H15]
    · isplitl [H3 H4 H14]
      · isplitl [H3]; · iexact H3
        isplitl [H4]; · iexact H4
        iexact H14
      iexact H15
    isplitl [H0 H1 H2 H16 H5 H6 H7 H8 H9 H13]
    · isplitl [H0]; · iexact H0
      isplitl [H1]; · iexact H1
      isplitl [H2]; · iexact H2
      isplitl [H16]; · iexact H16
      isplitl [H5]; · iexact H5
      isplitl [H6]; · iexact H6
      isplitl [H7]; · iexact H7
      isplitl [H8]; · iexact H8
      isplitl [H9]; · iexact H9
      iexact H13
    iintro ⟨H0, H1, H2, H3, H4, H5, H6, H7, H8, H9, H13, H14, H15, H16⟩
    iapply Hk
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H13]; · iexact H13
    isplitl [H14]; · iexact H14
    isplitl [H15]; · iexact H15
    iexact H16
  · iintro ⟨⟨HH, H15⟩, ⟨H0, H1, H2, H16, H5, H6, H7, H8, H9, H13⟩⟩
    isplitl [HH]; · iexact HH
    isplitl [H15]; · iexact H15
    isplitl [H16]; · iexact H16
    isplitl [H5]; · iexact H5
    isplitl [H6]; · iexact H6
    isplitl [H7]; · iexact H7
    isplitl [H8]; · iexact H8
    isplitl [H9]; · iexact H9
    isplitl [H13]; · iexact H13
    isplitl [H0]; · iexact H0
    isplitl [H1]; · iexact H1
    iexact H2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨b0, b1, b2, b3, b4, b5, b6, b7, b8, b9⟩ := before_eq m c t
  obtain ⟨a0, a1, a2, a3, a4, a5, a6, a7, a8, a9, a10⟩ := after_eq m c t
  simp only [b0, b1, b2, b3, b4, b5, b6, b7, b8, b9]
  rw [show (dats m 0 c).owesAt () t.succ = (dats m 0 c).owesAt () t.castSucc from rfl]
  rw [show (dats m 0 c).Φ t.succ = heldAt c (stAt m c t.val t.isLt) from rfl]
  have hN : t.val < 128 := lt_of_lt_of_eq t.isLt (show cfg0.N = 128 from N_0)
  rw [leaves_live m c 0 t (live 0 t (by decide)), a0, leaves_live m c 1 t (live 1 t (by decide)), a1, leaves_live m c 2 t (live 2 t (by decide)), a2, leaves_live m c 3 t (live 3 t (by decide)), a3, leaves_live m c 4 t (live 4 t (by decide)), a4, leaves_live m c 5 t (live 5 t (by decide)), a5, leaves_live m c 6 t (live 6 t (by decide)), a6, leaves_live m c 7 t (live 7 t (by decide)), a7, leaves_live m c 8 t (live 8 t (by decide)), a8, leaves_live m c 9 t (live 9 t (by decide)), a9]
  by_cases h0 : t.val % 2 = 0
  · have hc0 : first (grid0.coords t) := (first_iff t).2 h0
    have hc4 : ¬ k0_cond4 (grid0.coords t) = 1#1 := fun h => by have := (last_iff t).1 h; omega
    rw [Dat.leavesExact_idle (dats m 0 c) 10 t (idle_10 t h0) (noFlush_10 t h0)]
    rw [stAt_even m c t h0, PhiS_castSucc]
    have hP := PhiS_any m c t.val (Nat.le_of_lt_succ t.castSucc.isLt)
    rw [PhiA_eq] at hP
    unfold heldAt
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HQ := hP $$ HP
    icases HQ with ⟨⟨⟨%e0, S0⟩, ⟨%e1, S1⟩, ⟨%e2, S2⟩⟩, Hg⟩
    ihave HI := (ins_of_owned m c t) $$ [H0 H1 H2 H3 H4 H5 H6 H7 H8 H9]
    · unfold owned
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    ihave T0 := (owns_any (M := sc0) (Memref.isWhole_whole _) c e0) $$ S0
    ihave T1 := (owns_any (M := sc1) (Memref.isWhole_whole _) c e1) $$ S1
    ihave T2 := (owns_any (M := sc2) (Memref.isWhole_whole _) c e2) $$ S2
    icases T0 with ⟨%f0, T0⟩
    icases T1 with ⟨%f1, T1⟩
    icases T2 with ⟨%f2, T2⟩
    iapply (body_even m c t hc0 ((hstage0_10 ((cfg0.slots t 10).cast nbuf0_10)).unread ((dats m 0 c).before 10 t d10)) f0 f1 f2)
    isplitl [HI]; · iexact HI
    isplitl [H10]; · iapply (owns_whole_iff (hstage0_10 ((cfg0.slots t 10).cast nbuf0_10)) c ((dats m 0 c).before 10 t d10)); iexact H10
    isplitl [T0]; · iexact T0
    isplitl [T1]; · iexact T1
    isplitl [T2]; · iexact T2
    unfold done
    rw [if_neg hc4]
    iintro ⟨HI, H10, S0, S1, S2⟩
    ihave HO := (owned_of_ins m c t) $$ HI
    unfold owned
    icases HO with ⟨H0, H1, H2, H3, H4, H5, H6, H7, H8, H9⟩
    isplitl [S0 S1 S2 Hg]
    · isplitl [S0 S1 S2]
      · isplitl [S0]; · iapply (owns_of_unread (M := sc0) (Memref.isWhole_whole _) c); iexact S0
        isplitl [S1]; · iapply (owns_of_unread (M := sc1) (Memref.isWhole_whole _) c); iexact S1
        iapply (owns_of_unread (M := sc2) (Memref.isWhole_whole _) c); iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iapply (owns_of_unread (hstage0_10 ((cfg0.slots t 10).cast nbuf0_10)) c ((dats m 0 c).before 10 t d10)); iexact H10
  · have h1 : t.val % 2 = 1 := by omega
    have hc0 : ¬ first (grid0.coords t) := fun h => h0 ((first_iff t).1 h)
    have hc4 : k0_cond4 (grid0.coords t) = 1#1 := (last_iff t).2 h1
    rw [leaves_live m c 10 t (live_10 t h1), a10]
    rw [PhiS_castSucc]
    obtain ⟨n, hn⟩ : ∃ n, t.val = n + 1 := ⟨t.val - 1, by omega⟩
    have hlt : n + 1 < cfg0.N := hn ▸ t.isLt
    have et : t = ⟨n + 1, hlt⟩ := Fin.ext hn
    have eS : stAt m c t.val t.isLt = oddSt m c t (stAt m c n (Nat.lt_of_succ_lt hlt)) := by
      subst et; exact stAt_odd m c n hlt h1
    have eP : PhiS m c t.val (Nat.le_of_lt_succ t.castSucc.isLt) = heldAt c (stAt m c n (Nat.lt_of_succ_lt hlt)) := by
      subst et; rfl
    rw [eS, eP]
    generalize stAt m c n (Nat.lt_of_succ_lt hlt) = s
    unfold heldAt oddSt
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HI := (ins_of_owned m c t) $$ [H0 H1 H2 H3 H4 H5 H6 H7 H8 H9]
    · unfold owned
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iapply (body_odd m c t hc0 s ((hstage0_10 ((cfg0.slots t 10).cast nbuf0_10)).unread ((dats m 0 c).before 10 t d10)))
    isplitl [HI]; · iexact HI
    isplitl [H10]; · iapply (owns_whole_iff (hstage0_10 ((cfg0.slots t 10).cast nbuf0_10)) c ((dats m 0 c).before 10 t d10)); iexact H10
    isplitl [S0]; · iapply (owns_whole_iff (M := sc0) (Memref.isWhole_whole _) c s.1); iexact S0
    isplitl [S1]; · iapply (owns_whole_iff (M := sc1) (Memref.isWhole_whole _) c s.2.1); iexact S1
    isplitl [S2]; · iapply (owns_whole_iff (M := sc2) (Memref.isWhole_whole _) c s.2.2); iexact S2
    unfold done
    rw [if_pos hc4]
    iintro ⟨HI, H10, S0, S1, S2⟩
    ihave HO := (owned_of_ins m c t) $$ HI
    unfold owned
    icases HO with ⟨H0, H1, H2, H3, H4, H5, H6, H7, H8, H9⟩
    isplitl [S0 S1 S2 Hg]
    · isplitl [S0 S1 S2]
      · isplitl [S0]; · iapply (owns_of_unread (M := sc0) (Memref.isWhole_whole _) c); iexact S0
        isplitl [S1]; · iapply (owns_of_unread (M := sc1) (Memref.isWhole_whole _) c); iexact S1
        iapply (owns_of_unread (M := sc2) (Memref.isWhole_whole _) c); iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (owns_of_unread (hstage0_10 ((cfg0.slots t 10).cast nbuf0_10)) c _); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The run: every execution ends with the arrays at what the data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiet m ρ))

end Cert.DiffIdeal.Da
end
end
-- ==== Proof.DiffValue.lean ====
module

public import proofs.«01_k».proof.Proof.DiffOut
public import proofs.«01_k».proof.Proof.DiffLaunch
public import Idealize.ShloMosaic.Lib.Pipeline.ValueKit

/-! The array the differential attention's kernel leaves: each of its blocks is written at a query tile's
last point, when the running sums are those over all the keys. -/

@[expose] public section

set_option maxRecDepth 16384

noncomputable section

namespace Cert.DiffIdeal.Da

open Idealize.ShloMosaic Idealize.ShloMosaic.TcCoe Idealize.SL.Sem Idealize.ShloMosaic.Tactic
open Idealize.ShloMosaic.Pipeline (Dat)
open Cert.DiffIdeal Cert.DiffIdeal.Gen
open _root_.Mla.Math

theorem idx : ∀ t : Fin cfg0.N, win0_0.index t = ![t.val / 2 % 16, t.val / 32] ∧ win0_1.index t = ![0, t.val / 32]
    ∧ win0_2.index t = ![t.val / 32, 0] ∧ win0_3.index t = ![t.val % 2, t.val / 32]
    ∧ win0_4.index t = ![t.val / 32, t.val % 2] ∧ win0_5.index t = ![0, 0] ∧ win0_6.index t = ![0, 0] ∧ win0_7.index t = ![0, 0]
    ∧ win0_8.index t = ![0, 0] ∧ win0_9.index t = ![0, 0] ∧ win0_10.index t = ![t.val / 2 % 16, t.val / 32] ∧ t.val / 32 < 4 :=
  (by decide +kernel : ∀ t : Fin grid0.N, _)

variable (m : (ℓ : Loc nD τ sig) → Buf (Elt Ideal) ℓ)

/-- The arguments, as arrays. -/
abbrev aq (c : Dev nD) : FVec Ideal S16384x512 .bf16 := m ((c : Thread nD τ).loc main_arg0)
abbrev ak (c : Dev nD) : FVec Ideal S16384x512 .bf16 := m ((c : Thread nD τ).loc main_arg1)
abbrev av (c : Dev nD) : FVec Ideal S512x16384 .bf16 := m ((c : Thread nD τ).loc main_arg2)
abbrev akc (c : Dev nD) : FVec Ideal S256x512 .bf16 := m ((c : Thread nD τ).loc main_arg3)
abbrev avc (c : Dev nD) : FVec Ideal S512x256 .bf16 := m ((c : Thread nD τ).loc main_arg4)
abbrev alq1 (c : Dev nD) : FVec Ideal S2x64 .f32 := m ((c : Thread nD τ).loc main_arg5)
abbrev alk1 (c : Dev nD) : FVec Ideal S2x64 .f32 := m ((c : Thread nD τ).loc main_arg6)
abbrev alq2 (c : Dev nD) : FVec Ideal S2x64 .f32 := m ((c : Thread nD τ).loc main_arg7)
abbrev alk2 (c : Dev nD) : FVec Ideal S2x64 .f32 := m ((c : Thread nD τ).loc main_arg8)
abbrev ag (c : Dev nD) : FVec Ideal S2x128 .f32 := m ((c : Thread nD τ).loc main_arg9)

/-- The head of a point. -/
def hd (t : Fin cfg0.N) : Fin 4 := ⟨t.val / 32, (idx t).2.2.2.2.2.2.2.2.2.2.2⟩
/-- The query in column `j` of a point's query tile. -/
def qrow (t : Fin cfg0.N) (j : Fin 1024) : Fin 16384 := ⟨1024 * (t.val / 2 % 16) + j.val, by omega⟩

theorem b0 (c : Dev nD) (t : Fin cfg0.N) (j : Fin 1024) (d : Fin 128) :
    (show FVec Ideal S1024x128 .bf16 from iblk m c 0 t) (ix2 j d) = aq m c (ix2 (qrow t j) (vrow (hd t) d)) := by
  unfold qrow vrow hd aq
  blk_ext [iblk, V, idx t]
theorem b1 (c : Dev nD) (t : Fin cfg0.N) (i : Fin 256) (d : Fin 128) :
    (show FVec Ideal S256x128 .bf16 from iblk m c 1 t) (ix2 i d) = akc m c (ix2 i (vrow (hd t) d)) := by
  unfold vrow hd akc
  blk_ext [iblk, V, idx t]
theorem b2 (c : Dev nD) (t : Fin cfg0.N) (d : Fin 128) (i : Fin 256) :
    (show FVec Ideal S128x256 .bf16 from iblk m c 2 t) (ix2 d i) = avc m c (ix2 (vrow (hd t) d) i) := by
  unfold vrow hd avc
  blk_ext [iblk, V, idx t]
theorem b3 (c : Dev nD) (t : Fin cfg0.N) (i : Fin 8192) (d : Fin 128) :
    (show FVec Ideal S8192x128 .bf16 from iblk m c 3 t) (ix2 i d) = ak m c (ix2 ⟨8192 * (t.val % 2) + i.val, by omega⟩ (vrow (hd t) d)) := by
  unfold vrow hd ak
  blk_ext [iblk, V, idx t]
theorem b4 (c : Dev nD) (t : Fin cfg0.N) (d : Fin 128) (i : Fin 8192) :
    (show FVec Ideal S128x8192 .bf16 from iblk m c 4 t) (ix2 d i) = av m c (ix2 (vrow (hd t) d) ⟨8192 * (t.val % 2) + i.val, by omega⟩) := by
  unfold vrow hd av
  blk_ext [iblk, V, idx t]

/-- Row 1 of an array of two rows, as the host cuts it out. -/
theorem cut64 (x : FVec Ideal S2x64 .f32) (d : Fin 64) :
    shapeCast S1x64 (shapeCast S64 (extractStridedSlice S1x64 ![1, 0] x slices_S2x64_S1x64_1_0) shapeCasts_S1x64_S64) shapeCasts_S64_S1x64 (ix2 0 d) = x (ix2 1 d) := by
  pointwise!
theorem cut128 (x : FVec Ideal S2x128 .f32) (d : Fin 128) :
    shapeCast S1x128 (shapeCast S128 (extractStridedSlice S1x128 ![1, 0] x slices_S2x128_S1x128_1_0) shapeCasts_S1x128_S128) shapeCasts_S128_S1x128 (ix2 0 d) = x (ix2 1 d) := by
  pointwise!

theorem v2 (c : Dev nD) : (show FVec Ideal S1x64 .f32 from V m c main_v2) = shapeCast S1x64 (shapeCast S64 (extractStridedSlice S1x64 ![1, 0] (alq1 m c) slices_S2x64_S1x64_1_0) shapeCasts_S1x64_S64) shapeCasts_S64_S1x64 := by
  entry_read
  rfl
theorem v5 (c : Dev nD) : (show FVec Ideal S1x64 .f32 from V m c main_v5) = shapeCast S1x64 (shapeCast S64 (extractStridedSlice S1x64 ![1, 0] (alk1 m c) slices_S2x64_S1x64_1_0) shapeCasts_S1x64_S64) shapeCasts_S64_S1x64 := by
  entry_read
  rfl
theorem v8 (c : Dev nD) : (show FVec Ideal S1x64 .f32 from V m c main_v8) = shapeCast S1x64 (shapeCast S64 (extractStridedSlice S1x64 ![1, 0] (alq2 m c) slices_S2x64_S1x64_1_0) shapeCasts_S1x64_S64) shapeCasts_S64_S1x64 := by
  entry_read
  rfl
theorem v11 (c : Dev nD) : (show FVec Ideal S1x64 .f32 from V m c main_v11) = shapeCast S1x64 (shapeCast S64 (extractStridedSlice S1x64 ![1, 0] (alk2 m c) slices_S2x64_S1x64_1_0) shapeCasts_S1x64_S64) shapeCasts_S64_S1x64 := by
  entry_read
  rfl
theorem v14 (c : Dev nD) : (show FVec Ideal S1x128 .f32 from V m c main_v14) = shapeCast S1x128 (shapeCast S128 (extractStridedSlice S1x128 ![1, 0] (ag m c) slices_S2x128_S1x128_1_0) shapeCasts_S1x128_S128) shapeCasts_S128_S1x128 := by
  entry_read
  rfl

theorem b5 (c : Dev nD) (t : Fin cfg0.N) (d : Fin 64) : (show FVec Ideal S1x64 .f32 from iblk m c 5 t) (ix2 0 d) = alq1 m c (ix2 1 d) := by
  refine Eq.trans ?_ ((congrFun (v2 m c) (ix2 0 d)).trans (cut64 _ d))
  blk_ext [iblk, idx t]
theorem b6 (c : Dev nD) (t : Fin cfg0.N) (d : Fin 64) : (show FVec Ideal S1x64 .f32 from iblk m c 6 t) (ix2 0 d) = alk1 m c (ix2 1 d) := by
  refine Eq.trans ?_ ((congrFun (v5 m c) (ix2 0 d)).trans (cut64 _ d))
  blk_ext [iblk, idx t]
theorem b7 (c : Dev nD) (t : Fin cfg0.N) (d : Fin 64) : (show FVec Ideal S1x64 .f32 from iblk m c 7 t) (ix2 0 d) = alq2 m c (ix2 1 d) := by
  refine Eq.trans ?_ ((congrFun (v8 m c) (ix2 0 d)).trans (cut64 _ d))
  blk_ext [iblk, idx t]
theorem b8 (c : Dev nD) (t : Fin cfg0.N) (d : Fin 64) : (show FVec Ideal S1x64 .f32 from iblk m c 8 t) (ix2 0 d) = alk2 m c (ix2 1 d) := by
  refine Eq.trans ?_ ((congrFun (v11 m c) (ix2 0 d)).trans (cut64 _ d))
  blk_ext [iblk, idx t]
theorem b9 (c : Dev nD) (t : Fin cfg0.N) (d : Fin 128) : (show FVec Ideal S1x128 .f32 from iblk m c 9 t) (ix2 0 d) = ag m c (ix2 1 d) := by
  refine Eq.trans ?_ ((congrFun (v14 m c) (ix2 0 d)).trans (cut128 _ d))
  blk_ext [iblk, idx t]

/-- What query column `j` of point `t` sees in component `e`. -/
abbrev ss (c : Dev nD) (t : Fin cfg0.N) (e : Fin 2) (j : Fin 1024) : ℕ → ℝ := sreal (aq m c) (ak m c) (akc m c) (hd t) e (qrow t j)
abbrev vv (c : Dev nD) (t : Fin cfg0.N) : Fin 144 → ℕ → EReal := vrows (av m c) (avc m c) (hd t)
/-- The transposed queries of component `e` at point `t`. -/
def qz (c : Dev nD) (t : Fin cfg0.N) (e : Fin 2) : Vec Ideal S1x128x1024 .bf16 := if e = 0 then k0_pay10 (iblk m c 0 t) else k0_pay11 (iblk m c 0 t)

/-- A component's score is a sum over its 64 columns. -/
theorem half (c : Dev nD) (t : Fin cfg0.N) (e : Fin 2) (j : Fin 1024) (f : Fin 512 → EReal) :
    ∑ d : Fin 128, f (vrow (hd t) d) * qz m c t e (ix3 0 d j) = ∑ d : Fin 64, f (qcol (hd t) e d) * aq m c (ix2 (qrow t j) (qcol (hd t) e d)) := by
  unfold qz
  split
  · rename_i he
    subst he
    refine (Finset.sum_congr rfl fun d _ => congrArg (f (vrow (hd t) d) * ·) (pay10_at (iblk m c 0 t) d j)).trans ?_
    refine (sum_low (fun d => f (vrow (hd t) d)) fun d => (show FVec Ideal S1024x128 .bf16 from iblk m c 0 t) (ix2 j d)).trans ?_
    refine Finset.sum_congr rfl fun d _ => ?_
    rw [b0]
    have ev : vrow (hd t) ⟨d.val, by omega⟩ = qcol (hd t) 0 d := Fin.ext (by show 128 * (hd t).val + d.val = 128 * (hd t).val + 64 * 0 + d.val; omega)
    rw [ev]
  · rename_i he
    have he' : e = 1 := by omega
    subst he'
    refine (Finset.sum_congr rfl fun d _ => congrArg (f (vrow (hd t) d) * ·) (pay11_at (iblk m c 0 t) d j)).trans ?_
    refine (sum_high (fun d => f (vrow (hd t) d)) fun d => (show FVec Ideal S1024x128 .bf16 from iblk m c 0 t) (ix2 j d)).trans ?_
    refine Finset.sum_congr rfl fun d _ => ?_
    rw [b0]
    have ev : vrow (hd t) ⟨64 + d.val, by omega⟩ = qcol (hd t) 1 d := Fin.ext (by show 128 * (hd t).val + (64 + d.val) = 128 * (hd t).val + 64 * 1 + d.val; omega)
    rw [ev]

variable {m}

theorem cx (c : Dev nD) (hf : Fin3 (aq m c) (ak m c) (akc m c)) (t : Fin cfg0.N) (e : Fin 2) (j : Fin 1024) :
    Cx (qz m c t e) j (ss m c t e j) (vv m c t) (iblk m c 1 t) (iblk m c 2 t) := by
  constructor
  · intro i
    have hi : i.val < 256 := i.isLt
    rw [← score_real hf]
    unfold score
    rw [dif_pos hi]
    refine (Finset.sum_congr rfl fun d _ => congrArg (· * _) (b1 m c t i d)).trans ?_
    exact half m c t e j fun d => akc m c (ix2 i d)
  · intro r i
    have hi : i.val < 256 := i.isLt
    unfold vv vrows
    split
    · rename_i hr
      unfold vcomp
      rw [dif_pos hi]
      exact b2 m c t ⟨r.val, hr⟩ i
    · rfl

theorem tl (c : Dev nD) (hf : Fin3 (aq m c) (ak m c) (akc m c)) (u t : Fin cfg0.N) (hu : u.val / 2 = t.val / 2) (e : Fin 2) (j : Fin 1024) :
    Tl (qz m c u e) j (ss m c u e j) (vv m c u) (256 + 8192 * (t.val % 2)) (iblk m c 3 t) (iblk m c 4 t) := by
  have eh : hd u = hd t := Fin.ext (show u.val / 32 = t.val / 32 by omega)
  constructor
  · intro i
    have hi : i.val < 8192 := i.isLt
    rw [← score_real hf]
    unfold score
    rw [dif_neg (by omega), dif_pos (by omega)]
    refine (Finset.sum_congr rfl fun d _ => congrArg (· * _) (b3 m c t i d)).trans ?_
    rw [← eh]
    refine (half m c u e j fun d => ak m c (ix2 ⟨8192 * (t.val % 2) + i.val, by omega⟩ d)).trans ?_
    have er : (⟨8192 * (t.val % 2) + i.val, by omega⟩ : Fin 16384) = ⟨256 + 8192 * (t.val % 2) + i.val - 256, by omega⟩ :=
      Fin.ext (by show 8192 * (t.val % 2) + i.val = 256 + 8192 * (t.val % 2) + i.val - 256; omega)
    rw [er]
  · intro r i
    have hi : i.val < 8192 := i.isLt
    unfold vv vrows
    split
    · rename_i hr
      unfold vcomp
      rw [dif_neg (by omega), dif_pos (by omega)]
      refine (b4 m c t ⟨r.val, hr⟩ i).trans ?_
      rw [eh]
      congr 2
      exact Fin.ext (by show 8192 * (t.val % 2) + i.val = 256 + 8192 * (t.val % 2) + i.val - 256; omega)
    · rfl

/-- Both components' queries, as the scratch buffer holds them. -/
theorem queries_qz (c : Dev nD) (t : Fin cfg0.N) : q0 (queries (iblk m c 0 t)) = qz m c t 0 ∧ q1 (queries (iblk m c 0 t)) = qz m c t 1 := by
  unfold queries
  exact ⟨q0_two _ _, q1_two _ _⟩

theorem even_inv (c : Dev nD) (hf : Fin3 (aq m c) (ak m c) (akc m c)) (t : Fin cfg0.N) (h : t.val % 2 = 0) (j : Fin 1024) :
    (stAt m c t.val t.isLt).1 = queries (iblk m c 0 t) ∧ Inv2 j (ss m c t 0 j) (ss m c t 1 j) (vv m c t) 8448 (stAt m c t.val t.isLt).2 := by
  rw [stAt_even m c t h]
  refine ⟨rfl, ?_⟩
  have h0 := tl c hf t t rfl 0 j
  have h1 := tl c hf t t rfl 1 j
  rw [h] at h0 h1
  rw [← (queries_qz c t).1] at h0
  rw [← (queries_qz c t).2] at h1
  exact tile_inv h0 h1 (pre_inv (cx c hf t 0 j) (cx c hf t 1 j))

theorem odd_inv (c : Dev nD) (hf : Fin3 (aq m c) (ak m c) (akc m c)) (t : Fin cfg0.N) (h : t.val % 2 = 1) (j : Fin 1024) :
    Inv2 j (ss m c t 0 j) (ss m c t 1 j) (vv m c t) 16640 (stAt m c t.val t.isLt).2 := by
  obtain ⟨n, hn⟩ : ∃ n, t.val = n + 1 := ⟨t.val - 1, by omega⟩
  have hlt : n + 1 < cfg0.N := hn ▸ t.isLt
  have et : t = ⟨n + 1, hlt⟩ := Fin.ext hn
  subst et
  have hu : n / 2 = (n + 1) / 2 := by have : (n + 1) % 2 = 1 := h; omega
  obtain ⟨e1, hi⟩ := even_inv c hf ⟨n, Nat.lt_of_succ_lt hlt⟩ (by show n % 2 = 0; have : (n + 1) % 2 = 1 := h; omega) j
  have h0 := tl c hf ⟨n, Nat.lt_of_succ_lt hlt⟩ ⟨n + 1, hlt⟩ hu 0 j
  have h1 := tl c hf ⟨n, Nat.lt_of_succ_lt hlt⟩ ⟨n + 1, hlt⟩ hu 1 j
  rw [← (queries_qz c _).1] at h0
  rw [← (queries_qz c _).2] at h1
  have eh : hd ⟨n, Nat.lt_of_succ_lt hlt⟩ = hd ⟨n + 1, hlt⟩ := Fin.ext (show n / 32 = (n + 1) / 32 by omega)
  have eq : qrow ⟨n, Nat.lt_of_succ_lt hlt⟩ j = qrow ⟨n + 1, hlt⟩ j := Fin.ext (show 1024 * (n / 2 % 16) + j.val = 1024 * ((n + 1) / 2 % 16) + j.val by rw [hu])
  unfold ss vv at hi h0 h1 ⊢
  rw [eh, eq] at hi h0 h1
  rw [show ((⟨n + 1, hlt⟩ : Fin cfg0.N).val % 2) = 1 from h] at h0 h1
  show Inv2 j _ _ _ 16640 (stAt m c (n + 1) hlt).2
  rw [stAt_odd m c n hlt h]
  unfold oddSt
  dsimp only at e1 hi ⊢
  rw [e1]
  exact tile_inv h0 h1 hi

/-- The result array after the run. -/
theorem final (c : Dev nD) (hf : Fin3 (aq m c) (ak m c) (akc m c)) :
    (dats m 0 c).arrAt 10 (cfgs 0).N = diffOut (aq m c) (ak m c) (av m c) (akc m c) (avc m c) (alq1 m c) (alk1 m c) (alq2 m c) (alk2 m c) (ag m c) := by
  refine (dats m 0 c).arrAt_eq_of_covers 10 _ (by decide +kernel) fun t hfl y => ?_
  have h1 : t.val % 2 = 1 := (flush0_10 t).1 hfl
  blk_simp
  rw [(after_eq m c t).2.2.2.2.2.2.2.2.2.2]
  obtain ⟨i, d, rfl⟩ : ∃ (i : Fin 1024) (d : Fin 128), y = ix2 i d := ⟨y 0, y 1, eq_ix2 y⟩
  have e1 : ∀ d : Fin 128, vv m c t ⟨d.val, by omega⟩ = vcomp (av m c) (avc m c) (hd t) d := fun d => funext fun n => dif_pos d.isLt
  have e2 : vv m c t rowW = fun _ => 1 := funext fun n => dif_neg (Nat.lt_irrefl 128)
  have e3 : ∀ Y : S16384x512.Idx, (Y 0).val = 1024 * (t.val / 2 % 16) + i.val → (Y 1).val = 128 * (t.val / 32) + d.val →
      diffOut (aq m c) (ak m c) (av m c) (akc m c) (avc m c) (alq1 m c) (alk1 m c) (alq2 m c) (alk2 m c) (ag m c) Y
        = diff (aq m c) (ak m c) (av m c) (akc m c) (avc m c) (alq1 m c) (alk1 m c) (alq2 m c) (alk2 m c) (ag m c) (qrow t i) (hd t) d := by
    intro Y h0 h1
    unfold diffOut
    congr 1
    · exact Fin.ext h0
    · exact Fin.ext (by show (Y 1).val / 128 = t.val / 32; omega)
    · exact Fin.ext (by show (Y 1).val % 128 = d.val; omega)
  refine (outB_at (odd_inv c hf t h1 i) e1 e2 (iblk m c 5 t) (iblk m c 6 t) (iblk m c 7 t) (iblk m c 8 t) (iblk m c 9 t) d).trans ?_
  refine Eq.trans ?_ (e3 _ ?_ ?_).symm
  · have l1 := Finset.sum_congr rfl fun (d : Fin 64) (_ : d ∈ Finset.univ) => congrArg₂ (· * ·) (b5 m c t d) (b6 m c t d)
    have l2 := Finset.sum_congr rfl fun (d : Fin 64) (_ : d ∈ Finset.univ) => congrArg₂ (· * ·) (b7 m c t d) (b8 m c t d)
    unfold diff dcomp lam
    refine congrArg₂ (fun f w => normed f w d) (funext fun e => ?_) (b9 m c t d)
    exact congrArg₂ (fun a b => quot (ss m c t 0 i) (vcomp (av m c) (avc m c) (hd t) e) - (Ideal.exp a - Ideal.exp b + Ideal.ofBits .f32 0x3EB60549#32) * quot (ss m c t 1 i) (vcomp (av m c) (avc m c) (hd t) e)) l1 l2
  · blk_simp [idx t]; simp; try omega
  · blk_simp [idx t]; simp; try omega

end Cert.DiffIdeal.Da
-- ==== Proof.DiffRefDefs.lean ====
module

public import proofs.«01_k».proof.Proof.DiffAttn
public import proofs.«01_k».proof.Proof.Gen.DiffReferenceIdeal.Run
public import Idealize.ShloMosaic.Lib.Pointwise

/-! The differential attention's reference by its steps, and each step at an index, over the reals. -/

@[expose] public section

set_option maxRecDepth 16384

noncomputable section

namespace Cert.DiffReferenceIdeal.Da

open Idealize.ShloMosaic Idealize.ShloMosaic.Tactic
open Cert.DiffReferenceIdeal Cert.DiffReferenceIdeal.Gen

/-- The keys by heads and components. -/
abbrev keys (k : FVec Ideal S16384x512 .bf16) (kc : FVec Ideal S256x512 .bf16) : FVec Ideal S16640x4x2x64 .f32 :=
  concatenate S16640x4x2x64 0 [⟨S256x4x2x64, shapeCast _ (extf .f32 kc bitsLt_bf16_f32) shapeCasts_S256x512_S256x4x2x64⟩, ⟨S16384x4x2x64, shapeCast _ (extf .f32 k bitsLt_bf16_f32) shapeCasts_S16384x512_S16384x4x2x64⟩] concatenates_S256x4x2x64_S16384x4x2x64_S16640x4x2x64_d0
/-- The queries by heads and components. -/
abbrev queries (q : FVec Ideal S16384x512 .bf16) : FVec Ideal S16384x4x2x64 .f32 :=
  shapeCast _ (extf .f32 q bitsLt_bf16_f32) shapeCasts_S16384x512_S16384x4x2x64
/-- The values by heads. -/
abbrev vals (vt : FVec Ideal S512x16384 .bf16) (vct : FVec Ideal S512x256 .bf16) : FVec Ideal S16640x4x128 .f32 :=
  concatenate S16640x4x128 0 [⟨S256x4x128, shapeCast _ (transpose S256x512 [1, 0] (extf .f32 vct bitsLt_bf16_f32) transposes_S512x256_S256x512_1_0) shapeCasts_S256x512_S256x4x128⟩, ⟨S16384x4x128, shapeCast _ (transpose S16384x512 [1, 0] (extf .f32 vt bitsLt_bf16_f32) transposes_S512x16384_S16384x512_1_0) shapeCasts_S16384x512_S16384x4x128⟩] concatenates_S256x4x128_S16384x4x128_S16640x4x128_d0
abbrev qc0 (Q : FVec Ideal S16384x4x2x64 .f32) : FVec Ideal S16384x4x64 .f32 :=
  shapeCast _ (extractStridedSlice S16384x4x1x64 ![0, 0, 0, 0] Q slices_S16384x4x2x64_S16384x4x1x64_0_0_0_0) shapeCasts_S16384x4x1x64_S16384x4x64
abbrev qc1 (Q : FVec Ideal S16384x4x2x64 .f32) : FVec Ideal S16384x4x64 .f32 :=
  shapeCast _ (extractStridedSlice S16384x4x1x64 ![0, 0, 1, 0] Q slices_S16384x4x2x64_S16384x4x1x64_0_0_1_0) shapeCasts_S16384x4x1x64_S16384x4x64
abbrev kc0 (K : FVec Ideal S16640x4x2x64 .f32) : FVec Ideal S16640x4x64 .f32 :=
  shapeCast _ (extractStridedSlice S16640x4x1x64 ![0, 0, 0, 0] K slices_S16640x4x2x64_S16640x4x1x64_0_0_0_0) shapeCasts_S16640x4x1x64_S16640x4x64
abbrev kc1 (K : FVec Ideal S16640x4x2x64 .f32) : FVec Ideal S16640x4x64 .f32 :=
  shapeCast _ (extractStridedSlice S16640x4x1x64 ![0, 0, 1, 0] K slices_S16640x4x2x64_S16640x4x1x64_0_0_1_0) shapeCasts_S16640x4x1x64_S16640x4x64
/-- The scaled scores of one component. -/
abbrev scores (Q : FVec Ideal S16384x4x64 .f32) (K : FVec Ideal S16640x4x64 .f32) : FVec Ideal S4x16384x16640 .f32 :=
  mulf (Host.dotGeneral dot_S16384x4x64_S16640x4x64_S4x16384x16640_2_2_0_0_1_1 none Q K) (broadcastInDim S4x16384x16640 ![] bcast_S_S4x16384x16640 (Host.log (constant S_ .f32 0x40000000#32)))
/-- The largest score of each query and head. -/
abbrev tops (s : FVec Ideal S4x16384x16640 .f32) : FVec Ideal S4x16384 .f32 :=
  maximumf (broadcastInDim S4x16384 ![] bcast_S_S4x16384 (constant S_ .f32 0xFF800000#32)) (Host.reduce FloatOps.maximumf s (constant S_ .f32 0xFF800000#32) reducesTo_S4x16384x16640_S4x16384_d2 h_S_)
/-- The exponentials of the scores less their largest. -/
abbrev exps (s : FVec Ideal S4x16384x16640 .f32) (M : FVec Ideal S4x16384 .f32) : FVec Ideal S4x16384x16640 .f32 :=
  Host.exp (subf s (broadcastInDim S4x16384x16640 ![0, 1, 2] bcast_S4x16384x1_S4x16384x16640_0_1_2 (broadcastInDim S4x16384x1 ![0, 1] bcast_S4x16384_S4x16384x1_0_1 M)))
abbrev norm (e : FVec Ideal S4x16384x16640 .f32) : FVec Ideal S4x16384x16640 .f32 :=
  Host.divf e (broadcastInDim S4x16384x16640 ![0, 1, 2] bcast_S4x16384x1_S4x16384x16640_0_1_2 (broadcastInDim S4x16384x1 ![0, 1] bcast_S4x16384_S4x16384x1_0_1 (Host.reduceAdd e (constant S_ .f32 0x00000000#32) reducesTo_S4x16384x16640_S4x16384_d2 h_S_)))
/-- The softmax of the scores. -/
abbrev soft (s : FVec Ideal S4x16384x16640 .f32) : FVec Ideal S4x16384x16640 .f32 := norm (exps s (tops s))
abbrev row1 (x : FVec Ideal S2x64 .f32) : FVec Ideal S64 .f32 :=
  shapeCast _ (extractStridedSlice S1x64 ![1, 0] x slices_S2x64_S1x64_1_0) shapeCasts_S1x64_S64
abbrev dotexp (l k : FVec Ideal S2x64 .f32) : FVec Ideal S_ .f32 :=
  Host.exp (Host.reduceAdd (mulf (row1 l) (row1 k)) (constant S_ .f32 0x00000000#32) reducesTo_S64_S_d0 h_S_)
/-- The weight of the second attention. -/
abbrev lam (l1 k1 l2 k2 : FVec Ideal S2x64 .f32) : FVec Ideal S_ .f32 :=
  addf (subf (dotexp l1 k1) (dotexp l2 k2)) (constant S_ .f32 0x3EB60549#32)
/-- The values weighted by the difference of the two softmaxes. -/
abbrev mix (V : FVec Ideal S16640x4x128 .f32) (L : FVec Ideal S_ .f32) (p0 p1 : FVec Ideal S4x16384x16640 .f32) : FVec Ideal S16384x4x128 .f32 :=
  transpose S16384x4x128 [2, 0, 1] (Host.dotGeneral dot_S16640x4x128_S4x16384x16640_S4x128x16384_0_2_2_1_1_0 none V (subf p0 (mulf (broadcastInDim S4x16384x16640 ![] bcast_S_S4x16384x16640 L) p1))) transposes_S4x128x16384_S16384x4x128_2_0_1
/-- The normalised result. -/
abbrev tail (O : FVec Ideal S16384x4x128 .f32) (g : FVec Ideal S2x128 .f32) : FVec Ideal S16384x512 .bf16 :=
  truncf .bf16 (shapeCast _ (mulf (mulf (mulf O (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf O O) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 (shapeCast _ (extractStridedSlice S1x128 ![1, 0] g slices_S2x128_S1x128_1_0) shapeCasts_S1x128_S128)))) (broadcastInDim S16384x4x128 ![] bcast_S_S16384x4x128 (constant S_ .f32 0x3F24FD5C#32))) shapeCasts_S16384x4x128_S16384x512) bitsLt_bf16_f32

/-- The reference's result of given arrays. -/
abbrev out (q k : FVec Ideal S16384x512 .bf16) (vt : FVec Ideal S512x16384 .bf16) (kc : FVec Ideal S256x512 .bf16) (vct : FVec Ideal S512x256 .bf16)
    (l1 k1 l2 k2 : FVec Ideal S2x64 .f32) (g : FVec Ideal S2x128 .f32) : FVec Ideal S16384x512 .bf16 :=
  tail (mix (vals vt vct) (lam l1 k1 l2 k2) (soft (scores (qc0 (queries q)) (kc0 (keys k kc)))) (soft (scores (qc1 (queries q)) (kc1 (keys k kc))))) g

/-- The reference's result by its steps. -/
theorem res_eq (m : (ℓ : Loc nD τ sig) → Buf (Elt Ideal) ℓ) (c : Dev nD) : Cert.DiffReferenceIdeal.Value.res_out0 m c
    = out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := rfl

theorem qc0_at (q : FVec Ideal S16384x512 .bf16) (i : Fin 16384) (h : Fin 4) (d : Fin 64) :
    qc0 (queries q) (ix3 i h d) = q (ix2 i (Cert.DiffIdeal.Da.qcol h 0 d)) := by
  rw [show Cert.DiffIdeal.Da.qcol h 0 d = ⟨h.val * 128 + d.val, by omega⟩ from Fin.ext (by simp [Cert.DiffIdeal.Da.qcol]; omega)]
  pointwise!

theorem qc1_at (q : FVec Ideal S16384x512 .bf16) (i : Fin 16384) (h : Fin 4) (d : Fin 64) :
    qc1 (queries q) (ix3 i h d) = q (ix2 i (Cert.DiffIdeal.Da.qcol h 1 d)) := by
  rw [show Cert.DiffIdeal.Da.qcol h 1 d = ⟨h.val * 128 + 64 + d.val, by omega⟩ from Fin.ext (by simp [Cert.DiffIdeal.Da.qcol]; omega)]
  pointwise!

theorem kc0_at (k : FVec Ideal S16384x512 .bf16) (kc : FVec Ideal S256x512 .bf16) (n : Fin 16640) (h : Fin 4) (d : Fin 64) :
    kc0 (keys k kc) (ix3 n h d) = if hn : n.val < 256 then kc (ix2 ⟨n.val, hn⟩ (Cert.DiffIdeal.Da.qcol h 0 d)) else k (ix2 ⟨n.val - 256, by omega⟩ (Cert.DiffIdeal.Da.qcol h 0 d)) := by
  rw [show Cert.DiffIdeal.Da.qcol h 0 d = ⟨h.val * 128 + d.val, by omega⟩ from Fin.ext (by simp [Cert.DiffIdeal.Da.qcol]; omega)]
  pointwise!

theorem kc1_at (k : FVec Ideal S16384x512 .bf16) (kc : FVec Ideal S256x512 .bf16) (n : Fin 16640) (h : Fin 4) (d : Fin 64) :
    kc1 (keys k kc) (ix3 n h d) = if hn : n.val < 256 then kc (ix2 ⟨n.val, hn⟩ (Cert.DiffIdeal.Da.qcol h 1 d)) else k (ix2 ⟨n.val - 256, by omega⟩ (Cert.DiffIdeal.Da.qcol h 1 d)) := by
  rw [show Cert.DiffIdeal.Da.qcol h 1 d = ⟨h.val * 128 + 64 + d.val, by omega⟩ from Fin.ext (by simp [Cert.DiffIdeal.Da.qcol]; omega)]
  pointwise!

theorem vals_at (vt : FVec Ideal S512x16384 .bf16) (vct : FVec Ideal S512x256 .bf16) (n : Fin 16640) (h : Fin 4) (d : Fin 128) :
    vals vt vct (ix3 n h d) = if hn : n.val < 256 then vct (ix2 (Cert.DiffIdeal.Da.vrow h d) ⟨n.val, hn⟩) else vt (ix2 (Cert.DiffIdeal.Da.vrow h d) ⟨n.val - 256, by omega⟩) := by
  rw [show Cert.DiffIdeal.Da.vrow h d = ⟨h.val * 128 + d.val, by omega⟩ from Fin.ext (by simp [Cert.DiffIdeal.Da.vrow]; omega)]
  pointwise!

theorem scores_at (Q : FVec Ideal S16384x4x64 .f32) (K : FVec Ideal S16640x4x64 .f32) (h : Fin 4) (i : Fin 16384) (n : Fin 16640) :
    scores Q K (ix3 h i n) = (∑ d : Fin 64, K (ix3 n h d) * Q (ix3 i h d)) * ((Real.log 2 : ℝ) : EReal) := by
  pointwise
  have e : Ideal.log (Ideal.ofBits .f32 0x40000000#32) = ((Real.log 2 : ℝ) : EReal) := by
    rw [_root_.Mla.Math.bits_two, Ideal.log_coe, if_neg (by norm_num)]
  rw [e]
  exact congrArg (· * _) (Finset.sum_congr rfl fun d _ => mul_comm _ _)

theorem exps_at (s : FVec Ideal S4x16384x16640 .f32) (M : FVec Ideal S4x16384 .f32) (h : Fin 4) (i : Fin 16384) (n : Fin 16640) :
    exps s M (ix3 h i n) = Ideal.exp (s (ix3 h i n) - M (ix2 h i)) := by
  pointwise!

theorem norm_at (e : FVec Ideal S4x16384x16640 .f32) (h : Fin 4) (i : Fin 16384) (n : Fin 16640) :
    norm e (ix3 h i n) = Ideal.div (e (ix3 h i n)) (∑ k : Fin 16640, e (ix3 h i k)) := by
  pointwise!

theorem lam_at (l1 k1 l2 k2 : FVec Ideal S2x64 .f32) (j : S_.Idx) : lam l1 k1 l2 k2 j = Cert.DiffIdeal.Da.lam l1 k1 l2 k2 := by
  unfold Cert.DiffIdeal.Da.lam
  pointwise!

theorem mix_at (V : FVec Ideal S16640x4x128 .f32) (L : EReal) (l : FVec Ideal S_ .f32) (hl : ∀ j, l j = L) (p0 p1 : FVec Ideal S4x16384x16640 .f32) (i : Fin 16384) (h : Fin 4) (d : Fin 128) :
    mix V l p0 p1 (ix3 i h d) = ∑ n : Fin 16640, V (ix3 n h d) * (p0 (ix3 h i n) - L * p1 (ix3 h i n)) := by
  obtain rfl : l = fun _ => L := funext hl
  pointwise!

theorem tail_at (O : FVec Ideal S16384x4x128 .f32) (g : FVec Ideal S2x128 .f32) (i : Fin 16384) (h : Fin 4) (d : Fin 128) :
    tail O g (ix2 i (Cert.DiffIdeal.Da.vrow h d)) = Cert.DiffIdeal.Da.normed (fun e => O (ix3 i h e)) (g (ix2 1 d)) d := by
  unfold Cert.DiffIdeal.Da.normed Cert.DiffIdeal.Da.vrow
  pointwise!

end Cert.DiffReferenceIdeal.Da
-- ==== Proof.DiffPre.lean ====
module

public import proofs.«01_k».proof.Proof.DiffAttn
public import proofs.«01_k».proof.Proof.Pre
public import proofs.«01_k».proof.Pre_diff_finite
public import proofs.«01_k».proof.Proof.Gen.Pre_diff_finite
public import Idealize.ShloMosaic.Lib.Pointwise

/-! The differential attention's precondition: every query, key and value and every entry of the weight's vectors is a real number. -/

@[expose] public section

set_option maxRecDepth 16384

noncomputable section

namespace Cert.DiffIdeal.Da

open Idealize.ShloMosaic Idealize.ShloMosaic.Tactic
open Cert.Pre_diff_finite Cert.Pre_diff_finite.Gen

/-- The array whose entries the precondition says are finite: the large arrays' rows, one after another. -/
abbrev joined (q k : FVec Ideal S16384x512 .bf16) (vt : FVec Ideal S512x16384 .bf16) (kc : FVec Ideal S256x512 .bf16) (vct : FVec Ideal S512x256 .bf16) : FVec Ideal S49664x512 .f32 :=
  extf .f32 (concatenate S49664x512 0 [⟨S16384x512, q⟩, ⟨S16384x512, k⟩, ⟨S16384x512, transpose S16384x512 [1, 0] vt transposes_S512x16384_S16384x512_1_0⟩, ⟨S256x512, kc⟩, ⟨S256x512, transpose S256x512 [1, 0] vct transposes_S512x256_S256x512_1_0⟩] concatenates_S16384x512_S16384x512_S16384x512_S256x512_S256x512_S49664x512_d0) bitsLt_bf16_f32
abbrev vec1 (x : FVec Ideal S2x64 .f32) : FVec Ideal S64 .f32 :=
  shapeCast S64 (extractStridedSlice S1x64 ![1, 0] x slices_S2x64_S1x64_1_0) shapeCasts_S1x64_S64
/-- The last row: the weight's vectors, twice. -/
abbrev last (l1 k1 l2 k2 : FVec Ideal S2x64 .f32) : FVec Ideal S1x512 .f32 :=
  shapeCast S1x512 (concatenate S512 0 [⟨S64, vec1 l1⟩, ⟨S64, vec1 k1⟩, ⟨S64, vec1 l2⟩, ⟨S64, vec1 k2⟩, ⟨S64, vec1 l1⟩, ⟨S64, vec1 k1⟩, ⟨S64, vec1 l2⟩, ⟨S64, vec1 k2⟩] concatenates_S64_S64_S64_S64_S64_S64_S64_S64_S512_d0) shapeCasts_S512_S1x512
/-- What is compared. -/
abbrev below (a : FVec Ideal S49664x512 .f32) (b : FVec Ideal S1x512 .f32) : IVec S49665x512 1 :=
  cmpf .olt (Host.absf (concatenate S49665x512 0 [⟨S49664x512, a⟩, ⟨S1x512, b⟩] concatenates_S49664x512_S1x512_S49665x512_d0)) (broadcastInDim S49665x512 ![] bcast_S_S49665x512 (constant S_ .f32 0x7F800000#32))

theorem fn_eq (q k : FVec Ideal S16384x512 .bf16) (vt : FVec Ideal S512x16384 .bf16) (kc : FVec Ideal S256x512 .bf16) (vct : FVec Ideal S512x256 .bf16)
    (l1 k1 l2 k2 : FVec Ideal S2x64 .f32) (g : FVec Ideal S2x128 .f32) :
    Cert.Pre_diff_finite.fn (F := Ideal) q k vt kc vct l1 k1 l2 k2 g = below (joined q k vt kc vct) (last l1 k1 l2 k2) := rfl

/-- Finiteness of the joined array, part by part. -/
theorem below_at (a : FVec Ideal S49664x512 .f32) (b : FVec Ideal S1x512 .f32) (hp : below a b = fun _ => 1#1) (r : Fin 49665) (d : Fin 512) :
    (if h : r.val < 49664 then a (ix2 ⟨r.val, h⟩ d) else b (ix2 ⟨r.val - 49664, by omega⟩ d)) ≠ (⊤ : EReal) ∧
    (if h : r.val < 49664 then a (ix2 ⟨r.val, h⟩ d) else b (ix2 ⟨r.val - 49664, by omega⟩ d)) ≠ (⊥ : EReal) := by
  refine Cert.KernelIdeal.Mla.real_of_abs ?_
  have h := congrFun hp (ix2 r d)
  pointwise [below] at h
  exact h

theorem joined_real (a : FVec Ideal S49664x512 .f32) (b : FVec Ideal S1x512 .f32) (hp : below a b = fun _ => 1#1) (r : Fin 49664) (d : Fin 512) :
    a (ix2 r d) ≠ (⊤ : EReal) ∧ a (ix2 r d) ≠ (⊥ : EReal) := by
  have h := below_at a b hp ⟨r.val, by omega⟩ d
  simp only [dif_pos r.isLt] at h
  exact h

theorem last_real (a : FVec Ideal S49664x512 .f32) (b : FVec Ideal S1x512 .f32) (hp : below a b = fun _ => 1#1) (d : Fin 512) :
    b (ix2 0 d) ≠ (⊤ : EReal) ∧ b (ix2 0 d) ≠ (⊥ : EReal) := by
  have h := below_at a b hp ⟨49664, by omega⟩ d
  rw [dif_neg (by simp)] at h
  exact h

theorem joined_at (q k : FVec Ideal S16384x512 .bf16) (vt : FVec Ideal S512x16384 .bf16) (kc : FVec Ideal S256x512 .bf16) (vct : FVec Ideal S512x256 .bf16) (r : Fin 49664) (d : Fin 512) :
    joined q k vt kc vct (ix2 r d) =
      if h : r.val < 16384 then q (ix2 ⟨r.val, h⟩ d) else if h : r.val - 16384 < 16384 then k (ix2 ⟨r.val - 16384, h⟩ d)
      else if h : r.val - 16384 - 16384 < 16384 then vt (ix2 d ⟨r.val - 16384 - 16384, h⟩)
      else if h : r.val - 16384 - 16384 - 16384 < 256 then kc (ix2 ⟨r.val - 16384 - 16384 - 16384, h⟩ d)
      else vct (ix2 d ⟨r.val - 16384 - 16384 - 16384 - 256, by omega⟩) := by
  pointwise!

theorem last_at (l1 k1 l2 k2 : FVec Ideal S2x64 .f32) (d : Fin 512) :
    last l1 k1 l2 k2 (ix2 0 d) =
      if h : d.val < 64 then l1 (ix2 1 ⟨d.val, h⟩) else if h : d.val - 64 < 64 then k1 (ix2 1 ⟨d.val - 64, h⟩)
      else if h : d.val - 64 - 64 < 64 then l2 (ix2 1 ⟨d.val - 64 - 64, h⟩) else if h : d.val - 64 - 64 - 64 < 64 then k2 (ix2 1 ⟨d.val - 64 - 64 - 64, h⟩)
      else if h : d.val - 64 - 64 - 64 - 64 < 64 then l1 (ix2 1 ⟨d.val - 64 - 64 - 64 - 64, h⟩) else if h : d.val - 64 - 64 - 64 - 64 - 64 < 64 then k1 (ix2 1 ⟨d.val - 64 - 64 - 64 - 64 - 64, h⟩)
      else if h : d.val - 64 - 64 - 64 - 64 - 64 - 64 < 64 then l2 (ix2 1 ⟨d.val - 64 - 64 - 64 - 64 - 64 - 64, h⟩) else k2 (ix2 1 ⟨d.val - 64 - 64 - 64 - 64 - 64 - 64 - 64, by omega⟩) := by
  pointwise!

/-- What the precondition says: the entries that are real numbers. -/
structure FinAll (q k : FVec Ideal S16384x512 .bf16) (vt : FVec Ideal S512x16384 .bf16) (kc : FVec Ideal S256x512 .bf16) (vct : FVec Ideal S512x256 .bf16)
    (l1 k1 l2 k2 : FVec Ideal S2x64 .f32) : Prop where
  keys : Fin3 q k kc
  vt : ∀ r n, vt (ix2 r n) ≠ (⊤ : EReal) ∧ vt (ix2 r n) ≠ (⊥ : EReal)
  vct : ∀ r n, vct (ix2 r n) ≠ (⊤ : EReal) ∧ vct (ix2 r n) ≠ (⊥ : EReal)
  l1 : ∀ d, l1 (ix2 1 d) ≠ (⊤ : EReal) ∧ l1 (ix2 1 d) ≠ (⊥ : EReal)
  k1 : ∀ d, k1 (ix2 1 d) ≠ (⊤ : EReal) ∧ k1 (ix2 1 d) ≠ (⊥ : EReal)
  l2 : ∀ d, l2 (ix2 1 d) ≠ (⊤ : EReal) ∧ l2 (ix2 1 d) ≠ (⊥ : EReal)
  k2 : ∀ d, k2 (ix2 1 d) ≠ (⊤ : EReal) ∧ k2 (ix2 1 d) ≠ (⊥ : EReal)

theorem finAll (q k : FVec Ideal S16384x512 .bf16) (vt : FVec Ideal S512x16384 .bf16) (kc : FVec Ideal S256x512 .bf16) (vct : FVec Ideal S512x256 .bf16)
    (l1 k1 l2 k2 : FVec Ideal S2x64 .f32) (g : FVec Ideal S2x128 .f32) (hp : Cert.Pre_diff_finite.fn (F := Ideal) q k vt kc vct l1 k1 l2 k2 g = fun _ => 1#1) :
    FinAll q k vt kc vct l1 k1 l2 k2 := by
  rw [fn_eq] at hp
  have hr := fun r d => joined_real _ _ hp r d
  have hl := fun d => last_real _ _ hp d
  simp only [joined_at] at hr
  simp only [last_at] at hl
  refine ⟨⟨fun y => ?_, fun y => ?_, fun y => ?_⟩, fun r n => ?_, fun r n => ?_, fun d => ?_, fun d => ?_, fun d => ?_, fun d => ?_⟩
  · obtain ⟨i, d, rfl⟩ : ∃ (i : Fin 16384) (d : Fin 512), y = ix2 i d := ⟨y 0, y 1, eq_ix2 y⟩
    simpa using hr ⟨i.val, by omega⟩ d
  · obtain ⟨i, d, rfl⟩ : ∃ (i : Fin 16384) (d : Fin 512), y = ix2 i d := ⟨y 0, y 1, eq_ix2 y⟩
    simpa using hr ⟨16384 + i.val, by omega⟩ d
  · obtain ⟨i, d, rfl⟩ : ∃ (i : Fin 256) (d : Fin 512), y = ix2 i d := ⟨y 0, y 1, eq_ix2 y⟩
    have e := hr ⟨49152 + i.val, by omega⟩ d
    simp only [dif_neg (show ¬ 49152 + i.val < 16384 by omega), dif_neg (show ¬ 49152 + i.val - 16384 < 16384 by omega), dif_neg (show ¬ 49152 + i.val - 16384 - 16384 < 16384 by omega)] at e
    simpa [Nat.sub_sub] using e
  · have e := hr ⟨32768 + n.val, by omega⟩ r
    simp only [dif_neg (show ¬ 32768 + n.val < 16384 by omega), dif_neg (show ¬ 32768 + n.val - 16384 < 16384 by omega)] at e
    simpa [Nat.sub_sub] using e
  · have e := hr ⟨49408 + n.val, by omega⟩ r
    simp only [dif_neg (show ¬ 49408 + n.val < 16384 by omega), dif_neg (show ¬ 49408 + n.val - 16384 < 16384 by omega), dif_neg (show ¬ 49408 + n.val - 16384 - 16384 < 16384 by omega), dif_neg (show ¬ 49408 + n.val - 16384 - 16384 - 16384 < 256 by omega)] at e
    simpa [Nat.sub_sub] using e
  · simpa using hl ⟨d.val, by omega⟩
  · simpa [Nat.sub_sub] using hl ⟨64 + d.val, by omega⟩
  · have e := hl ⟨128 + d.val, by omega⟩
    simp only [dif_neg (show ¬ 128 + d.val < 64 by omega), dif_neg (show ¬ 128 + d.val - 64 < 64 by omega)] at e
    simpa [Nat.sub_sub] using e
  · have e := hl ⟨192 + d.val, by omega⟩
    simp only [dif_neg (show ¬ 192 + d.val < 64 by omega), dif_neg (show ¬ 192 + d.val - 64 < 64 by omega), dif_neg (show ¬ 192 + d.val - 64 - 64 < 64 by omega)] at e
    simpa [Nat.sub_sub] using e

end Cert.DiffIdeal.Da
-- ==== Proof.DiffRef.lean ====
module

public import proofs.«01_k».proof.Proof.DiffRefDefs
public import proofs.«01_k».proof.Proof.DiffPre
public import proofs.«01_k».proof.Proof.RefTop

/-! The differential attention's reference is the difference of two softmax attentions, normalised. -/

@[expose] public section

set_option maxRecDepth 16384

noncomputable section

namespace Cert.DiffReferenceIdeal.Da

open Idealize.ShloMosaic Idealize.ShloMosaic.Tactic
open Cert.DiffReferenceIdeal Cert.DiffReferenceIdeal.Gen
open Cert.DiffIdeal.Da (FinAll quot dcomp diffOut sreal vcomp score_real)
open _root_.Mla.Math

theorem real_ex {x : EReal} (h : x ≠ ⊤ ∧ x ≠ ⊥) : ∃ r : ℝ, x = (r : EReal) := ⟨x.toReal, (EReal.coe_toReal h.1 h.2).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Real values weighted by a difference of real weights. -/
theorem sum_diff {n : ℕ} (v p0 p1 : Fin n → EReal) (L : EReal) (hv : ∀ i, ∃ r : ℝ, v i = (r : EReal)) (h0 : ∀ i, ∃ r : ℝ, p0 i = (r : EReal))
    (h1 : ∀ i, ∃ r : ℝ, p1 i = (r : EReal)) (hL : ∃ r : ℝ, L = (r : EReal)) :
    ∑ i, v i * (p0 i - L * p1 i) = (∑ i, v i * p0 i) - L * ∑ i, v i * p1 i := by
  choose v' hv using hv
  choose a h0 using h0
  choose b h1 using h1
  obtain ⟨l, rfl⟩ := hL
  simp only [hv, h0, h1, ← EReal.coe_mul, ← EReal.coe_sub, coe_sum]
  congr 1
  rw [Finset.mul_sum, ← Finset.sum_sub_distrib]
  exact Finset.sum_congr rfl fun i _ => by ring

/-- The softmax of scores that are `ln 2` times real numbers, with base 2. -/
theorem soft_at (s : FVec Ideal S4x16384x16640 .f32) (f : Fin 4 → Fin 16384 → ℕ → ℝ)
    (hs : ∀ h i (n : Fin 16640), s (ix3 h i n) = ((f h i n.val * Real.log 2 : ℝ) : EReal)) (h : Fin 4) (i : Fin 16384) :
    ∃ a : ℝ, ∀ n : Fin 16640, soft s (ix3 h i n) = Ideal.div (wt (f h i n.val) a) (W (f h i) (fun _ => 1) 16640 a) := by
  obtain ⟨M, hM⟩ := Cert.ReferenceIdeal.Mla.tops_real s (ix2 h i) fun y => by
    rw [eq_ix3 y]; exact ⟨_, hs _ _ _⟩
  change tops s (ix2 h i) = (M : EReal) at hM
  refine ⟨M / Real.log 2, ?_⟩
  have hl : (0 : ℝ) < Real.log 2 := Real.log_pos one_lt_two
  unfold soft
  generalize tops s = T at hM ⊢
  have he : ∀ n : Fin 16640, exps s T (ix3 h i n) = wt (f h i n.val) (M / Real.log 2) := fun n => by
    rw [exps_at, hs, hM, ← EReal.coe_sub, Ideal.exp_coe]
    unfold wt
    rw [Real.rpow_def_of_pos two_pos]
    congr 2
    field_simp
  generalize exps s T = e at he ⊢
  intro n
  have hsum : ∑ n : Fin 16640, e (ix3 h i n) = W (f h i) (fun _ => 1) 16640 (M / Real.log 2) := by
    unfold W
    rw [Finset.sum_range]
    exact Finset.sum_congr rfl fun n _ => by rw [he, one_mul]
  rw [norm_at, he, hsum]

/-- Such a softmax is real, -/
theorem soft_real (s : ℕ → ℝ) (n : ℕ) (a : ℝ) : ∃ r : ℝ, Ideal.div (wt (s n) a) (W s (fun _ => 1) 16640 a) = (r : EReal) := by
  obtain ⟨L, hL, e⟩ := W_one s 16640 (by omega) a
  rw [e, Ideal.div_coe hL.ne']
  unfold wt
  exact ⟨_, (EReal.coe_mul _ _).symm⟩

/-- and averages the values. -/
theorem soft_sum (s : ℕ → ℝ) (v : ℕ → EReal) (a : ℝ) :
    ∑ n : Fin 16640, v n.val * Ideal.div (wt (s n.val) a) (W s (fun _ => 1) 16640 a) = quot s v := by
  unfold quot
  rw [← W_div s v 16640 (by omega) a 0, ← W_softmax s v 16640 (by omega), Finset.sum_range]

section
variable {q k : FVec Ideal S16384x512 .bf16} {vt : FVec Ideal S512x16384 .bf16} {kc : FVec Ideal S256x512 .bf16} {vct : FVec Ideal S512x256 .bf16}
  {l1 k1 l2 k2 : FVec Ideal S2x64 .f32}

theorem vals_eq (h : Fin 4) (d : Fin 128) (n : Fin 16640) : vals vt vct (ix3 n h d) = vcomp vt vct h d n.val := by
  rw [vals_at]; unfold vcomp
  split
  · rfl
  · rw [dif_pos (by omega)]

theorem vals_real (hf : FinAll q k vt kc vct l1 k1 l2 k2) (h : Fin 4) (d : Fin 128) (n : Fin 16640) : ∃ r : ℝ, vals vt vct (ix3 n h d) = (r : EReal) := by
  rw [vals_at]
  split
  · exact real_ex (hf.vct _ _)
  · exact real_ex (hf.vt _ _)

/-- The scores of the component `c`, of queries and keys that hold that component. -/
theorem scores_eq (hf : FinAll q k vt kc vct l1 k1 l2 k2) (c : Fin 2) (Q : FVec Ideal S16384x4x64 .f32) (K : FVec Ideal S16640x4x64 .f32)
    (hQ : ∀ i h d, Q (ix3 i h d) = q (ix2 i (Cert.DiffIdeal.Da.qcol h c d)))
    (hK : ∀ (n : Fin 16640) h d, K (ix3 n h d) = if hn : n.val < 256 then kc (ix2 ⟨n.val, hn⟩ (Cert.DiffIdeal.Da.qcol h c d)) else k (ix2 ⟨n.val - 256, by omega⟩ (Cert.DiffIdeal.Da.qcol h c d)))
    (h : Fin 4) (i : Fin 16384) (n : Fin 16640) :
    scores Q K (ix3 h i n) = ((sreal q k kc h c i n.val * Real.log 2 : ℝ) : EReal) := by
  rw [scores_at, EReal.coe_mul, ← score_real hf.keys]
  refine congrArg (· * _) ?_
  unfold Cert.DiffIdeal.Da.score
  split
  · rename_i hn
    refine Finset.sum_congr rfl fun e _ => ?_
    rw [hK, hQ, dif_pos hn]
  · rename_i hn
    rw [dif_pos (by omega)]
    refine Finset.sum_congr rfl fun e _ => ?_
    rw [hK, hQ, dif_neg hn]

theorem dot_real (a b : FVec Ideal S2x64 .f32) (ha : ∀ d, a (ix2 1 d) ≠ (⊤ : EReal) ∧ a (ix2 1 d) ≠ (⊥ : EReal)) (hb : ∀ d, b (ix2 1 d) ≠ (⊤ : EReal) ∧ b (ix2 1 d) ≠ (⊥ : EReal)) :
    ∃ r : ℝ, Ideal.exp (∑ d : Fin 64, a (ix2 1 d) * b (ix2 1 d)) = (r : EReal) := by
  obtain ⟨r, hr⟩ := sum_real _ (fun d : Fin 64 => a (ix2 1 d)) (fun d => b (ix2 1 d)) ha hb
  exact ⟨_, (congrArg Ideal.exp hr).trans (Ideal.exp_coe r)⟩

theorem lam_real (hf : FinAll q k vt kc vct l1 k1 l2 k2) : ∃ r : ℝ, Cert.DiffIdeal.Da.lam l1 k1 l2 k2 = (r : EReal) := by
  obtain ⟨a, ha⟩ := dot_real l1 k1 hf.l1 hf.k1
  obtain ⟨b, hb⟩ := dot_real l2 k2 hf.l2 hf.k2
  obtain ⟨c, hc⟩ : ∃ c : ℝ, Ideal.ofBits .f32 0x3EB60549#32 = (c : EReal) := by
    simp only [Ideal.ofBits, Ideal.ieee]
    rw [if_neg (by decide), if_neg (by decide)]
    exact ⟨_, rfl⟩
  unfold Cert.DiffIdeal.Da.lam
  rw [ha, hb, hc, ← EReal.coe_sub, ← EReal.coe_add]
  exact ⟨_, rfl⟩

/-- The difference of the attentions. -/
theorem mix_eq (hf : FinAll q k vt kc vct l1 k1 l2 k2) (i : Fin 16384) (h : Fin 4) (d : Fin 128) :
    mix (vals vt vct) (lam l1 k1 l2 k2) (soft (scores (qc0 (queries q)) (kc0 (keys k kc)))) (soft (scores (qc1 (queries q)) (kc1 (keys k kc)))) (ix3 i h d)
      = dcomp q k vt kc vct l1 k1 l2 k2 i h d := by
  obtain ⟨a, ha⟩ := soft_at _ (fun h i => sreal q k kc h 0 i) (scores_eq hf 0 _ _ (qc0_at q) (kc0_at k kc)) h i
  obtain ⟨b, hb⟩ := soft_at _ (fun h i => sreal q k kc h 1 i) (scores_eq hf 1 _ _ (qc1_at q) (kc1_at k kc)) h i
  generalize soft (scores (qc0 (queries q)) (kc0 (keys k kc))) = p0 at ha ⊢
  generalize soft (scores (qc1 (queries q)) (kc1 (keys k kc))) = p1 at hb ⊢
  rw [mix_at _ _ _ (lam_at l1 k1 l2 k2)]
  rw [sum_diff _ _ _ _ (vals_real hf h d) (fun n => by rw [ha]; exact soft_real _ _ _) (fun n => by rw [hb]; exact soft_real _ _ _) (lam_real hf)]
  unfold dcomp
  rw [← soft_sum _ _ a, ← soft_sum (sreal q k kc h 1 i) _ b]
  simp only [ha, hb, vals_eq]

theorem out_eq (g : FVec Ideal S2x128 .f32) (hf : FinAll q k vt kc vct l1 k1 l2 k2) : out q k vt kc vct l1 k1 l2 k2 g = diffOut q k vt kc vct l1 k1 l2 k2 g := by
  funext y
  obtain ⟨i, d, rfl⟩ : ∃ (i : Fin 16384) (d : Fin 512), y = ix2 i d := ⟨y 0, y 1, eq_ix2 y⟩
  have e := tail_at (mix (vals vt vct) (lam l1 k1 l2 k2) (soft (scores (qc0 (queries q)) (kc0 (keys k kc)))) (soft (scores (qc1 (queries q)) (kc1 (keys k kc))))) g i ⟨d.val / 128, by omega⟩ ⟨d.val % 128, by omega⟩
  rw [show Cert.DiffIdeal.Da.vrow ⟨d.val / 128, by omega⟩ ⟨d.val % 128, by omega⟩ = d from Fin.ext (by show 128 * (d.val / 128) + d.val % 128 = d.val; omega)] at e
  refine e.trans ?_
  simp only [mix_eq hf]
  rfl

end

end Cert.DiffReferenceIdeal.Da
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.DiffIdeal.Frame
public import proofs.«01_k».proof.Proof.Gen.DiffReferenceIdeal
public import proofs.«01_k».proof.Proof.Gen.Diff.Frame
public import proofs.«01_k».proof.Proof.Gen.Diff.Points
public import proofs.«01_k».proof.Proof.Gen.Diff.Launch
public import proofs.«01_k».proof.Proof.Gen.Diff.Loops
public import proofs.«01_k».proof.Proof.Gen.Diff.Skeleton
public import proofs.«01_k».proof.Proof.Gen.Diff
public import proofs.«01_k».proof.Proof.Gen.DiffIdeal.Points
public import proofs.«01_k».proof.Proof.Gen.DiffIdeal.Launch
public import proofs.«01_k».proof.Proof.Gen.DiffIdeal.Loops
public import proofs.«01_k».proof.Proof.Gen.DiffIdeal.Skeleton
public import proofs.«01_k».proof.Proof.Gen.DiffIdeal
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.OutProjValue
public import proofs.«01_k».proof.Proof.OutProjRef
public import proofs.«01_k».proof.Proof.InProjValue
public import proofs.«01_k».proof.Proof.InProjRef
public import proofs.«01_k».proof.Proof.Gen.InProj
public import proofs.«01_k».proof.Proof.Gen.InProj.Frame
public import proofs.«01_k».proof.Proof.Gen.InProj.Points
public import proofs.«01_k».proof.Proof.Gen.InProj.Launch
public import proofs.«01_k».proof.Proof.Gen.InProj.Skeleton
public import proofs.«01_k».proof.Proof.Gen.InProjIdeal
public import proofs.«01_k».proof.Proof.Gen.InProjIdeal.Frame
public import proofs.«01_k».proof.Proof.Gen.InProjIdeal.Points
public import proofs.«01_k».proof.Proof.Gen.InProjIdeal.Launch
public import proofs.«01_k».proof.Proof.Gen.InProjIdeal.Skeleton
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Frame
public import proofs.«01_k».proof.Proof.Gen.OutProj.Points
public import proofs.«01_k».proof.Proof.Gen.OutProj.Launch
public import proofs.«01_k».proof.Proof.Gen.OutProj.Skeleton
public import proofs.«01_k».proof.Proof.Gen.OutProjIdeal
public import proofs.«01_k».proof.Proof.Gen.OutProjIdeal.Frame
public import proofs.«01_k».proof.Proof.Gen.OutProjIdeal.Points
public import proofs.«01_k».proof.Proof.Gen.OutProjIdeal.Launch
public import proofs.«01_k».proof.Proof.Gen.OutProjIdeal.Skeleton
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.Pre_scores_finite
public import proofs.«01_k».proof.Proof.Gen.Pre_diff_finite
public import proofs.«01_k».proof.Proof.Gen.ReferenceIdeal.Run
public import proofs.«01_k».proof.Proof.Gen.DiffReferenceIdeal.Run
public import proofs.«01_k».proof.Proof.Gen.FfnIdeal.Value
public import proofs.«01_k».proof.Proof.Gen.FfnReferenceIdeal.Run
public import proofs.«01_k».proof.Proof.Value
public import proofs.«01_k».proof.Proof.RefValue
public import proofs.«01_k».proof.Proof.Pre
public import proofs.«01_k».proof.Proof.FfnValue
public import proofs.«01_k».proof.Proof.FfnRef
public import proofs.«01_k».proof.Proof.DiffValue
public import proofs.«01_k».proof.Proof.DiffRef
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option backward.isDefEq.respectTransparency.types false in
/-- The two prints of the attention have one body. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

set_option backward.isDefEq.respectTransparency.types false in
theorem defs_eq {F : FTy → Type} [FloatOps F] : Cert.Kernel.defs (F := F) = Cert.KernelIdeal.defs (F := F) := by
  unfold Cert.Kernel.defs Cert.KernelIdeal.defs
  rw [bodies_eq]
  rfl

theorem frame_kernel : Cert.quiescent_Kernel := fun m g _ => by
  rw [defs_eq]
  exact Cert.KernelIdeal.Mla.frame_run (F := Bits) m g

theorem frame_kernelIdeal : Cert.quiescent_KernelIdeal := fun m g _ =>
  Cert.KernelIdeal.Mla.frame_run (F := Ideal) m g

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal_pre_scores_finite := by
  pair_intro
  · run_from Cert.KernelIdeal.Mla.run_main (F := Ideal) m g
  · refine (θ_run Cert.ReferenceIdeal.defs _ _).mono (fun r h c => ⟨(h c).1.trans ?_, (h c).2⟩) (Cert.ReferenceIdeal.Value.run (F := Ideal) m' g')
    have hf := Cert.KernelIdeal.Mla.fin5 _ _ _ _ _ (hpre c)
    exact (Cert.ReferenceIdeal.Mla.res m' c _ _ _ _ _ (hagree c).1 (hagree c).2.1 (hagree c).2.2.1 (hagree c).2.2.2.1 (hagree c).2.2.2.2 hf).trans
      (Cert.KernelIdeal.Mla.final c hf).symm

theorem frame_ffn : Cert.quiescent_Ffn := fun m g _ => Cert.Ffn.Gen.frame m g

theorem frame_ffnIdeal : Cert.quiescent_FfnIdeal := fun m g _ => Cert.FfnIdeal.Gen.frame m g

theorem frame_ffnReferenceIdeal : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run (F := Ideal) m g)

theorem valueFfn : Cert.algebraic_FfnIdeal_FfnReferenceIdeal := by
  pair_intro
  · run_from Cert.FfnIdeal.Gen.run_main (F := Ideal) m g
  · refine (θ_run Cert.FfnReferenceIdeal.defs _ _).mono (fun r h c => ⟨(h c).1.trans ?_, (h c).2⟩) (Cert.FfnReferenceIdeal.Value.run (F := Ideal) m' g')
    have ha := hagree c
    exact (Cert.FfnReferenceIdeal.Mlp.res m' c _ _ _ _ _ _ _ _ _ ha.1 ha.2.1 ha.2.2.1 ha.2.2.2.1 ha.2.2.2.2.1 ha.2.2.2.2.2.1 ha.2.2.2.2.2.2.1
      ha.2.2.2.2.2.2.2.1 ha.2.2.2.2.2.2.2.2).trans (Cert.FfnIdeal.Mlp.final m c).symm

set_option backward.isDefEq.respectTransparency.types false in
/-- The two prints of the differential attention have one body. -/
theorem bodies_eq_diff {F : FTy → Type} [FloatOps F] : Cert.Diff.defs₀ (F := F) = Cert.DiffIdeal.defs₀ (F := F) := by
  unfold Cert.Diff.defs₀ Cert.DiffIdeal.defs₀
  refine congrArg Defs.onTc ?_
  funext l x
  match l, x with
  | 0, (t, s) => rfl

set_option backward.isDefEq.respectTransparency.types false in
theorem defs_eq_diff {F : FTy → Type} [FloatOps F] : Cert.Diff.defs (F := F) = Cert.DiffIdeal.defs (F := F) := by
  unfold Cert.Diff.defs Cert.DiffIdeal.defs
  rw [bodies_eq_diff]
  rfl

theorem frame_diff : Cert.quiescent_Diff := fun m g _ => by
  rw [defs_eq_diff]
  exact Cert.DiffIdeal.Da.frame_run (F := Bits) m g

theorem frame_diffIdeal : Cert.quiescent_DiffIdeal := fun m g _ =>
  Cert.DiffIdeal.Da.frame_run (F := Ideal) m g

theorem frame_diffReferenceIdeal : Cert.quiescent_DiffReferenceIdeal := fun m g _ =>
  (θ_run Cert.DiffReferenceIdeal.defs _ _).mono (fun r h => ⟨fun c => (h c).2, sem_eq_zero_of_no_sems (by decide) r.2⟩)
    (Cert.DiffReferenceIdeal.Value.run (F := Ideal) m g)

theorem valueDiff : Cert.algebraic_DiffIdeal_DiffReferenceIdeal_pre_diff_finite := by
  pair_intro
  · run_from Cert.DiffIdeal.Da.run_main (F := Ideal) m g
  · refine (θ_run Cert.DiffReferenceIdeal.defs _ _).mono (fun r h c => ⟨(h c).1.trans ?_, (h c).2⟩) (Cert.DiffReferenceIdeal.Value.run (F := Ideal) m' g')
    have hf := Cert.DiffIdeal.Da.finAll _ _ _ _ _ _ _ _ _ _ (hpre c)
    obtain ⟨e0, e1, e2, e3, e4, e5, e6, e7, e8, e9⟩ := hagree c
    refine (Cert.DiffReferenceIdeal.Da.res_eq m' c).trans ?_
    rw [e0, e1, e2, e3, e4, e5, e6, e7, e8, e9]
    exact (Cert.DiffReferenceIdeal.Da.out_eq _ hf).trans (Cert.DiffIdeal.Da.final c hf.keys).symm

theorem frame_outProj : Cert.quiescent_OutProj := fun m g _ => Cert.OutProj.Gen.frame m g

theorem frame_outProjIdeal : Cert.quiescent_OutProjIdeal := fun m g _ => Cert.OutProjIdeal.Gen.frame m g

theorem frame_outProjReferenceIdeal : Cert.quiescent_OutProjReferenceIdeal := fun m g _ =>
  (θ_run Cert.OutProjReferenceIdeal.defs _ _).mono (fun r h => ⟨fun c => (h c).2, sem_eq_zero_of_no_sems (by decide) r.2⟩)
    (Cert.OutProjReferenceIdeal.Value.run (F := Ideal) m g)

theorem valueOutProj : Cert.algebraic_OutProjIdeal_OutProjReferenceIdeal := by
  pair_intro
  · run_from Cert.OutProjIdeal.Gen.run_main (F := Ideal) m g
  · refine (θ_run Cert.OutProjReferenceIdeal.defs _ _).mono (fun r h c => ⟨(h c).1.trans ?_, (h c).2⟩) (Cert.OutProjReferenceIdeal.Value.run (F := Ideal) m' g')
    obtain ⟨e0, e1, e2, e3, e4, e5, e6, e7, e8⟩ := hagree c
    exact (Cert.OutProjReferenceIdeal.Mix.res m' c _ _ _ _ _ _ _ _ _ e0 e1 e2 e3 e4 e5 e6 e7 e8).trans (Cert.OutProjIdeal.Mix.final m c).symm

theorem frame_inProj : Cert.quiescent_InProj := fun m g _ => Cert.InProj.Gen.frame m g

theorem frame_inProjIdeal : Cert.quiescent_InProjIdeal := fun m g _ => Cert.InProjIdeal.Gen.frame m g

theorem frame_inProjReferenceIdeal : Cert.quiescent_InProjReferenceIdeal := fun m g _ =>
  (θ_run Cert.InProjReferenceIdeal.defs _ _).mono (fun r h => ⟨fun c => (h c).2.2.2.2.2.2, sem_eq_zero_of_no_sems (by decide) r.2⟩)
    (Cert.InProjReferenceIdeal.Value.run (F := Ideal) m g)

theorem valueInProj : Cert.algebraic_InProjIdeal_InProjReferenceIdeal := fun m g m' g' _ hagree =>
  ⟨_, _, _, _, _, _, Cert.InProjIdeal.Proj.run m g, Cert.InProjReferenceIdeal.Proj.run m' g' _ _ _ _ hagree⟩

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Diff.Gen.facts, Cert.DiffIdeal.Gen.facts, Cert.DiffReferenceIdeal.Gen.facts,
  Cert.OutProj.Gen.facts, Cert.OutProjIdeal.Gen.facts, Cert.OutProjReferenceIdeal.Gen.facts,
  Cert.InProj.Gen.facts, Cert.InProjIdeal.Gen.facts, Cert.InProjReferenceIdeal.Gen.facts, Cert.Pre_scores_finite.Gen.facts, Cert.Pre_diff_finite.Gen.facts,
  frame_kernel, frame_kernelIdeal, fun m g _ => frame_kernelIdeal m g trivial, frame_referenceIdeal, fun m g _ => frame_referenceIdeal m g trivial,
  frame_ffn, frame_ffnIdeal, frame_ffnReferenceIdeal,
  frame_diff, frame_diffIdeal, fun m g _ => frame_diffIdeal m g trivial, frame_diffReferenceIdeal, fun m g _ => frame_diffReferenceIdeal m g trivial,
  frame_outProj, frame_outProjIdeal, frame_outProjReferenceIdeal,
  frame_inProj, frame_inProjIdeal, frame_inProjReferenceIdeal,
  trivial, value, trivial, valueFfn, trivial, valueDiff, trivial, valueOutProj, trivial, valueInProj⟩

end Cert.Proof

end
